-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "q_scale" .f32 0x3E38AA3B#32 ((((Real.log 2) * 8)⁻¹ : ℝ) : EReal)
  ∧ IdealRules.named_const.Statement Cert.KernelIdeal.κ "clamp" .f32 0x42FC0000#32 ⊤
  ∧ IdealRules.named_const.Statement Cert.KernelIdeal.κ "log2e" .f32 0x3FB8AA3B#32 (((Real.log 2)⁻¹ : ℝ) : EReal)
  ∧ IdealRules.named_const.Statement Cert.KernelIdeal.κ "exit" .f32 0xC3480000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)) (v5 : (c : Dev Cert.Kernel4Ideal.nD) → Buf (Elt Ideal) ((c.tc : Thread Cert.Kernel4Ideal.nD Cert.Kernel4Ideal.τ).loc Cert.Kernel4Ideal.main_v5_5)) (v6 : (c : Dev Cert.Kernel4Ideal.nD) → Buf (Elt Ideal) ((c.tc : Thread Cert.Kernel4Ideal.nD Cert.Kernel4Ideal.τ).loc Cert.Kernel4Ideal.main_v5_6)) (v7 : (c : Dev Cert.Kernel4Ideal.nD) → Buf (Elt Ideal) ((c.tc : Thread Cert.Kernel4Ideal.nD Cert.Kernel4Ideal.τ).loc Cert.Kernel4Ideal.main_v5_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_v5_5) = v5 c
          ∧ r.2.mem ((c.tc : Thread Cert.Kernel4Ideal.nD Cert.Kernel4Ideal.τ).loc Cert.Kernel4Ideal.main_v5_6) = v6 c
          ∧ r.2.mem ((c.tc : Thread Cert.Kernel4Ideal.nD Cert.Kernel4Ideal.τ).loc Cert.Kernel4Ideal.main_v5_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_v41) = v3 c
          ∧ r.2.mem ((c.tc : Thread Cert.Reference4Ideal.nD Cert.Reference4Ideal.τ).loc Cert.Reference4Ideal.main_v42) = v4 c
          ∧ r.2.mem ((c.tc : Thread Cert.Reference4Ideal.nD Cert.Reference4Ideal.τ).loc Cert.Reference4Ideal.main_v43) = v5 c
          ∧ r.2.mem ((c.tc : Thread Cert.Reference4Ideal.nD Cert.Reference4Ideal.τ).loc Cert.Reference4Ideal.main_v44) = v6 c
          ∧ r.2.mem ((c.tc : Thread Cert.Reference4Ideal.nD Cert.Reference4Ideal.τ).loc Cert.Reference4Ideal.main_v45) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x8192x512 : Shape := ⟨3, ![4, 8192, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x2048x128 : Shape := ⟨3, ![1, 2048, 128]⟩
abbrev S1x8192x128 : Shape := ⟨3, ![1, 8192, 128]⟩
abbrev S2x2048x128 : Shape := ⟨3, ![2, 2048, 128]⟩
abbrev S2048x128 : Shape := ⟨2, ![2048, 128]⟩
abbrev S512x256 : Shape := ⟨2, ![512, 256]⟩
abbrev S256x128 : Shape := ⟨2, ![256, 128]⟩
abbrev S1024x128 : Shape := ⟨2, ![1024, 128]⟩
abbrev S1x256x128 : Shape := ⟨3, ![1, 256, 128]⟩
abbrev S1024x256 : Shape := ⟨2, ![1024, 256]⟩
abbrev S512x128 : Shape := ⟨2, ![512, 128]⟩
abbrev S512x1 : Shape := ⟨2, ![512, 1]⟩
abbrev S64x8x128 : Shape := ⟨3, ![64, 8, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S1x512x128 : Shape := ⟨3, ![1, 512, 128]⟩
abbrev S1024x1 : Shape := ⟨2, ![1024, 1]⟩
abbrev S768x128 : Shape := ⟨2, ![768, 128]⟩
abbrev S1536x128 : Shape := ⟨2, ![1536, 128]⟩
abbrev S1536x256 : Shape := ⟨2, ![1536, 256]⟩
abbrev S1x768x128 : Shape := ⟨3, ![1, 768, 128]⟩
abbrev S1536x1 : Shape := ⟨2, ![1536, 1]⟩
abbrev S2048x256 : Shape := ⟨2, ![2048, 256]⟩
abbrev S1x1024x128 : Shape := ⟨3, ![1, 1024, 128]⟩
abbrev S2048x1 : Shape := ⟨2, ![2048, 1]⟩
abbrev S1280x128 : Shape := ⟨2, ![1280, 128]⟩
abbrev S2560x128 : Shape := ⟨2, ![2560, 128]⟩
abbrev S2560x256 : Shape := ⟨2, ![2560, 256]⟩
abbrev S1x1280x128 : Shape := ⟨3, ![1, 1280, 128]⟩
abbrev S2560x1 : Shape := ⟨2, ![2560, 1]⟩
abbrev S3072x128 : Shape := ⟨2, ![3072, 128]⟩
abbrev S3072x256 : Shape := ⟨2, ![3072, 256]⟩
abbrev S1x1536x128 : Shape := ⟨3, ![1, 1536, 128]⟩
abbrev S3072x1 : Shape := ⟨2, ![3072, 1]⟩
abbrev S1792x128 : Shape := ⟨2, ![1792, 128]⟩
abbrev S3584x128 : Shape := ⟨2, ![3584, 128]⟩
abbrev S3584x256 : Shape := ⟨2, ![3584, 256]⟩
abbrev S1x1792x128 : Shape := ⟨3, ![1, 1792, 128]⟩
abbrev S3584x1 : Shape := ⟨2, ![3584, 1]⟩
abbrev S4096x128 : Shape := ⟨2, ![4096, 128]⟩
abbrev S4096x256 : Shape := ⟨2, ![4096, 256]⟩
abbrev S4096x1 : Shape := ⟨2, ![4096, 1]⟩
abbrev S512x8x128 : Shape := ⟨3, ![512, 8, 128]⟩

abbrev nBuf : Space → Nat
  | .hbm => 18
  | .vmem => 11
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x512, .bf16⟩
  | .hbm, ⟨4, _⟩ => ⟨S4x8192x512, .bf16⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S_, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256x256, .bf16⟩
  | .hbm, ⟨17, _⟩ => ⟨S4x8192x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x256, .bf16⟩
  | .local _ .vmem, ⟨7, _⟩ => ⟨S1x2048x128, .bf16⟩
  | .local _ .vmem, ⟨8, _⟩ => ⟨S1x2048x128, .bf16⟩
  | .local _ .vmem, ⟨9, _⟩ => ⟨S2x2048x128, .f32⟩
  | .local _ .vmem, ⟨10, _⟩ => ⟨S2x2048x128, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_mult2 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c0_i32_7 : BitVec 32 := 0#32
  let v34 : BitVec 32 := Scalar.addi v1 c0_i32_7
  v34
def k0_off1 (i : grid0.Coords) (c0_i32_7 : BitVec 32) : Fin 3 → Nat :=
  let c0_8 : Index := 0#32
  let arg2 : BitVec 32 := BitVec.ofNat 32 (i 2).val
  let c2048_i32 : BitVec 32 := 2048#32
  let v0 : BitVec 32 := Scalar.muli arg2 c2048_i32
  let v1 : BitVec 32 := v0
  let v34 : BitVec 32 := Scalar.addi v1 c0_i32_7
  let v35 : BitVec 32 := v34
  let v36 : Index := Scalar.indexCast v35
  let c0_9 : Index := 0#32
  ![0, v36.toNat, 0]
def k0_mult3 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c256_i32 : BitVec 32 := 256#32
  let v61 : BitVec 32 := Scalar.addi v1 c256_i32
  v61
def k0_mult4 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c512_i32 : BitVec 32 := 512#32
  let v88 : BitVec 32 := Scalar.addi v1 c512_i32
  v88
def k0_mult5 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c768_i32 : BitVec 32 := 768#32
  let v115 : BitVec 32 := Scalar.addi v1 c768_i32
  v115
def k0_mult6 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1024_i32 : BitVec 32 := 1024#32
  let v142 : BitVec 32 := Scalar.addi v1 c1024_i32
  v142
def k0_mult7 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1280_i32 : BitVec 32 := 1280#32
  let v169 : BitVec 32 := Scalar.addi v1 c1280_i32
  v169
def k0_mult8 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1536_i32 : BitVec 32 := 1536#32
  let v196 : BitVec 32 := Scalar.addi v1 c1536_i32
  v196
def k0_mult9 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1792_i32 : BitVec 32 := 1792#32
  let v221 : BitVec 32 := Scalar.addi v1 c1792_i32
  v221
def k0_mult10 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c0_i32_73 : BitVec 32 := 0#32
  let v322 : BitVec 32 := Scalar.addi v1 c0_i32_73
  v322
def k0_mult11 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c256_i32_78 : BitVec 32 := 256#32
  let v337 : BitVec 32 := Scalar.addi v1 c256_i32_78
  v337
def k0_mult12 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c512_i32_83 : BitVec 32 := 512#32
  let v352 : BitVec 32 := Scalar.addi v1 c512_i32_83
  v352
def k0_mult13 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c768_i32_88 : BitVec 32 := 768#32
  let v367 : BitVec 32 := Scalar.addi v1 c768_i32_88
  v367
def k0_mult14 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1024_i32_93 : BitVec 32 := 1024#32
  let v382 : BitVec 32 := Scalar.addi v1 c1024_i32_93
  v382
def k0_mult15 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1280_i32_98 : BitVec 32 := 1280#32
  let v397 : BitVec 32 := Scalar.addi v1 c1280_i32_98
  v397
def k0_mult16 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1536_i32_103 : BitVec 32 := 1536#32
  let v412 : BitVec 32 := Scalar.addi v1 c1536_i32_103
  v412
def k0_mult17 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1792_i32_108 : BitVec 32 := 1792#32
  let v423 : BitVec 32 := Scalar.addi v1 c1792_i32_108
  v423
def k0_cond1 (i : grid0.Coords) : BitVec 1 :=
  let arg2 : BitVec 32 := BitVec.ofNat 32 (i 2).val
  let c0_i32_216 : BitVec 32 := 0#32
  let v626 : BitVec 1 := Scalar.cmpi .sgt arg2 c0_i32_216
  let v627 : BitVec 32 := Scalar.extui v626
  let c0_i32_217 : BitVec 32 := 0#32
  let v628 : BitVec 1 := Scalar.cmpi .ne v627 c0_i32_217
  v628

def k0_mult18 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c_m256_i32 : BitVec 32 := 4294967040#32
  let v698 : BitVec 32 := Scalar.addi v1 c_m256_i32
  v698
def k0_off2 (i : grid0.Coords) : Fin 3 → Nat :=
  let c0_244 : Index := 0#32
  let arg2 : BitVec 32 := BitVec.ofNat 32 (i 2).val
  let c2048_i32 : BitVec 32 := 2048#32
  let v0 : BitVec 32 := Scalar.muli arg2 c2048_i32
  let v1 : BitVec 32 := v0
  let c_m256_i32 : BitVec 32 := 4294967040#32
  let v698 : BitVec 32 := Scalar.addi v1 c_m256_i32
  let v699 : BitVec 32 := v698
  let v700 : Index := Scalar.indexCast v699
  let c0_245 : Index := 0#32
  ![0, v700.toNat, 0]
def k0_mult19 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c_m256_i32_257 : BitVec 32 := 4294967040#32
  let v725 : BitVec 32 := Scalar.addi v1 c_m256_i32_257
  v725
def k0_mult20 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1280_i32_244 : BitVec 32 := 1280#32
  let v698 : BitVec 32 := Scalar.addi v1 c1280_i32_244
  v698
def k0_off3 (i : grid0.Coords) : Fin 3 → Nat :=
  let c0_245 : Index := 0#32
  let arg2 : BitVec 32 := BitVec.ofNat 32 (i 2).val
  let c2048_i32 : BitVec 32 := 2048#32
  let v0 : BitVec 32 := Scalar.muli arg2 c2048_i32
  let v1 : BitVec 32 := v0
  let c1280_i32_244 : BitVec 32 := 1280#32
  let v698 : BitVec 32 := Scalar.addi v1 c1280_i32_244
  let v699 : BitVec 32 := v698
  let v700 : Index := Scalar.indexCast v699
  let c0_246 : Index := 0#32
  ![0, v700.toNat, 0]
def k0_mult21 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1280_i32_258 : BitVec 32 := 1280#32
  let v725 : BitVec 32 := Scalar.addi v1 c1280_i32_258
  v725
def k0_mult22 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1024_i32_244 : BitVec 32 := 1024#32
  let v698 : BitVec 32 := Scalar.addi v1 c1024_i32_244
  v698
def k0_off4 (i : grid0.Coords) : Fin 3 → Nat :=
  let c0_245 : Index := 0#32
  let arg2 : BitVec 32 := BitVec.ofNat 32 (i 2).val
  let c2048_i32 : BitVec 32 := 2048#32
  let v0 : BitVec 32 := Scalar.muli arg2 c2048_i32
  let v1 : BitVec 32 := v0
  let c1024_i32_244 : BitVec 32 := 1024#32
  let v698 : BitVec 32 := Scalar.addi v1 c1024_i32_244
  let v699 : BitVec 32 := v698
  let v700 : Index := Scalar.indexCast v699
  let c0_246 : Index := 0#32
  ![0, v700.toNat, 0]
def k0_mult23 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c1024_i32_258 : BitVec 32 := 1024#32
  let v725 : BitVec 32 := Scalar.addi v1 c1024_i32_258
  v725
def k0_mult24 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c768_i32_244 : BitVec 32 := 768#32
  let v698 : BitVec 32 := Scalar.addi v1 c768_i32_244
  v698
def k0_off5 (i : grid0.Coords) : Fin 3 → Nat :=
  let c0_245 : Index := 0#32
  let arg2 : BitVec 32 := BitVec.ofNat 32 (i 2).val
  let c2048_i32 : BitVec 32 := 2048#32
  let v0 : BitVec 32 := Scalar.muli arg2 c2048_i32
  let v1 : BitVec 32 := v0
  let c768_i32_244 : BitVec 32 := 768#32
  let v698 : BitVec 32 := Scalar.addi v1 c768_i32_244
  let v699 : BitVec 32 := v698
  let v700 : Index := Scalar.indexCast v699
  let c0_246 : Index := 0#32
  ![0, v700.toNat, 0]
def k0_mult25 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c768_i32_258 : BitVec 32 := 768#32
  let v725 : BitVec 32 := Scalar.addi v1 c768_i32_258
  v725
def k0_mult26 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c512_i32_244 : BitVec 32 := 512#32
  let v698 : BitVec 32 := Scalar.addi v1 c512_i32_244
  v698
def k0_off6 (i : grid0.Coords) : Fin 3 → Nat :=
  let c0_245 : Index := 0#32
  let arg2 : BitVec 32 := BitVec.ofNat 32 (i 2).val
  let c2048_i32 : BitVec 32 := 2048#32
  let v0 : BitVec 32 := Scalar.muli arg2 c2048_i32
  let v1 : BitVec 32 := v0
  let c512_i32_244 : BitVec 32 := 512#32
  let v698 : BitVec 32 := Scalar.addi v1 c512_i32_244
  let v699 : BitVec 32 := v698
  let v700 : Index := Scalar.indexCast v699
  let c0_246 : Index := 0#32
  ![0, v700.toNat, 0]
def k0_mult27 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c512_i32_258 : BitVec 32 := 512#32
  let v725 : BitVec 32 := Scalar.addi v1 c512_i32_258
  v725
def k0_mult28 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c256_i32_244 : BitVec 32 := 256#32
  let v698 : BitVec 32 := Scalar.addi v1 c256_i32_244
  v698
def k0_off7 (i : grid0.Coords) : Fin 3 → Nat :=
  let c0_245 : Index := 0#32
  let arg2 : BitVec 32 := BitVec.ofNat 32 (i 2).val
  let c2048_i32 : BitVec 32 := 2048#32
  let v0 : BitVec 32 := Scalar.muli arg2 c2048_i32
  let v1 : BitVec 32 := v0
  let c256_i32_244 : BitVec 32 := 256#32
  let v698 : BitVec 32 := Scalar.addi v1 c256_i32_244
  let v699 : BitVec 32 := v698
  let v700 : Index := Scalar.indexCast v699
  let c0_246 : Index := 0#32
  ![0, v700.toNat, 0]
def k0_mult29 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c256_i32_258 : BitVec 32 := 256#32
  let v725 : BitVec 32 := Scalar.addi v1 c256_i32_258
  v725
def k0_mult30 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c0_i32_244 : BitVec 32 := 0#32
  let v698 : BitVec 32 := Scalar.addi v1 c0_i32_244
  v698
def k0_off8 (i : grid0.Coords) : Fin 3 → Nat :=
  let c0_245 : Index := 0#32
  let arg2 : BitVec 32 := BitVec.ofNat 32 (i 2).val
  let c2048_i32 : BitVec 32 := 2048#32
  let v0 : BitVec 32 := Scalar.muli arg2 c2048_i32
  let v1 : BitVec 32 := v0
  let c0_i32_244 : BitVec 32 := 0#32
  let v698 : BitVec 32 := Scalar.addi v1 c0_i32_244
  let v699 : BitVec 32 := v698
  let v700 : Index := Scalar.indexCast v699
  let c0_246 : Index := 0#32
  ![0, v700.toNat, 0]
def k0_mult31 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c0_i32_258 : BitVec 32 := 0#32
  let v725 : BitVec 32 := Scalar.addi v1 c0_i32_258
  v725
def k0_mult32 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c_m256_i32 : BitVec 32 := 4294967040#32
  let v698 : BitVec 32 := Scalar.addi v1 c_m256_i32
  v698
def k0_off9 (i : grid0.Coords) : Fin 3 → Nat :=
  let c0_244 : Index := 0#32
  let arg2 : BitVec 32 := BitVec.ofNat 32 (i 2).val
  let c2048_i32 : BitVec 32 := 2048#32
  let v0 : BitVec 32 := Scalar.muli arg2 c2048_i32
  let v1 : BitVec 32 := v0
  let c_m256_i32 : BitVec 32 := 4294967040#32
  let v698 : BitVec 32 := Scalar.addi v1 c_m256_i32
  let v699 : BitVec 32 := v698
  let v700 : Index := Scalar.indexCast v699
  let c0_245 : Index := 0#32
  ![0, v700.toNat, 0]
def k0_cond8 (i : grid0.Coords) (v669 : BitVec 1) : BitVec 1 :=
  let arg2 : BitVec 32 := BitVec.ofNat 32 (i 2).val
  let c0_i32_216 : BitVec 32 := 0#32
  let v626 : BitVec 1 := Scalar.cmpi .sgt arg2 c0_i32_216
  let v670 : BitVec 1 := Scalar.andi v626 v669
  let v671 : BitVec 32 := Scalar.extui v670
  let c0_i32_231 : BitVec 32 := 0#32
  let v672 : BitVec 1 := Scalar.cmpi .ne v671 c0_i32_231
  v672

def k0_chk1 (i : grid0.Coords) (v669 : BitVec 1) : Prop :=
  (∀ (k0_h8 : k0_cond8 i v669 = 1#1), ∀ a, (k0_off9 i) a + S1x256x128.size a ≤ S1x8192x128.size a)
theorem k0_off9_inb : ∀ (i : grid0.Coords) (v669 : BitVec 1) (k0_hw1 : k0_chk1 i v669), ∀ (k0_h8 : k0_cond8 i v669 = 1#1), ∀ a, (k0_off9 i) a + S1x256x128.size a ≤ S1x8192x128.size a := fun i v669 k0_hw1 k0_h8 => k0_hw1 k0_h8

def k0_mult33 (i : grid0.Coords) : BitVec 32 :=
  let arg2 : BitVec 32 := BitVec.ofNat 32 (i 2).val
  let c2048_i32 : BitVec 32 := 2048#32
  let v0 : BitVec 32 := Scalar.muli arg2 c2048_i32
  let v1 : BitVec 32 := v0
  let c_m256_i32_257 : BitVec 32 := 4294967040#32
  let v725 : BitVec 32 := Scalar.addi v1 c_m256_i32_257
  v725
def k0_mult34 (i : grid0.Coords) (arg10 : BitVec 32) : BitVec 32 :=
  let arg2 : BitVec 32 := BitVec.ofNat 32 (i 2).val
  let c2048_i32 : BitVec 32 := 2048#32
  let v0 : BitVec 32 := Scalar.muli arg2 c2048_i32
  let v1 : BitVec 32 := v0
  let c_m2_i32 : BitVec 32 := 4294967294#32
  let v696 : BitVec 32 := Scalar.subi c_m2_i32 arg10
  let c256_i32_245 : BitVec 32 := 256#32
  let v698 : BitVec 32 := Scalar.muli v696 c256_i32_245
  let v699 : BitVec 32 := Scalar.addi v1 v698
  v699

def k0_off10 (i : grid0.Coords) (arg10 : BitVec 32) : Fin 3 → Nat :=
  let c0_246 : Index := 0#32
  let arg2 : BitVec 32 := BitVec.ofNat 32 (i 2).val
  let c2048_i32 : BitVec 32 := 2048#32
  let v0 : BitVec 32 := Scalar.muli arg2 c2048_i32
  let v1 : BitVec 32 := v0
  let c_m2_i32 : BitVec 32 := 4294967294#32
  let v696 : BitVec 32 := Scalar.subi c_m2_i32 arg10
  let c256_i32_245 : BitVec 32 := 256#32
  let v698 : BitVec 32 := Scalar.muli v696 c256_i32_245
  let v699 : BitVec 32 := Scalar.addi v1 v698
  let v700 : BitVec 32 := v699
  let v701 : Index := Scalar.indexCast v700
  let c0_247 : Index := 0#32
  ![0, v701.toNat, 0]
def k0_mult35 (i : grid0.Coords) (arg10 : BitVec 32) : BitVec 32 :=
  let arg2 : BitVec 32 := BitVec.ofNat 32 (i 2).val
  let c2048_i32 : BitVec 32 := 2048#32
  let v0 : BitVec 32 := Scalar.muli arg2 c2048_i32
  let v1 : BitVec 32 := v0
  let c_m2_i32 : BitVec 32 := 4294967294#32
  let v696 : BitVec 32 := Scalar.subi c_m2_i32 arg10
  let c256_i32_259 : BitVec 32 := 256#32
  let v726 : BitVec 32 := Scalar.muli v696 c256_i32_259
  let v727 : BitVec 32 := Scalar.addi v1 v726
  v727

def k0_chk2 (i : grid0.Coords) (arg10 : BitVec 32) : Prop :=
  (256 ∣ (k0_mult34 i arg10).toNat) ∧
  (∀ a, (k0_off10 i arg10) a + S1x256x128.size a ≤ S1x8192x128.size a) ∧
  (256 ∣ (k0_mult35 i arg10).toNat)
theorem k0_mult34_dvd : ∀ (i : grid0.Coords) (arg10 : BitVec 32) (k0_hw2 : k0_chk2 i arg10), 256 ∣ (k0_mult34 i arg10).toNat := fun i arg10 k0_hw2 => k0_hw2.1
theorem k0_off10_inb : ∀ (i : grid0.Coords) (arg10 : BitVec 32) (k0_hw2 : k0_chk2 i arg10), ∀ a, (k0_off10 i arg10) a + S1x256x128.size a ≤ S1x8192x128.size a := fun i arg10 k0_hw2 => k0_hw2.2.1
theorem k0_mult35_dvd : ∀ (i : grid0.Coords) (arg10 : BitVec 32) (k0_hw2 : k0_chk2 i arg10), 256 ∣ (k0_mult35 i arg10).toNat := fun i arg10 k0_hw2 => k0_hw2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "clamp" => some ⊤
  | "exit" => some ⊥
  | "log2e" => some (((Real.log 2)⁻¹ : ℝ) : EReal)
  | "q_scale" => some ((((Real.log 2) * 8)⁻¹ : ℝ) : EReal)
  | _ => none
-- ==== ReferenceIdeal.lean ====
abbrev S4x8192x512 : Shape := ⟨3, ![4, 8192, 512]⟩
abbrev S4x8192x8x64 : Shape := ⟨4, ![4, 8192, 8, 64]⟩
abbrev S4x8x8192x8192 : Shape := ⟨4, ![4, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x8x64x8192 : Shape := ⟨4, ![4, 8, 64, 8192]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x8x64, .f32⟩
  | .hbm, ⟨4, _⟩ => ⟨S4x8192x8x64, .f32⟩
  | .hbm, ⟨5, _⟩ => ⟨S4x8192x8x64, .f32⟩
  | .hbm, ⟨6, _⟩ => ⟨S4x8x8192x8192, .f32⟩
  | .hbm, ⟨7, _⟩ => ⟨S_, .f32⟩
  | .hbm, ⟨8, _⟩ => ⟨S4x8x8192x8192, .f32⟩
  | .hbm, ⟨9, _⟩ => ⟨S4x8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x1x8192x8192, .i1⟩
  | .hbm, ⟨17, _⟩ => ⟨S4x8x8192x8192, .f32⟩
  | .hbm, ⟨18, _⟩ => ⟨S4x8x8192x8192, .f32⟩
  | .hbm, ⟨19, _⟩ => ⟨S_, .f32⟩
  | .hbm, ⟨20, _⟩ => ⟨S4x8x8192x8192, .f32⟩
  | .hbm, ⟨21, _⟩ => ⟨S4x8x8192x8192, .f32⟩
  | .hbm, ⟨22, _⟩ => ⟨S4x8x8192x8192, .f32⟩
  | .hbm, ⟨23, _⟩ => ⟨S4x8x8192x8192, .f32⟩
  | .hbm, ⟨24, _⟩ => ⟨S4x8x8192x8192, .i1⟩
  | .hbm, ⟨25, _⟩ => ⟨S4x8x8192x8192, .f32⟩
  | .hbm, ⟨26, _⟩ => ⟨S4x8x8192x8192, .f32⟩
  | .hbm, ⟨27, _⟩ => ⟨S4x8x8192x8192, .f32⟩
  | .hbm, ⟨28, _⟩ => ⟨S4x8x8192x8192, .f32⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S_, .f32⟩
  | .hbm, ⟨35, _⟩ => ⟨S_, .f32⟩
  | .hbm, ⟨36, _⟩ => ⟨S4x8x8192x8192, .i1⟩
  | .hbm, ⟨37, _⟩ => ⟨S4x8x8192x8192, .f32⟩
  | .hbm, ⟨38, _⟩ => ⟨S4x8x8192x8192, .f32⟩
  | .hbm, ⟨39, _⟩ => ⟨S_, .f32⟩
  | .hbm, ⟨40, _⟩ => ⟨S_, .f32⟩
  | .hbm, ⟨41, _⟩ => ⟨S4x8x8192x8192, .f32⟩
  | .hbm, ⟨42, _⟩ => ⟨S4x8x8192x8192, .f32⟩
  | .hbm, ⟨43, _⟩ => ⟨S4x8x8192x8192, .f32⟩
  | .hbm, ⟨44, _⟩ => ⟨S_, .f32⟩
  | .hbm, ⟨45, _⟩ => ⟨S4x8x8192x8192, .f32⟩
  | .hbm, ⟨46, _⟩ => ⟨S4x8x8192x8192, .f32⟩
  | .hbm, ⟨47, _⟩ => ⟨S4x8x8192x8192, .f32⟩
  | .hbm, ⟨48, _⟩ => ⟨S4x8x8192x8192, .f32⟩
  | .hbm, ⟨49, _⟩ => ⟨S4x8x8192x8192, .i1⟩
  | .hbm, ⟨50, _⟩ => ⟨S4x8x8192x8192, .f32⟩
  | .hbm, ⟨51, _⟩ => ⟨S4x8x8192x8192, .f32⟩
  | .hbm, ⟨52, _⟩ => ⟨S4x8x8192x8192, .f32⟩
  | .hbm, ⟨53, _⟩ => ⟨S4x8x8192x8192, .f32⟩
  | .hbm, ⟨54, _⟩ => ⟨S4x8x8192x8192, .f32⟩
  | .hbm, ⟨55, _⟩ => ⟨S4x8x8192x8192, .f32⟩
  | .hbm, ⟨56, _⟩ => ⟨S4x8x8192x8192, .f32⟩
  | .hbm, ⟨57, _⟩ => ⟨S4x8x8192x8192, .f32⟩
  | .hbm, ⟨58, _⟩ => ⟨S4x8x8192x8192, .f32⟩
  | .hbm, ⟨59, _⟩ => ⟨S4x8x8192x8192, .f32⟩
  | .hbm, ⟨60, _⟩ => ⟨S_, .f32⟩
  | .hbm, ⟨61, _⟩ => ⟨S_, .f32⟩
  | .hbm, ⟨62, _⟩ => ⟨S4x8x8192x8192, .i1⟩
  | .hbm, ⟨63, _⟩ => ⟨S4x8x8192x8192, .f32⟩
  | .hbm, ⟨64, _⟩ => ⟨S4x8x8192x8192, .f32⟩
  | .hbm, ⟨65, _⟩ => ⟨S4x8x8192x8192, .f32⟩
  | .hbm, ⟨66, _⟩ => ⟨S4x8x64x8192, .f32⟩
  | .hbm, ⟨67, _⟩ => ⟨S4x8192x8x64, .f32⟩
  | .hbm, ⟨68, _⟩ => ⟨S4x8192x512, .f32⟩
  | .hbm, ⟨69, _⟩ => ⟨S4x8192x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩

abbrev nD : Nat := 1
abbrev τ : Topo := Topo.v7x

variable {F : FTy → Type} [FloatOps F]
-- ==== Kernel2.lean ====
abbrev S4x8192x1024 : Shape := ⟨3, ![4, 8192, 1024]⟩
abbrev S2x1024x5632 : Shape := ⟨3, ![2, 1024, 5632]⟩
abbrev S2x2816x1024 : Shape := ⟨3, ![2, 2816, 1024]⟩
abbrev S2x1024 : Shape := ⟨2, ![2, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S256x1024 : Shape := ⟨2, ![256, 1024]⟩
abbrev S1x1024x2816 : Shape := ⟨3, ![1, 1024, 2816]⟩
abbrev S1024x2816 : Shape := ⟨2, ![1024, 2816]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S2x1024x5632, .f32⟩
  | .hbm, ⟨2, _⟩ => ⟨S2x2816x1024, .f32⟩
  | .hbm, ⟨3, _⟩ => ⟨S2x1024, .f32⟩
  | .hbm, ⟨4, _⟩ => ⟨S2x1024, .f32⟩
  | .hbm, ⟨5, _⟩ => ⟨S32768x1024, .f32⟩
  | .hbm, ⟨6, _⟩ => ⟨S2x1024x5632, .bf16⟩
  | .hbm, ⟨7, _⟩ => ⟨S2x2816x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x5632, .bf16⟩
  | .local _ .vmem, ⟨3, _⟩ => ⟨S1x2816x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x8192x1024 : Shape := ⟨3, ![4, 8192, 1024]⟩
abbrev S2x1024x5632 : Shape := ⟨3, ![2, 1024, 5632]⟩
abbrev S2x2816x1024 : Shape := ⟨3, ![2, 2816, 1024]⟩
abbrev S2x1024 : Shape := ⟨2, ![2, 1024]⟩
abbrev S32768x1024 : Shape := ⟨2, ![32768, 1024]⟩
abbrev S1x1024x5632 : Shape := ⟨3, ![1, 1024, 5632]⟩
abbrev S1024x5632 : Shape := ⟨2, ![1024, 5632]⟩
abbrev S32768x5632 : Shape := ⟨2, ![32768, 5632]⟩
abbrev S32768x2816 : Shape := ⟨2, ![32768, 2816]⟩
abbrev S_ : Shape := ⟨0, ![]⟩
abbrev S1x2816x1024 : Shape := ⟨3, ![1, 2816, 1024]⟩
abbrev S2816x1024 : Shape := ⟨2, ![2816, 1024]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024x5632, .f32⟩
  | .hbm, ⟨2, _⟩ => ⟨S2x2816x1024, .f32⟩
  | .hbm, ⟨3, _⟩ => ⟨S2x1024, .f32⟩
  | .hbm, ⟨4, _⟩ => ⟨S2x1024, .f32⟩
  | .hbm, ⟨5, _⟩ => ⟨S32768x1024, .f32⟩
  | .hbm, ⟨6, _⟩ => ⟨S1x1024x5632, .f32⟩
  | .hbm, ⟨7, _⟩ => ⟨S1024x5632, .f32⟩
  | .hbm, ⟨8, _⟩ => ⟨S32768x5632, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S32768x2816, .f32⟩
  | .hbm, ⟨13, _⟩ => ⟨S_, .f32⟩
  | .hbm, ⟨14, _⟩ => ⟨S32768x2816, .f32⟩
  | .hbm, ⟨15, _⟩ => ⟨S32768x2816, .f32⟩
  | .hbm, ⟨16, _⟩ => ⟨S_, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S1x2816x1024, .f32⟩
  | .hbm, ⟨22, _⟩ => ⟨S2816x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S32768x1024, .f32⟩
  | .hbm, ⟨60, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S2x512x1024 : Shape := ⟨3, ![2, 512, 1024]⟩
abbrev S2x1024x1024 : Shape := ⟨3, ![2, 1024, 1024]⟩
abbrev S2x1024 : Shape := ⟨2, ![2, 1024]⟩
abbrev S32768x1024 : Shape := ⟨2, ![32768, 1024]⟩
abbrev S32768x512 : Shape := ⟨2, ![32768, 512]⟩
abbrev S1x1024 : Shape := ⟨2, ![1, 1024]⟩
abbrev S1024 : Shape := ⟨1, ![1024]⟩
abbrev S1024x1024 : Shape := ⟨2, ![1024, 1024]⟩
abbrev S1024x512 : Shape := ⟨2, ![1024, 512]⟩
abbrev S1x512x1024 : Shape := ⟨3, ![1, 512, 1024]⟩
abbrev S1x1024x1024 : Shape := ⟨3, ![1, 1024, 1024]⟩
abbrev S256x512 : Shape := ⟨2, ![256, 512]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 29
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x1024, .f32⟩
  | .hbm, ⟨4, _⟩ => ⟨S4x8192x1024, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S2x1024, .f32⟩
  | .hbm, ⟨9, _⟩ => ⟨S2x1024, .f32⟩
  | .hbm, ⟨10, _⟩ => ⟨S32768x1024, .f32⟩
  | .hbm, ⟨11, _⟩ => ⟨S32768x512, .f32⟩
  | .hbm, ⟨12, _⟩ => ⟨S32768x512, .bf16⟩
  | .hbm, ⟨13, _⟩ => ⟨S32768x512, .f32⟩
  | .hbm, ⟨14, _⟩ => ⟨S32768x512, .bf16⟩
  | .hbm, ⟨15, _⟩ => ⟨S32768x1024, .f32⟩
  | .hbm, ⟨16, _⟩ => ⟨S32768x1024, .bf16⟩
  | .hbm, ⟨17, _⟩ => ⟨S32768x1024, .f32⟩
  | .hbm, ⟨18, _⟩ => ⟨S32768x1024, .bf16⟩
  | .hbm, ⟨19, _⟩ => ⟨S2x512x1024, .bf16⟩
  | .hbm, ⟨20, _⟩ => ⟨S2x512x1024, .bf16⟩
  | .hbm, ⟨21, _⟩ => ⟨S2x1024x1024, .bf16⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x8192x1024 : Shape := ⟨3, ![4, 8192, 1024]⟩
abbrev S4x8192x512 : Shape := ⟨3, ![4, 8192, 512]⟩
abbrev S2x512x1024 : Shape := ⟨3, ![2, 512, 1024]⟩
abbrev S2x1024x1024 : Shape := ⟨3, ![2, 1024, 1024]⟩
abbrev S2x1024 : Shape := ⟨2, ![2, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1024 : Shape := ⟨2, ![1, 1024]⟩
abbrev S1024 : Shape := ⟨1, ![1024]⟩
abbrev S1x1x1024 : Shape := ⟨3, ![1, 1, 1024]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x1024, .f32⟩
  | .hbm, ⟨4, _⟩ => ⟨S4x8192x1024, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S2x1024, .f32⟩
  | .hbm, ⟨9, _⟩ => ⟨S2x1024, .f32⟩
  | .hbm, ⟨10, _⟩ => ⟨S1x512x1024, .f32⟩
  | .hbm, ⟨11, _⟩ => ⟨S512x1024, .f32⟩
  | .hbm, ⟨12, _⟩ => ⟨S4x8192x1024, .f32⟩
  | .hbm, ⟨13, _⟩ => ⟨S1x512x1024, .f32⟩
  | .hbm, ⟨14, _⟩ => ⟨S512x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S1x1024x1024, .f32⟩
  | .hbm, ⟨20, _⟩ => ⟨S1024x1024, .f32⟩
  | .hbm, ⟨21, _⟩ => ⟨S4x8192x1024, .f32⟩
  | .hbm, ⟨22, _⟩ => ⟨S_, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S4x8192x1024, .f32⟩
  | .hbm, ⟨53, _⟩ => ⟨S4x8192x1024, .f32⟩
  | .hbm, ⟨54, _⟩ => ⟨S1x1024, .f32⟩
  | .hbm, ⟨55, _⟩ => ⟨S1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | .hbm, ⟨59, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel4.lean ====
abbrev S4x8192x1024 : Shape := ⟨3, ![4, 8192, 1024]⟩
abbrev S2x1024x5120 : Shape := ⟨3, ![2, 1024, 5120]⟩
abbrev S2x2048 : Shape := ⟨2, ![2, 2048]⟩
abbrev S32768x1024 : Shape := ⟨2, ![32768, 1024]⟩
abbrev S1x2048 : Shape := ⟨2, ![1, 2048]⟩
abbrev S2048 : Shape := ⟨1, ![2048]⟩
abbrev S32768x512 : Shape := ⟨2, ![32768, 512]⟩
abbrev S1024x1024 : Shape := ⟨2, ![1024, 1024]⟩
abbrev S1x1024x5120 : Shape := ⟨3, ![1, 1024, 5120]⟩
abbrev S1024x512 : Shape := ⟨2, ![1024, 512]⟩
abbrev S1x1024x1024 : Shape := ⟨3, ![1, 1024, 1024]⟩
abbrev S1x1024 : Shape := ⟨2, ![1, 1024]⟩
abbrev S1x1024x512 : Shape := ⟨3, ![1, 1024, 512]⟩

abbrev nBuf : Space → Nat
  | .hbm => 16
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S2x1024x5120, .f32⟩
  | .hbm, ⟨2, _⟩ => ⟨S2x2048, .f32⟩
  | .hbm, ⟨3, _⟩ => ⟨S32768x1024, .f32⟩
  | .hbm, ⟨4, _⟩ => ⟨S2x1024x5120, .bf16⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S32768x512, .bf16⟩
  | .hbm, ⟨9, _⟩ => ⟨S32768x512, .bf16⟩
  | .hbm, ⟨10, _⟩ => ⟨S32768x512, .bf16⟩
  | .hbm, ⟨11, _⟩ => ⟨S32768x512, .bf16⟩
  | .hbm, ⟨12, _⟩ => ⟨S32768x512, .bf16⟩
  | .hbm, ⟨13, _⟩ => ⟨S32768x512, .bf16⟩
  | .hbm, ⟨14, _⟩ => ⟨S32768x1024, .bf16⟩
  | .hbm, ⟨15, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x5120, .bf16⟩
  | .local _ .vmem, ⟨3, _⟩ => ⟨S1x2048, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev main_v5_6 : Ref sig .tc := ⟨.hbm, 14, rfl⟩
abbrev main_v5_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S4x8192x1024 : Shape := ⟨3, ![4, 8192, 1024]⟩
abbrev S2x1024x5120 : Shape := ⟨3, ![2, 1024, 5120]⟩
abbrev S2x2048 : Shape := ⟨2, ![2, 2048]⟩
abbrev S32768x1024 : Shape := ⟨2, ![32768, 1024]⟩
abbrev S1x1024x5120 : Shape := ⟨3, ![1, 1024, 5120]⟩
abbrev S1024x5120 : Shape := ⟨2, ![1024, 5120]⟩
abbrev S32768x5120 : Shape := ⟨2, ![32768, 5120]⟩
abbrev S32768x512 : Shape := ⟨2, ![32768, 512]⟩
abbrev S1x1024 : Shape := ⟨2, ![1, 1024]⟩
abbrev S1024 : Shape := ⟨1, ![1024]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024x5120, .f32⟩
  | .hbm, ⟨2, _⟩ => ⟨S2x2048, .f32⟩
  | .hbm, ⟨3, _⟩ => ⟨S32768x1024, .f32⟩
  | .hbm, ⟨4, _⟩ => ⟨S1x1024x5120, .f32⟩
  | .hbm, ⟨5, _⟩ => ⟨S1024x5120, .f32⟩
  | .hbm, ⟨6, _⟩ => ⟨S32768x5120, .f32⟩
  | .hbm, ⟨7, _⟩ => ⟨S32768x512, .f32⟩
  | .hbm, ⟨8, _⟩ => ⟨S32768x512, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S_, .f32⟩
  | .hbm, ⟨45, _⟩ => ⟨S32768x512, .f32⟩
  | .hbm, ⟨46, _⟩ => ⟨S32768x512, .f32⟩
  | .hbm, ⟨47, _⟩ => ⟨S32768x512, .bf16⟩
  | .hbm, ⟨48, _⟩ => ⟨S32768x512, .bf16⟩
  | .hbm, ⟨49, _⟩ => ⟨S32768x512, .bf16⟩
  | .hbm, ⟨50, _⟩ => ⟨S32768x512, .bf16⟩
  | .hbm, ⟨51, _⟩ => ⟨S32768x512, .bf16⟩
  | .hbm, ⟨52, _⟩ => ⟨S32768x512, .bf16⟩
  | .hbm, ⟨53, _⟩ => ⟨S32768x1024, .bf16⟩
  | .hbm, ⟨54, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Proof.K.WordsI.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.MixerB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The query block's index on the grid's last axis is below four. -/
theorem qi_lt (i : grid0.Coords) : (i 2).val < 4 := (i 2).isLt

/-- The query block's index as one of four. -/
theorem qi_fin (i : grid0.Coords) : ∃ q : Fin 4, (i 2).val = q.val := ⟨⟨(i 2).val, qi_lt i⟩, rfl⟩

/-- The middle entry of a triple of zeros around it. -/
theorem mid_entry (x : ℕ) : (![0, x, 0] : Fin 3 → ℕ) 1 = x := rfl

/-- The left neighbour's offsets as a triple. -/
theorem off9_triple (i : grid0.Coords) : k0_off9 i = (![0, (Scalar.indexCast (Scalar.addi (Scalar.muli (BitVec.ofNat 32 (i 2).val) 2048#32) 4294967040#32) : Index).toNat, 0] : Fin 3 → ℕ) := by
  unfold k0_off9; rfl

/-- The loop's offsets as a triple. -/
theorem off10_triple (i : grid0.Coords) (a : BitVec 32) : k0_off10 i a = (![0, (Scalar.indexCast (Scalar.addi (Scalar.muli (BitVec.ofNat 32 (i 2).val) 2048#32) (Scalar.muli (Scalar.subi 4294967294#32 a) 256#32)) : Index).toNat, 0] : Fin 3 → ℕ) := by
  unfold k0_off10; rfl

/-- A one-bit word is the word of a truth value. -/
theorem bit_cases (b : BitVec 1) : ∃ t : Bool, b = BitVec.ofBool t := by
  rcases BitVec.eq_zero_or_eq_one b with h | h
  · exact ⟨false, h⟩
  · exact ⟨true, h⟩

/-- The words of the left neighbour's key block, one query block after another. -/
theorem left_words : ∀ (q : Fin 4) (b : Bool), Scalar.cmpi .ne (Scalar.extui (Scalar.andi (Scalar.cmpi .sgt (BitVec.ofNat 32 q.val) 0#32) (BitVec.ofBool b))) (0#32 : BitVec 32) = 1#1 →
      ((Scalar.indexCast (Scalar.addi (Scalar.muli (BitVec.ofNat 32 q.val) 2048#32) 4294967040#32) : Index).toNat ≤ 7936) := by
  decide +kernel

/-- The check before the left neighbour's tile: where that tile is taken, its key block lies inside the array. -/
theorem chk1_all (i : grid0.Coords) (b : BitVec 1) : k0_chk1 i b := by
  intro h8 a
  obtain ⟨b, rfl⟩ := bit_cases b
  have h : k0_off9 i 1 ≤ 7936 := by
    obtain ⟨q, hq⟩ := qi_fin i
    unfold k0_cond8 at h8
    rw [off9_triple, mid_entry]
    rw [hq] at h8 ⊢
    exact left_words q b h8
  have e0 : k0_off9 i 0 = 0 := rfl
  have e2 : k0_off9 i 2 = 0 := rfl
  have s0 : S1x256x128.size 0 = 1 := rfl
  have s1 : S1x256x128.size 1 = 256 := rfl
  have s2 : S1x256x128.size 2 = 128 := rfl
  have t0 : S1x8192x128.size 0 = 1 := rfl
  have t1 : S1x8192x128.size 1 = 8192 := rfl
  have t2 : S1x8192x128.size 2 = 128 := rfl
  match a with
  | 0 => rw [e0, s0, t0]
  | 1 => rw [s1, t1]; omega
  | 2 => rw [e2, s2, t2]

/-- The words of the loop's key block, one query block and trip after another. -/
theorem loop_words : ∀ (q : Fin 4) (t : Fin 32), t.val + 1 < 8 * q.val →
      256 ∣ (Scalar.addi (Scalar.muli (BitVec.ofNat 32 q.val) 2048#32) (Scalar.muli (Scalar.subi 4294967294#32 (BitVec.ofNat 32 t.val)) 256#32) : BitVec 32).toNat
      ∧ ((Scalar.indexCast (Scalar.addi (Scalar.muli (BitVec.ofNat 32 q.val) 2048#32) (Scalar.muli (Scalar.subi 4294967294#32 (BitVec.ofNat 32 t.val)) 256#32)) : Index).toNat = 256 * (8 * q.val - 2 - t.val)) := by
  decide +kernel

/-- The loop's key block on trip `it`. -/
theorem off10_eq (i : grid0.Coords) (it : ℕ) (h : it + 1 < 8 * (i 2).val) :
    k0_off10 i (BitVec.ofNat 32 it) 1 = 256 * (8 * (i 2).val - 2 - it) := by
  have hq4 := qi_lt i
  obtain ⟨t, ht⟩ : ∃ t : Fin 32, it = t.val := ⟨⟨it, by omega⟩, rfl⟩
  obtain ⟨q, hq⟩ := qi_fin i
  rw [off10_triple, mid_entry, hq, ht]
  rw [hq, ht] at h
  exact (loop_words q t h).2

/-- The loop's own check: while trips remain, the trip's key block is a multiple of 256 inside the array. -/
theorem chk2_of (i : grid0.Coords) (it : ℕ) (h : it + 1 < 8 * (i 2).val) : k0_chk2 i (BitVec.ofNat 32 it) := by
  have hq4 := qi_lt i
  have hk : 256 ∣ (k0_mult34 i (BitVec.ofNat 32 it)).toNat := by
    obtain ⟨t, ht⟩ : ∃ t : Fin 32, it = t.val := ⟨⟨it, by omega⟩, rfl⟩
    obtain ⟨q, hq⟩ := qi_fin i
    unfold k0_mult34
    rw [hq, ht] at h
    rw [hq, ht]
    exact (loop_words q t h).1
  refine ⟨hk, fun a => ?_, hk⟩
  have h1 := off10_eq i it h
  have e0 : k0_off10 i (BitVec.ofNat 32 it) 0 = 0 := rfl
  have e2 : k0_off10 i (BitVec.ofNat 32 it) 2 = 0 := rfl
  have s0 : S1x256x128.size 0 = 1 := rfl
  have s1 : S1x256x128.size 1 = 256 := rfl
  have s2 : S1x256x128.size 2 = 128 := rfl
  have t0 : S1x8192x128.size 0 = 1 := rfl
  have t1 : S1x8192x128.size 1 = 8192 := rfl
  have t2 : S1x8192x128.size 2 = 128 := rfl
  match a with
  | 0 => rw [e0, s0, t0]
  | 1 => rw [h1, s1, t1]; omega
  | 2 => rw [e2, s2, t2]

/-- The loop's test over all query blocks, trips and flags. -/
theorem test_words : ∀ (q : Fin 4) (t : Fin 32) (al : Bool), t.val ≤ 8 * q.val - 1 →
      (Scalar.andi (Scalar.cmpi .slt (BitVec.ofNat 32 t.val) (Scalar.subi (Scalar.muli (BitVec.ofNat 32 q.val) 8#32) 1#32)) (BitVec.ofBool al) = 1#1
      ↔ t.val + 1 < 8 * q.val ∧ BitVec.ofBool al = 1#1) := by decide +kernel

/-- The loop's counter test: trip `it` is taken while `it + 1 < 8 q` and the carry is alive. -/
theorem test_iff (i : grid0.Coords) (it : ℕ) (hit : it ≤ 8 * (i 2).val - 1) (al : BitVec 1) :
    Scalar.andi (Scalar.cmpi .slt (BitVec.ofNat 32 it) (Scalar.subi (Scalar.muli (BitVec.ofNat 32 (i 2).val) 8#32) 1#32)) al = 1#1
      ↔ it + 1 < 8 * (i 2).val ∧ al = 1#1 := by
  have hq4 := qi_lt i
  obtain ⟨al, rfl⟩ := bit_cases al
  obtain ⟨t, ht⟩ : ∃ t : Fin 32, it = t.val := ⟨⟨it, by omega⟩, rfl⟩
  obtain ⟨q, hq⟩ := qi_fin i
  rw [hq, ht] at hit
  rw [hq, ht]
  exact test_words q t al hit

/-- The counter's words. -/
theorem ctr_words : ∀ t : Fin 32, Scalar.addi (BitVec.ofNat 32 t.val) 1#32 = BitVec.ofNat 32 (t.val + 1) := by decide +kernel

/-- The counter steps by one. -/
theorem ctr_succ (it : ℕ) (h : it < 32) : Scalar.addi (BitVec.ofNat 32 it) 1#32 = BitVec.ofNat 32 (it + 1) :=
  ctr_words ⟨it, h⟩

end Cert.KernelIdeal.MixerB

end
-- ==== Proof.K.HeldI.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.K.WordsI

@[expose] public section

set_option maxRecDepth 16384

noncomputable section

namespace Cert.KernelIdeal.MixerB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the key loop holds: the key and value blocks at their contents, both scratch buffers at anything. -/
def Held (c : Dev nD) (a4 a5 : Memref sig .tc .vmem S1x8192x128 .bf16) (a8 a9 : Memref sig .tc .vmem S2x2048x128 .f32)
    (x4 x5 : Vec F S1x8192x128 .bf16) : sProp 𝕄 :=
  iprop(owns (c : Thread nD τ) a4 fullShare x4 ∗ owns (c : Thread nD τ) a5 fullShare x5
    ∗ (∃ d, owns (c : Thread nD τ) a8 fullShare d) ∗ (∃ d, owns (c : Thread nD τ) a9 fullShare d))

set_option maxHeartbeats 4000000 in
/-- The key loop entered at trip `it` with `n` trips left ends, holding what it held: by induction on `n`. -/
theorem loop_held (c : Dev nD) (i : grid0.Coords) (v630 v634 v639 v645 v652 v660 v669 : BitVec 1) (hw1 : k0_chk1 i v669)
    (v14 v21 : FVec F S2048x128 .bf16) (a4 : Memref sig .tc .vmem S1x8192x128 .bf16) (h4 : a4.IsWhole) (v23 : FVec F S256x256 .bf16)
    (a9 : Memref sig .tc .vmem S2x2048x128 .f32) (h9 : a9.IsWhole) (a5 : Memref sig .tc .vmem S1x8192x128 .bf16) (h5 : a5.IsWhole)
    (a8 : Memref sig .tc .vmem S2x2048x128 .f32) (h8 : a8.IsWhole) (x4 x5 : Vec F S1x8192x128 .bf16) (E : Set ℕ) (n : ℕ) :
    ∀ (it : ℕ), 8 * (i 2).val - 1 = it + n → ∀ (al : BitVec 1) (K : BitVec 32 × BitVec 1 → sProp 𝕄),
      iprop(Held c a4 a5 a8 a9 x4 x5 ∗ (∀ r, Held c a4 a5 a8 a9 x4 x5 -∗ K r))
        ⊢ wp frame (wpE (defs₀ (F := F)) Variants.nat (c : Thread nD τ) (some n)) E
            (cc0_while1 i v630 v634 v639 v645 v652 v660 v669 hw1 v14 v21 a4 h4 v23 a9 h9 a5 h5 a8 h8 (BitVec.ofNat 32 it) al) K := by
  induction n with
  | zero =>
    intro it hit al K
    have hq := qi_lt i
    have ht : ¬ (Scalar.andi (Scalar.cmpi .slt (BitVec.ofNat 32 it) (Scalar.subi (Scalar.muli (BitVec.ofNat 32 (i 2).val) 8#32) 1#32)) al = 1#1) := by
      rw [test_iff i it (by omega)]; omega
    simp only [cc0_while1_eq_skeleton]; unfold cc0_while1_skel
    simp only [if_neg ht, Prog.pure_eq_ret]
    iintro ⟨H, Hk⟩
    rw [wp_ret]; imodintro
    iapply Hk; iexact H
  | succ n ih =>
    intro it hit al K
    have hq := qi_lt i
    by_cases ht : (Scalar.andi (Scalar.cmpi .slt (BitVec.ofNat 32 it) (Scalar.subi (Scalar.muli (BitVec.ofNat 32 (i 2).val) 8#32) 1#32)) al = 1#1)
    · have hlt : it + 1 < 8 * (i 2).val := ((test_iff i it (by omega) al).1 ht).1
      have hc2 := chk2_of i it hlt
      simp only [cc0_while1_eq_skeleton]; unfold cc0_while1_skel
      unfold Held owns
      iintro ⟨⟨⟨%f4, %e4, H4⟩, ⟨%f5, %e5, H5⟩, ⟨%d8, %f8, -, H8⟩, ⟨%d9, %f9, -, H9⟩⟩, Hk⟩
      obtain rfl := h4.eq_unread e4; obtain rfl := h5.eq_unread e5
      sl_exec (disch := first | sl_exact ht | with_reducible exact hc2)
      have hs : loop_held.sl.v695_1 it = BitVec.ofNat 32 (it + 1) := ctr_succ it (by omega)
      rw [hs]
      iapply (wp_call Variants.nat (c : Thread nD τ) (some (n + 1)) E n (fun u hu => by cases hu; exact Nat.lt_succ_self n))
      iapply (ih (it + 1) (by omega) _ _)
      isplitl [H4 H5 H8 H9]
      · unfold Held owns
        isplitl [H4]
        · iexists _; isplitr; · ipureintro; exact h4.read_unread _
          iexact H4
        isplitl [H5]
        · iexists _; isplitr; · ipureintro; exact h5.read_unread _
          iexact H5
        isplitl [H8]
        · iexists _, _; isplitr; swap; · iexact H8
          ipureintro; rfl
        iexists _, _; isplitr; swap; · iexact H9
        ipureintro; rfl
      iintro %r H
      rw [wp_ret]; imodintro
      iapply Hk
      unfold Held owns
      iexact H
    · simp only [cc0_while1_eq_skeleton]; unfold cc0_while1_skel
      simp only [if_neg ht, Prog.pure_eq_ret]
      iintro ⟨H, Hk⟩
      rw [wp_ret]; imodintro
      iapply Hk; iexact H

end Cert.KernelIdeal.MixerB

end
-- ==== Proof.K.BodyI.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.K.HeldI

@[expose] public section

set_option maxRecDepth 16384

noncomputable section

namespace Cert.KernelIdeal.MixerB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The body on any staging memrefs: it ends with the four inputs as they were, the result and both scratch buffers at some contents. -/
theorem body_held (c : Dev nD) (i : grid0.Coords) (arg3 : Memref sig .tc .vmem S1x2048x128 .f32) (harg3 : arg3.IsWhole)
    (arg4 : Memref sig .tc .vmem S1x8192x128 .bf16) (harg4 : arg4.IsWhole) (arg5 : Memref sig .tc .vmem S1x8192x128 .bf16) (harg5 : arg5.IsWhole)
    (arg6 : Memref sig .tc .vmem S256x256 .bf16) (harg6 : arg6.IsWhole) (arg7 : Memref sig .tc .vmem S1x2048x128 .bf16) (harg7 : arg7.IsWhole)
    (arg8 : Memref sig .tc .vmem S2x2048x128 .f32) (harg8 : arg8.IsWhole) (arg9 : Memref sig .tc .vmem S2x2048x128 .f32) (harg9 : arg9.IsWhole)
    (x3 : Vec F S1x2048x128 .f32) (x4 x5 : Vec F S1x8192x128 .bf16) (x6 : Vec F S256x256 .bf16) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5
            ∗ owns (c : Thread nD τ) arg6 fullShare x6 ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.nat (c : Thread nD τ) none) E
          (cc0_mixer_b i arg3 harg3 arg4 harg4 arg5 harg5 arg6 harg6 arg7 harg7 arg8 harg8 arg9 harg9) K := by
  simp only [cc0_mixer_b_eq_skeleton]; unfold cc0_mixer_b_skel
  unfold owns
  iintro ⟨⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, Hk⟩
  obtain rfl := harg3.eq_unread e3; obtain rfl := harg4.eq_unread e4; obtain rfl := harg5.eq_unread e5; obtain rfl := harg6.eq_unread e6
  by_cases h1 : k0_cond1 i = 1#1
  all_goals
    sl_exec (disch := first | sl_exact h1 | with_reducible exact chk1_all _ _)
    iapply (wp_call Variants.nat (c : Thread nD τ) none E (8 * (i 2).val - 1) (fun u hu => nomatch hu))
    iapply (loop_held c i _ _ _ _ _ _ _ _ _ _ arg4 harg4 _ arg9 harg9 arg5 harg5 arg8 harg8 x4 x5 E _ 0 (Nat.zero_add _).symm _ _)
    isplitl [H4 H5 H8 H9]
    · unfold Held owns
      isplitl [H4]
      · iexists _; isplitr; · ipureintro; exact harg4.read_unread _
        iexact H4
      isplitl [H5]
      · iexists _; isplitr; · ipureintro; exact harg5.read_unread _
        iexact H5
      isplitl [H8]
      · iexists _, _; isplitr; swap; · iexact H8
        ipureintro; rfl
      iexists _, _; isplitr; swap; · iexact H9
      ipureintro; rfl
    unfold Held owns
    iintro %r ⟨⟨%g4, %e4', H4⟩, ⟨%g5, %e5', H5⟩, ⟨%d8', %g8, -, H8⟩, ⟨%d9', %g9, -, H9⟩⟩
    sl_exec
    sl_step
    iapply Hk
    isplitl [H3]
    · iexists _; isplitr; · ipureintro; exact harg3.read_unread _
      iexact H3
    isplitl [H4]
    · iexists _; isplitr; · ipureintro; exact e4'
      iexact H4
    isplitl [H5]
    · iexists _; isplitr; · ipureintro; exact e5'
      iexact H5
    isplitl [H6]
    · iexists _; isplitr; · ipureintro; exact harg6.read_unread _
      iexact H6
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.KernelIdeal.MixerB

end
-- ==== Proof.K.KitI.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.K.WordsI

@[expose] public section

set_option maxRecDepth 16384

noncomputable section

namespace Cert.KernelIdeal.MixerB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host operations before it. -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
/-- The program up to the region: the stretches of host operations, then the region. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0, hostOps0_1, hostOps0_2] (by simp only [List.Forall]; exact ⟨hostOps0_sub, hostOps0_1_sub, hostOps0_2_sub⟩)
    (by simp only [List.Forall]; exact ⟨fresh0, fresh1, fresh2⟩) main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's staging buffer holds its block at every point, for any proof data over these arrays that leaves the block in place. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data over these arrays that leaves the block in place. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data over these arrays that leaves the block in place. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data over these arrays that leaves the block in place. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments end as launched, from a run of the region over any proof data with these arrays. -/
theorem args_kept (rdat : (c : Dev nD) → Pipeline.RDat τ (Elt F) Unit ℕ (UR sig nD τ) ℕ ((cfgs (F := F)) 0) c)
    (hA : ∀ c w, (rdat c).A w = V m c (Pipeline.arrRef spec0 w))
    (h : θ_run defs (onTc (τ := τ) (main (F := F))) (s₀ m ρ) (Pipeline.RDat.FramePost ((cfgs (F := F)) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Pipeline.RDat.FramePost.arr_in h c 0 rfl).trans ((hA c 0).trans (V_main_arg0 m c)),
     ((h c).2 main_arg1 (Pipeline.mem_restRefs_of main_arg1 (by decide) (show ∀ w : Fin 5, (spec0 w).arr.view.ref ≠ main_arg1 by decide))).trans (V_main_arg1 m c),
     ((h c).2 main_arg2 (Pipeline.mem_restRefs_of main_arg2 (by decide) (show ∀ w : Fin 5, (spec0 w).arr.view.ref ≠ main_arg2 by decide))).trans (V_main_arg2 m c)⟩) h

/-- Window 0's staging memref at point `t`, and that it is a whole buffer. -/
abbrev ms0_0 (t : Fin (cfg0 (F := F)).N) : Memref sig .tc .vmem S1x2048x128 .f32 := win0_0.stage ((cfg0 (F := F)).slots t 0)
abbrev hs0_0 (t : Fin (cfg0 (F := F)).N) : (ms0_0 t).IsWhole := hstage0_0 (((cfg0 (F := F)).slots t 0).cast nbuf0_0)

/-- Window 1's staging memref at point `t`, and that it is a whole buffer. -/
abbrev ms0_1 (t : Fin (cfg0 (F := F)).N) : Memref sig .tc .vmem S1x8192x128 .bf16 := win0_1.stage ((cfg0 (F := F)).slots t 1)
abbrev hs0_1 (t : Fin (cfg0 (F := F)).N) : (ms0_1 t).IsWhole := hstage0_1 (((cfg0 (F := F)).slots t 1).cast nbuf0_1)

/-- Window 2's staging memref at point `t`, and that it is a whole buffer. -/
abbrev ms0_2 (t : Fin (cfg0 (F := F)).N) : Memref sig .tc .vmem S1x8192x128 .bf16 := win0_2.stage ((cfg0 (F := F)).slots t 2)
abbrev hs0_2 (t : Fin (cfg0 (F := F)).N) : (ms0_2 t).IsWhole := hstage0_2 (((cfg0 (F := F)).slots t 2).cast nbuf0_2)

/-- Window 3's staging memref at point `t`, and that it is a whole buffer. -/
abbrev ms0_3 (t : Fin (cfg0 (F := F)).N) : Memref sig .tc .vmem S256x256 .bf16 := win0_3.stage ((cfg0 (F := F)).slots t 3)
abbrev hs0_3 (t : Fin (cfg0 (F := F)).N) : (ms0_3 t).IsWhole := hstage0_3 (((cfg0 (F := F)).slots t 3).cast nbuf0_3)

/-- Window 4's staging memref at point `t`, and that it is a whole buffer. -/
abbrev ms0_4 (t : Fin (cfg0 (F := F)).N) : Memref sig .tc .vmem S1x2048x128 .bf16 := win0_4.stage ((cfg0 (F := F)).slots t 4)
abbrev hs0_4 (t : Fin (cfg0 (F := F)).N) : (ms0_4 t).IsWhole := hstage0_4 (((cfg0 (F := F)).slots t 4).cast nbuf0_4)

/-- The two scratch operands: whole buffers of the kernel's own. -/
abbrev scM0_0 : Memref sig .tc .vmem S2x2048x128 .f32 := Memref.whole cc0_scratch0
abbrev scM0_1 : Memref sig .tc .vmem S2x2048x128 .f32 := Memref.whole cc0_scratch1

/-- What the region keeps between points: both scratch buffers and the generator register, each at something. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body table's row at point `t`'s slots is the body as the pipeline calls it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

end Cert.KernelIdeal.MixerB

end
-- ==== Proof.K.FrameI.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.K.BodyI
public import proofs.«01_k».proof.Proof.K.KitI

@[expose] public section

set_option maxRecDepth 16384

noncomputable section

namespace Cert.KernelIdeal.MixerB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The window whose contents this frame does not name: the result's. -/
def forgets0 : Fin 5 → Bool := fun w => w.val == 4

/-- The proof data: inputs at their blocks, the result unnamed, the scratch at anything. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := (cfg0 (F := F))) ⟨4, h⟩ t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem before0_0 (c : Dev nD) (t : Fin (cfg0 (F := F)).N) (d) : (dats m 0 c).before 0 t d = iblk m c 0 t :=
  before0_0_of m (dats m 0 c) (A_eq m c 0) (after0_0 m c) t d
theorem after0_1 (c : Dev nD) (t : Fin (cfg0 (F := F)).N) : (dats m 0 c).after 1 t = iblk m c 1 t := rfl
theorem before0_1 (c : Dev nD) (t : Fin (cfg0 (F := F)).N) (d) : (dats m 0 c).before 1 t d = iblk m c 1 t :=
  before0_1_of m (dats m 0 c) (A_eq m c 1) (after0_1 m c) t d
theorem after0_2 (c : Dev nD) (t : Fin (cfg0 (F := F)).N) : (dats m 0 c).after 2 t = iblk m c 2 t := rfl
theorem before0_2 (c : Dev nD) (t : Fin (cfg0 (F := F)).N) (d) : (dats m 0 c).before 2 t d = iblk m c 2 t :=
  before0_2_of m (dats m 0 c) (A_eq m c 2) (after0_2 m c) t d
theorem after0_3 (c : Dev nD) (t : Fin (cfg0 (F := F)).N) : (dats m 0 c).after 3 t = iblk m c 3 t := rfl
theorem before0_3 (c : Dev nD) (t : Fin (cfg0 (F := F)).N) (d) : (dats m 0 c).before 3 t d = iblk m c 3 t :=
  before0_3_of m (dats m 0 c) (A_eq m c 3) (after0_3 m c) t d

/-- What the body is called with at point `t`, the windows one by one. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- What the body returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 3200000 in
/-- The body at any point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = Pipeline.ΦA spec0 c from rfl, show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, H4⟩
  iapply (body_held c (grid0.coords t) _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- The body obligation at every point. -/
theorem body_obligation (c : Dev nD) : BodyObligation (dats (F := F) m 0 c) (defs₀ (F := F)) Variants.nat () Set.univ forgets0 := fun t => by
  rw [bigSep_W0, bigSep_W0, defs₀_row]
  exact triple_restated (sound_body m c t) rfl .rfl fun _ => .rfl

set_option backward.isDefEq.respectTransparency.types false in
/-- The whole launch: the region's final state, and every semaphore counter at zero. -/
theorem run_quiescent : θ_run defs (onTc (τ := τ) (main (F := F))) (s₀ m ρ) (fun r => (Pipeline.RDat.FramePost ((cfgs (F := F)) 0) (fun c => (dats m 0 c).toRForget forgets0) (V m)) r ∧ r.2.sem = fun _ => 0) :=
  Pipeline.θ_run_frame_track_forget (Q' := _) (cfgs (F := F)) (dats m) (0 : Fin 1) launch0 defs₀ Variants.nat forgets0 m ρ main
    (hbody := fun c => (body_obligation m c).loose) (hshare := fun c => (dats m 0 c).share_full fun _ => rfl)
    (howed := fun _ _ => rfl) (V := V m) (hmain := hmain m Variants.nat) (hA := A_eq m)
    (hin := fun c => Idealize.SL.BI.Entails.refl _) (hout := fun c => Idealize.SL.BI.Entails.refl _)

/-- The frame: the run ends, the arguments as launched, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (args_kept m ρ (fun c => (dats m 0 c).toRForget forgets0) (A_eq m) ((θ_run defs _ _).mono (fun _ h => h.1) (run_quiescent m ρ)))
    ((θ_run defs _ _).mono (fun _ h => h.2) (run_quiescent m ρ))

end Cert.KernelIdeal.MixerB

end
-- ==== Proof.F.Row.lean ====
/- What one row of the layer's dense parts computes, over the extended reals: a layer norm, the gated feed-forward part and
   the merge of the two branches, each a function of the row's own entries and the weights. -/
module

public import Idealize.ShloMosaic.Lib.Pointwise

@[expose] public section

noncomputable section

namespace Cert.Row

open Idealize.ShloMosaic

/-- The mean of a row of 1024 entries. -/
def mean (R : Fin 1024 → EReal) : EReal := Ideal.div (∑ k, R k) (Ideal.ofBits .f32 0x44800000#32)

/-- The layer norm of the row `R` at entry `j`, with gain `g` and shift `b` there. -/
def norm (R : Fin 1024 → EReal) (g b : EReal) (j : Fin 1024) : EReal :=
  (R j - mean R) * Ideal.rsqrt (mean (fun k => (R k - mean R) * (R k - mean R)) + Ideal.ofBits .f32 0x3727C5AC#32) * g + b

/-- The logistic function. -/
def logistic (x : EReal) : EReal := Ideal.div 1 (1 + Ideal.exp (-x))

/-- A row times column `f` of a weight. -/
def dot {n : ℕ} (x : Fin n → EReal) (w : Fin n → EReal) : EReal := ∑ k, x k * w k

/-- The gated activation of the row `x` for one hidden unit, whose gate and value columns are `wg` and `wu`. -/
def act (x wg wu : Fin 1024 → EReal) : EReal := dot x wg * logistic (dot x wg) * dot x wu

/-- The feed-forward part's row before the norm, at entry `j`: the scaled residual and the second product. -/
def ffn (x : Fin 1024 → EReal) (wg wu : Fin 1024 → Fin 2816 → EReal) (w2 : Fin 2816 → Fin 1024 → EReal) (j : Fin 1024) : EReal :=
  Ideal.ofBits .f32 0x3FB504F3#32 * x j + ∑ f, act x (fun k => wg k f) (fun k => wu k f) * w2 f j

/-- The merged row before the norm, at entry `j`: the scaled residual and the output product of the gated branches. -/
def merge (x ga gb : Fin 1024 → EReal) (a b : Fin 512 → EReal) (wa wb : Fin 512 → Fin 1024 → EReal)
    (wo : Fin 1024 → Fin 1024 → EReal) (j : Fin 1024) : EReal :=
  Ideal.ofBits .f32 0x3FB504F3#32 * x j
    + ∑ f, (ga f * dot a (fun k => wa k f) + gb f * dot b (fun k => wb k f)) * wo f j

/-- The norm of equal rows with equal gain and shift. -/
theorem norm_congr {R R' : Fin 1024 → EReal} {g g' b b' : EReal} (j : Fin 1024) (hR : ∀ k, R k = R' k) (hg : g = g') (hb : b = b') :
    norm R g b j = norm R' g' b' j := by
  rw [funext hR, hg, hb]

/-- The feed-forward row of equal rows and equal weights. -/
theorem ffn_congr {x x' : Fin 1024 → EReal} {wg wg' wu wu' : Fin 1024 → Fin 2816 → EReal} {w2 w2' : Fin 2816 → Fin 1024 → EReal}
    (j : Fin 1024) (hx : ∀ k, x k = x' k) (hg : ∀ k f, wg k f = wg' k f) (hu : ∀ k f, wu k f = wu' k f)
    (h2 : ∀ f k, w2 f k = w2' f k) : ffn x wg wu w2 j = ffn x' wg' wu' w2' j := by
  rw [funext hx, funext₂ hg, funext₂ hu, funext₂ h2]

/-- The merged row of equal rows and equal weights. -/
theorem merge_congr {x x' ga ga' gb gb' : Fin 1024 → EReal} {a a' b b' : Fin 512 → EReal} {wa wa' wb wb' : Fin 512 → Fin 1024 → EReal}
    {wo wo' : Fin 1024 → Fin 1024 → EReal} (j : Fin 1024) (hx : ∀ k, x k = x' k) (hga : ∀ k, ga k = ga' k) (hgb : ∀ k, gb k = gb' k)
    (ha : ∀ k, a k = a' k) (hb : ∀ k, b k = b' k) (hwa : ∀ k f, wa k f = wa' k f) (hwb : ∀ k f, wb k f = wb' k f)
    (hwo : ∀ k f, wo k f = wo' k f) : merge x ga gb a b wa wb wo j = merge x' ga' gb' a' b' wa' wb' wo' j := by
  rw [funext hx, funext hga, funext hgb, funext ha, funext hb, funext₂ hwa, funext₂ hwb, funext₂ hwo]

end Cert.Row

end
-- ==== Proof.F.FfnRef.lean ====
/- The feed-forward part's reference, read at an index. -/
module

public import proofs.«01_k».proof.Proof.F.Row
public import proofs.«01_k».proof.Proof.Gen.Reference2Ideal.Run

@[expose] public section

set_option maxRecDepth 16384

noncomputable section

namespace Cert.Reference2Ideal.Ffn

open Cert.Reference2Ideal Cert.Reference2Ideal.Gen Idealize.ShloMosaic Idealize.ShloMosaic.TcCoe Idealize.SL.Sem

/-- The reference's array before the norm. -/
def pre (x : FVec Ideal S4x8192x1024 .f32) (w1 : FVec Ideal S2x1024x5632 .f32) (w2 : FVec Ideal S2x2816x1024 .f32) : FVec Ideal S32768x1024 .f32 :=
  addf (mulf (broadcastInDim S32768x1024 ![] bcast_S_S32768x1024 (constant S_ .f32 0x3FB504F3#32)) (shapeCast _ x shapeCasts_S4x8192x1024_S32768x1024)) (Host.dotGeneral dot_S32768x2816_S2816x1024_S32768x1024_1_0_0_1_n_n none (mulf (mulf (extractStridedSlice S32768x2816 ![0, 0] (Host.dotGeneral dot_S32768x1024_S1024x5632_S32768x5632_1_0_0_1_n_n none (shapeCast _ x shapeCasts_S4x8192x1024_S32768x1024) (shapeCast _ (extractStridedSlice S1x1024x5632 ![1, 0, 0] w1 slices_S2x1024x5632_S1x1024x5632_1_0_0) shapeCasts_S1x1024x5632_S1024x5632)) slices_S32768x5632_S32768x2816_0_0) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (extractStridedSlice S32768x2816 ![0, 0] (Host.dotGeneral dot_S32768x1024_S1024x5632_S32768x5632_1_0_0_1_n_n none (shapeCast _ x shapeCasts_S4x8192x1024_S32768x1024) (shapeCast _ (extractStridedSlice S1x1024x5632 ![1, 0, 0] w1 slices_S2x1024x5632_S1x1024x5632_1_0_0) shapeCasts_S1x1024x5632_S1024x5632)) slices_S32768x5632_S32768x2816_0_0)))))) (extractStridedSlice S32768x2816 ![0, 2816] (Host.dotGeneral dot_S32768x1024_S1024x5632_S32768x5632_1_0_0_1_n_n none (shapeCast _ x shapeCasts_S4x8192x1024_S32768x1024) (shapeCast _ (extractStridedSlice S1x1024x5632 ![1, 0, 0] w1 slices_S2x1024x5632_S1x1024x5632_1_0_0) shapeCasts_S1x1024x5632_S1024x5632)) slices_S32768x5632_S32768x2816_0_2816)) (shapeCast _ (extractStridedSlice S1x2816x1024 ![1, 0, 0] w2 slices_S2x2816x1024_S1x2816x1024_1_0_0) shapeCasts_S1x2816x1024_S2816x1024))

/-- The reference's norm of an array. -/
def ln (R : FVec Ideal S32768x1024 .f32) (g b : FVec Ideal S2x1024 .f32) : FVec Ideal S32768x1024 .f32 :=
  addf (mulf (mulf (subf R (broadcastInDim S32768x1024 ![0, 1] bcast_S32768x1_S32768x1024_0_1 (Host.divf (broadcastInDim S32768x1 ![0] bcast_S32768_S32768x1_0 (Host.reduceAdd R (constant S_ .f32 0x00000000#32) reducesTo_S32768x1024_S32768_d1 h_S_)) (broadcastInDim S32768x1 ![] bcast_S_S32768x1 (constant S_ .f32 0x44800000#32))))) (broadcastInDim S32768x1024 ![0, 1] bcast_S32768x1_S32768x1024_0_1 (Host.rsqrt (addf (Host.divf (broadcastInDim S32768x1 ![0] bcast_S32768_S32768x1_0 (Host.reduceAdd (mulf (subf R (broadcastInDim S32768x1024 ![0, 1] bcast_S32768x1_S32768x1024_0_1 (Host.divf (broadcastInDim S32768x1 ![0] bcast_S32768_S32768x1_0 (Host.reduceAdd R (constant S_ .f32 0x00000000#32) reducesTo_S32768x1024_S32768_d1 h_S_)) (broadcastInDim S32768x1 ![] bcast_S_S32768x1 (constant S_ .f32 0x44800000#32))))) (subf R (broadcastInDim S32768x1024 ![0, 1] bcast_S32768x1_S32768x1024_0_1 (Host.divf (broadcastInDim S32768x1 ![0] bcast_S32768_S32768x1_0 (Host.reduceAdd R (constant S_ .f32 0x00000000#32) reducesTo_S32768x1024_S32768_d1 h_S_)) (broadcastInDim S32768x1 ![] bcast_S_S32768x1 (constant S_ .f32 0x44800000#32)))))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 (shapeCast _ (extractStridedSlice S1x1024 ![1, 0] g slices_S2x1024_S1x1024_1_0) shapeCasts_S1x1024_S1024)))) (broadcastInDim S32768x1024 ![0, 1] bcast_S1x1024_S32768x1024_0_1 (broadcastInDim S1x1024 ![1] bcast_S1024_S1x1024_1 (shapeCast _ (extractStridedSlice S1x1024 ![1, 0] b slices_S2x1024_S1x1024_1_0) shapeCasts_S1x1024_S1024)))

/-- The array before the norm is `Row.ffn` of the input's row and the second layer's weights. -/
theorem pre_at (x : FVec Ideal S4x8192x1024 .f32) (w1 : FVec Ideal S2x1024x5632 .f32) (w2 : FVec Ideal S2x2816x1024 .f32)
    (r : Fin 32768) (j : Fin 1024) : pre x w1 w2 (ix2 r j)
      = Cert.Row.ffn (fun k => x (ix3 ⟨r / 8192, by omega⟩ ⟨r % 8192, by omega⟩ k)) (fun k f => w1 (ix3 1 k ⟨f, by omega⟩))
          (fun k f => w1 (ix3 1 k ⟨2816 + f, by omega⟩)) (fun f j => w2 (ix3 1 f j)) j := by
  pointwise [pre, Cert.Row.ffn, Cert.Row.act, Cert.Row.dot, Cert.Row.logistic]

/-- The reference's norm is `Row.norm` of the array's row. -/
theorem ln_at (R : FVec Ideal S32768x1024 .f32) (g b : FVec Ideal S2x1024 .f32) (r : Fin 32768) (j : Fin 1024) :
    ln R g b (ix2 r j) = Cert.Row.norm (fun k => R (ix2 r k)) (g (ix2 1 j)) (b (ix2 1 j)) j := by
  pointwise [ln, Cert.Row.norm, Cert.Row.mean]

/-- The reference's result is the norm of the array before it. -/
theorem res_eq (m : (ℓ : Loc nD τ sig) → Buf (Elt Ideal) ℓ) (c : Dev nD) :
    Value.res_main_v41 (F := Ideal) m c
      = ln (pre (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) := rfl

end Cert.Reference2Ideal.Ffn

end
-- ==== Proof.F.FfnKer.lean ====
/- The feed-forward kernel: what a slab of the body stores, what its blocks hold, and the array after the run. -/
module

public import proofs.«01_k».proof.Proof.F.FfnRef
public import proofs.«01_k».proof.Proof.Gen.Kernel2Ideal.Frame
public import Idealize.ShloMosaic.Lib.Pipeline.ValueKit
public import Idealize.ShloMosaic.Lib.Claim

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

section Slabs

variable (x : FVec Ideal S256x1024 .f32) (wg wu : FVec Ideal S1x1024x2816 .bf16) (w2 : FVec Ideal S1x2816x1024 .bf16)
variable (g b : FVec Ideal S1x1024 .f32) (r : Fin 256) (j : Fin 1024)

/-- A slab's row: the norm of the feed-forward row, over the loaded rectangles. -/
def slab : EReal :=
  Cert.Row.norm (Cert.Row.ffn (fun k => x (ix2 r k)) (fun k f => wg (ix3 0 k f)) (fun k f => wu (ix3 0 k f)) (fun f k => w2 (ix3 0 f k)))
    (g (ix2 0 j)) (b (ix2 0 j)) j

/-- The first slab's payload. -/
theorem slab_0 : k0_pay5 (F := Ideal) (k0_pay2 (F := Ideal) g) (k0_pay3 (F := Ideal) b) (k0_pay4 (F := Ideal) x wg wu w2) (ix2 r j)
    = slab x wg wu w2 g b r j := by
  pointwise [k0_pay5, k0_pay2, k0_pay3, k0_pay4, slab, Cert.Row.norm, Cert.Row.mean, Cert.Row.ffn, Cert.Row.act, Cert.Row.dot, Cert.Row.logistic]
  simp only [zero_sub]

/-- The second slab's payload. -/
theorem slab_1 : k0_pay8 (F := Ideal) (k0_pay6 (F := Ideal) x) (k0_pay7 (F := Ideal) x wg wu w2) g b (ix2 r j)
    = slab x wg wu w2 g b r j := by
  pointwise [k0_pay8, k0_pay6, k0_pay7, slab, Cert.Row.norm, Cert.Row.mean, Cert.Row.ffn, Cert.Row.act, Cert.Row.dot, Cert.Row.logistic]
  simp only [zero_sub]

/-- The third slab's payload. -/
theorem slab_2 : k0_pay13 (F := Ideal) (k0_pay9 (F := Ideal) x) (k0_pay11 (F := Ideal) x wg) (k0_pay12 (F := Ideal) x wu) w2 g b (ix2 r j)
    = slab x wg wu w2 g b r j := by
  pointwise [k0_pay13, k0_pay9, k0_pay10, k0_pay11, k0_pay12, slab, Cert.Row.norm, Cert.Row.mean, Cert.Row.ffn, Cert.Row.act, Cert.Row.dot, Cert.Row.logistic]
  simp only [zero_sub]

/-- The fourth slab's payload. -/
theorem slab_3 : k0_pay1 (F := Ideal) (k0_pay14 (F := Ideal) g) (k0_pay15 (F := Ideal) b) (k0_pay16 (F := Ideal) x wg wu w2) (ix2 r j)
    = slab x wg wu w2 g b r j := by
  pointwise [k0_pay1, k0_pay14, k0_pay15, k0_pay16, slab, Cert.Row.norm, Cert.Row.mean, Cert.Row.ffn, Cert.Row.act, Cert.Row.dot, Cert.Row.logistic]
  simp only [zero_sub]

end Slabs

variable (m : (ℓ : Loc nD τ sig) → Buf (Elt Ideal) ℓ)

/-- Every window's block index at every grid point. -/
theorem idx : ∀ t : Fin cfg0.N, win0_0.index t = ![t.val, 0] ∧ win0_1.index t = ![1, 0, 0] ∧ win0_2.index t = ![1, 0, 0]
    ∧ win0_3.index t = ![0, 0] ∧ win0_4.index t = ![0, 0] ∧ win0_5.index t = ![t.val, 0] ∧ t.val < 32 :=
  (by decide +kernel : ∀ t : Fin grid0.N, _)

/-- The input's block at point `t`: its row `p` is row `1024 t + p` of the flattened input. -/
theorem blk_x (c : Dev nD) (t : Fin cfg0.N) (p k : Fin 1024) (i : Fin 4) (q : Fin 8192) (h : t.val * 1024 + p.val = i.val * 8192 + q.val) :
    (iblk m c 0 t : FVec Ideal S1024x1024 .f32) (ix2 p k)
      = (m ((c : Thread nD τ).loc main_arg0) : FVec Ideal S4x8192x1024 .f32) (ix3 i q k) := by
  blk_simp [iblk, idx t]
  entry_read
  pointwise
  blk_ext [idx t]

/-- The first weight's block is the second layer's weight. -/
theorem blk_w1 (c : Dev nD) (t : Fin cfg0.N) (k : Fin 1024) (f : Fin 5632) :
    (iblk m c 1 t : FVec Ideal S1x1024x5632 .bf16) (ix3 0 k f)
      = (m ((c : Thread nD τ).loc main_arg1) : FVec Ideal S2x1024x5632 .f32) (ix3 1 k f) := by
  blk_simp [iblk, idx t]
  entry_read
  pointwise
  blk_ext [idx t]

/-- The second weight's block is the second layer's weight. -/
theorem blk_w2 (c : Dev nD) (t : Fin cfg0.N) (f : Fin 2816) (k : Fin 1024) :
    (iblk m c 2 t : FVec Ideal S1x2816x1024 .bf16) (ix3 0 f k)
      = (m ((c : Thread nD τ).loc main_arg2) : FVec Ideal S2x2816x1024 .f32) (ix3 1 f k) := by
  blk_simp [iblk, idx t]
  entry_read
  pointwise
  blk_ext [idx t]

/-- The gain's block is the second layer's gain. -/
theorem blk_g (c : Dev nD) (t : Fin cfg0.N) (j : Fin 1024) :
    (iblk m c 3 t : FVec Ideal S1x1024 .f32) (ix2 0 j)
      = (m ((c : Thread nD τ).loc main_arg3) : FVec Ideal S2x1024 .f32) (ix2 1 j) := by
  blk_simp [iblk, idx t]
  entry_read
  pointwise
  blk_ext [idx t]

/-- The shift's block is the second layer's shift. -/
theorem blk_b (c : Dev nD) (t : Fin cfg0.N) (j : Fin 1024) :
    (iblk m c 4 t : FVec Ideal S1x1024 .f32) (ix2 0 j)
      = (m ((c : Thread nD τ).loc main_arg4) : FVec Ideal S2x1024 .f32) (ix2 1 j) := by
  blk_simp [iblk, idx t]
  entry_read
  pointwise
  blk_ext [idx t]

/-- The reference's array over the kernel's arguments. -/
abbrev ref (c : Dev nD) : FVec Ideal S32768x1024 .f32 :=
  Cert.Reference2Ideal.Ffn.ln (Cert.Reference2Ideal.Ffn.pre (m ((c : Thread nD τ).loc main_arg0)) (m ((c : Thread nD τ).loc main_arg1))
    (m ((c : Thread nD τ).loc main_arg2))) (m ((c : Thread nD τ).loc main_arg3)) (m ((c : Thread nD τ).loc main_arg4))

/-- A slab whose loads are rows `o …` of the staged input, columns of the staged weights and the staged gain and shift is the
    reference's row. -/
theorem slab_eq (c : Dev nD) (t : Fin cfg0.N) (x : FVec Ideal S256x1024 .f32) (wg wu : FVec Ideal S1x1024x2816 .bf16)
    (w2 : FVec Ideal S1x2816x1024 .bf16) (g b : FVec Ideal S1x1024 .f32) (r : Fin 256) (j : Fin 1024) (p : Fin 1024) (R : Fin 32768)
    (hx : ∀ k, x (ix2 r k) = (iblk m c 0 t : FVec Ideal S1024x1024 .f32) (ix2 p k))
    (hg : ∀ k (f : Fin 2816), wg (ix3 0 k f) = (iblk m c 1 t : FVec Ideal S1x1024x5632 .bf16) (ix3 0 k ⟨f, by omega⟩))
    (hu : ∀ k (f : Fin 2816), wu (ix3 0 k f) = (iblk m c 1 t : FVec Ideal S1x1024x5632 .bf16) (ix3 0 k ⟨2816 + f, by omega⟩))
    (h2 : ∀ f k, w2 (ix3 0 f k) = (iblk m c 2 t : FVec Ideal S1x2816x1024 .bf16) (ix3 0 f k))
    (hgg : g (ix2 0 j) = (iblk m c 3 t : FVec Ideal S1x1024 .f32) (ix2 0 j))
    (hbb : b (ix2 0 j) = (iblk m c 4 t : FVec Ideal S1x1024 .f32) (ix2 0 j)) (hR : R.val = t.val * 1024 + p.val) :
    slab x wg wu w2 g b r j = ref m c (ix2 R j) := by
  refine Eq.trans ?_ (Cert.Reference2Ideal.Ffn.ln_at _ _ _ _ _).symm
  refine Cert.Row.norm_congr j (fun k => ?_) (hgg.trans (blk_g m c t j)) (hbb.trans (blk_b m c t j))
  refine Eq.trans ?_ (Cert.Reference2Ideal.Ffn.pre_at _ _ _ _ _).symm
  exact Cert.Row.ffn_congr k (fun l => (hx l).trans (blk_x m c t p l _ _ (by dsimp only; omega)))
    (fun l f => (hg l f).trans (blk_w1 m c t l _)) (fun l f => (hu l f).trans (blk_w1 m c t l _))
    (fun f l => (h2 f l).trans (blk_w2 m c t f l))

/-- What point `t` leaves in the output block is the reference's array at the block's place. -/
theorem point (c : Dev nD) (t : Fin cfg0.N) (y : S1024x1024.Idx) :
    out0_5 (F := Ideal) (iblk m c 0 t) (iblk m c 1 t) (iblk m c 2 t) (iblk m c 3 t) (iblk m c 4 t) y
      = ref m c (((cfg0.win 5).blk t).view.emb y) := by
  have ht := (idx t).2.2.2.2.2.2
  unfold out0_5
  have hy : ((cfg0.win 5).blk t).view.emb y
      = (ix2 (⟨t.val * 1024 + y 0, by have := (y 0).isLt; change (y 0 : ℕ) < 1024 at this; omega⟩ : Fin 32768) (y 1) : S32768x1024.Idx) := by
    blk_ext [idx t]
  rw [hy]
  canon_tiles x h
  case piece0 =>
    rw [eq_ix2 x]
    refine (slab_3 _ _ _ _ _ _ (x 0) (x 1)).trans ?_
    rw [show y 1 = x 1 from Fin.ext h1]
    refine slab_eq m c t _ _ _ _ _ _ (x 0) (x 1) ⟨768 + x 0, by omega⟩ _ ?_ ?_ ?_ ?_ ?_ ?_ (by dsimp only; omega) <;> intros <;> pointwise <;> rfl
  case piece1 =>
    rw [eq_ix2 x]
    refine (slab_2 _ _ _ _ _ _ (x 0) (x 1)).trans ?_
    rw [show y 1 = x 1 from Fin.ext h1]
    refine slab_eq m c t _ _ _ _ _ _ (x 0) (x 1) ⟨512 + x 0, by omega⟩ _ ?_ ?_ ?_ ?_ ?_ ?_ (by dsimp only; omega) <;> intros <;> pointwise <;> rfl
  case piece2 =>
    rw [eq_ix2 x]
    refine (slab_1 _ _ _ _ _ _ (x 0) (x 1)).trans ?_
    rw [show y 1 = x 1 from Fin.ext h1]
    refine slab_eq m c t _ _ _ _ _ _ (x 0) (x 1) ⟨256 + x 0, by omega⟩ _ ?_ ?_ ?_ ?_ ?_ ?_ (by dsimp only; omega) <;> intros <;> pointwise <;> rfl
  case piece3 =>
    rw [eq_ix2 x]
    refine (slab_0 _ _ _ _ _ _ (x 0) (x 1)).trans ?_
    rw [show y 1 = x 1 from Fin.ext h1]
    refine slab_eq m c t _ _ _ _ _ _ (x 0) (x 1) ⟨x 0, by omega⟩ _ ?_ ?_ ?_ ?_ ?_ ?_ (by dsimp only; omega) <;> intros <;> pointwise <;> rfl

/-- The kernel's result array after the run. -/
theorem final (c : Dev nD) : (dats m 0 c).arrAt 5 (cfgs 0).N = ref m c := by
  refine (dats m 0 c).arrAt_eq_of_covers 5 _ (by decide +kernel) fun t _ y => ?_
  blk_simp
  rw [after0_5]
  exact point m c t y

end Cert.Kernel2Ideal.Ffn

end
-- ==== Proof.F.MergeRef.lean ====
/- The merge's reference, read at an index. -/
module

public import proofs.«01_k».proof.Proof.F.Row
public import proofs.«01_k».proof.Proof.Gen.Reference3Ideal.Run

@[expose] public section

set_option maxRecDepth 16384

noncomputable section

namespace Cert.Reference3Ideal.Merge

open Cert.Reference3Ideal Cert.Reference3Ideal.Gen Idealize.ShloMosaic Idealize.ShloMosaic.TcCoe Idealize.SL.Sem

/-- The reference's array before the norm. -/
def pre (x : FVec Ideal S4x8192x1024 .f32) (a b : FVec Ideal S4x8192x512 .f32) (ga gb : FVec Ideal S4x8192x1024 .f32)
    (wa wb : FVec Ideal S2x512x1024 .f32) (wo : FVec Ideal S2x1024x1024 .f32) : FVec Ideal S4x8192x1024 .f32 :=
  addf (mulf (broadcastInDim S4x8192x1024 ![] bcast_S_S4x8192x1024 (constant S_ .f32 0x3FB504F3#32)) x) (Host.dotGeneral dot_S4x8192x1024_S1024x1024_S4x8192x1024_2_0_01_1_n_n none (addf (mulf ga (Host.dotGeneral dot_S4x8192x512_S512x1024_S4x8192x1024_2_0_01_1_n_n none a (shapeCast _ (extractStridedSlice S1x512x1024 ![1, 0, 0] wa slices_S2x512x1024_S1x512x1024_1_0_0) shapeCasts_S1x512x1024_S512x1024))) (mulf gb (Host.dotGeneral dot_S4x8192x512_S512x1024_S4x8192x1024_2_0_01_1_n_n none b (shapeCast _ (extractStridedSlice S1x512x1024 ![1, 0, 0] wb slices_S2x512x1024_S1x512x1024_1_0_0) shapeCasts_S1x512x1024_S512x1024)))) (shapeCast _ (extractStridedSlice S1x1024x1024 ![1, 0, 0] wo slices_S2x1024x1024_S1x1024x1024_1_0_0) shapeCasts_S1x1024x1024_S1024x1024))

/-- The reference's norm of an array, its rows flattened. -/
def ln (R : FVec Ideal S4x8192x1024 .f32) (g h : FVec Ideal S2x1024 .f32) : FVec Ideal S32768x1024 .f32 :=
  shapeCast _ (addf (mulf (mulf (subf R (broadcastInDim S4x8192x1024 ![0, 1, 2] bcast_S4x8192x1_S4x8192x1024_0_1_2 (Host.divf (broadcastInDim S4x8192x1 ![0, 1] bcast_S4x8192_S4x8192x1_0_1 (Host.reduceAdd R (constant S_ .f32 0x00000000#32) reducesTo_S4x8192x1024_S4x8192_d2 h_S_)) (broadcastInDim S4x8192x1 ![] bcast_S_S4x8192x1 (constant S_ .f32 0x44800000#32))))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (subf R (broadcastInDim S4x8192x1024 ![0, 1, 2] bcast_S4x8192x1_S4x8192x1024_0_1_2 (Host.divf (broadcastInDim S4x8192x1 ![0, 1] bcast_S4x8192_S4x8192x1_0_1 (Host.reduceAdd R (constant S_ .f32 0x00000000#32) reducesTo_S4x8192x1024_S4x8192_d2 h_S_)) (broadcastInDim S4x8192x1 ![] bcast_S_S4x8192x1 (constant S_ .f32 0x44800000#32))))) (subf R (broadcastInDim S4x8192x1024 ![0, 1, 2] bcast_S4x8192x1_S4x8192x1024_0_1_2 (Host.divf (broadcastInDim S4x8192x1 ![0, 1] bcast_S4x8192_S4x8192x1_0_1 (Host.reduceAdd R (constant S_ .f32 0x00000000#32) reducesTo_S4x8192x1024_S4x8192_d2 h_S_)) (broadcastInDim S4x8192x1 ![] bcast_S_S4x8192x1 (constant S_ .f32 0x44800000#32)))))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 (shapeCast _ (extractStridedSlice S1x1024 ![1, 0] g slices_S2x1024_S1x1024_1_0) shapeCasts_S1x1024_S1024)))) (broadcastInDim S4x8192x1024 ![0, 1, 2] bcast_S1x1x1024_S4x8192x1024_0_1_2 (broadcastInDim S1x1x1024 ![2] bcast_S1024_S1x1x1024_2 (shapeCast _ (extractStridedSlice S1x1024 ![1, 0] h slices_S2x1024_S1x1024_1_0) shapeCasts_S1x1024_S1024)))) shapeCasts_S4x8192x1024_S32768x1024

/-- The array before the norm is `Row.merge` of the operands' rows and the second layer's weights. -/
theorem pre_at (x : FVec Ideal S4x8192x1024 .f32) (a b : FVec Ideal S4x8192x512 .f32) (ga gb : FVec Ideal S4x8192x1024 .f32)
    (wa wb : FVec Ideal S2x512x1024 .f32) (wo : FVec Ideal S2x1024x1024 .f32) (i : Fin 4) (q : Fin 8192) (j : Fin 1024) :
    pre x a b ga gb wa wb wo (ix3 i q j)
      = Cert.Row.merge (fun k => x (ix3 i q k)) (fun k => ga (ix3 i q k)) (fun k => gb (ix3 i q k)) (fun k => a (ix3 i q k))
          (fun k => b (ix3 i q k)) (fun k f => wa (ix3 1 k f)) (fun k f => wb (ix3 1 k f)) (fun k f => wo (ix3 1 k f)) j := by
  pointwise [pre, Cert.Row.merge, Cert.Row.dot]

/-- The reference's norm is `Row.norm` of the array's row. -/
theorem ln_at (R : FVec Ideal S4x8192x1024 .f32) (g h : FVec Ideal S2x1024 .f32) (r : Fin 32768) (j : Fin 1024) :
    ln R g h (ix2 r j)
      = Cert.Row.norm (fun k => R (ix3 ⟨r / 8192, by omega⟩ ⟨r % 8192, by omega⟩ k)) (g (ix2 1 j)) (h (ix2 1 j)) j := by
  pointwise [ln, Cert.Row.norm, Cert.Row.mean]

/-- The reference's result is the norm of the array before it. -/
theorem res_eq (m : (ℓ : Loc nD τ sig) → Buf (Elt Ideal) ℓ) (c : Dev nD) :
    Value.res_main_v43 (F := Ideal) m c
      = ln (pre (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)))
          (m ((c.tc : Thread nD τ).loc main_arg8)) (m ((c.tc : Thread nD τ).loc main_arg9)) := rfl

end Cert.Reference3Ideal.Merge

end
-- ==== Proof.F.MergeKer.lean ====
/- The merge kernel: what a slab of the body stores, what its blocks hold, and the array after the run. -/
module

public import proofs.«01_k».proof.Proof.F.MergeRef
public import proofs.«01_k».proof.Proof.Gen.Kernel3Ideal.Frame
public import Idealize.ShloMosaic.Lib.Pipeline.ValueKit
public import Idealize.ShloMosaic.Lib.Claim

@[expose] public section

set_option maxRecDepth 16384

noncomputable section

namespace Cert.Kernel3Ideal.Merge

open Cert.Kernel3Ideal Cert.Kernel3Ideal.Gen Idealize.ShloMosaic Idealize.ShloMosaic.TcCoe Idealize.SL.Sem
open Idealize.ShloMosaic.Pipeline (Dat)

section Slabs

variable (x : FVec Ideal S256x1024 .f32) (ga gb : FVec Ideal S256x1024 .bf16) (a b : FVec Ideal S256x512 .bf16)
variable (wa wb : FVec Ideal S1x512x1024 .bf16) (wo : FVec Ideal S1x1024x1024 .bf16) (g h : FVec Ideal S1x1024 .f32)
variable (r : Fin 256) (j : Fin 1024)

/-- A slab's row: the norm of the merged row, over the loaded rectangles. -/
def slab : EReal :=
  Cert.Row.norm (Cert.Row.merge (fun k => x (ix2 r k)) (fun k => ga (ix2 r k)) (fun k => gb (ix2 r k)) (fun k => a (ix2 r k))
    (fun k => b (ix2 r k)) (fun k f => wa (ix3 0 k f)) (fun k f => wb (ix3 0 k f)) (fun k f => wo (ix3 0 k f)))
    (g (ix2 0 j)) (h (ix2 0 j)) j

/-- The first slab's payload. -/
theorem slab_0 : k0_pay5 (F := Ideal) (k0_pay2 (F := Ideal) a wa b wb ga gb wo x) (k0_pay3 (F := Ideal) g) (k0_pay4 (F := Ideal) h) (ix2 r j)
    = slab x ga gb a b wa wb wo g h r j := by
  pointwise [k0_pay5, k0_pay2, k0_pay3, k0_pay4, slab, Cert.Row.norm, Cert.Row.mean, Cert.Row.merge, Cert.Row.dot]

/-- The second slab's payload. -/
theorem slab_1 : k0_pay8 (F := Ideal) (k0_pay6 (F := Ideal) b wb) (k0_pay7 (F := Ideal) a wa ga) gb wo x g h (ix2 r j)
    = slab x ga gb a b wa wb wo g h r j := by
  pointwise [k0_pay8, k0_pay6, k0_pay7, slab, Cert.Row.norm, Cert.Row.mean, Cert.Row.merge, Cert.Row.dot]

/-- The third slab's payload. -/
theorem slab_2 : k0_pay13 (F := Ideal) (k0_pay9 (F := Ideal) a wa b wb ga gb wo x) (k0_pay10 (F := Ideal) g) (k0_pay11 (F := Ideal) h) (k0_pay12 (F := Ideal) a wa b wb ga gb wo x) (Scalar.ofBits .f32 0x44800000#32) (ix2 r j)
    = slab x ga gb a b wa wb wo g h r j := by
  pointwise [k0_pay13, k0_pay9, k0_pay10, k0_pay11, k0_pay12, slab, Cert.Row.norm, Cert.Row.mean, Cert.Row.merge, Cert.Row.dot]

/-- The fourth slab's payload. -/
theorem slab_3 : k0_pay1 (F := Ideal) (k0_pay14 (F := Ideal) a wa b wb ga gb) wo x g h (ix2 r j)
    = slab x ga gb a b wa wb wo g h r j := by
  pointwise [k0_pay1, k0_pay14, slab, Cert.Row.norm, Cert.Row.mean, Cert.Row.merge, Cert.Row.dot]

end Slabs

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![1, 0, 0] ∧ win0_6.index t = ![1, 0, 0]
    ∧ win0_7.index t = ![1, 0, 0] ∧ win0_8.index t = ![0, 0] ∧ win0_9.index t = ![0, 0] ∧ win0_10.index t = ![t.val, 0] ∧ t.val < 32 :=
  (by decide +kernel : ∀ t : Fin grid0.N, _)

/-- The block of the layer's input at point `t`: its row `p` is row `1024 t + p` of the flattened array. -/
theorem blk_x (c : Dev nD) (t : Fin cfg0.N) (p : Fin 1024) (k : Fin 1024) (i : Fin 4) (q : Fin 8192) (h : t.val * 1024 + p.val = i.val * 8192 + q.val) :
    (iblk m c 0 t : FVec Ideal S1024x1024 .f32) (ix2 p k)
      = (m ((c : Thread nD τ).loc main_arg0) : FVec Ideal S4x8192x1024 .f32) (ix3 i q k) := by
  blk_simp [iblk, idx t]
  entry_read
  pointwise
  blk_ext [idx t]

/-- The block of the first branch at point `t`: its row `p` is row `1024 t + p` of the flattened array. -/
theorem blk_a (c : Dev nD) (t : Fin cfg0.N) (p : Fin 1024) (k : Fin 512) (i : Fin 4) (q : Fin 8192) (h : t.val * 1024 + p.val = i.val * 8192 + q.val) :
    (iblk m c 1 t : FVec Ideal S1024x512 .bf16) (ix2 p k)
      = (m ((c : Thread nD τ).loc main_arg1) : FVec Ideal S4x8192x512 .f32) (ix3 i q k) := by
  blk_simp [iblk, idx t]
  entry_read
  pointwise
  blk_ext [idx t]

/-- The block of the second branch at point `t`: its row `p` is row `1024 t + p` of the flattened array. -/
theorem blk_b (c : Dev nD) (t : Fin cfg0.N) (p : Fin 1024) (k : Fin 512) (i : Fin 4) (q : Fin 8192) (h : t.val * 1024 + p.val = i.val * 8192 + q.val) :
    (iblk m c 2 t : FVec Ideal S1024x512 .bf16) (ix2 p k)
      = (m ((c : Thread nD τ).loc main_arg2) : FVec Ideal S4x8192x512 .f32) (ix3 i q k) := by
  blk_simp [iblk, idx t]
  entry_read
  pointwise
  blk_ext [idx t]

/-- The block of the first gate at point `t`: its row `p` is row `1024 t + p` of the flattened array. -/
theorem blk_ga (c : Dev nD) (t : Fin cfg0.N) (p : Fin 1024) (k : Fin 1024) (i : Fin 4) (q : Fin 8192) (h : t.val * 1024 + p.val = i.val * 8192 + q.val) :
    (iblk m c 3 t : FVec Ideal S1024x1024 .bf16) (ix2 p k)
      = (m ((c : Thread nD τ).loc main_arg3) : FVec Ideal S4x8192x1024 .f32) (ix3 i q k) := by
  blk_simp [iblk, idx t]
  entry_read
  pointwise
  blk_ext [idx t]

/-- The block of the second gate at point `t`: its row `p` is row `1024 t + p` of the flattened array. -/
theorem blk_gb (c : Dev nD) (t : Fin cfg0.N) (p : Fin 1024) (k : Fin 1024) (i : Fin 4) (q : Fin 8192) (h : t.val * 1024 + p.val = i.val * 8192 + q.val) :
    (iblk m c 4 t : FVec Ideal S1024x1024 .bf16) (ix2 p k)
      = (m ((c : Thread nD τ).loc main_arg4) : FVec Ideal S4x8192x1024 .f32) (ix3 i q k) := by
  blk_simp [iblk, idx t]
  entry_read
  pointwise
  blk_ext [idx t]

/-- The first branch's weight's block is the second layer's. -/
theorem blk_wa (c : Dev nD) (t : Fin cfg0.N) (k : Fin 512) (f : Fin 1024) :
    (iblk m c 5 t : FVec Ideal S1x512x1024 .bf16) (ix3 0 k f)
      = (m ((c : Thread nD τ).loc main_arg5) : FVec Ideal S2x512x1024 .f32) (ix3 1 k f) := by
  blk_simp [iblk, idx t]
  entry_read
  pointwise
  blk_ext [idx t]

/-- The second branch's weight's block is the second layer's. -/
theorem blk_wb (c : Dev nD) (t : Fin cfg0.N) (k : Fin 512) (f : Fin 1024) :
    (iblk m c 6 t : FVec Ideal S1x512x1024 .bf16) (ix3 0 k f)
      = (m ((c : Thread nD τ).loc main_arg6) : FVec Ideal S2x512x1024 .f32) (ix3 1 k f) := by
  blk_simp [iblk, idx t]
  entry_read
  pointwise
  blk_ext [idx t]

/-- The output weight's block is the second layer's. -/
theorem blk_wo (c : Dev nD) (t : Fin cfg0.N) (k : Fin 1024) (f : Fin 1024) :
    (iblk m c 7 t : FVec Ideal S1x1024x1024 .bf16) (ix3 0 k f)
      = (m ((c : Thread nD τ).loc main_arg7) : FVec Ideal S2x1024x1024 .f32) (ix3 1 k f) := by
  blk_simp [iblk, idx t]
  entry_read
  pointwise
  blk_ext [idx t]

/-- The gain's block is the second layer's. -/
theorem blk_g (c : Dev nD) (t : Fin cfg0.N) (j : Fin 1024) :
    (iblk m c 8 t : FVec Ideal S1x1024 .f32) (ix2 0 j)
      = (m ((c : Thread nD τ).loc main_arg8) : FVec Ideal S2x1024 .f32) (ix2 1 j) := by
  blk_simp [iblk, idx t]
  entry_read
  pointwise
  blk_ext [idx t]

/-- The shift's block is the second layer's. -/
theorem blk_h (c : Dev nD) (t : Fin cfg0.N) (j : Fin 1024) :
    (iblk m c 9 t : FVec Ideal S1x1024 .f32) (ix2 0 j)
      = (m ((c : Thread nD τ).loc main_arg9) : FVec Ideal S2x1024 .f32) (ix2 1 j) := by
  blk_simp [iblk, idx t]
  entry_read
  pointwise
  blk_ext [idx t]

/-- The reference's array over the kernel's arguments. -/
abbrev ref (c : Dev nD) : FVec Ideal S32768x1024 .f32 :=
  Cert.Reference3Ideal.Merge.ln (Cert.Reference3Ideal.Merge.pre (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (m ((c : Thread nD τ).loc main_arg8)) (m ((c : Thread nD τ).loc main_arg9))

/-- A slab whose loads are rows of the staged operands, the staged weights and the staged gain and shift is the reference's row. -/
theorem slab_eq (c : Dev nD) (t : Fin cfg0.N) (x : FVec Ideal S256x1024 .f32) (ga gb : FVec Ideal S256x1024 .bf16) (a b : FVec Ideal S256x512 .bf16)
    (wa wb : FVec Ideal S1x512x1024 .bf16) (wo : FVec Ideal S1x1024x1024 .bf16) (g h : FVec Ideal S1x1024 .f32)
    (r : Fin 256) (j : Fin 1024) (p : Fin 1024) (R : Fin 32768)
    (hx : ∀ k, x (ix2 r k) = (iblk m c 0 t : FVec Ideal S1024x1024 .f32) (ix2 p k))
    (hga : ∀ k, ga (ix2 r k) = (iblk m c 3 t : FVec Ideal S1024x1024 .bf16) (ix2 p k))
    (hgb : ∀ k, gb (ix2 r k) = (iblk m c 4 t : FVec Ideal S1024x1024 .bf16) (ix2 p k))
    (ha : ∀ k, a (ix2 r k) = (iblk m c 1 t : FVec Ideal S1024x512 .bf16) (ix2 p k))
    (hb : ∀ k, b (ix2 r k) = (iblk m c 2 t : FVec Ideal S1024x512 .bf16) (ix2 p k))
    (hwa : ∀ k f, wa (ix3 0 k f) = (iblk m c 5 t : FVec Ideal S1x512x1024 .bf16) (ix3 0 k f))
    (hwb : ∀ k f, wb (ix3 0 k f) = (iblk m c 6 t : FVec Ideal S1x512x1024 .bf16) (ix3 0 k f))
    (hwo : ∀ k f, wo (ix3 0 k f) = (iblk m c 7 t : FVec Ideal S1x1024x1024 .bf16) (ix3 0 k f))
    (hg : g (ix2 0 j) = (iblk m c 8 t : FVec Ideal S1x1024 .f32) (ix2 0 j))
    (hh : h (ix2 0 j) = (iblk m c 9 t : FVec Ideal S1x1024 .f32) (ix2 0 j)) (hR : R.val = t.val * 1024 + p.val) :
    slab x ga gb a b wa wb wo g h r j = ref m c (ix2 R j) := by
  refine Eq.trans ?_ (Cert.Reference3Ideal.Merge.ln_at _ _ _ _ _).symm
  refine Cert.Row.norm_congr j (fun k => ?_) (hg.trans (blk_g m c t j)) (hh.trans (blk_h m c t j))
  refine Eq.trans ?_ (Cert.Reference3Ideal.Merge.pre_at _ _ _ _ _ _ _ _ _ _ _).symm
  exact Cert.Row.merge_congr k (fun l => (hx l).trans (blk_x m c t p l _ _ (by dsimp only; omega)))
    (fun l => (hga l).trans (blk_ga m c t p l _ _ (by dsimp only; omega))) (fun l => (hgb l).trans (blk_gb m c t p l _ _ (by dsimp only; omega)))
    (fun l => (ha l).trans (blk_a m c t p l _ _ (by dsimp only; omega))) (fun l => (hb l).trans (blk_b m c t p l _ _ (by dsimp only; omega)))
    (fun l f => (hwa l f).trans (blk_wa m c t l f)) (fun l f => (hwb l f).trans (blk_wb m c t l f)) (fun l f => (hwo l f).trans (blk_wo m c t l f))

/-- What point `t` leaves in the output block is the reference's array at the block's place. -/
theorem point (c : Dev nD) (t : Fin cfg0.N) (y : S1024x1024.Idx) :
    out0_10 (F := Ideal) (iblk m c 0 t) (iblk m c 1 t) (iblk m c 2 t) (iblk m c 3 t) (iblk m c 4 t) (iblk m c 5 t) (iblk m c 6 t)
        (iblk m c 7 t) (iblk m c 8 t) (iblk m c 9 t) y
      = ref m c (((cfg0.win 10).blk t).view.emb y) := by
  have ht := (idx t).2.2.2.2.2.2.2.2.2.2.2
  unfold out0_10
  have hy : ((cfg0.win 10).blk t).view.emb y
      = (ix2 (⟨t.val * 1024 + y 0, by have := (y 0).isLt; change (y 0 : ℕ) < 1024 at this; omega⟩ : Fin 32768) (y 1) : S32768x1024.Idx) := by
    blk_ext [idx t]
  rw [hy]
  canon_tiles x h
  case piece0 =>
    rw [eq_ix2 x]
    refine (slab_3 _ _ _ _ _ _ _ _ _ _ (x 0) (x 1)).trans ?_
    rw [show y 1 = x 1 from Fin.ext h1]
    refine slab_eq m c t _ _ _ _ _ _ _ _ _ _ (x 0) (x 1) ⟨768 + x 0, by omega⟩ _ ?_ ?_ ?_ ?_ ?_ ?_ ?_ ?_ ?_ ?_ (by dsimp only; omega) <;> intros <;> pointwise <;> rfl
  case piece1 =>
    rw [eq_ix2 x]
    refine (slab_2 _ _ _ _ _ _ _ _ _ _ (x 0) (x 1)).trans ?_
    rw [show y 1 = x 1 from Fin.ext h1]
    refine slab_eq m c t _ _ _ _ _ _ _ _ _ _ (x 0) (x 1) ⟨512 + x 0, by omega⟩ _ ?_ ?_ ?_ ?_ ?_ ?_ ?_ ?_ ?_ ?_ (by dsimp only; omega) <;> intros <;> pointwise <;> rfl
  case piece2 =>
    rw [eq_ix2 x]
    refine (slab_1 _ _ _ _ _ _ _ _ _ _ (x 0) (x 1)).trans ?_
    rw [show y 1 = x 1 from Fin.ext h1]
    refine slab_eq m c t _ _ _ _ _ _ _ _ _ _ (x 0) (x 1) ⟨256 + x 0, by omega⟩ _ ?_ ?_ ?_ ?_ ?_ ?_ ?_ ?_ ?_ ?_ (by dsimp only; omega) <;> intros <;> pointwise <;> rfl
  case piece3 =>
    rw [eq_ix2 x]
    refine (slab_0 _ _ _ _ _ _ _ _ _ _ (x 0) (x 1)).trans ?_
    rw [show y 1 = x 1 from Fin.ext h1]
    refine slab_eq m c t _ _ _ _ _ _ _ _ _ _ (x 0) (x 1) ⟨x 0, by omega⟩ _ ?_ ?_ ?_ ?_ ?_ ?_ ?_ ?_ ?_ ?_ (by dsimp only; omega) <;> intros <;> pointwise <;> rfl

/-- The kernel's result array after the run. -/
theorem final (c : Dev nD) : (dats m 0 c).arrAt 10 (cfgs 0).N = ref m c := by
  refine (dats m 0 c).arrAt_eq_of_covers 10 _ (by decide +kernel) fun t _ y => ?_
  blk_simp
  rw [after0_10]
  exact point m c t y

end Cert.Kernel3Ideal.Merge

end
-- ==== Proof.F.InRef.lean ====
/- The projections' reference: each result's array, read at an index. -/
module

public import proofs.«01_k».proof.Proof.F.Row
public import proofs.«01_k».proof.Proof.Gen.Reference4Ideal.Run

@[expose] public section

set_option maxRecDepth 16384

noncomputable section

namespace Cert.Reference4Ideal.Inproj

open Cert.Reference4Ideal Cert.Reference4Ideal.Gen Idealize.ShloMosaic Idealize.ShloMosaic.TcCoe Idealize.SL.Sem

variable (x : FVec Ideal S4x8192x1024 .f32) (w : FVec Ideal S2x1024x5120 .f32) (bg : FVec Ideal S2x2048 .f32)

/-- Column `f` of the product at row `r`. -/
def col (r : Fin 32768) (f : Fin 5120) : EReal :=
  Cert.Row.dot (fun k => x (ix3 ⟨r / 8192, by omega⟩ ⟨r % 8192, by omega⟩ k)) (fun k => w (ix3 1 k f))

/-- The reference's `qa`. -/
def qa : FVec Ideal S32768x512 .bf16 :=
  truncf .bf16 (mulf (extractStridedSlice S32768x512 ![0, 0] (Host.dotGeneral dot_S32768x1024_S1024x5120_S32768x5120_1_0_0_1_n_n none (shapeCast _ x shapeCasts_S4x8192x1024_S32768x1024) (shapeCast _ (extractStridedSlice S1x1024x5120 ![1, 0, 0] w slices_S2x1024x5120_S1x1024x5120_1_0_0) shapeCasts_S1x1024x5120_S1024x5120)) slices_S32768x5120_S32768x512_0_0) (broadcastInDim S32768x512 ![] bcast_S_S32768x512 (constant S_ .f32 0x3E38AA3B#32))) bitsLt_bf16_f32

theorem qa_at (r : Fin 32768) (f : Fin 512) : qa x w (ix2 r f) = col x w r ⟨f, by omega⟩ * Ideal.ofBits .f32 0x3E38AA3B#32 := by
  pointwise [qa, col, Cert.Row.dot, Cert.Row.logistic]

/-- The reference's `ka`. -/
def ka : FVec Ideal S32768x512 .bf16 :=
  truncf .bf16 (extractStridedSlice S32768x512 ![0, 512] (Host.dotGeneral dot_S32768x1024_S1024x5120_S32768x5120_1_0_0_1_n_n none (shapeCast _ x shapeCasts_S4x8192x1024_S32768x1024) (shapeCast _ (extractStridedSlice S1x1024x5120 ![1, 0, 0] w slices_S2x1024x5120_S1x1024x5120_1_0_0) shapeCasts_S1x1024x5120_S1024x5120)) slices_S32768x5120_S32768x512_0_512) bitsLt_bf16_f32

theorem ka_at (r : Fin 32768) (f : Fin 512) : ka x w (ix2 r f) = col x w r ⟨512 + f, by omega⟩ := by
  pointwise [ka, col, Cert.Row.dot, Cert.Row.logistic]

/-- The reference's `va`. -/
def va : FVec Ideal S32768x512 .bf16 :=
  truncf .bf16 (extractStridedSlice S32768x512 ![0, 1024] (Host.dotGeneral dot_S32768x1024_S1024x5120_S32768x5120_1_0_0_1_n_n none (shapeCast _ x shapeCasts_S4x8192x1024_S32768x1024) (shapeCast _ (extractStridedSlice S1x1024x5120 ![1, 0, 0] w slices_S2x1024x5120_S1x1024x5120_1_0_0) shapeCasts_S1x1024x5120_S1024x5120)) slices_S32768x5120_S32768x512_0_1024) bitsLt_bf16_f32

theorem va_at (r : Fin 32768) (f : Fin 512) : va x w (ix2 r f) = col x w r ⟨1024 + f, by omega⟩ := by
  pointwise [va, col, Cert.Row.dot, Cert.Row.logistic]

/-- The reference's `qb`. -/
def qb : FVec Ideal S32768x512 .bf16 :=
  truncf .bf16 (mulf (extractStridedSlice S32768x512 ![0, 1536] (Host.dotGeneral dot_S32768x1024_S1024x5120_S32768x5120_1_0_0_1_n_n none (shapeCast _ x shapeCasts_S4x8192x1024_S32768x1024) (shapeCast _ (extractStridedSlice S1x1024x5120 ![1, 0, 0] w slices_S2x1024x5120_S1x1024x5120_1_0_0) shapeCasts_S1x1024x5120_S1024x5120)) slices_S32768x5120_S32768x512_0_1536) (broadcastInDim S32768x512 ![] bcast_S_S32768x512 (constant S_ .f32 0x3E38AA3B#32))) bitsLt_bf16_f32

theorem qb_at (r : Fin 32768) (f : Fin 512) : qb x w (ix2 r f) = col x w r ⟨1536 + f, by omega⟩ * Ideal.ofBits .f32 0x3E38AA3B#32 := by
  pointwise [qb, col, Cert.Row.dot, Cert.Row.logistic]

/-- The reference's `kb`. -/
def kb : FVec Ideal S32768x512 .bf16 :=
  truncf .bf16 (extractStridedSlice S32768x512 ![0, 2048] (Host.dotGeneral dot_S32768x1024_S1024x5120_S32768x5120_1_0_0_1_n_n none (shapeCast _ x shapeCasts_S4x8192x1024_S32768x1024) (shapeCast _ (extractStridedSlice S1x1024x5120 ![1, 0, 0] w slices_S2x1024x5120_S1x1024x5120_1_0_0) shapeCasts_S1x1024x5120_S1024x5120)) slices_S32768x5120_S32768x512_0_2048) bitsLt_bf16_f32

theorem kb_at (r : Fin 32768) (f : Fin 512) : kb x w (ix2 r f) = col x w r ⟨2048 + f, by omega⟩ := by
  pointwise [kb, col, Cert.Row.dot, Cert.Row.logistic]

/-- The reference's `vb`. -/
def vb : FVec Ideal S32768x512 .bf16 :=
  truncf .bf16 (extractStridedSlice S32768x512 ![0, 2560] (Host.dotGeneral dot_S32768x1024_S1024x5120_S32768x5120_1_0_0_1_n_n none (shapeCast _ x shapeCasts_S4x8192x1024_S32768x1024) (shapeCast _ (extractStridedSlice S1x1024x5120 ![1, 0, 0] w slices_S2x1024x5120_S1x1024x5120_1_0_0) shapeCasts_S1x1024x5120_S1024x5120)) slices_S32768x5120_S32768x512_0_2560) bitsLt_bf16_f32

theorem vb_at (r : Fin 32768) (f : Fin 512) : vb x w (ix2 r f) = col x w r ⟨2560 + f, by omega⟩ := by
  pointwise [vb, col, Cert.Row.dot, Cert.Row.logistic]

/-- The reference's `gate_a`. -/
def gate_a : FVec Ideal S32768x1024 .bf16 :=
  truncf .bf16 (Host.divf (broadcastInDim S32768x1024 ![] bcast_S_S32768x1024 (constant S_ .f32 0x3F800000#32)) (addf (broadcastInDim S32768x1024 ![] bcast_S_S32768x1024 (constant S_ .f32 0x3F800000#32)) (Host.exp (Host.negf (addf (extractStridedSlice S32768x1024 ![0, 3072] (Host.dotGeneral dot_S32768x1024_S1024x5120_S32768x5120_1_0_0_1_n_n none (shapeCast _ x shapeCasts_S4x8192x1024_S32768x1024) (shapeCast _ (extractStridedSlice S1x1024x5120 ![1, 0, 0] w slices_S2x1024x5120_S1x1024x5120_1_0_0) shapeCasts_S1x1024x5120_S1024x5120)) slices_S32768x5120_S32768x1024_0_3072) (broadcastInDim S32768x1024 ![0, 1] bcast_S1x1024_S32768x1024_0_1 (broadcastInDim S1x1024 ![1] bcast_S1024_S1x1024_1 (shapeCast _ (extractStridedSlice S1x1024 ![1, 0] bg slices_S2x2048_S1x1024_1_0) shapeCasts_S1x1024_S1024)))))))) bitsLt_bf16_f32

theorem gate_a_at (r : Fin 32768) (f : Fin 1024) : gate_a x w bg (ix2 r f) = Cert.Row.logistic (col x w r ⟨3072 + f, by omega⟩ + bg (ix2 1 ⟨f, by omega⟩)) := by
  pointwise [gate_a, col, Cert.Row.dot, Cert.Row.logistic]

/-- The reference's `gate_b`. -/
def gate_b : FVec Ideal S32768x1024 .bf16 :=
  truncf .bf16 (Host.divf (broadcastInDim S32768x1024 ![] bcast_S_S32768x1024 (constant S_ .f32 0x3F800000#32)) (addf (broadcastInDim S32768x1024 ![] bcast_S_S32768x1024 (constant S_ .f32 0x3F800000#32)) (Host.exp (Host.negf (addf (extractStridedSlice S32768x1024 ![0, 4096] (Host.dotGeneral dot_S32768x1024_S1024x5120_S32768x5120_1_0_0_1_n_n none (shapeCast _ x shapeCasts_S4x8192x1024_S32768x1024) (shapeCast _ (extractStridedSlice S1x1024x5120 ![1, 0, 0] w slices_S2x1024x5120_S1x1024x5120_1_0_0) shapeCasts_S1x1024x5120_S1024x5120)) slices_S32768x5120_S32768x1024_0_4096) (broadcastInDim S32768x1024 ![0, 1] bcast_S1x1024_S32768x1024_0_1 (broadcastInDim S1x1024 ![1] bcast_S1024_S1x1024_1 (shapeCast _ (extractStridedSlice S1x1024 ![1, 1024] bg slices_S2x2048_S1x1024_1_1024) shapeCasts_S1x1024_S1024)))))))) bitsLt_bf16_f32

theorem gate_b_at (r : Fin 32768) (f : Fin 1024) : gate_b x w bg (ix2 r f) = Cert.Row.logistic (col x w r ⟨4096 + f, by omega⟩ + bg (ix2 1 ⟨1024 + f, by omega⟩)) := by
  pointwise [gate_b, col, Cert.Row.dot, Cert.Row.logistic]

end Cert.Reference4Ideal.Inproj

end
-- ==== Proof.F.InKer.lean ====
/- The projections' kernel: what its stores hold, what its blocks hold, and the arrays after the run. -/
module

public import proofs.«01_k».proof.Proof.F.InRef
public import proofs.«01_k».proof.Proof.Gen.Kernel4Ideal.Frame
public import Idealize.ShloMosaic.Lib.Pipeline.ValueKit
public import Idealize.ShloMosaic.Lib.Claim

@[expose] public section

set_option maxRecDepth 16384

noncomputable section

namespace Cert.Kernel4Ideal.Inproj

open Cert.Kernel4Ideal Cert.Kernel4Ideal.Gen Idealize.ShloMosaic Idealize.ShloMosaic.TcCoe Idealize.SL.Sem
open Idealize.ShloMosaic.Pipeline (Dat)

/-- The payload stored for `qa`. -/
theorem pay_qa (x : FVec Ideal S1024x1024 .f32) (w : FVec Ideal S1x1024x512 .bf16) (r : Fin 1024) (f : Fin 512) :
    k0_pay6 (F := Ideal) (k0_pay3 (F := Ideal) x) w (ix2 r f) = Cert.Row.dot (fun k => x (ix2 r k)) (fun k => w (ix3 0 k f)) * Ideal.ofBits .f32 0x3E38AA3B#32 := by
  pointwise [k0_pay6, k0_pay3, Cert.Row.dot]

/-- The payload stored for `ka`. -/
theorem pay_ka (x : FVec Ideal S1024x1024 .f32) (w : FVec Ideal S1x1024x512 .bf16) (r : Fin 1024) (f : Fin 512) :
    k0_pay7 (F := Ideal) (k0_pay3 (F := Ideal) x) w (ix2 r f) = Cert.Row.dot (fun k => x (ix2 r k)) (fun k => w (ix3 0 k f)) := by
  pointwise [k0_pay7, k0_pay3, Cert.Row.dot]

/-- The payload stored for `va`. -/
theorem pay_va (x : FVec Ideal S1024x1024 .f32) (w : FVec Ideal S1x1024x512 .bf16) (r : Fin 1024) (f : Fin 512) :
    k0_pay8 (F := Ideal) (k0_pay3 (F := Ideal) x) w (ix2 r f) = Cert.Row.dot (fun k => x (ix2 r k)) (fun k => w (ix3 0 k f)) := by
  pointwise [k0_pay8, k0_pay3, Cert.Row.dot]

/-- The payload stored for `qb`. -/
theorem pay_qb (x : FVec Ideal S1024x1024 .f32) (w : FVec Ideal S1x1024x512 .bf16) (r : Fin 1024) (f : Fin 512) :
    k0_pay9 (F := Ideal) (k0_pay3 (F := Ideal) x) w (ix2 r f) = Cert.Row.dot (fun k => x (ix2 r k)) (fun k => w (ix3 0 k f)) * Ideal.ofBits .f32 0x3E38AA3B#32 := by
  pointwise [k0_pay9, k0_pay3, Cert.Row.dot]

/-- The payload stored for `kb`. -/
theorem pay_kb (x : FVec Ideal S1024x1024 .f32) (w : FVec Ideal S1x1024x512 .bf16) (r : Fin 1024) (f : Fin 512) :
    k0_pay1 (F := Ideal) (k0_pay3 (F := Ideal) x) w (ix2 r f) = Cert.Row.dot (fun k => x (ix2 r k)) (fun k => w (ix3 0 k f)) := by
  pointwise [k0_pay1, k0_pay3, Cert.Row.dot]

/-- The payload stored for `vb`. -/
theorem pay_vb (x : FVec Ideal S1024x1024 .f32) (w : FVec Ideal S1x1024x512 .bf16) (r : Fin 1024) (f : Fin 512) :
    k0_pay2 (F := Ideal) (k0_pay3 (F := Ideal) x) w (ix2 r f) = Cert.Row.dot (fun k => x (ix2 r k)) (fun k => w (ix3 0 k f)) := by
  pointwise [k0_pay2, k0_pay3, Cert.Row.dot]

/-- The payload stored for `gate_a`. -/
theorem pay_gate_a (x : FVec Ideal S1024x1024 .f32) (w : FVec Ideal S1x1024x1024 .bf16) (b : FVec Ideal S1x1024 .f32) (r f : Fin 1024) :
    k0_pay4 (F := Ideal) x w b (ix2 r f)
      = Cert.Row.logistic (Cert.Row.dot (fun k => x (ix2 r k)) (fun k => w (ix3 0 k f)) + b (ix2 0 f)) := by
  pointwise [k0_pay4, k0_pay3, Cert.Row.dot, Cert.Row.logistic]
  simp only [zero_sub]

/-- The payload stored for `gate_b`. -/
theorem pay_gate_b (x : FVec Ideal S1024x1024 .f32) (w : FVec Ideal S1x1024x1024 .bf16) (b : FVec Ideal S1x1024 .f32) (r f : Fin 1024) :
    k0_pay5 (F := Ideal) x w b (ix2 r f)
      = Cert.Row.logistic (Cert.Row.dot (fun k => x (ix2 r k)) (fun k => w (ix3 0 k f)) + b (ix2 0 f)) := by
  pointwise [k0_pay5, k0_pay3, Cert.Row.dot, Cert.Row.logistic]
  simp only [zero_sub]

variable (m : (ℓ : Loc nD τ sig) → Buf (Elt Ideal) ℓ)

/-- Every window's block index at every grid point. -/
theorem idx : ∀ t : Fin cfg0.N, win0_0.index t = ![t.val, 0] ∧ win0_1.index t = ![1, 0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ t.val < 32 :=
  (by decide +kernel : ∀ t : Fin grid0.N, _)

/-- The input's block at point `t`: its row `p` is row `1024 t + p` of the flattened input. -/
theorem blk_x (c : Dev nD) (t : Fin cfg0.N) (p k : Fin 1024) (i : Fin 4) (q : Fin 8192) (h : t.val * 1024 + p.val = i.val * 8192 + q.val) :
    (iblk m c 0 t : FVec Ideal S1024x1024 .f32) (ix2 p k)
      = (m ((c : Thread nD τ).loc main_arg0) : FVec Ideal S4x8192x1024 .f32) (ix3 i q k) := by
  blk_simp [iblk, idx t]
  entry_read
  pointwise
  blk_ext [idx t]

/-- The weight's block is the second layer's weight. -/
theorem blk_w (c : Dev nD) (t : Fin cfg0.N) (k : Fin 1024) (f : Fin 5120) :
    (iblk m c 1 t : FVec Ideal S1x1024x5120 .bf16) (ix3 0 k f)
      = (m ((c : Thread nD τ).loc main_arg1) : FVec Ideal S2x1024x5120 .f32) (ix3 1 k f) := by
  blk_simp [iblk, idx t]
  entry_read
  pointwise
  blk_ext [idx t]

/-- The gates' bias block is the second layer's bias. -/
theorem blk_b (c : Dev nD) (t : Fin cfg0.N) (j : Fin 2048) :
    (iblk m c 2 t : FVec Ideal S1x2048 .f32) (ix2 0 j)
      = (m ((c : Thread nD τ).loc main_arg2) : FVec Ideal S2x2048 .f32) (ix2 1 j) := by
  blk_simp [iblk, idx t]
  entry_read
  pointwise
  blk_ext [idx t]

/-- A row of the staged input times a column of the staged weight is the reference's column. -/
theorem col_eq (c : Dev nD) (t : Fin cfg0.N) (X W : Fin 1024 → EReal) (p : Fin 1024) (R : Fin 32768) (f : Fin 5120)
    (hx : ∀ k, X k = (iblk m c 0 t : FVec Ideal S1024x1024 .f32) (ix2 p k))
    (hw : ∀ k, W k = (iblk m c 1 t : FVec Ideal S1x1024x5120 .bf16) (ix3 0 k f)) (hR : R.val = t.val * 1024 + p.val) :
    Cert.Row.dot X W = Cert.Reference4Ideal.Inproj.col (m ((c : Thread nD τ).loc main_arg0)) (m ((c : Thread nD τ).loc main_arg1)) R f :=
  Finset.sum_congr rfl fun k _ => congrArg₂ (· * ·)
    ((hx k).trans (blk_x m c t p k _ _ (by dsimp only; omega))) ((hw k).trans (blk_w m c t k f))

/-- What point `t` leaves in the block of `qa`. -/
theorem point_qa (c : Dev nD) (t : Fin cfg0.N) (y : S1024x512.Idx) :
    out0_3 (F := Ideal) (iblk m c 0 t) (iblk m c 1 t) (iblk m c 2 t) y
      = Cert.Reference4Ideal.Inproj.qa (m ((c : Thread nD τ).loc main_arg0)) (m ((c : Thread nD τ).loc main_arg1)) (((cfg0.win 3).blk t).view.emb y) := by
  have ht := (idx t).2.2.2.2.2.2.2.2.2.2.2
  unfold out0_3 k0_pay10
  have hy : ((cfg0.win 3).blk t).view.emb y
      = (ix2 (⟨t.val * 1024 + y 0, by have := (y 0).isLt; change (y 0 : ℕ) < 1024 at this; omega⟩ : Fin 32768) (y 1) : S32768x512.Idx) := by
    blk_ext [idx t]
  rw [hy]
  canon_tiles x h
  case piece0 =>
    rw [eq_ix2 x]
    obtain rfl : y = x := by rw [eq_ix2 y, eq_ix2 x, show y 0 = x 0 from Fin.ext h0, show y 1 = x 1 from Fin.ext h1]
    refine (pay_qa _ _ (y 0) (y 1)).trans ?_
    refine Eq.trans ?_ (Cert.Reference4Ideal.Inproj.qa_at _ _ _ _).symm
    refine congrArg (· * Ideal.ofBits .f32 0x3E38AA3B#32) (col_eq m c t _ _ (y 0) _ ⟨y 1, by omega⟩ ?_ ?_ (by dsimp only)) <;> intro k <;> pointwise <;> rfl

/-- The array of `qa` after the run. -/
theorem final_qa (c : Dev nD) :
    (dats m 0 c).arrAt 3 (cfgs 0).N = Cert.Reference4Ideal.Inproj.qa (m ((c : Thread nD τ).loc main_arg0)) (m ((c : Thread nD τ).loc main_arg1)) := by
  refine (dats m 0 c).arrAt_eq_of_covers 3 _ (by decide +kernel) fun t _ y => ?_
  blk_simp
  rw [after0_3]
  exact point_qa m c t y

/-- What point `t` leaves in the block of `ka`. -/
theorem point_ka (c : Dev nD) (t : Fin cfg0.N) (y : S1024x512.Idx) :
    out0_4 (F := Ideal) (iblk m c 0 t) (iblk m c 1 t) (iblk m c 2 t) y
      = Cert.Reference4Ideal.Inproj.ka (m ((c : Thread nD τ).loc main_arg0)) (m ((c : Thread nD τ).loc main_arg1)) (((cfg0.win 4).blk t).view.emb y) := by
  have ht := (idx t).2.2.2.2.2.2.2.2.2.2.2
  unfold out0_4 k0_pay10
  have hy : ((cfg0.win 4).blk t).view.emb y
      = (ix2 (⟨t.val * 1024 + y 0, by have := (y 0).isLt; change (y 0 : ℕ) < 1024 at this; omega⟩ : Fin 32768) (y 1) : S32768x512.Idx) := by
    blk_ext [idx t]
  rw [hy]
  canon_tiles x h
  case piece0 =>
    rw [eq_ix2 x]
    obtain rfl : y = x := by rw [eq_ix2 y, eq_ix2 x, show y 0 = x 0 from Fin.ext h0, show y 1 = x 1 from Fin.ext h1]
    refine (pay_ka _ _ (y 0) (y 1)).trans ?_
    refine Eq.trans ?_ (Cert.Reference4Ideal.Inproj.ka_at _ _ _ _).symm
    refine col_eq m c t _ _ (y 0) _ ⟨512 + y 1, by omega⟩ ?_ ?_ (by dsimp only) <;> intro k <;> pointwise <;> rfl

/-- The array of `ka` after the run. -/
theorem final_ka (c : Dev nD) :
    (dats m 0 c).arrAt 4 (cfgs 0).N = Cert.Reference4Ideal.Inproj.ka (m ((c : Thread nD τ).loc main_arg0)) (m ((c : Thread nD τ).loc main_arg1)) := by
  refine (dats m 0 c).arrAt_eq_of_covers 4 _ (by decide +kernel) fun t _ y => ?_
  blk_simp
  rw [after0_4]
  exact point_ka m c t y

/-- What point `t` leaves in the block of `va`. -/
theorem point_va (c : Dev nD) (t : Fin cfg0.N) (y : S1024x512.Idx) :
    out0_5 (F := Ideal) (iblk m c 0 t) (iblk m c 1 t) (iblk m c 2 t) y
      = Cert.Reference4Ideal.Inproj.va (m ((c : Thread nD τ).loc main_arg0)) (m ((c : Thread nD τ).loc main_arg1)) (((cfg0.win 5).blk t).view.emb y) := by
  have ht := (idx t).2.2.2.2.2.2.2.2.2.2.2
  unfold out0_5 k0_pay10
  have hy : ((cfg0.win 5).blk t).view.emb y
      = (ix2 (⟨t.val * 1024 + y 0, by have := (y 0).isLt; change (y 0 : ℕ) < 1024 at this; omega⟩ : Fin 32768) (y 1) : S32768x512.Idx) := by
    blk_ext [idx t]
  rw [hy]
  canon_tiles x h
  case piece0 =>
    rw [eq_ix2 x]
    obtain rfl : y = x := by rw [eq_ix2 y, eq_ix2 x, show y 0 = x 0 from Fin.ext h0, show y 1 = x 1 from Fin.ext h1]
    refine (pay_va _ _ (y 0) (y 1)).trans ?_
    refine Eq.trans ?_ (Cert.Reference4Ideal.Inproj.va_at _ _ _ _).symm
    refine col_eq m c t _ _ (y 0) _ ⟨1024 + y 1, by omega⟩ ?_ ?_ (by dsimp only) <;> intro k <;> pointwise <;> rfl

/-- The array of `va` after the run. -/
theorem final_va (c : Dev nD) :
    (dats m 0 c).arrAt 5 (cfgs 0).N = Cert.Reference4Ideal.Inproj.va (m ((c : Thread nD τ).loc main_arg0)) (m ((c : Thread nD τ).loc main_arg1)) := by
  refine (dats m 0 c).arrAt_eq_of_covers 5 _ (by decide +kernel) fun t _ y => ?_
  blk_simp
  rw [after0_5]
  exact point_va m c t y

/-- What point `t` leaves in the block of `qb`. -/
theorem point_qb (c : Dev nD) (t : Fin cfg0.N) (y : S1024x512.Idx) :
    out0_6 (F := Ideal) (iblk m c 0 t) (iblk m c 1 t) (iblk m c 2 t) y
      = Cert.Reference4Ideal.Inproj.qb (m ((c : Thread nD τ).loc main_arg0)) (m ((c : Thread nD τ).loc main_arg1)) (((cfg0.win 6).blk t).view.emb y) := by
  have ht := (idx t).2.2.2.2.2.2.2.2.2.2.2
  unfold out0_6 k0_pay10
  have hy : ((cfg0.win 6).blk t).view.emb y
      = (ix2 (⟨t.val * 1024 + y 0, by have := (y 0).isLt; change (y 0 : ℕ) < 1024 at this; omega⟩ : Fin 32768) (y 1) : S32768x512.Idx) := by
    blk_ext [idx t]
  rw [hy]
  canon_tiles x h
  case piece0 =>
    rw [eq_ix2 x]
    obtain rfl : y = x := by rw [eq_ix2 y, eq_ix2 x, show y 0 = x 0 from Fin.ext h0, show y 1 = x 1 from Fin.ext h1]
    refine (pay_qb _ _ (y 0) (y 1)).trans ?_
    refine Eq.trans ?_ (Cert.Reference4Ideal.Inproj.qb_at _ _ _ _).symm
    refine congrArg (· * Ideal.ofBits .f32 0x3E38AA3B#32) (col_eq m c t _ _ (y 0) _ ⟨1536 + y 1, by omega⟩ ?_ ?_ (by dsimp only)) <;> intro k <;> pointwise <;> rfl

/-- The array of `qb` after the run. -/
theorem final_qb (c : Dev nD) :
    (dats m 0 c).arrAt 6 (cfgs 0).N = Cert.Reference4Ideal.Inproj.qb (m ((c : Thread nD τ).loc main_arg0)) (m ((c : Thread nD τ).loc main_arg1)) := by
  refine (dats m 0 c).arrAt_eq_of_covers 6 _ (by decide +kernel) fun t _ y => ?_
  blk_simp
  rw [after0_6]
  exact point_qb m c t y

/-- What point `t` leaves in the block of `kb`. -/
theorem point_kb (c : Dev nD) (t : Fin cfg0.N) (y : S1024x512.Idx) :
    out0_7 (F := Ideal) (iblk m c 0 t) (iblk m c 1 t) (iblk m c 2 t) y
      = Cert.Reference4Ideal.Inproj.kb (m ((c : Thread nD τ).loc main_arg0)) (m ((c : Thread nD τ).loc main_arg1)) (((cfg0.win 7).blk t).view.emb y) := by
  have ht := (idx t).2.2.2.2.2.2.2.2.2.2.2
  unfold out0_7 k0_pay10
  have hy : ((cfg0.win 7).blk t).view.emb y
      = (ix2 (⟨t.val * 1024 + y 0, by have := (y 0).isLt; change (y 0 : ℕ) < 1024 at this; omega⟩ : Fin 32768) (y 1) : S32768x512.Idx) := by
    blk_ext [idx t]
  rw [hy]
  canon_tiles x h
  case piece0 =>
    rw [eq_ix2 x]
    obtain rfl : y = x := by rw [eq_ix2 y, eq_ix2 x, show y 0 = x 0 from Fin.ext h0, show y 1 = x 1 from Fin.ext h1]
    refine (pay_kb _ _ (y 0) (y 1)).trans ?_
    refine Eq.trans ?_ (Cert.Reference4Ideal.Inproj.kb_at _ _ _ _).symm
    refine col_eq m c t _ _ (y 0) _ ⟨2048 + y 1, by omega⟩ ?_ ?_ (by dsimp only) <;> intro k <;> pointwise <;> rfl

/-- The array of `kb` after the run. -/
theorem final_kb (c : Dev nD) :
    (dats m 0 c).arrAt 7 (cfgs 0).N = Cert.Reference4Ideal.Inproj.kb (m ((c : Thread nD τ).loc main_arg0)) (m ((c : Thread nD τ).loc main_arg1)) := by
  refine (dats m 0 c).arrAt_eq_of_covers 7 _ (by decide +kernel) fun t _ y => ?_
  blk_simp
  rw [after0_7]
  exact point_kb m c t y

/-- What point `t` leaves in the block of `vb`. -/
theorem point_vb (c : Dev nD) (t : Fin cfg0.N) (y : S1024x512.Idx) :
    out0_8 (F := Ideal) (iblk m c 0 t) (iblk m c 1 t) (iblk m c 2 t) y
      = Cert.Reference4Ideal.Inproj.vb (m ((c : Thread nD τ).loc main_arg0)) (m ((c : Thread nD τ).loc main_arg1)) (((cfg0.win 8).blk t).view.emb y) := by
  have ht := (idx t).2.2.2.2.2.2.2.2.2.2.2
  unfold out0_8 k0_pay10
  have hy : ((cfg0.win 8).blk t).view.emb y
      = (ix2 (⟨t.val * 1024 + y 0, by have := (y 0).isLt; change (y 0 : ℕ) < 1024 at this; omega⟩ : Fin 32768) (y 1) : S32768x512.Idx) := by
    blk_ext [idx t]
  rw [hy]
  canon_tiles x h
  case piece0 =>
    rw [eq_ix2 x]
    obtain rfl : y = x := by rw [eq_ix2 y, eq_ix2 x, show y 0 = x 0 from Fin.ext h0, show y 1 = x 1 from Fin.ext h1]
    refine (pay_vb _ _ (y 0) (y 1)).trans ?_
    refine Eq.trans ?_ (Cert.Reference4Ideal.Inproj.vb_at _ _ _ _).symm
    refine col_eq m c t _ _ (y 0) _ ⟨2560 + y 1, by omega⟩ ?_ ?_ (by dsimp only) <;> intro k <;> pointwise <;> rfl

/-- The array of `vb` after the run. -/
theorem final_vb (c : Dev nD) :
    (dats m 0 c).arrAt 8 (cfgs 0).N = Cert.Reference4Ideal.Inproj.vb (m ((c : Thread nD τ).loc main_arg0)) (m ((c : Thread nD τ).loc main_arg1)) := by
  refine (dats m 0 c).arrAt_eq_of_covers 8 _ (by decide +kernel) fun t _ y => ?_
  blk_simp
  rw [after0_8]
  exact point_vb m c t y

/-- What point `t` leaves in the block of `gate_a`. -/
theorem point_gate_a (c : Dev nD) (t : Fin cfg0.N) (y : S1024x1024.Idx) :
    out0_9 (F := Ideal) (iblk m c 0 t) (iblk m c 1 t) (iblk m c 2 t) y
      = Cert.Reference4Ideal.Inproj.gate_a (m ((c : Thread nD τ).loc main_arg0)) (m ((c : Thread nD τ).loc main_arg1)) (m ((c : Thread nD τ).loc main_arg2)) (((cfg0.win 9).blk t).view.emb y) := by
  have ht := (idx t).2.2.2.2.2.2.2.2.2.2.2
  unfold out0_9
  have hy : ((cfg0.win 9).blk t).view.emb y
      = (ix2 (⟨t.val * 1024 + y 0, by have := (y 0).isLt; change (y 0 : ℕ) < 1024 at this; omega⟩ : Fin 32768) (y 1) : S32768x1024.Idx) := by
    blk_ext [idx t]
  rw [hy]
  canon_tiles x h
  case piece0 =>
    rw [eq_ix2 x]
    obtain rfl : y = x := by rw [eq_ix2 y, eq_ix2 x, show y 0 = x 0 from Fin.ext h0, show y 1 = x 1 from Fin.ext h1]
    refine (pay_gate_a _ _ _ (y 0) (y 1)).trans ?_
    refine Eq.trans ?_ (Cert.Reference4Ideal.Inproj.gate_a_at _ _ _ _ _).symm
    refine congrArg Cert.Row.logistic (congrArg₂ (· + ·) (col_eq m c t _ _ (y 0) _ ⟨3072 + y 1, by omega⟩ ?_ ?_ (by dsimp only)) ?_)
    · intro k; pointwise <;> rfl
    · intro k; pointwise <;> rfl
    · refine Eq.trans ?_ (blk_b m c t ⟨y 1, by omega⟩)
      pointwise <;> rfl

/-- The array of `gate_a` after the run. -/
theorem final_gate_a (c : Dev nD) :
    (dats m 0 c).arrAt 9 (cfgs 0).N = Cert.Reference4Ideal.Inproj.gate_a (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  exact point_gate_a m c t y

/-- What point `t` leaves in the block of `gate_b`. -/
theorem point_gate_b (c : Dev nD) (t : Fin cfg0.N) (y : S1024x1024.Idx) :
    out0_10 (F := Ideal) (iblk m c 0 t) (iblk m c 1 t) (iblk m c 2 t) y
      = Cert.Reference4Ideal.Inproj.gate_b (m ((c : Thread nD τ).loc main_arg0)) (m ((c : Thread nD τ).loc main_arg1)) (m ((c : Thread nD τ).loc main_arg2)) (((cfg0.win 10).blk t).view.emb y) := by
  have ht := (idx t).2.2.2.2.2.2.2.2.2.2.2
  unfold out0_10
  have hy : ((cfg0.win 10).blk t).view.emb y
      = (ix2 (⟨t.val * 1024 + y 0, by have := (y 0).isLt; change (y 0 : ℕ) < 1024 at this; omega⟩ : Fin 32768) (y 1) : S32768x1024.Idx) := by
    blk_ext [idx t]
  rw [hy]
  canon_tiles x h
  case piece0 =>
    rw [eq_ix2 x]
    obtain rfl : y = x := by rw [eq_ix2 y, eq_ix2 x, show y 0 = x 0 from Fin.ext h0, show y 1 = x 1 from Fin.ext h1]
    refine (pay_gate_b _ _ _ (y 0) (y 1)).trans ?_
    refine Eq.trans ?_ (Cert.Reference4Ideal.Inproj.gate_b_at _ _ _ _ _).symm
    refine congrArg Cert.Row.logistic (congrArg₂ (· + ·) (col_eq m c t _ _ (y 0) _ ⟨4096 + y 1, by omega⟩ ?_ ?_ (by dsimp only)) ?_)
    · intro k; pointwise <;> rfl
    · intro k; pointwise <;> rfl
    · refine Eq.trans ?_ (blk_b m c t ⟨1024 + y 1, by omega⟩)
      pointwise <;> rfl

/-- The array of `gate_b` after the run. -/
theorem final_gate_b (c : Dev nD) :
    (dats m 0 c).arrAt 10 (cfgs 0).N = Cert.Reference4Ideal.Inproj.gate_b (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  exact point_gate_b m c t y

end Cert.Kernel4Ideal.Inproj

end
-- ==== Proof.F.Claims.lean ====
/- The dense parts' value claims. -/
module

public import proofs.«01_k».proof.Defs
public import proofs.«01_k».proof.Proof.F.FfnKer
public import proofs.«01_k».proof.Proof.F.MergeKer
public import proofs.«01_k».proof.Proof.F.InKer
public import proofs.«01_k».proof.Proof.Gen.Kernel2Ideal
public import proofs.«01_k».proof.Proof.Gen.Reference2Ideal
public import proofs.«01_k».proof.Proof.Gen.Kernel3Ideal
public import proofs.«01_k».proof.Proof.Gen.Reference3Ideal
public import proofs.«01_k».proof.Proof.Gen.Kernel4Ideal
public import proofs.«01_k».proof.Proof.Gen.Reference4Ideal

@[expose] public section

set_option maxRecDepth 16384

noncomputable section

namespace Cert.Dense

open Idealize.ShloMosaic Idealize.SL.Sem

/-- The feed-forward kernel computes its reference. -/
theorem ffn : Cert.algebraic_Kernel2Ideal_Reference2Ideal := by
  pair_intro
  · run_from Cert.Kernel2Ideal.Gen.run_main m g
  · run_from Cert.Reference2Ideal.Value.run m' g'
    obtain ⟨h0, h1, h2, h3, h4⟩ := hagree c
    rw [Cert.Reference2Ideal.Ffn.res_eq, h0, h1, h2, h3, h4]
    exact (Cert.Kernel2Ideal.Ffn.final m c).symm

/-- The merge kernel computes its reference. -/
theorem merge : Cert.algebraic_Kernel3Ideal_Reference3Ideal := by
  pair_intro
  · run_from Cert.Kernel3Ideal.Gen.run_main m g
  · run_from Cert.Reference3Ideal.Value.run m' g'
    obtain ⟨h0, h1, h2, h3, h4, h5, h6, h7, h8, h9⟩ := hagree c
    rw [Cert.Reference3Ideal.Merge.res_eq, h0, h1, h2, h3, h4, h5, h6, h7, h8, h9]
    exact (Cert.Kernel3Ideal.Merge.final m c).symm

set_option maxHeartbeats 2000000 in
/-- The projections' kernel computes its reference's eight arrays. -/
theorem inproj : Cert.algebraic_Kernel4Ideal_Reference4Ideal := by
  pair_intro
  · run_from Cert.Kernel4Ideal.Gen.run_main m g
  · refine (θ_run Cert.Reference4Ideal.defs _ _).mono (fun r h c => ?_) (Cert.Reference4Ideal.Value.run (F := Ideal) m' g')
    obtain ⟨h0, h1, h2⟩ := hagree c
    obtain ⟨r0, r1, r2, r3, r4, r5, r6, r7, ra⟩ := h c
    refine ⟨r0.trans ?_, r1.trans ?_, r2.trans ?_, r3.trans ?_, r4.trans ?_, r5.trans ?_, r6.trans ?_, r7.trans ?_, ra⟩
    · change Cert.Reference4Ideal.Inproj.qa (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = _
      rw [h0, h1]
      exact (Cert.Kernel4Ideal.Inproj.final_qa m c).symm
    · change Cert.Reference4Ideal.Inproj.ka (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = _
      rw [h0, h1]
      exact (Cert.Kernel4Ideal.Inproj.final_ka m c).symm
    · change Cert.Reference4Ideal.Inproj.va (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = _
      rw [h0, h1]
      exact (Cert.Kernel4Ideal.Inproj.final_va m c).symm
    · change Cert.Reference4Ideal.Inproj.qb (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = _
      rw [h0, h1]
      exact (Cert.Kernel4Ideal.Inproj.final_qb m c).symm
    · change Cert.Reference4Ideal.Inproj.kb (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = _
      rw [h0, h1]
      exact (Cert.Kernel4Ideal.Inproj.final_kb m c).symm
    · change Cert.Reference4Ideal.Inproj.vb (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = _
      rw [h0, h1]
      exact (Cert.Kernel4Ideal.Inproj.final_vb m c).symm
    · change Cert.Reference4Ideal.Inproj.gate_a (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
      rw [h0, h1, h2]
      exact (Cert.Kernel4Ideal.Inproj.final_gate_a m c).symm
    · change Cert.Reference4Ideal.Inproj.gate_b (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
      rw [h0, h1, h2]
      exact (Cert.Kernel4Ideal.Inproj.final_gate_b m c).symm

end Cert.Dense

end
-- ==== Proof.V.Math.lean ====
/- Stick-breaking attention on one row, over the extended reals: the keys' weights written two ways, and how a block of keys
   extends the partial sums. Keys are natural numbers; scores are in units of powers of two where the name says `2`. -/
module

public import Idealize.ShloMosaic.Lib.Pointwise

@[expose] public section

noncomputable section

namespace Cert.Stick

open Idealize.ShloMosaic

/-- The change of base: one over the natural logarithm of two. -/
def lg : EReal := (((Real.log 2)⁻¹ : ℝ) : EReal)

/-- The softplus in base two, as a maximum of the score and the logarithm. -/
def sp2 (z : EReal) : EReal := max z (Ideal.log (1 + Ideal.exp2 z) * lg)

/-- What key `s` takes from the stick, in base two: nothing at and after the row's own position `p`. -/
def brk (z : ℕ → EReal) (p s : ℕ) : EReal := if s < p then sp2 (z s) else 0

/-- The logarithm of what is left of the stick before key `s`, that key's own share included: keys up to `n`. -/
def left (n : ℕ) (z : ℕ → EReal) (p s : ℕ) : EReal := ∑ u ∈ Finset.Ico s n, -(brk z p u)

/-- The weight of key `s`. -/
def wt (n : ℕ) (z : ℕ → EReal) (p s : ℕ) : EReal := if s < p then Ideal.exp2 (z s + left n z p s) else 0

/-- The weighted sum of the values of the keys from `s` on. -/
def acc (n : ℕ) (z v : ℕ → EReal) (p s : ℕ) : EReal := ∑ u ∈ Finset.Ico s n, wt n z p u * v u

/-- The entry of the triangle of minus ones. -/
def tri (j c : ℕ) : EReal := if c ≤ j then -1 else 0

theorem mul_tri (x : EReal) (j c : ℕ) : x * tri j c = if c ≤ j then -x else 0 := by
  unfold tri; split <;> simp

/-- A sum over a range of natural numbers cut at `m`. -/
theorem sum_cut {a m n : ℕ} (f : ℕ → EReal) (h : a ≤ m) (h' : m ≤ n) :
    ∑ u ∈ Finset.Ico a n, f u = (∑ u ∈ Finset.Ico m n, f u) + ∑ u ∈ Finset.Ico a m, f u := by
  rw [add_comm, Finset.sum_Ico_consecutive f h h']

/-- A block of `t` keys from `b` as a sum over the block. -/
theorem sum_block (b t : ℕ) (f : ℕ → EReal) : ∑ u ∈ Finset.Ico b (b + t), f u = ∑ j : Fin t, f (b + j.val) := by
  rw [Finset.sum_Ico_eq_sum_range, Nat.add_sub_cancel_left, Finset.sum_range]

/-- A block's column of the triangle sums the entries from the column on. -/
theorem sum_tri (b t c : ℕ) (hc : c ≤ t) (f : ℕ → EReal) :
    ∑ j : Fin t, f (b + j.val) * tri j.val c = ∑ u ∈ Finset.Ico (b + c) (b + t), -(f u) := by
  simp only [mul_tri]
  rw [← Finset.sum_filter]
  have h := sum_block (b + c) (t - c) (fun u => -(f u))
  rw [show b + c + (t - c) = b + t by omega] at h
  rw [h]
  refine Finset.sum_bij' (i := fun j hj => ⟨j.val - c, by have := j.isLt; simp at hj; omega⟩)
    (j := fun j _ => ⟨j.val + c, by have := j.isLt; omega⟩) ?_ ?_ ?_ ?_ ?_
  · intro j _; simp
  · intro j _; simp
  · intro j hj; simp at hj; ext; simp; omega
  · intro j _; ext; simp
  · intro j hj; simp at hj; simp only; congr 2; omega

/-- A block's running sums: the block's own part of the triangle and what the later keys left. -/
theorem left_step (n b t c : ℕ) (hc : c ≤ t) (hn : b + t ≤ n) (z : ℕ → EReal) (p : ℕ) :
    (∑ j : Fin t, brk z p (b + j.val) * tri j.val c) + left n z p (b + t) = left n z p (b + c) := by
  rw [sum_tri b t c hc (brk z p)]
  unfold left
  rw [sum_cut (fun u => -(brk z p u)) (show b + c ≤ b + t by omega) hn, add_comm]

/-- A block's weighted values extend the partial sum. -/
theorem acc_step (n b t : ℕ) (hn : b + t ≤ n) (z v : ℕ → EReal) (p : ℕ) :
    acc n z v p (b + t) + ∑ j : Fin t, wt n z p (b + j.val) * v (b + j.val) = acc n z v p b := by
  unfold acc
  rw [sum_cut (fun u => wt n z p u * v u) (show b ≤ b + t by omega) hn,
    sum_block b t (fun u => wt n z p u * v u)]

theorem sp2_nonneg (z : EReal) : 0 ≤ sp2 z := by
  unfold sp2 lg
  refine le_max_of_le_right ?_
  refine mul_nonneg ?_ (EReal.coe_nonneg.2 (inv_nonneg.2 (Real.log_nonneg (by norm_num))))
  induction z using EReal.rec with
  | bot => rw [Ideal.exp2_bot, add_zero, ← EReal.coe_one, Ideal.log_coe, if_neg (by norm_num), Real.log_one]; exact le_rfl
  | top => rw [Ideal.exp2_top, show (1 : EReal) + ⊤ = ⊤ from EReal.coe_add_top 1, Ideal.log_top]; exact le_top
  | coe r =>
    have h2 : 0 < Real.rpow 2 r := Real.rpow_pos_of_pos (by norm_num) r
    rw [Ideal.exp2_coe, ← EReal.coe_one, ← EReal.coe_add, Ideal.log_coe, if_neg (by linarith)]
    exact EReal.coe_nonneg.2 (Real.log_nonneg (by linarith))

theorem brk_nonneg (z : ℕ → EReal) (p s : ℕ) : 0 ≤ brk z p s := by
  unfold brk; split
  · exact sp2_nonneg _
  · exact le_rfl

/-- Once nothing is left of the stick at a key, nothing is left at any earlier one. -/
theorem left_bot (n : ℕ) (z : ℕ → EReal) (p s s' : ℕ) (h : s' ≤ s) (hs : s ≤ n) (hb : left n z p s = ⊥) : left n z p s' = ⊥ := by
  unfold left at hb ⊢
  rw [sum_cut (fun u => -(brk z p u)) h hs, hb, EReal.bot_add]

/-- Once nothing is left of the stick, earlier keys weigh nothing. -/
theorem wt_zero (n : ℕ) (z : ℕ → EReal) (p s s' : ℕ) (h : s' ≤ s) (hs : s ≤ n) (hb : left n z p s = ⊥) : wt n z p s' = 0 := by
  unfold wt; split
  · rw [left_bot n z p s s' h hs hb, EReal.add_bot, Ideal.exp2_bot]
  · rfl

/-- Once nothing is left of the stick, the partial sum stays. -/
theorem acc_dead (n : ℕ) (z v : ℕ → EReal) (p s s' : ℕ) (h : s' ≤ s) (hs : s ≤ n) (hb : left n z p s = ⊥) :
    acc n z v p s = acc n z v p s' := by
  unfold acc
  rw [sum_cut (fun u => wt n z p u * v u) h hs]
  rw [show ∑ u ∈ Finset.Ico s' s, wt n z p u * v u = 0 from Finset.sum_eq_zero fun u hu => by
    rw [wt_zero n z p s u (Finset.mem_Ico.1 hu).2.le hs hb, zero_mul]]
  rw [add_zero]

/-- From the row's own position on no key takes anything. -/
theorem left_past (n : ℕ) (z : ℕ → EReal) (p s : ℕ) (h : p ≤ s) : left n z p s = 0 :=
  Finset.sum_eq_zero fun u hu => by
    unfold brk; rw [if_neg (by have := (Finset.mem_Ico.1 hu).1; omega), neg_zero]

/-- From the row's own position on no key weighs anything. -/
theorem acc_past (n : ℕ) (z v : ℕ → EReal) (p s : ℕ) (h : p ≤ s) : acc n z v p s = 0 :=
  Finset.sum_eq_zero fun u hu => by
    unfold wt; rw [if_neg (by have := (Finset.mem_Ico.1 hu).1; omega), zero_mul]

/-- A row's scores against a block of 256 keys. -/
def zrow (q : Fin 128 → EReal) (k : Fin 256 → Fin 128 → EReal) (j : Fin 256) : EReal := ∑ d, q d * k j d

/-- A row's running sums over a block: the block's softplus sums against the triangle `g`, and the carry. -/
def trow (z : Fin 256 → EReal) (g : Fin 256 → Fin 256 → EReal) (c : EReal) (j : Fin 256) : EReal := (∑ i, sp2 (z i) * g i j) + c

/-- A row's weighted values over a block, at one lane. -/
def prow (z t v : Fin 256 → EReal) : EReal := ∑ j, Ideal.exp2 (z j + t j) * v j

end Cert.Stick

end
-- ==== Proof.V.Steps.lean ====
/- How one block of 256 keys moves a row's partial sum and its carry, in the terms the kernel's tiles come to. -/
module

public import proofs.«01_k».proof.Proof.V.Math

@[expose] public section

noncomputable section

namespace Cert.Stick

open Idealize.ShloMosaic

/-- A masked row's running sums over its own block: only the keys before position `y` of the block count. -/
def trowm (z : Fin 256 → EReal) (g : Fin 256 → Fin 256 → EReal) (y : ℕ) (j : Fin 256) : EReal :=
  ∑ i : Fin 256, (if i.val < y then sp2 (z i) else 0) * g i j

/-- A masked row's weighted values over its own block. -/
def prowm (z t v : Fin 256 → EReal) (y : ℕ) : EReal := ∑ j : Fin 256, (if j.val < y then Ideal.exp2 (z j + t j) else 0) * v j

/-- A full block before the row: the running sums are what is left from each key on. -/
theorem trow_full (z : ℕ → EReal) (p L : ℕ) (hL : 256 * (L + 1) ≤ p) (hp : 256 * (L + 1) ≤ 8192) (zr : Fin 256 → EReal) (hz : ∀ j, zr j = z (256 * L + j.val)) (c : EReal)
    (hc : c = left 8192 z p (256 * (L + 1))) (j : Fin 256) :
    trow zr (fun i j => tri i.val j.val) c j = left 8192 z p (256 * L + j.val) := by
  have h := left_step 8192 (256 * L) 256 j.val (by omega) (by omega) z p
  rw [← h]; unfold trow
  rw [hc, show 256 * (L + 1) = 256 * L + 256 by ring]
  congr 1
  refine Finset.sum_congr rfl fun i _ => ?_
  rw [hz]; unfold brk; rw [if_pos (by omega)]

theorem prow_full (z : ℕ → EReal) (p L : ℕ) (hL : 256 * (L + 1) ≤ p) (hp : 256 * (L + 1) ≤ 8192) (zr t : Fin 256 → EReal) (hz : ∀ j, zr j = z (256 * L + j.val))
    (ht : ∀ j, t j = left 8192 z p (256 * L + j.val)) (v : ℕ → EReal) (vr : Fin 256 → EReal) (hv : ∀ j, vr j = v (256 * L + j.val)) (a : EReal)
    (ha : a = acc 8192 z v p (256 * (L + 1))) : a + prow zr t vr = acc 8192 z v p (256 * L) := by
  have h := acc_step 8192 (256 * L) 256 (by omega) z v p
  rw [← h, ha, show 256 * (L + 1) = 256 * L + 256 by ring]
  congr 1
  unfold prow
  refine Finset.sum_congr rfl fun i _ => ?_
  rw [hz, ht, hv]; unfold wt; rw [if_pos (by omega)]

/-- The row's own block: the running sums are what is left from each key on. -/
theorem trow_own (z : ℕ → EReal) (p L y : ℕ) (hy : y < 256) (hL : p = 256 * L + y) (hp : 256 * (L + 1) ≤ 8192) (zr : Fin 256 → EReal) (hz : ∀ j, zr j = z (256 * L + j.val)) (j : Fin 256) :
    trowm zr (fun i j => tri i.val j.val) y j = left 8192 z p (256 * L + j.val) := by
  have h := left_step 8192 (256 * L) 256 j.val (by omega) (by omega) z p
  rw [← h, left_past _ _ _ (256 * L + 256) (by omega), add_zero]; unfold trowm
  refine Finset.sum_congr rfl fun i _ => ?_
  rw [hz]; unfold brk
  congr 1
  by_cases hi : i.val < y
  · rw [if_pos hi, if_pos (by omega)]
  · rw [if_neg hi, if_neg (by omega)]

theorem prow_own (z : ℕ → EReal) (p L y : ℕ) (hy : y < 256) (hL : p = 256 * L + y) (hp : 256 * (L + 1) ≤ 8192) (zr t : Fin 256 → EReal) (hz : ∀ j, zr j = z (256 * L + j.val))
    (ht : ∀ j, t j = left 8192 z p (256 * L + j.val)) (v : ℕ → EReal) (vr : Fin 256 → EReal) (hv : ∀ j, vr j = v (256 * L + j.val)) :
    prowm zr t vr y = acc 8192 z v p (256 * L) := by
  have h := acc_step 8192 (256 * L) 256 (by omega) z v p
  rw [← h, acc_past _ _ _ _ (256 * L + 256) (by omega), zero_add]
  unfold prowm
  refine Finset.sum_congr rfl fun i _ => ?_
  rw [hz, ht, hv]; unfold wt
  congr 1
  by_cases hi : i.val < y
  · rw [if_pos hi, if_pos (by omega)]
  · rw [if_neg hi, if_neg (by omega)]

end Cert.Stick

end
-- ==== Proof.V.Tiles.lean ====
/- The nine tiles of the key walk, read at one row and lane. -/
module

public import proofs.«01_k».proof.Proof.Gen.KernelIdeal.Skeleton
public import proofs.«01_k».proof.Proof.V.Steps
public import Idealize.ShloMosaic.Lib.Pointwise
public import Idealize.ShloMosaic.Lib.Claim
public import Idealize.ShloMosaic.PureOps.IdealRules

@[expose] public section

set_option maxRecDepth 16384

noncomputable section

namespace Cert.KernelIdeal.MixerB

open Cert.KernelIdeal Cert.KernelIdeal.Gen
open Idealize.ShloMosaic Idealize.ShloMosaic.TcCoe
open Cert.Stick

theorem k_clamp (b : BitVec 32) : (Named.named (F := Ideal) κ "clamp" b : Ideal .f32) = (⊤ : EReal) := IdealRules.named_const.ideal_named_scalar _ _ _ _ rfl
theorem k_exit (b : BitVec 32) : (Named.named (F := Ideal) κ "exit" b : Ideal .f32) = (⊥ : EReal) := IdealRules.named_const.ideal_named_scalar _ _ _ _ rfl
theorem k_log2e (b : BitVec 32) : (Named.named (F := Ideal) κ "log2e" b : Ideal .f32) = lg := IdealRules.named_const.ideal_named_scalar _ _ _ _ rfl

/-- A sum over 256 lanes as the sums over its halves. -/
theorem lane_split (f : Fin 256 → EReal) :
    (∑ x : Fin 128, f ⟨x.val, by omega⟩) + ∑ x : Fin 128, f ⟨128 + x.val, by omega⟩ = ∑ x, f x := (Fin.sum_univ_add (a := 128) (b := 128) f).symm

/-- What a tile adds to a row's partial sum at one lane. -/
def tacc (q : Fin 128 → EReal) (k : Fin 256 → Fin 128 → EReal) (g : Fin 256 → Fin 256 → EReal) (c : EReal) (v : Fin 256 → EReal) : EReal :=
  prow (zrow q k) (trow (zrow q k) g c) v

/-- The carry a tile leaves for a row. -/
def tcar (q : Fin 128 → EReal) (k : Fin 256 → Fin 128 → EReal) (g : Fin 256 → Fin 256 → EReal) (c : EReal) : EReal := trow (zrow q k) g c 0

theorem near_acc0 (v14 v21 : FVec Ideal S2048x128 .bf16) (v23 : FVec Ideal S256x256 .bf16) (kb vb : Vec Ideal S1x256x128 .bf16) (c0 c1 a : Vec Ideal S1x256x128 .f32)
    (r : Fin 256) (d : Fin 128) (c : EReal) (hc : ∀ d, c0 (ix3 0 r d) = c) :
    k0_pay158 (k0_pay10 v14 v21 v23 kb c0 c1 vb) a (ix3 0 r d)
      = a (ix3 0 r d) + tacc (fun k => v14 (ix2 ⟨r.val, by omega⟩ k)) (fun j k => kb (ix3 0 j k)) (fun i j => v23 (ix2 i j)) c (fun j => vb (ix3 0 j d)) := by
  pointwise [k0_pay158, k0_pay10, k0_pay9, k0_pay8, k_clamp, k_log2e]
  unfold tacc prow; rw [← lane_split]; simp only [hc, min_top_right]; rfl

theorem near_car0 (v14 v21 : FVec Ideal S2048x128 .bf16) (v23 : FVec Ideal S256x256 .bf16) (kb : Vec Ideal S1x256x128 .bf16) (c0 c1 : Vec Ideal S1x256x128 .f32)
    (r : Fin 256) (d : Fin 128) (c : EReal) (hc : ∀ d, c0 (ix3 0 r d) = c) :
    k0_pay159 (k0_pay11 v14 v21 v23 kb c0 c1) (ix3 0 r d) = tcar (fun k => v14 (ix2 ⟨r.val, by omega⟩ k)) (fun j k => kb (ix3 0 j k)) (fun i j => v23 (ix2 i j)) c := by
  pointwise [k0_pay159, k0_pay11, k0_pay9, k0_pay8, k_clamp, k_log2e]
  simp only [hc, min_top_right]; rfl

theorem near_acc1 (v14 v21 : FVec Ideal S2048x128 .bf16) (v23 : FVec Ideal S256x256 .bf16) (kb vb : Vec Ideal S1x256x128 .bf16) (c0 c1 a : Vec Ideal S1x256x128 .f32)
    (r : Fin 256) (d : Fin 128) (c : EReal) (hc : ∀ d, c1 (ix3 0 r d) = c) :
    k0_pay160 (k0_pay10 v14 v21 v23 kb c0 c1 vb) a (ix3 0 r d)
      = a (ix3 0 r d) + tacc (fun k => v21 (ix2 ⟨r.val, by omega⟩ k)) (fun j k => kb (ix3 0 j k)) (fun i j => v23 (ix2 i j)) c (fun j => vb (ix3 0 j d)) := by
  pointwise [k0_pay160, k0_pay10, k0_pay9, k0_pay8, k_clamp, k_log2e]
  unfold tacc prow; rw [← lane_split]; simp only [hc, min_top_right]; rfl

theorem near_car1 (v14 v21 : FVec Ideal S2048x128 .bf16) (v23 : FVec Ideal S256x256 .bf16) (kb : Vec Ideal S1x256x128 .bf16) (c0 c1 : Vec Ideal S1x256x128 .f32)
    (r : Fin 256) (d : Fin 128) (c : EReal) (hc : ∀ d, c1 (ix3 0 r d) = c) :
    k0_pay161 (k0_pay11 v14 v21 v23 kb c0 c1) (ix3 0 r d) = tcar (fun k => v21 (ix2 ⟨r.val, by omega⟩ k)) (fun j k => kb (ix3 0 j k)) (fun i j => v23 (ix2 i j)) c := by
  pointwise [k0_pay161, k0_pay11, k0_pay9, k0_pay8, k_clamp, k_log2e]
  simp only [hc, min_top_right]; rfl

theorem far1792_acc0 (v14 v21 : FVec Ideal S2048x128 .bf16) (v23 : FVec Ideal S256x256 .bf16) (kb vb : Vec Ideal S1x256x128 .bf16) (c0 c1 a : Vec Ideal S1x256x128 .f32)
    (r : Fin 256) (d : Fin 128) (c : EReal) (hc : ∀ d, c0 (ix3 0 r d) = c) :
    k0_pay163 (k0_pay14 v14 v21 v23 kb c0 c1 vb) a (ix3 0 r d)
      = a (ix3 0 r d) + tacc (fun k => v14 (ix2 ⟨1792 + r.val, by omega⟩ k)) (fun j k => kb (ix3 0 j k)) (fun i j => v23 (ix2 i j)) c (fun j => vb (ix3 0 j d)) := by
  pointwise [k0_pay163, k0_pay14, k0_pay13, k0_pay12, k_clamp, k_log2e]
  unfold tacc prow; rw [← lane_split]; simp only [hc, min_top_right]; rfl

theorem far1792_car0 (v14 v21 : FVec Ideal S2048x128 .bf16) (v23 : FVec Ideal S256x256 .bf16) (kb : Vec Ideal S1x256x128 .bf16) (c0 c1 : Vec Ideal S1x256x128 .f32)
    (r : Fin 256) (d : Fin 128) (c : EReal) (hc : ∀ d, c0 (ix3 0 r d) = c) :
    k0_pay164 (k0_pay15 v14 v21 v23 kb c0 c1) (ix3 0 r d) = tcar (fun k => v14 (ix2 ⟨1792 + r.val, by omega⟩ k)) (fun j k => kb (ix3 0 j k)) (fun i j => v23 (ix2 i j)) c := by
  pointwise [k0_pay164, k0_pay15, k0_pay13, k0_pay12, k_clamp, k_log2e]
  simp only [hc, min_top_right]; rfl

theorem far1792_acc1 (v14 v21 : FVec Ideal S2048x128 .bf16) (v23 : FVec Ideal S256x256 .bf16) (kb vb : Vec Ideal S1x256x128 .bf16) (c0 c1 a : Vec Ideal S1x256x128 .f32)
    (r : Fin 256) (d : Fin 128) (c : EReal) (hc : ∀ d, c1 (ix3 0 r d) = c) :
    k0_pay165 (k0_pay14 v14 v21 v23 kb c0 c1 vb) a (ix3 0 r d)
      = a (ix3 0 r d) + tacc (fun k => v21 (ix2 ⟨1792 + r.val, by omega⟩ k)) (fun j k => kb (ix3 0 j k)) (fun i j => v23 (ix2 i j)) c (fun j => vb (ix3 0 j d)) := by
  pointwise [k0_pay165, k0_pay14, k0_pay13, k0_pay12, k_clamp, k_log2e]
  unfold tacc prow; rw [← lane_split]; simp only [hc, min_top_right]; rfl

theorem far1792_car1 (v14 v21 : FVec Ideal S2048x128 .bf16) (v23 : FVec Ideal S256x256 .bf16) (kb : Vec Ideal S1x256x128 .bf16) (c0 c1 : Vec Ideal S1x256x128 .f32)
    (r : Fin 256) (d : Fin 128) (c : EReal) (hc : ∀ d, c1 (ix3 0 r d) = c) :
    k0_pay166 (k0_pay15 v14 v21 v23 kb c0 c1) (ix3 0 r d) = tcar (fun k => v21 (ix2 ⟨1792 + r.val, by omega⟩ k)) (fun j k => kb (ix3 0 j k)) (fun i j => v23 (ix2 i j)) c := by
  pointwise [k0_pay166, k0_pay15, k0_pay13, k0_pay12, k_clamp, k_log2e]
  simp only [hc, min_top_right]; rfl

theorem far1536_acc0 (v14 v21 : FVec Ideal S2048x128 .bf16) (v23 : FVec Ideal S256x256 .bf16) (kb vb : Vec Ideal S1x256x128 .bf16) (c0 c1 a : Vec Ideal S1x512x128 .f32)
    (r : Fin 512) (d : Fin 128) (c : EReal) (hc : ∀ d, c0 (ix3 0 r d) = c) :
    k0_pay168 (k0_pay18 v14 v21 v23 kb c0 c1 vb) a (ix3 0 r d)
      = a (ix3 0 r d) + tacc (fun k => v14 (ix2 ⟨1536 + r.val, by omega⟩ k)) (fun j k => kb (ix3 0 j k)) (fun i j => v23 (ix2 i j)) c (fun j => vb (ix3 0 j d)) := by
  pointwise [k0_pay168, k0_pay18, k0_pay17, k0_pay16, k_clamp, k_log2e]
  unfold tacc prow; rw [← lane_split]; simp only [hc, min_top_right]; rfl

theorem far1536_car0 (v14 v21 : FVec Ideal S2048x128 .bf16) (v23 : FVec Ideal S256x256 .bf16) (kb : Vec Ideal S1x256x128 .bf16) (c0 c1 : Vec Ideal S1x512x128 .f32)
    (r : Fin 512) (d : Fin 128) (c : EReal) (hc : ∀ d, c0 (ix3 0 r d) = c) :
    k0_pay169 (k0_pay19 v14 v21 v23 kb c0 c1) (ix3 0 r d) = tcar (fun k => v14 (ix2 ⟨1536 + r.val, by omega⟩ k)) (fun j k => kb (ix3 0 j k)) (fun i j => v23 (ix2 i j)) c := by
  pointwise [k0_pay169, k0_pay19, k0_pay17, k0_pay16, k_clamp, k_log2e]
  simp only [hc, min_top_right]; rfl

theorem far1536_acc1 (v14 v21 : FVec Ideal S2048x128 .bf16) (v23 : FVec Ideal S256x256 .bf16) (kb vb : Vec Ideal S1x256x128 .bf16) (c0 c1 a : Vec Ideal S1x512x128 .f32)
    (r : Fin 512) (d : Fin 128) (c : EReal) (hc : ∀ d, c1 (ix3 0 r d) = c) :
    k0_pay170 (k0_pay18 v14 v21 v23 kb c0 c1 vb) a (ix3 0 r d)
      = a (ix3 0 r d) + tacc (fun k => v21 (ix2 ⟨1536 + r.val, by omega⟩ k)) (fun j k => kb (ix3 0 j k)) (fun i j => v23 (ix2 i j)) c (fun j => vb (ix3 0 j d)) := by
  pointwise [k0_pay170, k0_pay18, k0_pay17, k0_pay16, k_clamp, k_log2e]
  unfold tacc prow; rw [← lane_split]; simp only [hc, min_top_right]; rfl

theorem far1536_car1 (v14 v21 : FVec Ideal S2048x128 .bf16) (v23 : FVec Ideal S256x256 .bf16) (kb : Vec Ideal S1x256x128 .bf16) (c0 c1 : Vec Ideal S1x512x128 .f32)
    (r : Fin 512) (d : Fin 128) (c : EReal) (hc : ∀ d, c1 (ix3 0 r d) = c) :
    k0_pay171 (k0_pay19 v14 v21 v23 kb c0 c1) (ix3 0 r d) = tcar (fun k => v21 (ix2 ⟨1536 + r.val, by omega⟩ k)) (fun j k => kb (ix3 0 j k)) (fun i j => v23 (ix2 i j)) c := by
  pointwise [k0_pay171, k0_pay19, k0_pay17, k0_pay16, k_clamp, k_log2e]
  simp only [hc, min_top_right]; rfl

theorem far1280_acc0 (v14 v21 : FVec Ideal S2048x128 .bf16) (v23 : FVec Ideal S256x256 .bf16) (kb vb : Vec Ideal S1x256x128 .bf16) (c0 c1 a : Vec Ideal S1x768x128 .f32)
    (r : Fin 768) (d : Fin 128) (c : EReal) (hc : ∀ d, c0 (ix3 0 r d) = c) :
    k0_pay173 (k0_pay22 v14 v21 v23 kb c0 c1 vb) a (ix3 0 r d)
      = a (ix3 0 r d) + tacc (fun k => v14 (ix2 ⟨1280 + r.val, by omega⟩ k)) (fun j k => kb (ix3 0 j k)) (fun i j => v23 (ix2 i j)) c (fun j => vb (ix3 0 j d)) := by
  pointwise [k0_pay173, k0_pay22, k0_pay21, k0_pay20, k_clamp, k_log2e]
  unfold tacc prow; rw [← lane_split]; simp only [hc, min_top_right]; rfl

theorem far1280_car0 (v14 v21 : FVec Ideal S2048x128 .bf16) (v23 : FVec Ideal S256x256 .bf16) (kb : Vec Ideal S1x256x128 .bf16) (c0 c1 : Vec Ideal S1x768x128 .f32)
    (r : Fin 768) (d : Fin 128) (c : EReal) (hc : ∀ d, c0 (ix3 0 r d) = c) :
    k0_pay174 (k0_pay23 v14 v21 v23 kb c0 c1) (ix3 0 r d) = tcar (fun k => v14 (ix2 ⟨1280 + r.val, by omega⟩ k)) (fun j k => kb (ix3 0 j k)) (fun i j => v23 (ix2 i j)) c := by
  pointwise [k0_pay174, k0_pay23, k0_pay21, k0_pay20, k_clamp, k_log2e]
  simp only [hc, min_top_right]; rfl

theorem far1280_acc1 (v14 v21 : FVec Ideal S2048x128 .bf16) (v23 : FVec Ideal S256x256 .bf16) (kb vb : Vec Ideal S1x256x128 .bf16) (c0 c1 a : Vec Ideal S1x768x128 .f32)
    (r : Fin 768) (d : Fin 128) (c : EReal) (hc : ∀ d, c1 (ix3 0 r d) = c) :
    k0_pay175 (k0_pay22 v14 v21 v23 kb c0 c1 vb) a (ix3 0 r d)
      = a (ix3 0 r d) + tacc (fun k => v21 (ix2 ⟨1280 + r.val, by omega⟩ k)) (fun j k => kb (ix3 0 j k)) (fun i j => v23 (ix2 i j)) c (fun j => vb (ix3 0 j d)) := by
  pointwise [k0_pay175, k0_pay22, k0_pay21, k0_pay20, k_clamp, k_log2e]
  unfold tacc prow; rw [← lane_split]; simp only [hc, min_top_right]; rfl

theorem far1280_car1 (v14 v21 : FVec Ideal S2048x128 .bf16) (v23 : FVec Ideal S256x256 .bf16) (kb : Vec Ideal S1x256x128 .bf16) (c0 c1 : Vec Ideal S1x768x128 .f32)
    (r : Fin 768) (d : Fin 128) (c : EReal) (hc : ∀ d, c1 (ix3 0 r d) = c) :
    k0_pay176 (k0_pay23 v14 v21 v23 kb c0 c1) (ix3 0 r d) = tcar (fun k => v21 (ix2 ⟨1280 + r.val, by omega⟩ k)) (fun j k => kb (ix3 0 j k)) (fun i j => v23 (ix2 i j)) c := by
  pointwise [k0_pay176, k0_pay23, k0_pay21, k0_pay20, k_clamp, k_log2e]
  simp only [hc, min_top_right]; rfl

theorem far1024_acc0 (v14 v21 : FVec Ideal S2048x128 .bf16) (v23 : FVec Ideal S256x256 .bf16) (kb vb : Vec Ideal S1x256x128 .bf16) (c0 c1 a : Vec Ideal S1x1024x128 .f32)
    (r : Fin 1024) (d : Fin 128) (c : EReal) (hc : ∀ d, c0 (ix3 0 r d) = c) :
    k0_pay178 (k0_pay26 v14 v21 v23 kb c0 c1 vb) a (ix3 0 r d)
      = a (ix3 0 r d) + tacc (fun k => v14 (ix2 ⟨1024 + r.val, by omega⟩ k)) (fun j k => kb (ix3 0 j k)) (fun i j => v23 (ix2 i j)) c (fun j => vb (ix3 0 j d)) := by
  pointwise [k0_pay178, k0_pay26, k0_pay25, k0_pay24, k_clamp, k_log2e]
  unfold tacc prow; rw [← lane_split]; simp only [hc, min_top_right]; rfl

theorem far1024_car0 (v14 v21 : FVec Ideal S2048x128 .bf16) (v23 : FVec Ideal S256x256 .bf16) (kb : Vec Ideal S1x256x128 .bf16) (c0 c1 : Vec Ideal S1x1024x128 .f32)
    (r : Fin 1024) (d : Fin 128) (c : EReal) (hc : ∀ d, c0 (ix3 0 r d) = c) :
    k0_pay179 (k0_pay27 v14 v21 v23 kb c0 c1) (ix3 0 r d) = tcar (fun k => v14 (ix2 ⟨1024 + r.val, by omega⟩ k)) (fun j k => kb (ix3 0 j k)) (fun i j => v23 (ix2 i j)) c := by
  pointwise [k0_pay179, k0_pay27, k0_pay25, k0_pay24, k_clamp, k_log2e]
  simp only [hc, min_top_right]; rfl

theorem far1024_acc1 (v14 v21 : FVec Ideal S2048x128 .bf16) (v23 : FVec Ideal S256x256 .bf16) (kb vb : Vec Ideal S1x256x128 .bf16) (c0 c1 a : Vec Ideal S1x1024x128 .f32)
    (r : Fin 1024) (d : Fin 128) (c : EReal) (hc : ∀ d, c1 (ix3 0 r d) = c) :
    k0_pay180 (k0_pay26 v14 v21 v23 kb c0 c1 vb) a (ix3 0 r d)
      = a (ix3 0 r d) + tacc (fun k => v21 (ix2 ⟨1024 + r.val, by omega⟩ k)) (fun j k => kb (ix3 0 j k)) (fun i j => v23 (ix2 i j)) c (fun j => vb (ix3 0 j d)) := by
  pointwise [k0_pay180, k0_pay26, k0_pay25, k0_pay24, k_clamp, k_log2e]
  unfold tacc prow; rw [← lane_split]; simp only [hc, min_top_right]; rfl

theorem far1024_car1 (v14 v21 : FVec Ideal S2048x128 .bf16) (v23 : FVec Ideal S256x256 .bf16) (kb : Vec Ideal S1x256x128 .bf16) (c0 c1 : Vec Ideal S1x1024x128 .f32)
    (r : Fin 1024) (d : Fin 128) (c : EReal) (hc : ∀ d, c1 (ix3 0 r d) = c) :
    k0_pay181 (k0_pay27 v14 v21 v23 kb c0 c1) (ix3 0 r d) = tcar (fun k => v21 (ix2 ⟨1024 + r.val, by omega⟩ k)) (fun j k => kb (ix3 0 j k)) (fun i j => v23 (ix2 i j)) c := by
  pointwise [k0_pay181, k0_pay27, k0_pay25, k0_pay24, k_clamp, k_log2e]
  simp only [hc, min_top_right]; rfl

theorem far768_acc0 (v14 v21 : FVec Ideal S2048x128 .bf16) (v23 : FVec Ideal S256x256 .bf16) (kb vb : Vec Ideal S1x256x128 .bf16) (c0 c1 a : Vec Ideal S1x1280x128 .f32)
    (r : Fin 1280) (d : Fin 128) (c : EReal) (hc : ∀ d, c0 (ix3 0 r d) = c) :
    k0_pay183 (k0_pay30 v14 v21 v23 kb c0 c1 vb) a (ix3 0 r d)
      = a (ix3 0 r d) + tacc (fun k => v14 (ix2 ⟨768 + r.val, by omega⟩ k)) (fun j k => kb (ix3 0 j k)) (fun i j => v23 (ix2 i j)) c (fun j => vb (ix3 0 j d)) := by
  pointwise [k0_pay183, k0_pay30, k0_pay29, k0_pay28, k_clamp, k_log2e]
  unfold tacc prow; rw [← lane_split]; simp only [hc, min_top_right]; rfl

theorem far768_car0 (v14 v21 : FVec Ideal S2048x128 .bf16) (v23 : FVec Ideal S256x256 .bf16) (kb : Vec Ideal S1x256x128 .bf16) (c0 c1 : Vec Ideal S1x1280x128 .f32)
    (r : Fin 1280) (d : Fin 128) (c : EReal) (hc : ∀ d, c0 (ix3 0 r d) = c) :
    k0_pay184 (k0_pay31 v14 v21 v23 kb c0 c1) (ix3 0 r d) = tcar (fun k => v14 (ix2 ⟨768 + r.val, by omega⟩ k)) (fun j k => kb (ix3 0 j k)) (fun i j => v23 (ix2 i j)) c := by
  pointwise [k0_pay184, k0_pay31, k0_pay29, k0_pay28, k_clamp, k_log2e]
  simp only [hc, min_top_right]; rfl

theorem far768_acc1 (v14 v21 : FVec Ideal S2048x128 .bf16) (v23 : FVec Ideal S256x256 .bf16) (kb vb : Vec Ideal S1x256x128 .bf16) (c0 c1 a : Vec Ideal S1x1280x128 .f32)
    (r : Fin 1280) (d : Fin 128) (c : EReal) (hc : ∀ d, c1 (ix3 0 r d) = c) :
    k0_pay185 (k0_pay30 v14 v21 v23 kb c0 c1 vb) a (ix3 0 r d)
      = a (ix3 0 r d) + tacc (fun k => v21 (ix2 ⟨768 + r.val, by omega⟩ k)) (fun j k => kb (ix3 0 j k)) (fun i j => v23 (ix2 i j)) c (fun j => vb (ix3 0 j d)) := by
  pointwise [k0_pay185, k0_pay30, k0_pay29, k0_pay28, k_clamp, k_log2e]
  unfold tacc prow; rw [← lane_split]; simp only [hc, min_top_right]; rfl

theorem far768_car1 (v14 v21 : FVec Ideal S2048x128 .bf16) (v23 : FVec Ideal S256x256 .bf16) (kb : Vec Ideal S1x256x128 .bf16) (c0 c1 : Vec Ideal S1x1280x128 .f32)
    (r : Fin 1280) (d : Fin 128) (c : EReal) (hc : ∀ d, c1 (ix3 0 r d) = c) :
    k0_pay186 (k0_pay31 v14 v21 v23 kb c0 c1) (ix3 0 r d) = tcar (fun k => v21 (ix2 ⟨768 + r.val, by omega⟩ k)) (fun j k => kb (ix3 0 j k)) (fun i j => v23 (ix2 i j)) c := by
  pointwise [k0_pay186, k0_pay31, k0_pay29, k0_pay28, k_clamp, k_log2e]
  simp only [hc, min_top_right]; rfl

theorem far512_acc0 (v14 v21 : FVec Ideal S2048x128 .bf16) (v23 : FVec Ideal S256x256 .bf16) (kb vb : Vec Ideal S1x256x128 .bf16) (c0 c1 a : Vec Ideal S1x1536x128 .f32)
    (r : Fin 1536) (d : Fin 128) (c : EReal) (hc : ∀ d, c0 (ix3 0 r d) = c) :
    k0_pay188 (k0_pay34 v14 v21 v23 kb c0 c1 vb) a (ix3 0 r d)
      = a (ix3 0 r d) + tacc (fun k => v14 (ix2 ⟨512 + r.val, by omega⟩ k)) (fun j k => kb (ix3 0 j k)) (fun i j => v23 (ix2 i j)) c (fun j => vb (ix3 0 j d)) := by
  pointwise [k0_pay188, k0_pay34, k0_pay33, k0_pay32, k_clamp, k_log2e]
  unfold tacc prow; rw [← lane_split]; simp only [hc, min_top_right]; rfl

theorem far512_car0 (v14 v21 : FVec Ideal S2048x128 .bf16) (v23 : FVec Ideal S256x256 .bf16) (kb : Vec Ideal S1x256x128 .bf16) (c0 c1 : Vec Ideal S1x1536x128 .f32)
    (r : Fin 1536) (d : Fin 128) (c : EReal) (hc : ∀ d, c0 (ix3 0 r d) = c) :
    k0_pay189 (k0_pay35 v14 v21 v23 kb c0 c1) (ix3 0 r d) = tcar (fun k => v14 (ix2 ⟨512 + r.val, by omega⟩ k)) (fun j k => kb (ix3 0 j k)) (fun i j => v23 (ix2 i j)) c := by
  pointwise [k0_pay189, k0_pay35, k0_pay33, k0_pay32, k_clamp, k_log2e]
  simp only [hc, min_top_right]; rfl

theorem far512_acc1 (v14 v21 : FVec Ideal S2048x128 .bf16) (v23 : FVec Ideal S256x256 .bf16) (kb vb : Vec Ideal S1x256x128 .bf16) (c0 c1 a : Vec Ideal S1x1536x128 .f32)
    (r : Fin 1536) (d : Fin 128) (c : EReal) (hc : ∀ d, c1 (ix3 0 r d) = c) :
    k0_pay190 (k0_pay34 v14 v21 v23 kb c0 c1 vb) a (ix3 0 r d)
      = a (ix3 0 r d) + tacc (fun k => v21 (ix2 ⟨512 + r.val, by omega⟩ k)) (fun j k => kb (ix3 0 j k)) (fun i j => v23 (ix2 i j)) c (fun j => vb (ix3 0 j d)) := by
  pointwise [k0_pay190, k0_pay34, k0_pay33, k0_pay32, k_clamp, k_log2e]
  unfold tacc prow; rw [← lane_split]; simp only [hc, min_top_right]; rfl

theorem far512_car1 (v14 v21 : FVec Ideal S2048x128 .bf16) (v23 : FVec Ideal S256x256 .bf16) (kb : Vec Ideal S1x256x128 .bf16) (c0 c1 : Vec Ideal S1x1536x128 .f32)
    (r : Fin 1536) (d : Fin 128) (c : EReal) (hc : ∀ d, c1 (ix3 0 r d) = c) :
    k0_pay191 (k0_pay35 v14 v21 v23 kb c0 c1) (ix3 0 r d) = tcar (fun k => v21 (ix2 ⟨512 + r.val, by omega⟩ k)) (fun j k => kb (ix3 0 j k)) (fun i j => v23 (ix2 i j)) c := by
  pointwise [k0_pay191, k0_pay35, k0_pay33, k0_pay32, k_clamp, k_log2e]
  simp only [hc, min_top_right]; rfl

theorem far256_acc0 (v14 v21 : FVec Ideal S2048x128 .bf16) (v23 : FVec Ideal S256x256 .bf16) (kb vb : Vec Ideal S1x256x128 .bf16) (c0 c1 a : Vec Ideal S1x1792x128 .f32)
    (r : Fin 1792) (d : Fin 128) (c : EReal) (hc : ∀ d, c0 (ix3 0 r d) = c) :
    k0_pay194 (k0_pay38 v14 v21 v23 kb c0 c1 vb) a (ix3 0 r d)
      = a (ix3 0 r d) + tacc (fun k => v14 (ix2 ⟨256 + r.val, by omega⟩ k)) (fun j k => kb (ix3 0 j k)) (fun i j => v23 (ix2 i j)) c (fun j => vb (ix3 0 j d)) := by
  pointwise [k0_pay194, k0_pay38, k0_pay37, k0_pay36, k_clamp, k_log2e]
  unfold tacc prow; rw [← lane_split]; simp only [hc, min_top_right]; rfl

theorem far256_car0 (v14 v21 : FVec Ideal S2048x128 .bf16) (v23 : FVec Ideal S256x256 .bf16) (kb : Vec Ideal S1x256x128 .bf16) (c0 c1 : Vec Ideal S1x1792x128 .f32)
    (r : Fin 1792) (d : Fin 128) (c : EReal) (hc : ∀ d, c0 (ix3 0 r d) = c) :
    k0_pay195 (k0_pay39 v14 v21 v23 kb c0 c1) (ix3 0 r d) = tcar (fun k => v14 (ix2 ⟨256 + r.val, by omega⟩ k)) (fun j k => kb (ix3 0 j k)) (fun i j => v23 (ix2 i j)) c := by
  pointwise [k0_pay195, k0_pay39, k0_pay37, k0_pay36, k_clamp, k_log2e]
  simp only [hc, min_top_right]; rfl

theorem far256_acc1 (v14 v21 : FVec Ideal S2048x128 .bf16) (v23 : FVec Ideal S256x256 .bf16) (kb vb : Vec Ideal S1x256x128 .bf16) (c0 c1 a : Vec Ideal S1x1792x128 .f32)
    (r : Fin 1792) (d : Fin 128) (c : EReal) (hc : ∀ d, c1 (ix3 0 r d) = c) :
    k0_pay196 (k0_pay38 v14 v21 v23 kb c0 c1 vb) a (ix3 0 r d)
      = a (ix3 0 r d) + tacc (fun k => v21 (ix2 ⟨256 + r.val, by omega⟩ k)) (fun j k => kb (ix3 0 j k)) (fun i j => v23 (ix2 i j)) c (fun j => vb (ix3 0 j d)) := by
  pointwise [k0_pay196, k0_pay38, k0_pay37, k0_pay36, k_clamp, k_log2e]
  unfold tacc prow; rw [← lane_split]; simp only [hc, min_top_right]; rfl

theorem far256_car1 (v14 v21 : FVec Ideal S2048x128 .bf16) (v23 : FVec Ideal S256x256 .bf16) (kb : Vec Ideal S1x256x128 .bf16) (c0 c1 : Vec Ideal S1x1792x128 .f32)
    (r : Fin 1792) (d : Fin 128) (c : EReal) (hc : ∀ d, c1 (ix3 0 r d) = c) :
    k0_pay197 (k0_pay39 v14 v21 v23 kb c0 c1) (ix3 0 r d) = tcar (fun k => v21 (ix2 ⟨256 + r.val, by omega⟩ k)) (fun j k => kb (ix3 0 j k)) (fun i j => v23 (ix2 i j)) c := by
  pointwise [k0_pay197, k0_pay39, k0_pay37, k0_pay36, k_clamp, k_log2e]
  simp only [hc, min_top_right]; rfl

theorem loop_acc0 (v14 v21 : FVec Ideal S2048x128 .bf16) (v23 : FVec Ideal S256x256 .bf16) (kb vb : Vec Ideal S1x256x128 .bf16) (c0 c1 a : Vec Ideal S1x2048x128 .f32)
    (r : Fin 2048) (d : Fin 128) (c : EReal) (hc : ∀ d, c0 (ix3 0 r d) = c) :
    k0_pay3 (k0_pay202 v14 v21 v23 kb c0 c1 vb) a (ix3 0 r d)
      = a (ix3 0 r d) + tacc (fun k => v14 (ix2 r k)) (fun j k => kb (ix3 0 j k)) (fun i j => v23 (ix2 i j)) c (fun j => vb (ix3 0 j d)) := by
  pointwise [k0_pay3, k0_pay202, k0_pay201, k0_pay200, k_clamp, k_log2e]
  unfold tacc prow; rw [← lane_split]; simp only [hc, min_top_right]; rfl

theorem loop_car0 (v14 v21 : FVec Ideal S2048x128 .bf16) (v23 : FVec Ideal S256x256 .bf16) (kb : Vec Ideal S1x256x128 .bf16) (c0 c1 : Vec Ideal S1x2048x128 .f32)
    (r : Fin 2048) (d : Fin 128) (c : EReal) (hc : ∀ d, c0 (ix3 0 r d) = c) :
    k0_pay4 (k0_pay203 v14 v21 v23 kb c0 c1) (ix3 0 r d) = tcar (fun k => v14 (ix2 r k)) (fun j k => kb (ix3 0 j k)) (fun i j => v23 (ix2 i j)) c := by
  pointwise [k0_pay4, k0_pay2, k0_pay203, k0_pay201, k0_pay200, k_clamp, k_log2e]
  simp only [hc, min_top_right]; rfl

theorem loop_acc1 (v14 v21 : FVec Ideal S2048x128 .bf16) (v23 : FVec Ideal S256x256 .bf16) (kb vb : Vec Ideal S1x256x128 .bf16) (c0 c1 a : Vec Ideal S1x2048x128 .f32)
    (r : Fin 2048) (d : Fin 128) (c : EReal) (hc : ∀ d, c1 (ix3 0 r d) = c) :
    k0_pay5 (k0_pay202 v14 v21 v23 kb c0 c1 vb) a (ix3 0 r d)
      = a (ix3 0 r d) + tacc (fun k => v21 (ix2 r k)) (fun j k => kb (ix3 0 j k)) (fun i j => v23 (ix2 i j)) c (fun j => vb (ix3 0 j d)) := by
  pointwise [k0_pay5, k0_pay202, k0_pay201, k0_pay200, k_clamp, k_log2e]
  unfold tacc prow; rw [← lane_split]; simp only [hc, min_top_right]; rfl

theorem loop_car1 (v14 v21 : FVec Ideal S2048x128 .bf16) (v23 : FVec Ideal S256x256 .bf16) (kb : Vec Ideal S1x256x128 .bf16) (c0 c1 : Vec Ideal S1x2048x128 .f32)
    (r : Fin 2048) (d : Fin 128) (c : EReal) (hc : ∀ d, c1 (ix3 0 r d) = c) :
    k0_pay6 (k0_pay203 v14 v21 v23 kb c0 c1) (ix3 0 r d) = tcar (fun k => v21 (ix2 r k)) (fun j k => kb (ix3 0 j k)) (fun i j => v23 (ix2 i j)) c := by
  pointwise [k0_pay6, k0_pay2, k0_pay203, k0_pay201, k0_pay200, k_clamp, k_log2e]
  simp only [hc, min_top_right]; rfl

end Cert.KernelIdeal.MixerB

end
-- ==== Proof.V.Diag.lean ====
/- The eight blocks of a query block against their own keys and the block before, read at one row and lane. -/
module

public import proofs.«01_k».proof.Proof.Gen.KernelIdeal.Skeleton
public import proofs.«01_k».proof.Proof.V.Tiles
public import Idealize.ShloMosaic.Lib.Pointwise
public import Idealize.ShloMosaic.Lib.Claim
public import Idealize.ShloMosaic.PureOps.IdealRules

@[expose] public section

set_option maxRecDepth 16384

noncomputable section

namespace Cert.KernelIdeal.MixerB

open Cert.KernelIdeal Cert.KernelIdeal.Gen
open Idealize.ShloMosaic Idealize.ShloMosaic.TcCoe
open Cert.Stick

theorem mask_words : ∀ a : Fin 512, ∀ b : Fin 256, IntOp.cmpi CmpIPredicate.slt (BitVec.ofNat 32 b.val) (IntOp.andi (BitVec.ofNat 32 a.val) 255#32) = if b.val < a.val % 256 then 1#1 else 0#1 := by
  intro a b
  have ha : (IntOp.andi (BitVec.ofNat 32 a.val) 255#32 : BitVec 32) = BitVec.ofNat 32 (a.val % 256) := by
    revert a; decide +kernel
  rw [ha]
  have h : ∀ p q : Fin 256, IntOp.cmpi CmpIPredicate.slt (BitVec.ofNat 32 p.val) (BitVec.ofNat 32 q.val) = if p.val < q.val then 1#1 else 0#1 := by decide +kernel
  exact h b ⟨a.val % 256, Nat.mod_lt _ (by norm_num)⟩

/-- The causal mask of a block against its own keys. -/
theorem mask_eq (a : Fin 512) (b : Fin 256) : (k0_pay44 (ix2 a b)) = if b.val < a.val % 256 then 1#1 else 0#1 := by
  pointwise [k0_pay44]
  exact mask_words a b

theorem select_ite {α : Type} (p : Prop) [Decidable p] (a b : α) : Scalar.select (if p then 1#1 else 0#1) a b = if p then a else b := by
  by_cases h : p <;> simp [h, Scalar.select]

def d33 (x : Vec Ideal S1x2048x128 .f32) (g : FVec Ideal S256x256 .bf16) (kb vb : Fin 8 → Vec Ideal S1x256x128 .bf16) : FVec Ideal S1024x128 .bf16 := k0_pay45 x
def d38 (x : Vec Ideal S1x2048x128 .f32) (g : FVec Ideal S256x256 .bf16) (kb vb : Fin 8 → Vec Ideal S1x256x128 .bf16) : FVec Ideal S256x128 .bf16 := k0_pay46 (kb 0)
def d39 (x : Vec Ideal S1x2048x128 .f32) (g : FVec Ideal S256x256 .bf16) (kb vb : Fin 8 → Vec Ideal S1x256x128 .bf16) : FVec Ideal S1024x256 .f32 := k0_pay47 (d33 x g kb vb) (d38 x g kb vb) (constant S1024x256 .f32 0x00000000#32)
def d55 (x : Vec Ideal S1x2048x128 .f32) (g : FVec Ideal S256x256 .bf16) (kb vb : Fin 8 → Vec Ideal S1x256x128 .bf16) : FVec Ideal S1024x256 .f32 := k0_pay48 g k0_pay44 (d33 x g kb vb) (d38 x g kb vb) (constant S1024x256 .f32 0x00000000#32)
def d66 (x : Vec Ideal S1x2048x128 .f32) (g : FVec Ideal S256x256 .bf16) (kb vb : Fin 8 → Vec Ideal S1x256x128 .bf16) : FVec Ideal S1024x256 .f32 := k0_pay49 (k0_pay41 x) (k0_pay42 x) (kb 1)
def d82 (x : Vec Ideal S1x2048x128 .f32) (g : FVec Ideal S256x256 .bf16) (kb vb : Fin 8 → Vec Ideal S1x256x128 .bf16) : FVec Ideal S1024x256 .f32 := k0_pay50 (k0_pay41 x) (k0_pay42 x) g k0_pay44 (kb 1)
def d83 (x : Vec Ideal S1x2048x128 .f32) (g : FVec Ideal S256x256 .bf16) (kb vb : Fin 8 → Vec Ideal S1x256x128 .bf16) : FVec Ideal S256x128 .bf16 := k0_pay51 (k0_pay41 x)
def d84 (x : Vec Ideal S1x2048x128 .f32) (g : FVec Ideal S256x256 .bf16) (kb vb : Fin 8 → Vec Ideal S1x256x128 .bf16) : FVec Ideal S256x128 .bf16 := k0_pay52 (k0_pay42 x)
def d93 (x : Vec Ideal S1x2048x128 .f32) (g : FVec Ideal S256x256 .bf16) (kb vb : Fin 8 → Vec Ideal S1x256x128 .bf16) : FVec Ideal S1024x256 .f32 := k0_pay53 (k0_pay41 x) (k0_pay42 x) (d83 x g kb vb) (d84 x g kb vb) (kb 2)
def d109 (x : Vec Ideal S1x2048x128 .f32) (g : FVec Ideal S256x256 .bf16) (kb vb : Fin 8 → Vec Ideal S1x256x128 .bf16) : FVec Ideal S1024x256 .f32 := k0_pay54 (k0_pay41 x) (k0_pay42 x) g k0_pay44 (d83 x g kb vb) (d84 x g kb vb) (kb 2)
def d120 (x : Vec Ideal S1x2048x128 .f32) (g : FVec Ideal S256x256 .bf16) (kb vb : Fin 8 → Vec Ideal S1x256x128 .bf16) : FVec Ideal S1024x256 .f32 := k0_pay55 (k0_pay41 x) (k0_pay42 x) (kb 3)
def d128 (x : Vec Ideal S1x2048x128 .f32) (g : FVec Ideal S256x256 .bf16) (kb vb : Fin 8 → Vec Ideal S1x256x128 .bf16) : FVec Ideal S1024x256 .f32 := k0_pay56 (k0_pay41 x) (k0_pay42 x) (kb 3)
def d136 (x : Vec Ideal S1x2048x128 .f32) (g : FVec Ideal S256x256 .bf16) (kb vb : Fin 8 → Vec Ideal S1x256x128 .bf16) : FVec Ideal S1024x256 .f32 := k0_pay57 g k0_pay44 (d120 x g kb vb) (d128 x g kb vb)
def d147 (x : Vec Ideal S1x2048x128 .f32) (g : FVec Ideal S256x256 .bf16) (kb vb : Fin 8 → Vec Ideal S1x256x128 .bf16) : FVec Ideal S1024x256 .f32 := k0_pay58 (k0_pay41 x) (k0_pay42 x) (kb 4)
def d163 (x : Vec Ideal S1x2048x128 .f32) (g : FVec Ideal S256x256 .bf16) (kb vb : Fin 8 → Vec Ideal S1x256x128 .bf16) : FVec Ideal S1024x256 .f32 := k0_pay59 (k0_pay41 x) (k0_pay42 x) g k0_pay44 (kb 4)
def d168 (x : Vec Ideal S1x2048x128 .f32) (g : FVec Ideal S256x256 .bf16) (kb vb : Fin 8 → Vec Ideal S1x256x128 .bf16) : FVec Ideal S1024x128 .bf16 := k0_pay60 (k0_pay41 x) (k0_pay42 x)
def d173 (x : Vec Ideal S1x2048x128 .f32) (g : FVec Ideal S256x256 .bf16) (kb vb : Fin 8 → Vec Ideal S1x256x128 .bf16) : FVec Ideal S256x128 .bf16 := k0_pay61 (kb 5)
def d174 (x : Vec Ideal S1x2048x128 .f32) (g : FVec Ideal S256x256 .bf16) (kb vb : Fin 8 → Vec Ideal S1x256x128 .bf16) : FVec Ideal S1024x256 .f32 := k0_pay62 (d168 x g kb vb) (d173 x g kb vb) (constant S1024x256 .f32 0x00000000#32)
def d190 (x : Vec Ideal S1x2048x128 .f32) (g : FVec Ideal S256x256 .bf16) (kb vb : Fin 8 → Vec Ideal S1x256x128 .bf16) : FVec Ideal S1024x256 .f32 := k0_pay63 g k0_pay44 (d168 x g kb vb) (d173 x g kb vb) (constant S1024x256 .f32 0x00000000#32)
def d201 (x : Vec Ideal S1x2048x128 .f32) (g : FVec Ideal S256x256 .bf16) (kb vb : Fin 8 → Vec Ideal S1x256x128 .bf16) : FVec Ideal S1024x256 .f32 := k0_pay64 (k0_pay41 x) (k0_pay42 x) (kb 6)
def d217 (x : Vec Ideal S1x2048x128 .f32) (g : FVec Ideal S256x256 .bf16) (kb vb : Fin 8 → Vec Ideal S1x256x128 .bf16) : FVec Ideal S1024x256 .f32 := k0_pay65 (k0_pay41 x) (k0_pay42 x) g k0_pay44 (kb 6)
def d218 (x : Vec Ideal S1x2048x128 .f32) (g : FVec Ideal S256x256 .bf16) (kb vb : Fin 8 → Vec Ideal S1x256x128 .bf16) : FVec Ideal S256x128 .bf16 := k0_pay66 (k0_pay41 x)
def d219 (x : Vec Ideal S1x2048x128 .f32) (g : FVec Ideal S256x256 .bf16) (kb vb : Fin 8 → Vec Ideal S1x256x128 .bf16) : FVec Ideal S256x128 .bf16 := k0_pay67 (k0_pay42 x)
def d226 (x : Vec Ideal S1x2048x128 .f32) (g : FVec Ideal S256x256 .bf16) (kb vb : Fin 8 → Vec Ideal S1x256x128 .bf16) : FVec Ideal S512x256 .f32 := k0_pay68 (d218 x g kb vb) (d219 x g kb vb) (kb 7)
def d239 (x : Vec Ideal S1x2048x128 .f32) (g : FVec Ideal S256x256 .bf16) (kb vb : Fin 8 → Vec Ideal S1x256x128 .bf16) : FVec Ideal S512x256 .f32 := k0_pay69 g k0_pay44 (d218 x g kb vb) (d219 x g kb vb) (kb 7)
def d240 (x : Vec Ideal S1x2048x128 .f32) (g : FVec Ideal S256x256 .bf16) (kb vb : Fin 8 → Vec Ideal S1x256x128 .bf16) : FVec Ideal S512x256 .f32 := k0_pay70 (d55 x g kb vb)
def d243 (x : Vec Ideal S1x2048x128 .f32) (g : FVec Ideal S256x256 .bf16) (kb vb : Fin 8 → Vec Ideal S1x256x128 .bf16) : FVec Ideal S512x128 .f32 := k0_pay71 (d55 x g kb vb)
def d244 (x : Vec Ideal S1x2048x128 .f32) (g : FVec Ideal S256x256 .bf16) (kb vb : Fin 8 → Vec Ideal S1x256x128 .bf16) : FVec Ideal S512x256 .f32 := k0_pay72 (d82 x g kb vb)
def d250 (x : Vec Ideal S1x2048x128 .f32) (g : FVec Ideal S256x256 .bf16) (kb vb : Fin 8 → Vec Ideal S1x256x128 .bf16) : FVec Ideal S512x256 .f32 := k0_pay73 (d55 x g kb vb) (d82 x g kb vb)
def d253 (x : Vec Ideal S1x2048x128 .f32) (g : FVec Ideal S256x256 .bf16) (kb vb : Fin 8 → Vec Ideal S1x256x128 .bf16) : FVec Ideal S512x128 .f32 := k0_pay74 (d55 x g kb vb) (d82 x g kb vb)
def d254 (x : Vec Ideal S1x2048x128 .f32) (g : FVec Ideal S256x256 .bf16) (kb vb : Fin 8 → Vec Ideal S1x256x128 .bf16) : FVec Ideal S512x256 .f32 := k0_pay75 (d109 x g kb vb)
def d260 (x : Vec Ideal S1x2048x128 .f32) (g : FVec Ideal S256x256 .bf16) (kb vb : Fin 8 → Vec Ideal S1x256x128 .bf16) : FVec Ideal S512x256 .f32 := k0_pay76 (d82 x g kb vb) (d109 x g kb vb)
def d263 (x : Vec Ideal S1x2048x128 .f32) (g : FVec Ideal S256x256 .bf16) (kb vb : Fin 8 → Vec Ideal S1x256x128 .bf16) : FVec Ideal S512x128 .f32 := k0_pay77 (d82 x g kb vb) (d109 x g kb vb)
def d264 (x : Vec Ideal S1x2048x128 .f32) (g : FVec Ideal S256x256 .bf16) (kb vb : Fin 8 → Vec Ideal S1x256x128 .bf16) : FVec Ideal S512x256 .f32 := k0_pay78 (d136 x g kb vb)
def d270 (x : Vec Ideal S1x2048x128 .f32) (g : FVec Ideal S256x256 .bf16) (kb vb : Fin 8 → Vec Ideal S1x256x128 .bf16) : FVec Ideal S512x256 .f32 := k0_pay79 (d109 x g kb vb) (d136 x g kb vb)
def d273 (x : Vec Ideal S1x2048x128 .f32) (g : FVec Ideal S256x256 .bf16) (kb vb : Fin 8 → Vec Ideal S1x256x128 .bf16) : FVec Ideal S512x128 .f32 := k0_pay80 (d270 x g kb vb)
def d274 (x : Vec Ideal S1x2048x128 .f32) (g : FVec Ideal S256x256 .bf16) (kb vb : Fin 8 → Vec Ideal S1x256x128 .bf16) : FVec Ideal S512x256 .f32 := k0_pay81 (d163 x g kb vb)
def d280 (x : Vec Ideal S1x2048x128 .f32) (g : FVec Ideal S256x256 .bf16) (kb vb : Fin 8 → Vec Ideal S1x256x128 .bf16) : FVec Ideal S512x256 .f32 := k0_pay82 (d136 x g kb vb) (d163 x g kb vb)
def d283 (x : Vec Ideal S1x2048x128 .f32) (g : FVec Ideal S256x256 .bf16) (kb vb : Fin 8 → Vec Ideal S1x256x128 .bf16) : FVec Ideal S512x128 .f32 := k0_pay83 (d136 x g kb vb) (d163 x g kb vb)
def d284 (x : Vec Ideal S1x2048x128 .f32) (g : FVec Ideal S256x256 .bf16) (kb vb : Fin 8 → Vec Ideal S1x256x128 .bf16) : FVec Ideal S512x256 .f32 := k0_pay84 (d190 x g kb vb)
def d290 (x : Vec Ideal S1x2048x128 .f32) (g : FVec Ideal S256x256 .bf16) (kb vb : Fin 8 → Vec Ideal S1x256x128 .bf16) : FVec Ideal S512x256 .f32 := k0_pay85 (d163 x g kb vb) (d190 x g kb vb)
def d293 (x : Vec Ideal S1x2048x128 .f32) (g : FVec Ideal S256x256 .bf16) (kb vb : Fin 8 → Vec Ideal S1x256x128 .bf16) : FVec Ideal S512x128 .f32 := k0_pay86 (d163 x g kb vb) (d190 x g kb vb)
def d294 (x : Vec Ideal S1x2048x128 .f32) (g : FVec Ideal S256x256 .bf16) (kb vb : Fin 8 → Vec Ideal S1x256x128 .bf16) : FVec Ideal S512x256 .f32 := k0_pay87 (d217 x g kb vb)
def d300 (x : Vec Ideal S1x2048x128 .f32) (g : FVec Ideal S256x256 .bf16) (kb vb : Fin 8 → Vec Ideal S1x256x128 .bf16) : FVec Ideal S512x256 .f32 := k0_pay88 (d190 x g kb vb) (d217 x g kb vb)
def d303 (x : Vec Ideal S1x2048x128 .f32) (g : FVec Ideal S256x256 .bf16) (kb vb : Fin 8 → Vec Ideal S1x256x128 .bf16) : FVec Ideal S512x128 .f32 := k0_pay89 (d190 x g kb vb) (d217 x g kb vb)
def d309 (x : Vec Ideal S1x2048x128 .f32) (g : FVec Ideal S256x256 .bf16) (kb vb : Fin 8 → Vec Ideal S1x256x128 .bf16) : FVec Ideal S512x256 .f32 := k0_pay90 (d217 x g kb vb) (d239 x g kb vb)
def d312 (x : Vec Ideal S1x2048x128 .f32) (g : FVec Ideal S256x256 .bf16) (kb vb : Fin 8 → Vec Ideal S1x256x128 .bf16) : FVec Ideal S512x128 .f32 := k0_pay91 (d217 x g kb vb) (d239 x g kb vb)
def d321 (x : Vec Ideal S1x2048x128 .f32) (g : FVec Ideal S256x256 .bf16) (kb vb : Fin 8 → Vec Ideal S1x256x128 .bf16) : FVec Ideal S1024x256 .bf16 := k0_pay92 k0_pay44 (d39 x g kb vb) (d240 x g kb vb) (d250 x g kb vb)
def d326 (x : Vec Ideal S1x2048x128 .f32) (g : FVec Ideal S256x256 .bf16) (kb vb : Fin 8 → Vec Ideal S1x256x128 .bf16) : FVec Ideal S256x128 .bf16 := k0_pay93 (vb 0)
def d327 (x : Vec Ideal S1x2048x128 .f32) (g : FVec Ideal S256x256 .bf16) (kb vb : Fin 8 → Vec Ideal S1x256x128 .bf16) : FVec Ideal S1024x128 .f32 := k0_pay94 (d321 x g kb vb) (d326 x g kb vb)
def d342 (x : Vec Ideal S1x2048x128 .f32) (g : FVec Ideal S256x256 .bf16) (kb vb : Fin 8 → Vec Ideal S1x256x128 .bf16) : FVec Ideal S1024x128 .f32 := k0_pay95 k0_pay44 (d66 x g kb vb) (d244 x g kb vb) (d260 x g kb vb) (vb 1)
def d357 (x : Vec Ideal S1x2048x128 .f32) (g : FVec Ideal S256x256 .bf16) (kb vb : Fin 8 → Vec Ideal S1x256x128 .bf16) : FVec Ideal S1024x128 .f32 := k0_pay96 k0_pay44 (d93 x g kb vb) (d254 x g kb vb) (d270 x g kb vb) (vb 2)
def d366 (x : Vec Ideal S1x2048x128 .f32) (g : FVec Ideal S256x256 .bf16) (kb vb : Fin 8 → Vec Ideal S1x256x128 .bf16) : FVec Ideal S1024x256 .bf16 := k0_pay97 k0_pay44 (d120 x g kb vb) (d264 x g kb vb) (d280 x g kb vb)
def d371 (x : Vec Ideal S1x2048x128 .f32) (g : FVec Ideal S256x256 .bf16) (kb vb : Fin 8 → Vec Ideal S1x256x128 .bf16) : FVec Ideal S256x128 .bf16 := k0_pay98 (vb 3)
def d372 (x : Vec Ideal S1x2048x128 .f32) (g : FVec Ideal S256x256 .bf16) (kb vb : Fin 8 → Vec Ideal S1x256x128 .bf16) : FVec Ideal S1024x128 .f32 := k0_pay99 (d366 x g kb vb) (d371 x g kb vb)
def d387 (x : Vec Ideal S1x2048x128 .f32) (g : FVec Ideal S256x256 .bf16) (kb vb : Fin 8 → Vec Ideal S1x256x128 .bf16) : FVec Ideal S1024x128 .f32 := k0_pay100 k0_pay44 (d147 x g kb vb) (d274 x g kb vb) (d290 x g kb vb) (vb 4)
def d402 (x : Vec Ideal S1x2048x128 .f32) (g : FVec Ideal S256x256 .bf16) (kb vb : Fin 8 → Vec Ideal S1x256x128 .bf16) : FVec Ideal S1024x128 .f32 := k0_pay101 k0_pay44 (d174 x g kb vb) (d284 x g kb vb) (d300 x g kb vb) (vb 5)
def d411 (x : Vec Ideal S1x2048x128 .f32) (g : FVec Ideal S256x256 .bf16) (kb vb : Fin 8 → Vec Ideal S1x256x128 .bf16) : FVec Ideal S1024x256 .bf16 := k0_pay102 k0_pay44 (d201 x g kb vb) (d294 x g kb vb) (d309 x g kb vb)
def d416 (x : Vec Ideal S1x2048x128 .f32) (g : FVec Ideal S256x256 .bf16) (kb vb : Fin 8 → Vec Ideal S1x256x128 .bf16) : FVec Ideal S256x128 .bf16 := k0_pay103 (vb 6)
def d417 (x : Vec Ideal S1x2048x128 .f32) (g : FVec Ideal S256x256 .bf16) (kb vb : Fin 8 → Vec Ideal S1x256x128 .bf16) : FVec Ideal S1024x128 .f32 := k0_pay104 (d411 x g kb vb) (d416 x g kb vb)
def d428 (x : Vec Ideal S1x2048x128 .f32) (g : FVec Ideal S256x256 .bf16) (kb vb : Fin 8 → Vec Ideal S1x256x128 .bf16) : FVec Ideal S512x128 .f32 := k0_pay105 k0_pay44 (d226 x g kb vb) (d239 x g kb vb) (vb 7)
def d429 (x : Vec Ideal S1x2048x128 .f32) (g : FVec Ideal S256x256 .bf16) (kb vb : Fin 8 → Vec Ideal S1x256x128 .bf16) : FVec Ideal S512x128 .f32 := k0_pay106 (d327 x g kb vb)
def d433 (x : Vec Ideal S1x2048x128 .f32) (g : FVec Ideal S256x256 .bf16) (kb vb : Fin 8 → Vec Ideal S1x256x128 .bf16) : FVec Ideal S1x256x128 .f32 := k0_pay107 (d327 x g kb vb)
def d437 (x : Vec Ideal S1x2048x128 .f32) (g : FVec Ideal S256x256 .bf16) (kb vb : Fin 8 → Vec Ideal S1x256x128 .bf16) : FVec Ideal S1x256x128 .f32 := k0_pay108 (d243 x g kb vb)
def d441 (x : Vec Ideal S1x2048x128 .f32) (g : FVec Ideal S256x256 .bf16) (kb vb : Fin 8 → Vec Ideal S1x256x128 .bf16) : FVec Ideal S1x256x128 .f32 := k0_pay109 (d327 x g kb vb)
def d445 (x : Vec Ideal S1x2048x128 .f32) (g : FVec Ideal S256x256 .bf16) (kb vb : Fin 8 → Vec Ideal S1x256x128 .bf16) : FVec Ideal S1x256x128 .f32 := k0_pay110 (d243 x g kb vb)
def d448 (x : Vec Ideal S1x2048x128 .f32) (g : FVec Ideal S256x256 .bf16) (kb vb : Fin 8 → Vec Ideal S1x256x128 .bf16) : FVec Ideal S512x128 .f32 := k0_pay111 (d327 x g kb vb) (d342 x g kb vb)
def d449 (x : Vec Ideal S1x2048x128 .f32) (g : FVec Ideal S256x256 .bf16) (kb vb : Fin 8 → Vec Ideal S1x256x128 .bf16) : FVec Ideal S256x128 .f32 := k0_pay112 (d327 x g kb vb) (d342 x g kb vb)
def d452 (x : Vec Ideal S1x2048x128 .f32) (g : FVec Ideal S256x256 .bf16) (kb vb : Fin 8 → Vec Ideal S1x256x128 .bf16) : FVec Ideal S1x256x128 .f32 := k0_pay113 (d449 x g kb vb)
def d456 (x : Vec Ideal S1x2048x128 .f32) (g : FVec Ideal S256x256 .bf16) (kb vb : Fin 8 → Vec Ideal S1x256x128 .bf16) : FVec Ideal S1x256x128 .f32 := k0_pay114 (d253 x g kb vb)
def d460 (x : Vec Ideal S1x2048x128 .f32) (g : FVec Ideal S256x256 .bf16) (kb vb : Fin 8 → Vec Ideal S1x256x128 .bf16) : FVec Ideal S1x256x128 .f32 := k0_pay115 (d448 x g kb vb)
def d464 (x : Vec Ideal S1x2048x128 .f32) (g : FVec Ideal S256x256 .bf16) (kb vb : Fin 8 → Vec Ideal S1x256x128 .bf16) : FVec Ideal S1x256x128 .f32 := k0_pay116 (d253 x g kb vb)
def d467 (x : Vec Ideal S1x2048x128 .f32) (g : FVec Ideal S256x256 .bf16) (kb vb : Fin 8 → Vec Ideal S1x256x128 .bf16) : FVec Ideal S512x128 .f32 := k0_pay117 (d342 x g kb vb) (d357 x g kb vb)
def d471 (x : Vec Ideal S1x2048x128 .f32) (g : FVec Ideal S256x256 .bf16) (kb vb : Fin 8 → Vec Ideal S1x256x128 .bf16) : FVec Ideal S1x256x128 .f32 := k0_pay118 (d342 x g kb vb) (d357 x g kb vb)
def d475 (x : Vec Ideal S1x2048x128 .f32) (g : FVec Ideal S256x256 .bf16) (kb vb : Fin 8 → Vec Ideal S1x256x128 .bf16) : FVec Ideal S1x256x128 .f32 := k0_pay119 (d263 x g kb vb)
def d479 (x : Vec Ideal S1x2048x128 .f32) (g : FVec Ideal S256x256 .bf16) (kb vb : Fin 8 → Vec Ideal S1x256x128 .bf16) : FVec Ideal S1x256x128 .f32 := k0_pay120 (d342 x g kb vb) (d357 x g kb vb)
def d483 (x : Vec Ideal S1x2048x128 .f32) (g : FVec Ideal S256x256 .bf16) (kb vb : Fin 8 → Vec Ideal S1x256x128 .bf16) : FVec Ideal S1x256x128 .f32 := k0_pay121 (d263 x g kb vb)
def d486 (x : Vec Ideal S1x2048x128 .f32) (g : FVec Ideal S256x256 .bf16) (kb vb : Fin 8 → Vec Ideal S1x256x128 .bf16) : FVec Ideal S512x128 .f32 := k0_pay122 (d357 x g kb vb) (d372 x g kb vb)
def d490 (x : Vec Ideal S1x2048x128 .f32) (g : FVec Ideal S256x256 .bf16) (kb vb : Fin 8 → Vec Ideal S1x256x128 .bf16) : FVec Ideal S1x256x128 .f32 := k0_pay123 (d357 x g kb vb) (d372 x g kb vb)
def d494 (x : Vec Ideal S1x2048x128 .f32) (g : FVec Ideal S256x256 .bf16) (kb vb : Fin 8 → Vec Ideal S1x256x128 .bf16) : FVec Ideal S1x256x128 .f32 := k0_pay124 (d273 x g kb vb)
def d498 (x : Vec Ideal S1x2048x128 .f32) (g : FVec Ideal S256x256 .bf16) (kb vb : Fin 8 → Vec Ideal S1x256x128 .bf16) : FVec Ideal S1x256x128 .f32 := k0_pay125 (d357 x g kb vb) (d372 x g kb vb)
def d502 (x : Vec Ideal S1x2048x128 .f32) (g : FVec Ideal S256x256 .bf16) (kb vb : Fin 8 → Vec Ideal S1x256x128 .bf16) : FVec Ideal S1x256x128 .f32 := k0_pay126 (d273 x g kb vb)
def d505 (x : Vec Ideal S1x2048x128 .f32) (g : FVec Ideal S256x256 .bf16) (kb vb : Fin 8 → Vec Ideal S1x256x128 .bf16) : FVec Ideal S512x128 .f32 := k0_pay127 (d372 x g kb vb) (d387 x g kb vb)
def d509 (x : Vec Ideal S1x2048x128 .f32) (g : FVec Ideal S256x256 .bf16) (kb vb : Fin 8 → Vec Ideal S1x256x128 .bf16) : FVec Ideal S1x256x128 .f32 := k0_pay128 (d372 x g kb vb) (d387 x g kb vb)
def d513 (x : Vec Ideal S1x2048x128 .f32) (g : FVec Ideal S256x256 .bf16) (kb vb : Fin 8 → Vec Ideal S1x256x128 .bf16) : FVec Ideal S1x256x128 .f32 := k0_pay129 (d283 x g kb vb)
def d514 (x : Vec Ideal S1x2048x128 .f32) (g : FVec Ideal S256x256 .bf16) (kb vb : Fin 8 → Vec Ideal S1x256x128 .bf16) : FVec Ideal S256x128 .f32 := k0_pay130 (d372 x g kb vb) (d387 x g kb vb)
def d517 (x : Vec Ideal S1x2048x128 .f32) (g : FVec Ideal S256x256 .bf16) (kb vb : Fin 8 → Vec Ideal S1x256x128 .bf16) : FVec Ideal S1x256x128 .f32 := k0_pay131 (d514 x g kb vb)
def d521 (x : Vec Ideal S1x2048x128 .f32) (g : FVec Ideal S256x256 .bf16) (kb vb : Fin 8 → Vec Ideal S1x256x128 .bf16) : FVec Ideal S1x256x128 .f32 := k0_pay132 (d283 x g kb vb)
def d524 (x : Vec Ideal S1x2048x128 .f32) (g : FVec Ideal S256x256 .bf16) (kb vb : Fin 8 → Vec Ideal S1x256x128 .bf16) : FVec Ideal S512x128 .f32 := k0_pay133 (d387 x g kb vb) (d402 x g kb vb)
def d528 (x : Vec Ideal S1x2048x128 .f32) (g : FVec Ideal S256x256 .bf16) (kb vb : Fin 8 → Vec Ideal S1x256x128 .bf16) : FVec Ideal S1x256x128 .f32 := k0_pay134 (d387 x g kb vb) (d402 x g kb vb)
def d532 (x : Vec Ideal S1x2048x128 .f32) (g : FVec Ideal S256x256 .bf16) (kb vb : Fin 8 → Vec Ideal S1x256x128 .bf16) : FVec Ideal S1x256x128 .f32 := k0_pay135 (d293 x g kb vb)
def d536 (x : Vec Ideal S1x2048x128 .f32) (g : FVec Ideal S256x256 .bf16) (kb vb : Fin 8 → Vec Ideal S1x256x128 .bf16) : FVec Ideal S1x256x128 .f32 := k0_pay136 (d387 x g kb vb) (d402 x g kb vb)
def d540 (x : Vec Ideal S1x2048x128 .f32) (g : FVec Ideal S256x256 .bf16) (kb vb : Fin 8 → Vec Ideal S1x256x128 .bf16) : FVec Ideal S1x256x128 .f32 := k0_pay137 (d293 x g kb vb)
def d543 (x : Vec Ideal S1x2048x128 .f32) (g : FVec Ideal S256x256 .bf16) (kb vb : Fin 8 → Vec Ideal S1x256x128 .bf16) : FVec Ideal S512x128 .f32 := k0_pay138 (d402 x g kb vb) (d417 x g kb vb)
def d547 (x : Vec Ideal S1x2048x128 .f32) (g : FVec Ideal S256x256 .bf16) (kb vb : Fin 8 → Vec Ideal S1x256x128 .bf16) : FVec Ideal S1x256x128 .f32 := k0_pay139 (d402 x g kb vb) (d417 x g kb vb)
def d548 (x : Vec Ideal S1x2048x128 .f32) (g : FVec Ideal S256x256 .bf16) (kb vb : Fin 8 → Vec Ideal S1x256x128 .bf16) : FVec Ideal S256x128 .f32 := k0_pay140 (d303 x g kb vb)
def d551 (x : Vec Ideal S1x2048x128 .f32) (g : FVec Ideal S256x256 .bf16) (kb vb : Fin 8 → Vec Ideal S1x256x128 .bf16) : FVec Ideal S1x256x128 .f32 := k0_pay141 (d548 x g kb vb)
def d555 (x : Vec Ideal S1x2048x128 .f32) (g : FVec Ideal S256x256 .bf16) (kb vb : Fin 8 → Vec Ideal S1x256x128 .bf16) : FVec Ideal S1x256x128 .f32 := k0_pay142 (d543 x g kb vb)
def d559 (x : Vec Ideal S1x2048x128 .f32) (g : FVec Ideal S256x256 .bf16) (kb vb : Fin 8 → Vec Ideal S1x256x128 .bf16) : FVec Ideal S1x256x128 .f32 := k0_pay143 (d303 x g kb vb)
def d561 (x : Vec Ideal S1x2048x128 .f32) (g : FVec Ideal S256x256 .bf16) (kb vb : Fin 8 → Vec Ideal S1x256x128 .bf16) : FVec Ideal S512x128 .f32 := k0_pay144 (d417 x g kb vb) (d428 x g kb vb)
def d565 (x : Vec Ideal S1x2048x128 .f32) (g : FVec Ideal S256x256 .bf16) (kb vb : Fin 8 → Vec Ideal S1x256x128 .bf16) : FVec Ideal S1x256x128 .f32 := k0_pay145 (d417 x g kb vb) (d428 x g kb vb)
def d569 (x : Vec Ideal S1x2048x128 .f32) (g : FVec Ideal S256x256 .bf16) (kb vb : Fin 8 → Vec Ideal S1x256x128 .bf16) : FVec Ideal S1x256x128 .f32 := k0_pay146 (d312 x g kb vb)
def d573 (x : Vec Ideal S1x2048x128 .f32) (g : FVec Ideal S256x256 .bf16) (kb vb : Fin 8 → Vec Ideal S1x256x128 .bf16) : FVec Ideal S1x256x128 .f32 := k0_pay147 (d417 x g kb vb) (d428 x g kb vb)
def d577 (x : Vec Ideal S1x2048x128 .f32) (g : FVec Ideal S256x256 .bf16) (kb vb : Fin 8 → Vec Ideal S1x256x128 .bf16) : FVec Ideal S1x256x128 .f32 := k0_pay148 (d312 x g kb vb)

/-- The exponentials of a column of blocks: its scores and its running sums, the own block's first. -/
def colE (z : FVec Ideal S1024x256 .f32) (a b : FVec Ideal S512x256 .f32) : FVec Ideal S1024x256 .f32 :=
  exp2 (addf z (concatenate S1024x256 0 [⟨S512x256, a⟩, ⟨S512x256, b⟩] concatenates_S512x256_S512x256_S1024x256_d0))

/-- Its weights: the own block's masked. -/
def colW (e : FVec Ideal S1024x256 .f32) : FVec Ideal S1024x256 .bf16 :=
  truncf .bf16 (concatenate S1024x256 0 [⟨S512x256, select k0_pay44 (extractStridedSlice S512x256 ![0, 0] e slices_S1024x256_o0_0_S512x256) (broadcast S512x256 (Scalar.ofBits .f32 0x00000000#32))⟩, ⟨S512x256, extractStridedSlice S512x256 ![512, 0] e slices_S1024x256_o512_0_S512x256⟩] concatenates_S512x256_S512x256_S1024x256_d0) bitsLt_bf16_f32

theorem colE_eq (z : FVec Ideal S1024x256 .f32) (a b : FVec Ideal S512x256 .f32) (y : Fin 1024) (s : Fin 256) :
    colE z a b (ix2 y s) = Ideal.exp2 (z (ix2 y s) + if h : y.val < 512 then a (ix2 ⟨y.val, h⟩ s) else b (ix2 ⟨y.val - 512, by omega⟩ s)) := by
  pointwise [colE]
  rfl

theorem colW_eq (e : FVec Ideal S1024x256 .f32) (y : Fin 1024) (s : Fin 256) :
    colW e (ix2 y s) = if h : y.val < 512 then Scalar.select (k0_pay44 (ix2 ⟨y.val, h⟩ s)) (e (ix2 y s)) 0 else e (ix2 y s) := by
  pointwise [colW]
  by_cases h : y.val < 512
  · rw [dif_pos h, dif_pos h]
  · rw [dif_neg h, dif_neg h]
    exact congrArg (fun u => e (ix2 u s)) (Fin.ext (by show 512 + (y.val - 512) = y.val; omega))

theorem colP_eq (z : FVec Ideal S1024x256 .f32) (a b : FVec Ideal S512x256 .f32) (v : Vec Ideal S1x256x128 .bf16) (y : Fin 1024) (d : Fin 128) :
    k0_pay95 k0_pay44 z a b v (ix2 y d) = ∑ s : Fin 256, colW (colE z a b) (ix2 y s) * v (ix3 0 s d) := by
  have h : k0_pay95 k0_pay44 z a b v = matmul dot_S1024x256_S256x128_S1024x128_1_0_0_1_n_n none (colW (colE z a b)) (shapeCast S256x128 v shapeCasts_S1x256x128_S256x128) (constant S1024x128 .f32 0x00000000#32) := rfl
  rw [h]
  pointwise []

section Norms
variable (r : ℕ)
theorem n1 : 512 + r - 256 - 256 = r := by omega
theorem n2 : 512 + (256 + r) - 256 - 256 - 256 = r := by omega
theorem n3 : 512 + r - 512 = r := by omega
theorem n4 : 256 + r - 256 = r := by omega
theorem n5 : 512 + (256 + r) - 512 = 256 + r := by omega
theorem n6 (h : r < 256) : r % 256 = r := Nat.mod_eq_of_lt h
theorem n7 (h : r < 256) : (256 + r) % 256 = r := by omega
theorem n8 : 512 + (256 + r) - 256 = 256 + (256 + r) := by omega
theorem n9 : 512 + (256 + r) - 256 - 256 = 256 + r := by omega
theorem n10 : 512 + r - 256 = 256 + r := by omega
theorem n11 : 512 + (256 + r) - 256 - 256 - 256 = r := by omega
end Norms

theorem z0_00 (x : Vec Ideal S1x2048x128 .f32) (g : FVec Ideal S256x256 .bf16) (kb vb : Fin 8 → Vec Ideal S1x256x128 .bf16) (r : Fin 256) (s : Fin 256) : d39 x g kb vb (ix2 ⟨r.val, by omega⟩ s) = (zrow (fun k => k0_pay41 x (ix2 ⟨r.val, by omega⟩ k)) (fun j k => kb 0 (ix3 0 j k))) s := by
  have hr := r.isLt
  pointwise [d39, d33, d38, k0_pay47, k0_pay45, k0_pay46]
  try simp (disch := omega) only [dif_pos, dif_neg, mask_eq, select_ite, min_top_right, n1, n2, n3, n4, n5, n6, n7, n8, n9, n10, n11, dite_eq_ite, ite_self]
  rfl

theorem t0_00 (x : Vec Ideal S1x2048x128 .f32) (g : FVec Ideal S256x256 .bf16) (kb vb : Fin 8 → Vec Ideal S1x256x128 .bf16) (r : Fin 256) (s : Fin 256) : d240 x g kb vb (ix2 ⟨r.val, by omega⟩ s) = (trowm (zrow (fun k => k0_pay41 x (ix2 ⟨r.val, by omega⟩ k)) (fun j k => kb 0 (ix3 0 j k))) (fun i j => g (ix2 i j)) r.val) s := by
  have hr := r.isLt
  pointwise [d240, d55, d33, d38, k0_pay70, k0_pay48, k0_pay45, k0_pay46, k0_pay47, k_clamp, k_log2e]
  simp (disch := omega) only [dif_pos, dif_neg, mask_eq, select_ite, min_top_right, n1, n2, n3, n4, n5, n6, n7, n8, n9, n10, n11, dite_eq_ite, ite_self]
  rfl

theorem p0_00 (x : Vec Ideal S1x2048x128 .f32) (g : FVec Ideal S256x256 .bf16) (kb vb : Fin 8 → Vec Ideal S1x256x128 .bf16) (r : Fin 256) (d : Fin 128) : d327 x g kb vb (ix2 ⟨r.val, by omega⟩ d) = prowm (zrow (fun k => k0_pay41 x (ix2 ⟨r.val, by omega⟩ k)) (fun j k => kb 0 (ix3 0 j k))) (trowm (zrow (fun k => k0_pay41 x (ix2 ⟨r.val, by omega⟩ k)) (fun j k => kb 0 (ix3 0 j k))) (fun i j => g (ix2 i j)) r.val) (fun j => vb 0 (ix3 0 j d)) r.val := by
  have hr := r.isLt
  have e : d327 x g kb vb = k0_pay95 k0_pay44 (d39 x g kb vb) (d240 x g kb vb) (d250 x g kb vb) (vb 0) := rfl
  rw [e, colP_eq]
  simp only [colW_eq, colE_eq]
  simp (disch := omega) only [dif_pos, dif_neg, mask_eq, select_ite, n3, n5, n6, n7, z0_00, t0_00]
  rfl

theorem z0_10 (x : Vec Ideal S1x2048x128 .f32) (g : FVec Ideal S256x256 .bf16) (kb vb : Fin 8 → Vec Ideal S1x256x128 .bf16) (r : Fin 256) (s : Fin 256) : d39 x g kb vb (ix2 ⟨512 + r.val, by omega⟩ s) = (zrow (fun k => k0_pay41 x (ix2 ⟨256 + r.val, by omega⟩ k)) (fun j k => kb 0 (ix3 0 j k))) s := by
  have hr := r.isLt
  pointwise [d39, d33, d38, k0_pay47, k0_pay45, k0_pay46]
  try simp (disch := omega) only [dif_pos, dif_neg, mask_eq, select_ite, min_top_right, n1, n2, n3, n4, n5, n6, n7, n8, n9, n10, n11, dite_eq_ite, ite_self]
  rfl

theorem t0_10 (x : Vec Ideal S1x2048x128 .f32) (g : FVec Ideal S256x256 .bf16) (kb vb : Fin 8 → Vec Ideal S1x256x128 .bf16) (r : Fin 256) (s : Fin 256) : d250 x g kb vb (ix2 ⟨r.val, by omega⟩ s) = trow (zrow (fun k => k0_pay41 x (ix2 ⟨256 + r.val, by omega⟩ k)) (fun j k => kb 0 (ix3 0 j k))) (fun i j => g (ix2 i j)) ((trowm (zrow (fun k => k0_pay41 x (ix2 ⟨256 + r.val, by omega⟩ k)) (fun j k => kb 1 (ix3 0 j k))) (fun i j => g (ix2 i j)) r.val) 0) s := by
  have hr := r.isLt
  pointwise [d250, d55, d33, d38, d82, k0_pay73, k0_pay48, k0_pay45, k0_pay46, k0_pay50, k0_pay72, k0_pay47, k0_pay49, k_clamp, k_log2e]
  simp (disch := omega) only [dif_pos, dif_neg, mask_eq, select_ite, min_top_right, n1, n2, n3, n4, n5, n6, n7, n8, n9, n10, n11, dite_eq_ite, ite_self]
  rfl

theorem p0_10 (x : Vec Ideal S1x2048x128 .f32) (g : FVec Ideal S256x256 .bf16) (kb vb : Fin 8 → Vec Ideal S1x256x128 .bf16) (r : Fin 256) (d : Fin 128) : d327 x g kb vb (ix2 ⟨512 + r.val, by omega⟩ d) = prow (zrow (fun k => k0_pay41 x (ix2 ⟨256 + r.val, by omega⟩ k)) (fun j k => kb 0 (ix3 0 j k))) (trow (zrow (fun k => k0_pay41 x (ix2 ⟨256 + r.val, by omega⟩ k)) (fun j k => kb 0 (ix3 0 j k))) (fun i j => g (ix2 i j)) ((trowm (zrow (fun k => k0_pay41 x (ix2 ⟨256 + r.val, by omega⟩ k)) (fun j k => kb 1 (ix3 0 j k))) (fun i j => g (ix2 i j)) r.val) 0)) (fun j => vb 0 (ix3 0 j d)) := by
  have hr := r.isLt
  have e : d327 x g kb vb = k0_pay95 k0_pay44 (d39 x g kb vb) (d240 x g kb vb) (d250 x g kb vb) (vb 0) := rfl
  rw [e, colP_eq]
  simp only [colW_eq, colE_eq]
  simp (disch := omega) only [dif_pos, dif_neg, mask_eq, select_ite, n3, n5, n6, n7, z0_10, t0_10]
  rfl

theorem z0_01 (x : Vec Ideal S1x2048x128 .f32) (g : FVec Ideal S256x256 .bf16) (kb vb : Fin 8 → Vec Ideal S1x256x128 .bf16) (r : Fin 256) (s : Fin 256) : d39 x g kb vb (ix2 ⟨256 + r.val, by omega⟩ s) = (zrow (fun k => k0_pay42 x (ix2 ⟨r.val, by omega⟩ k)) (fun j k => kb 0 (ix3 0 j k))) s := by
  have hr := r.isLt
  pointwise [d39, d33, d38, k0_pay47, k0_pay45, k0_pay46]
  try simp (disch := omega) only [dif_pos, dif_neg, mask_eq, select_ite, min_top_right, n1, n2, n3, n4, n5, n6, n7, n8, n9, n10, n11, dite_eq_ite, ite_self]
  rfl

theorem t0_01 (x : Vec Ideal S1x2048x128 .f32) (g : FVec Ideal S256x256 .bf16) (kb vb : Fin 8 → Vec Ideal S1x256x128 .bf16) (r : Fin 256) (s : Fin 256) : d240 x g kb vb (ix2 ⟨256 + r.val, by omega⟩ s) = (trowm (zrow (fun k => k0_pay42 x (ix2 ⟨r.val, by omega⟩ k)) (fun j k => kb 0 (ix3 0 j k))) (fun i j => g (ix2 i j)) r.val) s := by
  have hr := r.isLt
  pointwise [d240, d55, d33, d38, k0_pay70, k0_pay48, k0_pay45, k0_pay46, k0_pay47, k_clamp, k_log2e]
  simp (disch := omega) only [dif_pos, dif_neg, mask_eq, select_ite, min_top_right, n1, n2, n3, n4, n5, n6, n7, n8, n9, n10, n11, dite_eq_ite, ite_self]
  rfl

theorem p0_01 (x : Vec Ideal S1x2048x128 .f32) (g : FVec Ideal S256x256 .bf16) (kb vb : Fin 8 → Vec Ideal S1x256x128 .bf16) (r : Fin 256) (d : Fin 128) : d327 x g kb vb (ix2 ⟨256 + r.val, by omega⟩ d) = prowm (zrow (fun k => k0_pay42 x (ix2 ⟨r.val, by omega⟩ k)) (fun j k => kb 0 (ix3 0 j k))) (trowm (zrow (fun k => k0_pay42 x (ix2 ⟨r.val, by omega⟩ k)) (fun j k => kb 0 (ix3 0 j k))) (fun i j => g (ix2 i j)) r.val) (fun j => vb 0 (ix3 0 j d)) r.val := by
  have hr := r.isLt
  have e : d327 x g kb vb = k0_pay95 k0_pay44 (d39 x g kb vb) (d240 x g kb vb) (d250 x g kb vb) (vb 0) := rfl
  rw [e, colP_eq]
  simp only [colW_eq, colE_eq]
  simp (disch := omega) only [dif_pos, dif_neg, mask_eq, select_ite, n3, n5, n6, n7, z0_01, t0_01]
  rfl

theorem z0_11 (x : Vec Ideal S1x2048x128 .f32) (g : FVec Ideal S256x256 .bf16) (kb vb : Fin 8 → Vec Ideal S1x256x128 .bf16) (r : Fin 256) (s : Fin 256) : d39 x g kb vb (ix2 ⟨512 + (256 + r.val), by omega⟩ s) = (zrow (fun k => k0_pay42 x (ix2 ⟨256 + r.val, by omega⟩ k)) (fun j k => kb 0 (ix3 0 j k))) s := by
  have hr := r.isLt
  pointwise [d39, d33, d38, k0_pay47, k0_pay45, k0_pay46]
  try simp (disch := omega) only [dif_pos, dif_neg, mask_eq, select_ite, min_top_right, n1, n2, n3, n4, n5, n6, n7, n8, n9, n10, n11, dite_eq_ite, ite_self]
  rfl

theorem t0_11 (x : Vec Ideal S1x2048x128 .f32) (g : FVec Ideal S256x256 .bf16) (kb vb : Fin 8 → Vec Ideal S1x256x128 .bf16) (r : Fin 256) (s : Fin 256) : d250 x g kb vb (ix2 ⟨256 + r.val, by omega⟩ s) = trow (zrow (fun k => k0_pay42 x (ix2 ⟨256 + r.val, by omega⟩ k)) (fun j k => kb 0 (ix3 0 j k))) (fun i j => g (ix2 i j)) ((trowm (zrow (fun k => k0_pay42 x (ix2 ⟨256 + r.val, by omega⟩ k)) (fun j k => kb 1 (ix3 0 j k))) (fun i j => g (ix2 i j)) r.val) 0) s := by
  have hr := r.isLt
  pointwise [d250, d55, d33, d38, d82, k0_pay73, k0_pay48, k0_pay45, k0_pay46, k0_pay50, k0_pay72, k0_pay47, k0_pay49, k_clamp, k_log2e]
  simp (disch := omega) only [dif_pos, dif_neg, mask_eq, select_ite, min_top_right, n1, n2, n3, n4, n5, n6, n7, n8, n9, n10, n11, dite_eq_ite, ite_self]
  rfl

theorem p0_11 (x : Vec Ideal S1x2048x128 .f32) (g : FVec Ideal S256x256 .bf16) (kb vb : Fin 8 → Vec Ideal S1x256x128 .bf16) (r : Fin 256) (d : Fin 128) : d327 x g kb vb (ix2 ⟨512 + (256 + r.val), by omega⟩ d) = prow (zrow (fun k => k0_pay42 x (ix2 ⟨256 + r.val, by omega⟩ k)) (fun j k => kb 0 (ix3 0 j k))) (trow (zrow (fun k => k0_pay42 x (ix2 ⟨256 + r.val, by omega⟩ k)) (fun j k => kb 0 (ix3 0 j k))) (fun i j => g (ix2 i j)) ((trowm (zrow (fun k => k0_pay42 x (ix2 ⟨256 + r.val, by omega⟩ k)) (fun j k => kb 1 (ix3 0 j k))) (fun i j => g (ix2 i j)) r.val) 0)) (fun j => vb 0 (ix3 0 j d)) := by
  have hr := r.isLt
  have e : d327 x g kb vb = k0_pay95 k0_pay44 (d39 x g kb vb) (d240 x g kb vb) (d250 x g kb vb) (vb 0) := rfl
  rw [e, colP_eq]
  simp only [colW_eq, colE_eq]
  simp (disch := omega) only [dif_pos, dif_neg, mask_eq, select_ite, n3, n5, n6, n7, z0_11, t0_11]
  rfl

theorem z1_00 (x : Vec Ideal S1x2048x128 .f32) (g : FVec Ideal S256x256 .bf16) (kb vb : Fin 8 → Vec Ideal S1x256x128 .bf16) (r : Fin 256) (s : Fin 256) : d66 x g kb vb (ix2 ⟨r.val, by omega⟩ s) = (zrow (fun k => k0_pay41 x (ix2 ⟨256 + r.val, by omega⟩ k)) (fun j k => kb 1 (ix3 0 j k))) s := by
  have hr := r.isLt
  pointwise [d66, k0_pay49]
  try simp (disch := omega) only [dif_pos, dif_neg, mask_eq, select_ite, min_top_right, n1, n2, n3, n4, n5, n6, n7, n8, n9, n10, n11, dite_eq_ite, ite_self]
  rfl

theorem t1_00 (x : Vec Ideal S1x2048x128 .f32) (g : FVec Ideal S256x256 .bf16) (kb vb : Fin 8 → Vec Ideal S1x256x128 .bf16) (r : Fin 256) (s : Fin 256) : d244 x g kb vb (ix2 ⟨r.val, by omega⟩ s) = (trowm (zrow (fun k => k0_pay41 x (ix2 ⟨256 + r.val, by omega⟩ k)) (fun j k => kb 1 (ix3 0 j k))) (fun i j => g (ix2 i j)) r.val) s := by
  have hr := r.isLt
  pointwise [d244, d82, k0_pay72, k0_pay50, k0_pay49, k_clamp, k_log2e]
  simp (disch := omega) only [dif_pos, dif_neg, mask_eq, select_ite, min_top_right, n1, n2, n3, n4, n5, n6, n7, n8, n9, n10, n11, dite_eq_ite, ite_self]
  rfl

theorem p1_00 (x : Vec Ideal S1x2048x128 .f32) (g : FVec Ideal S256x256 .bf16) (kb vb : Fin 8 → Vec Ideal S1x256x128 .bf16) (r : Fin 256) (d : Fin 128) : d342 x g kb vb (ix2 ⟨r.val, by omega⟩ d) = prowm (zrow (fun k => k0_pay41 x (ix2 ⟨256 + r.val, by omega⟩ k)) (fun j k => kb 1 (ix3 0 j k))) (trowm (zrow (fun k => k0_pay41 x (ix2 ⟨256 + r.val, by omega⟩ k)) (fun j k => kb 1 (ix3 0 j k))) (fun i j => g (ix2 i j)) r.val) (fun j => vb 1 (ix3 0 j d)) r.val := by
  have hr := r.isLt
  have e : d342 x g kb vb = k0_pay95 k0_pay44 (d66 x g kb vb) (d244 x g kb vb) (d260 x g kb vb) (vb 1) := rfl
  rw [e, colP_eq]
  simp only [colW_eq, colE_eq]
  simp (disch := omega) only [dif_pos, dif_neg, mask_eq, select_ite, n3, n5, n6, n7, z1_00, t1_00]
  rfl

theorem z1_10 (x : Vec Ideal S1x2048x128 .f32) (g : FVec Ideal S256x256 .bf16) (kb vb : Fin 8 → Vec Ideal S1x256x128 .bf16) (r : Fin 256) (s : Fin 256) : d66 x g kb vb (ix2 ⟨512 + r.val, by omega⟩ s) = (zrow (fun k => k0_pay41 x (ix2 ⟨512 + r.val, by omega⟩ k)) (fun j k => kb 1 (ix3 0 j k))) s := by
  have hr := r.isLt
  pointwise [d66, k0_pay49]
  try simp (disch := omega) only [dif_pos, dif_neg, mask_eq, select_ite, min_top_right, n1, n2, n3, n4, n5, n6, n7, n8, n9, n10, n11, dite_eq_ite, ite_self]
  rfl

theorem t1_10 (x : Vec Ideal S1x2048x128 .f32) (g : FVec Ideal S256x256 .bf16) (kb vb : Fin 8 → Vec Ideal S1x256x128 .bf16) (r : Fin 256) (s : Fin 256) : d260 x g kb vb (ix2 ⟨r.val, by omega⟩ s) = trow (zrow (fun k => k0_pay41 x (ix2 ⟨512 + r.val, by omega⟩ k)) (fun j k => kb 1 (ix3 0 j k))) (fun i j => g (ix2 i j)) ((trowm (zrow (fun k => k0_pay41 x (ix2 ⟨512 + r.val, by omega⟩ k)) (fun j k => kb 2 (ix3 0 j k))) (fun i j => g (ix2 i j)) r.val) 0) s := by
  have hr := r.isLt
  pointwise [d260, d82, d109, d83, d84, k0_pay76, k0_pay50, k0_pay54, k0_pay51, k0_pay52, k0_pay75, k0_pay49, k0_pay53, k_clamp, k_log2e]
  simp (disch := omega) only [dif_pos, dif_neg, mask_eq, select_ite, min_top_right, n1, n2, n3, n4, n5, n6, n7, n8, n9, n10, n11, dite_eq_ite, ite_self]
  rfl

theorem p1_10 (x : Vec Ideal S1x2048x128 .f32) (g : FVec Ideal S256x256 .bf16) (kb vb : Fin 8 → Vec Ideal S1x256x128 .bf16) (r : Fin 256) (d : Fin 128) : d342 x g kb vb (ix2 ⟨512 + r.val, by omega⟩ d) = prow (zrow (fun k => k0_pay41 x (ix2 ⟨512 + r.val, by omega⟩ k)) (fun j k => kb 1 (ix3 0 j k))) (trow (zrow (fun k => k0_pay41 x (ix2 ⟨512 + r.val, by omega⟩ k)) (fun j k => kb 1 (ix3 0 j k))) (fun i j => g (ix2 i j)) ((trowm (zrow (fun k => k0_pay41 x (ix2 ⟨512 + r.val, by omega⟩ k)) (fun j k => kb 2 (ix3 0 j k))) (fun i j => g (ix2 i j)) r.val) 0)) (fun j => vb 1 (ix3 0 j d)) := by
  have hr := r.isLt
  have e : d342 x g kb vb = k0_pay95 k0_pay44 (d66 x g kb vb) (d244 x g kb vb) (d260 x g kb vb) (vb 1) := rfl
  rw [e, colP_eq]
  simp only [colW_eq, colE_eq]
  simp (disch := omega) only [dif_pos, dif_neg, mask_eq, select_ite, n3, n5, n6, n7, z1_10, t1_10]
  rfl

theorem z1_01 (x : Vec Ideal S1x2048x128 .f32) (g : FVec Ideal S256x256 .bf16) (kb vb : Fin 8 → Vec Ideal S1x256x128 .bf16) (r : Fin 256) (s : Fin 256) : d66 x g kb vb (ix2 ⟨256 + r.val, by omega⟩ s) = (zrow (fun k => k0_pay42 x (ix2 ⟨256 + r.val, by omega⟩ k)) (fun j k => kb 1 (ix3 0 j k))) s := by
  have hr := r.isLt
  pointwise [d66, k0_pay49]
  try simp (disch := omega) only [dif_pos, dif_neg, mask_eq, select_ite, min_top_right, n1, n2, n3, n4, n5, n6, n7, n8, n9, n10, n11, dite_eq_ite, ite_self]
  rfl

theorem t1_01 (x : Vec Ideal S1x2048x128 .f32) (g : FVec Ideal S256x256 .bf16) (kb vb : Fin 8 → Vec Ideal S1x256x128 .bf16) (r : Fin 256) (s : Fin 256) : d244 x g kb vb (ix2 ⟨256 + r.val, by omega⟩ s) = (trowm (zrow (fun k => k0_pay42 x (ix2 ⟨256 + r.val, by omega⟩ k)) (fun j k => kb 1 (ix3 0 j k))) (fun i j => g (ix2 i j)) r.val) s := by
  have hr := r.isLt
  pointwise [d244, d82, k0_pay72, k0_pay50, k0_pay49, k_clamp, k_log2e]
  simp (disch := omega) only [dif_pos, dif_neg, mask_eq, select_ite, min_top_right, n1, n2, n3, n4, n5, n6, n7, n8, n9, n10, n11, dite_eq_ite, ite_self]
  rfl

theorem p1_01 (x : Vec Ideal S1x2048x128 .f32) (g : FVec Ideal S256x256 .bf16) (kb vb : Fin 8 → Vec Ideal S1x256x128 .bf16) (r : Fin 256) (d : Fin 128) : d342 x g kb vb (ix2 ⟨256 + r.val, by omega⟩ d) = prowm (zrow (fun k => k0_pay42 x (ix2 ⟨256 + r.val, by omega⟩ k)) (fun j k => kb 1 (ix3 0 j k))) (trowm (zrow (fun k => k0_pay42 x (ix2 ⟨256 + r.val, by omega⟩ k)) (fun j k => kb 1 (ix3 0 j k))) (fun i j => g (ix2 i j)) r.val) (fun j => vb 1 (ix3 0 j d)) r.val := by
  have hr := r.isLt
  have e : d342 x g kb vb = k0_pay95 k0_pay44 (d66 x g kb vb) (d244 x g kb vb) (d260 x g kb vb) (vb 1) := rfl
  rw [e, colP_eq]
  simp only [colW_eq, colE_eq]
  simp (disch := omega) only [dif_pos, dif_neg, mask_eq, select_ite, n3, n5, n6, n7, z1_01, t1_01]
  rfl

theorem z1_11 (x : Vec Ideal S1x2048x128 .f32) (g : FVec Ideal S256x256 .bf16) (kb vb : Fin 8 → Vec Ideal S1x256x128 .bf16) (r : Fin 256) (s : Fin 256) : d66 x g kb vb (ix2 ⟨512 + (256 + r.val), by omega⟩ s) = (zrow (fun k => k0_pay42 x (ix2 ⟨512 + r.val, by omega⟩ k)) (fun j k => kb 1 (ix3 0 j k))) s := by
  have hr := r.isLt
  pointwise [d66, k0_pay49]
  try simp (disch := omega) only [dif_pos, dif_neg, mask_eq, select_ite, min_top_right, n1, n2, n3, n4, n5, n6, n7, n8, n9, n10, n11, dite_eq_ite, ite_self]
  rfl

theorem t1_11 (x : Vec Ideal S1x2048x128 .f32) (g : FVec Ideal S256x256 .bf16) (kb vb : Fin 8 → Vec Ideal S1x256x128 .bf16) (r : Fin 256) (s : Fin 256) : d260 x g kb vb (ix2 ⟨256 + r.val, by omega⟩ s) = trow (zrow (fun k => k0_pay42 x (ix2 ⟨512 + r.val, by omega⟩ k)) (fun j k => kb 1 (ix3 0 j k))) (fun i j => g (ix2 i j)) ((trowm (zrow (fun k => k0_pay42 x (ix2 ⟨512 + r.val, by omega⟩ k)) (fun j k => kb 2 (ix3 0 j k))) (fun i j => g (ix2 i j)) r.val) 0) s := by
  have hr := r.isLt
  pointwise [d260, d82, d109, d83, d84, k0_pay76, k0_pay50, k0_pay54, k0_pay51, k0_pay52, k0_pay75, k0_pay49, k0_pay53, k_clamp, k_log2e]
  simp (disch := omega) only [dif_pos, dif_neg, mask_eq, select_ite, min_top_right, n1, n2, n3, n4, n5, n6, n7, n8, n9, n10, n11, dite_eq_ite, ite_self]
  rfl

theorem p1_11 (x : Vec Ideal S1x2048x128 .f32) (g : FVec Ideal S256x256 .bf16) (kb vb : Fin 8 → Vec Ideal S1x256x128 .bf16) (r : Fin 256) (d : Fin 128) : d342 x g kb vb (ix2 ⟨512 + (256 + r.val), by omega⟩ d) = prow (zrow (fun k => k0_pay42 x (ix2 ⟨512 + r.val, by omega⟩ k)) (fun j k => kb 1 (ix3 0 j k))) (trow (zrow (fun k => k0_pay42 x (ix2 ⟨512 + r.val, by omega⟩ k)) (fun j k => kb 1 (ix3 0 j k))) (fun i j => g (ix2 i j)) ((trowm (zrow (fun k => k0_pay42 x (ix2 ⟨512 + r.val, by omega⟩ k)) (fun j k => kb 2 (ix3 0 j k))) (fun i j => g (ix2 i j)) r.val) 0)) (fun j => vb 1 (ix3 0 j d)) := by
  have hr := r.isLt
  have e : d342 x g kb vb = k0_pay95 k0_pay44 (d66 x g kb vb) (d244 x g kb vb) (d260 x g kb vb) (vb 1) := rfl
  rw [e, colP_eq]
  simp only [colW_eq, colE_eq]
  simp (disch := omega) only [dif_pos, dif_neg, mask_eq, select_ite, n3, n5, n6, n7, z1_11, t1_11]
  rfl

theorem z2_00 (x : Vec Ideal S1x2048x128 .f32) (g : FVec Ideal S256x256 .bf16) (kb vb : Fin 8 → Vec Ideal S1x256x128 .bf16) (r : Fin 256) (s : Fin 256) : d93 x g kb vb (ix2 ⟨r.val, by omega⟩ s) = (zrow (fun k => k0_pay41 x (ix2 ⟨512 + r.val, by omega⟩ k)) (fun j k => kb 2 (ix3 0 j k))) s := by
  have hr := r.isLt
  pointwise [d93, d83, d84, k0_pay53, k0_pay51, k0_pay52]
  try simp (disch := omega) only [dif_pos, dif_neg, mask_eq, select_ite, min_top_right, n1, n2, n3, n4, n5, n6, n7, n8, n9, n10, n11, dite_eq_ite, ite_self]
  rfl

theorem t2_00 (x : Vec Ideal S1x2048x128 .f32) (g : FVec Ideal S256x256 .bf16) (kb vb : Fin 8 → Vec Ideal S1x256x128 .bf16) (r : Fin 256) (s : Fin 256) : d254 x g kb vb (ix2 ⟨r.val, by omega⟩ s) = (trowm (zrow (fun k => k0_pay41 x (ix2 ⟨512 + r.val, by omega⟩ k)) (fun j k => kb 2 (ix3 0 j k))) (fun i j => g (ix2 i j)) r.val) s := by
  have hr := r.isLt
  pointwise [d254, d109, d83, d84, k0_pay75, k0_pay54, k0_pay51, k0_pay52, k0_pay53, k_clamp, k_log2e]
  simp (disch := omega) only [dif_pos, dif_neg, mask_eq, select_ite, min_top_right, n1, n2, n3, n4, n5, n6, n7, n8, n9, n10, n11, dite_eq_ite, ite_self]
  rfl

theorem p2_00 (x : Vec Ideal S1x2048x128 .f32) (g : FVec Ideal S256x256 .bf16) (kb vb : Fin 8 → Vec Ideal S1x256x128 .bf16) (r : Fin 256) (d : Fin 128) : d357 x g kb vb (ix2 ⟨r.val, by omega⟩ d) = prowm (zrow (fun k => k0_pay41 x (ix2 ⟨512 + r.val, by omega⟩ k)) (fun j k => kb 2 (ix3 0 j k))) (trowm (zrow (fun k => k0_pay41 x (ix2 ⟨512 + r.val, by omega⟩ k)) (fun j k => kb 2 (ix3 0 j k))) (fun i j => g (ix2 i j)) r.val) (fun j => vb 2 (ix3 0 j d)) r.val := by
  have hr := r.isLt
  have e : d357 x g kb vb = k0_pay95 k0_pay44 (d93 x g kb vb) (d254 x g kb vb) (d270 x g kb vb) (vb 2) := rfl
  rw [e, colP_eq]
  simp only [colW_eq, colE_eq]
  simp (disch := omega) only [dif_pos, dif_neg, mask_eq, select_ite, n3, n5, n6, n7, z2_00, t2_00]
  rfl

theorem z2_10 (x : Vec Ideal S1x2048x128 .f32) (g : FVec Ideal S256x256 .bf16) (kb vb : Fin 8 → Vec Ideal S1x256x128 .bf16) (r : Fin 256) (s : Fin 256) : d93 x g kb vb (ix2 ⟨512 + r.val, by omega⟩ s) = (zrow (fun k => k0_pay41 x (ix2 ⟨768 + r.val, by omega⟩ k)) (fun j k => kb 2 (ix3 0 j k))) s := by
  have hr := r.isLt
  pointwise [d93, d83, d84, k0_pay53, k0_pay51, k0_pay52]
  try simp (disch := omega) only [dif_pos, dif_neg, mask_eq, select_ite, min_top_right, n1, n2, n3, n4, n5, n6, n7, n8, n9, n10, n11, dite_eq_ite, ite_self]
  rfl

theorem t2_10 (x : Vec Ideal S1x2048x128 .f32) (g : FVec Ideal S256x256 .bf16) (kb vb : Fin 8 → Vec Ideal S1x256x128 .bf16) (r : Fin 256) (s : Fin 256) : d270 x g kb vb (ix2 ⟨r.val, by omega⟩ s) = trow (zrow (fun k => k0_pay41 x (ix2 ⟨768 + r.val, by omega⟩ k)) (fun j k => kb 2 (ix3 0 j k))) (fun i j => g (ix2 i j)) ((trowm (zrow (fun k => k0_pay41 x (ix2 ⟨768 + r.val, by omega⟩ k)) (fun j k => kb 3 (ix3 0 j k))) (fun i j => g (ix2 i j)) r.val) 0) s := by
  have hr := r.isLt
  pointwise [d270, d109, d83, d84, d136, d120, d128, k0_pay79, k0_pay54, k0_pay51, k0_pay52, k0_pay57, k0_pay55, k0_pay56, k0_pay78, k0_pay53, k_clamp, k_log2e]
  simp (disch := omega) only [dif_pos, dif_neg, mask_eq, select_ite, min_top_right, n1, n2, n3, n4, n5, n6, n7, n8, n9, n10, n11, dite_eq_ite, ite_self]
  rfl

theorem p2_10 (x : Vec Ideal S1x2048x128 .f32) (g : FVec Ideal S256x256 .bf16) (kb vb : Fin 8 → Vec Ideal S1x256x128 .bf16) (r : Fin 256) (d : Fin 128) : d357 x g kb vb (ix2 ⟨512 + r.val, by omega⟩ d) = prow (zrow (fun k => k0_pay41 x (ix2 ⟨768 + r.val, by omega⟩ k)) (fun j k => kb 2 (ix3 0 j k))) (trow (zrow (fun k => k0_pay41 x (ix2 ⟨768 + r.val, by omega⟩ k)) (fun j k => kb 2 (ix3 0 j k))) (fun i j => g (ix2 i j)) ((trowm (zrow (fun k => k0_pay41 x (ix2 ⟨768 + r.val, by omega⟩ k)) (fun j k => kb 3 (ix3 0 j k))) (fun i j => g (ix2 i j)) r.val) 0)) (fun j => vb 2 (ix3 0 j d)) := by
  have hr := r.isLt
  have e : d357 x g kb vb = k0_pay95 k0_pay44 (d93 x g kb vb) (d254 x g kb vb) (d270 x g kb vb) (vb 2) := rfl
  rw [e, colP_eq]
  simp only [colW_eq, colE_eq]
  simp (disch := omega) only [dif_pos, dif_neg, mask_eq, select_ite, n3, n5, n6, n7, z2_10, t2_10]
  rfl

theorem z2_01 (x : Vec Ideal S1x2048x128 .f32) (g : FVec Ideal S256x256 .bf16) (kb vb : Fin 8 → Vec Ideal S1x256x128 .bf16) (r : Fin 256) (s : Fin 256) : d93 x g kb vb (ix2 ⟨256 + r.val, by omega⟩ s) = (zrow (fun k => k0_pay42 x (ix2 ⟨512 + r.val, by omega⟩ k)) (fun j k => kb 2 (ix3 0 j k))) s := by
  have hr := r.isLt
  pointwise [d93, d83, d84, k0_pay53, k0_pay51, k0_pay52]
  try simp (disch := omega) only [dif_pos, dif_neg, mask_eq, select_ite, min_top_right, n1, n2, n3, n4, n5, n6, n7, n8, n9, n10, n11, dite_eq_ite, ite_self]
  rfl

theorem t2_01 (x : Vec Ideal S1x2048x128 .f32) (g : FVec Ideal S256x256 .bf16) (kb vb : Fin 8 → Vec Ideal S1x256x128 .bf16) (r : Fin 256) (s : Fin 256) : d254 x g kb vb (ix2 ⟨256 + r.val, by omega⟩ s) = (trowm (zrow (fun k => k0_pay42 x (ix2 ⟨512 + r.val, by omega⟩ k)) (fun j k => kb 2 (ix3 0 j k))) (fun i j => g (ix2 i j)) r.val) s := by
  have hr := r.isLt
  pointwise [d254, d109, d83, d84, k0_pay75, k0_pay54, k0_pay51, k0_pay52, k0_pay53, k_clamp, k_log2e]
  simp (disch := omega) only [dif_pos, dif_neg, mask_eq, select_ite, min_top_right, n1, n2, n3, n4, n5, n6, n7, n8, n9, n10, n11, dite_eq_ite, ite_self]
  rfl

theorem p2_01 (x : Vec Ideal S1x2048x128 .f32) (g : FVec Ideal S256x256 .bf16) (kb vb : Fin 8 → Vec Ideal S1x256x128 .bf16) (r : Fin 256) (d : Fin 128) : d357 x g kb vb (ix2 ⟨256 + r.val, by omega⟩ d) = prowm (zrow (fun k => k0_pay42 x (ix2 ⟨512 + r.val, by omega⟩ k)) (fun j k => kb 2 (ix3 0 j k))) (trowm (zrow (fun k => k0_pay42 x (ix2 ⟨512 + r.val, by omega⟩ k)) (fun j k => kb 2 (ix3 0 j k))) (fun i j => g (ix2 i j)) r.val) (fun j => vb 2 (ix3 0 j d)) r.val := by
  have hr := r.isLt
  have e : d357 x g kb vb = k0_pay95 k0_pay44 (d93 x g kb vb) (d254 x g kb vb) (d270 x g kb vb) (vb 2) := rfl
  rw [e, colP_eq]
  simp only [colW_eq, colE_eq]
  simp (disch := omega) only [dif_pos, dif_neg, mask_eq, select_ite, n3, n5, n6, n7, z2_01, t2_01]
  rfl

theorem z2_11 (x : Vec Ideal S1x2048x128 .f32) (g : FVec Ideal S256x256 .bf16) (kb vb : Fin 8 → Vec Ideal S1x256x128 .bf16) (r : Fin 256) (s : Fin 256) : d93 x g kb vb (ix2 ⟨512 + (256 + r.val), by omega⟩ s) = (zrow (fun k => k0_pay42 x (ix2 ⟨768 + r.val, by omega⟩ k)) (fun j k => kb 2 (ix3 0 j k))) s := by
  have hr := r.isLt
  pointwise [d93, d83, d84, k0_pay53, k0_pay51, k0_pay52]
  try simp (disch := omega) only [dif_pos, dif_neg, mask_eq, select_ite, min_top_right, n1, n2, n3, n4, n5, n6, n7, n8, n9, n10, n11, dite_eq_ite, ite_self]
  rfl

theorem t2_11 (x : Vec Ideal S1x2048x128 .f32) (g : FVec Ideal S256x256 .bf16) (kb vb : Fin 8 → Vec Ideal S1x256x128 .bf16) (r : Fin 256) (s : Fin 256) : d270 x g kb vb (ix2 ⟨256 + r.val, by omega⟩ s) = trow (zrow (fun k => k0_pay42 x (ix2 ⟨768 + r.val, by omega⟩ k)) (fun j k => kb 2 (ix3 0 j k))) (fun i j => g (ix2 i j)) ((trowm (zrow (fun k => k0_pay42 x (ix2 ⟨768 + r.val, by omega⟩ k)) (fun j k => kb 3 (ix3 0 j k))) (fun i j => g (ix2 i j)) r.val) 0) s := by
  have hr := r.isLt
  pointwise [d270, d109, d83, d84, d136, d120, d128, k0_pay79, k0_pay54, k0_pay51, k0_pay52, k0_pay57, k0_pay55, k0_pay56, k0_pay78, k0_pay53, k_clamp, k_log2e]
  simp (disch := omega) only [dif_pos, dif_neg, mask_eq, select_ite, min_top_right, n1, n2, n3, n4, n5, n6, n7, n8, n9, n10, n11, dite_eq_ite, ite_self]
  rfl

theorem p2_11 (x : Vec Ideal S1x2048x128 .f32) (g : FVec Ideal S256x256 .bf16) (kb vb : Fin 8 → Vec Ideal S1x256x128 .bf16) (r : Fin 256) (d : Fin 128) : d357 x g kb vb (ix2 ⟨512 + (256 + r.val), by omega⟩ d) = prow (zrow (fun k => k0_pay42 x (ix2 ⟨768 + r.val, by omega⟩ k)) (fun j k => kb 2 (ix3 0 j k))) (trow (zrow (fun k => k0_pay42 x (ix2 ⟨768 + r.val, by omega⟩ k)) (fun j k => kb 2 (ix3 0 j k))) (fun i j => g (ix2 i j)) ((trowm (zrow (fun k => k0_pay42 x (ix2 ⟨768 + r.val, by omega⟩ k)) (fun j k => kb 3 (ix3 0 j k))) (fun i j => g (ix2 i j)) r.val) 0)) (fun j => vb 2 (ix3 0 j d)) := by
  have hr := r.isLt
  have e : d357 x g kb vb = k0_pay95 k0_pay44 (d93 x g kb vb) (d254 x g kb vb) (d270 x g kb vb) (vb 2) := rfl
  rw [e, colP_eq]
  simp only [colW_eq, colE_eq]
  simp (disch := omega) only [dif_pos, dif_neg, mask_eq, select_ite, n3, n5, n6, n7, z2_11, t2_11]
  rfl

theorem z3_00 (x : Vec Ideal S1x2048x128 .f32) (g : FVec Ideal S256x256 .bf16) (kb vb : Fin 8 → Vec Ideal S1x256x128 .bf16) (r : Fin 256) (s : Fin 256) : d120 x g kb vb (ix2 ⟨r.val, by omega⟩ s) = (zrow (fun k => k0_pay41 x (ix2 ⟨768 + r.val, by omega⟩ k)) (fun j k => kb 3 (ix3 0 j k))) s := by
  have hr := r.isLt
  pointwise [d120, k0_pay55]
  try simp (disch := omega) only [dif_pos, dif_neg, mask_eq, select_ite, min_top_right, n1, n2, n3, n4, n5, n6, n7, n8, n9, n10, n11, dite_eq_ite, ite_self]
  rfl

theorem t3_00 (x : Vec Ideal S1x2048x128 .f32) (g : FVec Ideal S256x256 .bf16) (kb vb : Fin 8 → Vec Ideal S1x256x128 .bf16) (r : Fin 256) (s : Fin 256) : d264 x g kb vb (ix2 ⟨r.val, by omega⟩ s) = (trowm (zrow (fun k => k0_pay41 x (ix2 ⟨768 + r.val, by omega⟩ k)) (fun j k => kb 3 (ix3 0 j k))) (fun i j => g (ix2 i j)) r.val) s := by
  have hr := r.isLt
  pointwise [d264, d136, d120, d128, k0_pay78, k0_pay57, k0_pay55, k0_pay56, k_clamp, k_log2e]
  simp (disch := omega) only [dif_pos, dif_neg, mask_eq, select_ite, min_top_right, n1, n2, n3, n4, n5, n6, n7, n8, n9, n10, n11, dite_eq_ite, ite_self]
  rfl

theorem p3_00 (x : Vec Ideal S1x2048x128 .f32) (g : FVec Ideal S256x256 .bf16) (kb vb : Fin 8 → Vec Ideal S1x256x128 .bf16) (r : Fin 256) (d : Fin 128) : d372 x g kb vb (ix2 ⟨r.val, by omega⟩ d) = prowm (zrow (fun k => k0_pay41 x (ix2 ⟨768 + r.val, by omega⟩ k)) (fun j k => kb 3 (ix3 0 j k))) (trowm (zrow (fun k => k0_pay41 x (ix2 ⟨768 + r.val, by omega⟩ k)) (fun j k => kb 3 (ix3 0 j k))) (fun i j => g (ix2 i j)) r.val) (fun j => vb 3 (ix3 0 j d)) r.val := by
  have hr := r.isLt
  have e : d372 x g kb vb = k0_pay95 k0_pay44 (d120 x g kb vb) (d264 x g kb vb) (d280 x g kb vb) (vb 3) := rfl
  rw [e, colP_eq]
  simp only [colW_eq, colE_eq]
  simp (disch := omega) only [dif_pos, dif_neg, mask_eq, select_ite, n3, n5, n6, n7, z3_00, t3_00]
  rfl

theorem z3_10 (x : Vec Ideal S1x2048x128 .f32) (g : FVec Ideal S256x256 .bf16) (kb vb : Fin 8 → Vec Ideal S1x256x128 .bf16) (r : Fin 256) (s : Fin 256) : d120 x g kb vb (ix2 ⟨512 + r.val, by omega⟩ s) = (zrow (fun k => k0_pay41 x (ix2 ⟨1024 + r.val, by omega⟩ k)) (fun j k => kb 3 (ix3 0 j k))) s := by
  have hr := r.isLt
  pointwise [d120, k0_pay55]
  try simp (disch := omega) only [dif_pos, dif_neg, mask_eq, select_ite, min_top_right, n1, n2, n3, n4, n5, n6, n7, n8, n9, n10, n11, dite_eq_ite, ite_self]
  rfl

theorem t3_10 (x : Vec Ideal S1x2048x128 .f32) (g : FVec Ideal S256x256 .bf16) (kb vb : Fin 8 → Vec Ideal S1x256x128 .bf16) (r : Fin 256) (s : Fin 256) : d280 x g kb vb (ix2 ⟨r.val, by omega⟩ s) = trow (zrow (fun k => k0_pay41 x (ix2 ⟨1024 + r.val, by omega⟩ k)) (fun j k => kb 3 (ix3 0 j k))) (fun i j => g (ix2 i j)) ((trowm (zrow (fun k => k0_pay41 x (ix2 ⟨1024 + r.val, by omega⟩ k)) (fun j k => kb 4 (ix3 0 j k))) (fun i j => g (ix2 i j)) r.val) 0) s := by
  have hr := r.isLt
  pointwise [d280, d136, d120, d128, d163, k0_pay82, k0_pay57, k0_pay55, k0_pay56, k0_pay59, k0_pay81, k0_pay58, k_clamp, k_log2e]
  simp (disch := omega) only [dif_pos, dif_neg, mask_eq, select_ite, min_top_right, n1, n2, n3, n4, n5, n6, n7, n8, n9, n10, n11, dite_eq_ite, ite_self]
  rfl

theorem p3_10 (x : Vec Ideal S1x2048x128 .f32) (g : FVec Ideal S256x256 .bf16) (kb vb : Fin 8 → Vec Ideal S1x256x128 .bf16) (r : Fin 256) (d : Fin 128) : d372 x g kb vb (ix2 ⟨512 + r.val, by omega⟩ d) = prow (zrow (fun k => k0_pay41 x (ix2 ⟨1024 + r.val, by omega⟩ k)) (fun j k => kb 3 (ix3 0 j k))) (trow (zrow (fun k => k0_pay41 x (ix2 ⟨1024 + r.val, by omega⟩ k)) (fun j k => kb 3 (ix3 0 j k))) (fun i j => g (ix2 i j)) ((trowm (zrow (fun k => k0_pay41 x (ix2 ⟨1024 + r.val, by omega⟩ k)) (fun j k => kb 4 (ix3 0 j k))) (fun i j => g (ix2 i j)) r.val) 0)) (fun j => vb 3 (ix3 0 j d)) := by
  have hr := r.isLt
  have e : d372 x g kb vb = k0_pay95 k0_pay44 (d120 x g kb vb) (d264 x g kb vb) (d280 x g kb vb) (vb 3) := rfl
  rw [e, colP_eq]
  simp only [colW_eq, colE_eq]
  simp (disch := omega) only [dif_pos, dif_neg, mask_eq, select_ite, n3, n5, n6, n7, z3_10, t3_10]
  rfl

theorem z3_01 (x : Vec Ideal S1x2048x128 .f32) (g : FVec Ideal S256x256 .bf16) (kb vb : Fin 8 → Vec Ideal S1x256x128 .bf16) (r : Fin 256) (s : Fin 256) : d120 x g kb vb (ix2 ⟨256 + r.val, by omega⟩ s) = (zrow (fun k => k0_pay42 x (ix2 ⟨768 + r.val, by omega⟩ k)) (fun j k => kb 3 (ix3 0 j k))) s := by
  have hr := r.isLt
  pointwise [d120, k0_pay55]
  try simp (disch := omega) only [dif_pos, dif_neg, mask_eq, select_ite, min_top_right, n1, n2, n3, n4, n5, n6, n7, n8, n9, n10, n11, dite_eq_ite, ite_self]
  rfl

theorem t3_01 (x : Vec Ideal S1x2048x128 .f32) (g : FVec Ideal S256x256 .bf16) (kb vb : Fin 8 → Vec Ideal S1x256x128 .bf16) (r : Fin 256) (s : Fin 256) : d264 x g kb vb (ix2 ⟨256 + r.val, by omega⟩ s) = (trowm (zrow (fun k => k0_pay42 x (ix2 ⟨768 + r.val, by omega⟩ k)) (fun j k => kb 3 (ix3 0 j k))) (fun i j => g (ix2 i j)) r.val) s := by
  have hr := r.isLt
  pointwise [d264, d136, d120, d128, k0_pay78, k0_pay57, k0_pay55, k0_pay56, k_clamp, k_log2e]
  simp (disch := omega) only [dif_pos, dif_neg, mask_eq, select_ite, min_top_right, n1, n2, n3, n4, n5, n6, n7, n8, n9, n10, n11, dite_eq_ite, ite_self]
  rfl

theorem p3_01 (x : Vec Ideal S1x2048x128 .f32) (g : FVec Ideal S256x256 .bf16) (kb vb : Fin 8 → Vec Ideal S1x256x128 .bf16) (r : Fin 256) (d : Fin 128) : d372 x g kb vb (ix2 ⟨256 + r.val, by omega⟩ d) = prowm (zrow (fun k => k0_pay42 x (ix2 ⟨768 + r.val, by omega⟩ k)) (fun j k => kb 3 (ix3 0 j k))) (trowm (zrow (fun k => k0_pay42 x (ix2 ⟨768 + r.val, by omega⟩ k)) (fun j k => kb 3 (ix3 0 j k))) (fun i j => g (ix2 i j)) r.val) (fun j => vb 3 (ix3 0 j d)) r.val := by
  have hr := r.isLt
  have e : d372 x g kb vb = k0_pay95 k0_pay44 (d120 x g kb vb) (d264 x g kb vb) (d280 x g kb vb) (vb 3) := rfl
  rw [e, colP_eq]
  simp only [colW_eq, colE_eq]
  simp (disch := omega) only [dif_pos, dif_neg, mask_eq, select_ite, n3, n5, n6, n7, z3_01, t3_01]
  rfl

theorem z3_11 (x : Vec Ideal S1x2048x128 .f32) (g : FVec Ideal S256x256 .bf16) (kb vb : Fin 8 → Vec Ideal S1x256x128 .bf16) (r : Fin 256) (s : Fin 256) : d120 x g kb vb (ix2 ⟨512 + (256 + r.val), by omega⟩ s) = (zrow (fun k => k0_pay42 x (ix2 ⟨1024 + r.val, by omega⟩ k)) (fun j k => kb 3 (ix3 0 j k))) s := by
  have hr := r.isLt
  pointwise [d120, k0_pay55]
  try simp (disch := omega) only [dif_pos, dif_neg, mask_eq, select_ite, min_top_right, n1, n2, n3, n4, n5, n6, n7, n8, n9, n10, n11, dite_eq_ite, ite_self]
  rfl

theorem t3_11 (x : Vec Ideal S1x2048x128 .f32) (g : FVec Ideal S256x256 .bf16) (kb vb : Fin 8 → Vec Ideal S1x256x128 .bf16) (r : Fin 256) (s : Fin 256) : d280 x g kb vb (ix2 ⟨256 + r.val, by omega⟩ s) = trow (zrow (fun k => k0_pay42 x (ix2 ⟨1024 + r.val, by omega⟩ k)) (fun j k => kb 3 (ix3 0 j k))) (fun i j => g (ix2 i j)) ((trowm (zrow (fun k => k0_pay42 x (ix2 ⟨1024 + r.val, by omega⟩ k)) (fun j k => kb 4 (ix3 0 j k))) (fun i j => g (ix2 i j)) r.val) 0) s := by
  have hr := r.isLt
  pointwise [d280, d136, d120, d128, d163, k0_pay82, k0_pay57, k0_pay55, k0_pay56, k0_pay59, k0_pay81, k0_pay58, k_clamp, k_log2e]
  simp (disch := omega) only [dif_pos, dif_neg, mask_eq, select_ite, min_top_right, n1, n2, n3, n4, n5, n6, n7, n8, n9, n10, n11, dite_eq_ite, ite_self]
  rfl

theorem p3_11 (x : Vec Ideal S1x2048x128 .f32) (g : FVec Ideal S256x256 .bf16) (kb vb : Fin 8 → Vec Ideal S1x256x128 .bf16) (r : Fin 256) (d : Fin 128) : d372 x g kb vb (ix2 ⟨512 + (256 + r.val), by omega⟩ d) = prow (zrow (fun k => k0_pay42 x (ix2 ⟨1024 + r.val, by omega⟩ k)) (fun j k => kb 3 (ix3 0 j k))) (trow (zrow (fun k => k0_pay42 x (ix2 ⟨1024 + r.val, by omega⟩ k)) (fun j k => kb 3 (ix3 0 j k))) (fun i j => g (ix2 i j)) ((trowm (zrow (fun k => k0_pay42 x (ix2 ⟨1024 + r.val, by omega⟩ k)) (fun j k => kb 4 (ix3 0 j k))) (fun i j => g (ix2 i j)) r.val) 0)) (fun j => vb 3 (ix3 0 j d)) := by
  have hr := r.isLt
  have e : d372 x g kb vb = k0_pay95 k0_pay44 (d120 x g kb vb) (d264 x g kb vb) (d280 x g kb vb) (vb 3) := rfl
  rw [e, colP_eq]
  simp only [colW_eq, colE_eq]
  simp (disch := omega) only [dif_pos, dif_neg, mask_eq, select_ite, n3, n5, n6, n7, z3_11, t3_11]
  rfl

theorem z4_00 (x : Vec Ideal S1x2048x128 .f32) (g : FVec Ideal S256x256 .bf16) (kb vb : Fin 8 → Vec Ideal S1x256x128 .bf16) (r : Fin 256) (s : Fin 256) : d147 x g kb vb (ix2 ⟨r.val, by omega⟩ s) = (zrow (fun k => k0_pay41 x (ix2 ⟨1024 + r.val, by omega⟩ k)) (fun j k => kb 4 (ix3 0 j k))) s := by
  have hr := r.isLt
  pointwise [d147, k0_pay58]
  try simp (disch := omega) only [dif_pos, dif_neg, mask_eq, select_ite, min_top_right, n1, n2, n3, n4, n5, n6, n7, n8, n9, n10, n11, dite_eq_ite, ite_self]
  rfl

theorem t4_00 (x : Vec Ideal S1x2048x128 .f32) (g : FVec Ideal S256x256 .bf16) (kb vb : Fin 8 → Vec Ideal S1x256x128 .bf16) (r : Fin 256) (s : Fin 256) : d274 x g kb vb (ix2 ⟨r.val, by omega⟩ s) = (trowm (zrow (fun k => k0_pay41 x (ix2 ⟨1024 + r.val, by omega⟩ k)) (fun j k => kb 4 (ix3 0 j k))) (fun i j => g (ix2 i j)) r.val) s := by
  have hr := r.isLt
  pointwise [d274, d163, k0_pay81, k0_pay59, k0_pay58, k_clamp, k_log2e]
  simp (disch := omega) only [dif_pos, dif_neg, mask_eq, select_ite, min_top_right, n1, n2, n3, n4, n5, n6, n7, n8, n9, n10, n11, dite_eq_ite, ite_self]
  rfl

theorem p4_00 (x : Vec Ideal S1x2048x128 .f32) (g : FVec Ideal S256x256 .bf16) (kb vb : Fin 8 → Vec Ideal S1x256x128 .bf16) (r : Fin 256) (d : Fin 128) : d387 x g kb vb (ix2 ⟨r.val, by omega⟩ d) = prowm (zrow (fun k => k0_pay41 x (ix2 ⟨1024 + r.val, by omega⟩ k)) (fun j k => kb 4 (ix3 0 j k))) (trowm (zrow (fun k => k0_pay41 x (ix2 ⟨1024 + r.val, by omega⟩ k)) (fun j k => kb 4 (ix3 0 j k))) (fun i j => g (ix2 i j)) r.val) (fun j => vb 4 (ix3 0 j d)) r.val := by
  have hr := r.isLt
  have e : d387 x g kb vb = k0_pay95 k0_pay44 (d147 x g kb vb) (d274 x g kb vb) (d290 x g kb vb) (vb 4) := rfl
  rw [e, colP_eq]
  simp only [colW_eq, colE_eq]
  simp (disch := omega) only [dif_pos, dif_neg, mask_eq, select_ite, n3, n5, n6, n7, z4_00, t4_00]
  rfl

theorem z4_10 (x : Vec Ideal S1x2048x128 .f32) (g : FVec Ideal S256x256 .bf16) (kb vb : Fin 8 → Vec Ideal S1x256x128 .bf16) (r : Fin 256) (s : Fin 256) : d147 x g kb vb (ix2 ⟨512 + r.val, by omega⟩ s) = (zrow (fun k => k0_pay41 x (ix2 ⟨1280 + r.val, by omega⟩ k)) (fun j k => kb 4 (ix3 0 j k))) s := by
  have hr := r.isLt
  pointwise [d147, k0_pay58]
  try simp (disch := omega) only [dif_pos, dif_neg, mask_eq, select_ite, min_top_right, n1, n2, n3, n4, n5, n6, n7, n8, n9, n10, n11, dite_eq_ite, ite_self]
  rfl

theorem t4_10 (x : Vec Ideal S1x2048x128 .f32) (g : FVec Ideal S256x256 .bf16) (kb vb : Fin 8 → Vec Ideal S1x256x128 .bf16) (r : Fin 256) (s : Fin 256) : d290 x g kb vb (ix2 ⟨r.val, by omega⟩ s) = trow (zrow (fun k => k0_pay41 x (ix2 ⟨1280 + r.val, by omega⟩ k)) (fun j k => kb 4 (ix3 0 j k))) (fun i j => g (ix2 i j)) ((trowm (zrow (fun k => k0_pay41 x (ix2 ⟨1280 + r.val, by omega⟩ k)) (fun j k => kb 5 (ix3 0 j k))) (fun i j => g (ix2 i j)) r.val) 0) s := by
  have hr := r.isLt
  pointwise [d290, d163, d190, d168, d173, k0_pay85, k0_pay59, k0_pay63, k0_pay60, k0_pay61, k0_pay84, k0_pay58, k0_pay62, k_clamp, k_log2e]
  simp (disch := omega) only [dif_pos, dif_neg, mask_eq, select_ite, min_top_right, n1, n2, n3, n4, n5, n6, n7, n8, n9, n10, n11, dite_eq_ite, ite_self]
  rfl

theorem p4_10 (x : Vec Ideal S1x2048x128 .f32) (g : FVec Ideal S256x256 .bf16) (kb vb : Fin 8 → Vec Ideal S1x256x128 .bf16) (r : Fin 256) (d : Fin 128) : d387 x g kb vb (ix2 ⟨512 + r.val, by omega⟩ d) = prow (zrow (fun k => k0_pay41 x (ix2 ⟨1280 + r.val, by omega⟩ k)) (fun j k => kb 4 (ix3 0 j k))) (trow (zrow (fun k => k0_pay41 x (ix2 ⟨1280 + r.val, by omega⟩ k)) (fun j k => kb 4 (ix3 0 j k))) (fun i j => g (ix2 i j)) ((trowm (zrow (fun k => k0_pay41 x (ix2 ⟨1280 + r.val, by omega⟩ k)) (fun j k => kb 5 (ix3 0 j k))) (fun i j => g (ix2 i j)) r.val) 0)) (fun j => vb 4 (ix3 0 j d)) := by
  have hr := r.isLt
  have e : d387 x g kb vb = k0_pay95 k0_pay44 (d147 x g kb vb) (d274 x g kb vb) (d290 x g kb vb) (vb 4) := rfl
  rw [e, colP_eq]
  simp only [colW_eq, colE_eq]
  simp (disch := omega) only [dif_pos, dif_neg, mask_eq, select_ite, n3, n5, n6, n7, z4_10, t4_10]
  rfl

theorem z4_01 (x : Vec Ideal S1x2048x128 .f32) (g : FVec Ideal S256x256 .bf16) (kb vb : Fin 8 → Vec Ideal S1x256x128 .bf16) (r : Fin 256) (s : Fin 256) : d147 x g kb vb (ix2 ⟨256 + r.val, by omega⟩ s) = (zrow (fun k => k0_pay42 x (ix2 ⟨1024 + r.val, by omega⟩ k)) (fun j k => kb 4 (ix3 0 j k))) s := by
  have hr := r.isLt
  pointwise [d147, k0_pay58]
  try simp (disch := omega) only [dif_pos, dif_neg, mask_eq, select_ite, min_top_right, n1, n2, n3, n4, n5, n6, n7, n8, n9, n10, n11, dite_eq_ite, ite_self]
  rfl

theorem t4_01 (x : Vec Ideal S1x2048x128 .f32) (g : FVec Ideal S256x256 .bf16) (kb vb : Fin 8 → Vec Ideal S1x256x128 .bf16) (r : Fin 256) (s : Fin 256) : d274 x g kb vb (ix2 ⟨256 + r.val, by omega⟩ s) = (trowm (zrow (fun k => k0_pay42 x (ix2 ⟨1024 + r.val, by omega⟩ k)) (fun j k => kb 4 (ix3 0 j k))) (fun i j => g (ix2 i j)) r.val) s := by
  have hr := r.isLt
  pointwise [d274, d163, k0_pay81, k0_pay59, k0_pay58, k_clamp, k_log2e]
  simp (disch := omega) only [dif_pos, dif_neg, mask_eq, select_ite, min_top_right, n1, n2, n3, n4, n5, n6, n7, n8, n9, n10, n11, dite_eq_ite, ite_self]
  rfl

theorem p4_01 (x : Vec Ideal S1x2048x128 .f32) (g : FVec Ideal S256x256 .bf16) (kb vb : Fin 8 → Vec Ideal S1x256x128 .bf16) (r : Fin 256) (d : Fin 128) : d387 x g kb vb (ix2 ⟨256 + r.val, by omega⟩ d) = prowm (zrow (fun k => k0_pay42 x (ix2 ⟨1024 + r.val, by omega⟩ k)) (fun j k => kb 4 (ix3 0 j k))) (trowm (zrow (fun k => k0_pay42 x (ix2 ⟨1024 + r.val, by omega⟩ k)) (fun j k => kb 4 (ix3 0 j k))) (fun i j => g (ix2 i j)) r.val) (fun j => vb 4 (ix3 0 j d)) r.val := by
  have hr := r.isLt
  have e : d387 x g kb vb = k0_pay95 k0_pay44 (d147 x g kb vb) (d274 x g kb vb) (d290 x g kb vb) (vb 4) := rfl
  rw [e, colP_eq]
  simp only [colW_eq, colE_eq]
  simp (disch := omega) only [dif_pos, dif_neg, mask_eq, select_ite, n3, n5, n6, n7, z4_01, t4_01]
  rfl

theorem z4_11 (x : Vec Ideal S1x2048x128 .f32) (g : FVec Ideal S256x256 .bf16) (kb vb : Fin 8 → Vec Ideal S1x256x128 .bf16) (r : Fin 256) (s : Fin 256) : d147 x g kb vb (ix2 ⟨512 + (256 + r.val), by omega⟩ s) = (zrow (fun k => k0_pay42 x (ix2 ⟨1280 + r.val, by omega⟩ k)) (fun j k => kb 4 (ix3 0 j k))) s := by
  have hr := r.isLt
  pointwise [d147, k0_pay58]
  try simp (disch := omega) only [dif_pos, dif_neg, mask_eq, select_ite, min_top_right, n1, n2, n3, n4, n5, n6, n7, n8, n9, n10, n11, dite_eq_ite, ite_self]
  rfl

theorem t4_11 (x : Vec Ideal S1x2048x128 .f32) (g : FVec Ideal S256x256 .bf16) (kb vb : Fin 8 → Vec Ideal S1x256x128 .bf16) (r : Fin 256) (s : Fin 256) : d290 x g kb vb (ix2 ⟨256 + r.val, by omega⟩ s) = trow (zrow (fun k => k0_pay42 x (ix2 ⟨1280 + r.val, by omega⟩ k)) (fun j k => kb 4 (ix3 0 j k))) (fun i j => g (ix2 i j)) ((trowm (zrow (fun k => k0_pay42 x (ix2 ⟨1280 + r.val, by omega⟩ k)) (fun j k => kb 5 (ix3 0 j k))) (fun i j => g (ix2 i j)) r.val) 0) s := by
  have hr := r.isLt
  pointwise [d290, d163, d190, d168, d173, k0_pay85, k0_pay59, k0_pay63, k0_pay60, k0_pay61, k0_pay84, k0_pay58, k0_pay62, k_clamp, k_log2e]
  simp (disch := omega) only [dif_pos, dif_neg, mask_eq, select_ite, min_top_right, n1, n2, n3, n4, n5, n6, n7, n8, n9, n10, n11, dite_eq_ite, ite_self]
  rfl

theorem p4_11 (x : Vec Ideal S1x2048x128 .f32) (g : FVec Ideal S256x256 .bf16) (kb vb : Fin 8 → Vec Ideal S1x256x128 .bf16) (r : Fin 256) (d : Fin 128) : d387 x g kb vb (ix2 ⟨512 + (256 + r.val), by omega⟩ d) = prow (zrow (fun k => k0_pay42 x (ix2 ⟨1280 + r.val, by omega⟩ k)) (fun j k => kb 4 (ix3 0 j k))) (trow (zrow (fun k => k0_pay42 x (ix2 ⟨1280 + r.val, by omega⟩ k)) (fun j k => kb 4 (ix3 0 j k))) (fun i j => g (ix2 i j)) ((trowm (zrow (fun k => k0_pay42 x (ix2 ⟨1280 + r.val, by omega⟩ k)) (fun j k => kb 5 (ix3 0 j k))) (fun i j => g (ix2 i j)) r.val) 0)) (fun j => vb 4 (ix3 0 j d)) := by
  have hr := r.isLt
  have e : d387 x g kb vb = k0_pay95 k0_pay44 (d147 x g kb vb) (d274 x g kb vb) (d290 x g kb vb) (vb 4) := rfl
  rw [e, colP_eq]
  simp only [colW_eq, colE_eq]
  simp (disch := omega) only [dif_pos, dif_neg, mask_eq, select_ite, n3, n5, n6, n7, z4_11, t4_11]
  rfl

theorem z5_00 (x : Vec Ideal S1x2048x128 .f32) (g : FVec Ideal S256x256 .bf16) (kb vb : Fin 8 → Vec Ideal S1x256x128 .bf16) (r : Fin 256) (s : Fin 256) : d174 x g kb vb (ix2 ⟨r.val, by omega⟩ s) = (zrow (fun k => k0_pay41 x (ix2 ⟨1280 + r.val, by omega⟩ k)) (fun j k => kb 5 (ix3 0 j k))) s := by
  have hr := r.isLt
  pointwise [d174, d168, d173, k0_pay62, k0_pay60, k0_pay61]
  try simp (disch := omega) only [dif_pos, dif_neg, mask_eq, select_ite, min_top_right, n1, n2, n3, n4, n5, n6, n7, n8, n9, n10, n11, dite_eq_ite, ite_self]
  rfl

theorem t5_00 (x : Vec Ideal S1x2048x128 .f32) (g : FVec Ideal S256x256 .bf16) (kb vb : Fin 8 → Vec Ideal S1x256x128 .bf16) (r : Fin 256) (s : Fin 256) : d284 x g kb vb (ix2 ⟨r.val, by omega⟩ s) = (trowm (zrow (fun k => k0_pay41 x (ix2 ⟨1280 + r.val, by omega⟩ k)) (fun j k => kb 5 (ix3 0 j k))) (fun i j => g (ix2 i j)) r.val) s := by
  have hr := r.isLt
  pointwise [d284, d190, d168, d173, k0_pay84, k0_pay63, k0_pay60, k0_pay61, k0_pay62, k_clamp, k_log2e]
  simp (disch := omega) only [dif_pos, dif_neg, mask_eq, select_ite, min_top_right, n1, n2, n3, n4, n5, n6, n7, n8, n9, n10, n11, dite_eq_ite, ite_self]
  rfl

theorem p5_00 (x : Vec Ideal S1x2048x128 .f32) (g : FVec Ideal S256x256 .bf16) (kb vb : Fin 8 → Vec Ideal S1x256x128 .bf16) (r : Fin 256) (d : Fin 128) : d402 x g kb vb (ix2 ⟨r.val, by omega⟩ d) = prowm (zrow (fun k => k0_pay41 x (ix2 ⟨1280 + r.val, by omega⟩ k)) (fun j k => kb 5 (ix3 0 j k))) (trowm (zrow (fun k => k0_pay41 x (ix2 ⟨1280 + r.val, by omega⟩ k)) (fun j k => kb 5 (ix3 0 j k))) (fun i j => g (ix2 i j)) r.val) (fun j => vb 5 (ix3 0 j d)) r.val := by
  have hr := r.isLt
  have e : d402 x g kb vb = k0_pay95 k0_pay44 (d174 x g kb vb) (d284 x g kb vb) (d300 x g kb vb) (vb 5) := rfl
  rw [e, colP_eq]
  simp only [colW_eq, colE_eq]
  simp (disch := omega) only [dif_pos, dif_neg, mask_eq, select_ite, n3, n5, n6, n7, z5_00, t5_00]
  rfl

theorem z5_10 (x : Vec Ideal S1x2048x128 .f32) (g : FVec Ideal S256x256 .bf16) (kb vb : Fin 8 → Vec Ideal S1x256x128 .bf16) (r : Fin 256) (s : Fin 256) : d174 x g kb vb (ix2 ⟨512 + r.val, by omega⟩ s) = (zrow (fun k => k0_pay41 x (ix2 ⟨1536 + r.val, by omega⟩ k)) (fun j k => kb 5 (ix3 0 j k))) s := by
  have hr := r.isLt
  pointwise [d174, d168, d173, k0_pay62, k0_pay60, k0_pay61]
  try simp (disch := omega) only [dif_pos, dif_neg, mask_eq, select_ite, min_top_right, n1, n2, n3, n4, n5, n6, n7, n8, n9, n10, n11, dite_eq_ite, ite_self]
  rfl

theorem t5_10 (x : Vec Ideal S1x2048x128 .f32) (g : FVec Ideal S256x256 .bf16) (kb vb : Fin 8 → Vec Ideal S1x256x128 .bf16) (r : Fin 256) (s : Fin 256) : d300 x g kb vb (ix2 ⟨r.val, by omega⟩ s) = trow (zrow (fun k => k0_pay41 x (ix2 ⟨1536 + r.val, by omega⟩ k)) (fun j k => kb 5 (ix3 0 j k))) (fun i j => g (ix2 i j)) ((trowm (zrow (fun k => k0_pay41 x (ix2 ⟨1536 + r.val, by omega⟩ k)) (fun j k => kb 6 (ix3 0 j k))) (fun i j => g (ix2 i j)) r.val) 0) s := by
  have hr := r.isLt
  pointwise [d300, d190, d168, d173, d217, k0_pay88, k0_pay63, k0_pay60, k0_pay61, k0_pay65, k0_pay87, k0_pay62, k0_pay64, k_clamp, k_log2e]
  simp (disch := omega) only [dif_pos, dif_neg, mask_eq, select_ite, min_top_right, n1, n2, n3, n4, n5, n6, n7, n8, n9, n10, n11, dite_eq_ite, ite_self]
  rfl

theorem p5_10 (x : Vec Ideal S1x2048x128 .f32) (g : FVec Ideal S256x256 .bf16) (kb vb : Fin 8 → Vec Ideal S1x256x128 .bf16) (r : Fin 256) (d : Fin 128) : d402 x g kb vb (ix2 ⟨512 + r.val, by omega⟩ d) = prow (zrow (fun k => k0_pay41 x (ix2 ⟨1536 + r.val, by omega⟩ k)) (fun j k => kb 5 (ix3 0 j k))) (trow (zrow (fun k => k0_pay41 x (ix2 ⟨1536 + r.val, by omega⟩ k)) (fun j k => kb 5 (ix3 0 j k))) (fun i j => g (ix2 i j)) ((trowm (zrow (fun k => k0_pay41 x (ix2 ⟨1536 + r.val, by omega⟩ k)) (fun j k => kb 6 (ix3 0 j k))) (fun i j => g (ix2 i j)) r.val) 0)) (fun j => vb 5 (ix3 0 j d)) := by
  have hr := r.isLt
  have e : d402 x g kb vb = k0_pay95 k0_pay44 (d174 x g kb vb) (d284 x g kb vb) (d300 x g kb vb) (vb 5) := rfl
  rw [e, colP_eq]
  simp only [colW_eq, colE_eq]
  simp (disch := omega) only [dif_pos, dif_neg, mask_eq, select_ite, n3, n5, n6, n7, z5_10, t5_10]
  rfl

theorem z5_01 (x : Vec Ideal S1x2048x128 .f32) (g : FVec Ideal S256x256 .bf16) (kb vb : Fin 8 → Vec Ideal S1x256x128 .bf16) (r : Fin 256) (s : Fin 256) : d174 x g kb vb (ix2 ⟨256 + r.val, by omega⟩ s) = (zrow (fun k => k0_pay42 x (ix2 ⟨1280 + r.val, by omega⟩ k)) (fun j k => kb 5 (ix3 0 j k))) s := by
  have hr := r.isLt
  pointwise [d174, d168, d173, k0_pay62, k0_pay60, k0_pay61]
  try simp (disch := omega) only [dif_pos, dif_neg, mask_eq, select_ite, min_top_right, n1, n2, n3, n4, n5, n6, n7, n8, n9, n10, n11, dite_eq_ite, ite_self]
  rfl

theorem t5_01 (x : Vec Ideal S1x2048x128 .f32) (g : FVec Ideal S256x256 .bf16) (kb vb : Fin 8 → Vec Ideal S1x256x128 .bf16) (r : Fin 256) (s : Fin 256) : d284 x g kb vb (ix2 ⟨256 + r.val, by omega⟩ s) = (trowm (zrow (fun k => k0_pay42 x (ix2 ⟨1280 + r.val, by omega⟩ k)) (fun j k => kb 5 (ix3 0 j k))) (fun i j => g (ix2 i j)) r.val) s := by
  have hr := r.isLt
  pointwise [d284, d190, d168, d173, k0_pay84, k0_pay63, k0_pay60, k0_pay61, k0_pay62, k_clamp, k_log2e]
  simp (disch := omega) only [dif_pos, dif_neg, mask_eq, select_ite, min_top_right, n1, n2, n3, n4, n5, n6, n7, n8, n9, n10, n11, dite_eq_ite, ite_self]
  rfl

theorem p5_01 (x : Vec Ideal S1x2048x128 .f32) (g : FVec Ideal S256x256 .bf16) (kb vb : Fin 8 → Vec Ideal S1x256x128 .bf16) (r : Fin 256) (d : Fin 128) : d402 x g kb vb (ix2 ⟨256 + r.val, by omega⟩ d) = prowm (zrow (fun k => k0_pay42 x (ix2 ⟨1280 + r.val, by omega⟩ k)) (fun j k => kb 5 (ix3 0 j k))) (trowm (zrow (fun k => k0_pay42 x (ix2 ⟨1280 + r.val, by omega⟩ k)) (fun j k => kb 5 (ix3 0 j k))) (fun i j => g (ix2 i j)) r.val) (fun j => vb 5 (ix3 0 j d)) r.val := by
  have hr := r.isLt
  have e : d402 x g kb vb = k0_pay95 k0_pay44 (d174 x g kb vb) (d284 x g kb vb) (d300 x g kb vb) (vb 5) := rfl
  rw [e, colP_eq]
  simp only [colW_eq, colE_eq]
  simp (disch := omega) only [dif_pos, dif_neg, mask_eq, select_ite, n3, n5, n6, n7, z5_01, t5_01]
  rfl

theorem z5_11 (x : Vec Ideal S1x2048x128 .f32) (g : FVec Ideal S256x256 .bf16) (kb vb : Fin 8 → Vec Ideal S1x256x128 .bf16) (r : Fin 256) (s : Fin 256) : d174 x g kb vb (ix2 ⟨512 + (256 + r.val), by omega⟩ s) = (zrow (fun k => k0_pay42 x (ix2 ⟨1536 + r.val, by omega⟩ k)) (fun j k => kb 5 (ix3 0 j k))) s := by
  have hr := r.isLt
  pointwise [d174, d168, d173, k0_pay62, k0_pay60, k0_pay61]
  try simp (disch := omega) only [dif_pos, dif_neg, mask_eq, select_ite, min_top_right, n1, n2, n3, n4, n5, n6, n7, n8, n9, n10, n11, dite_eq_ite, ite_self]
  rfl

theorem t5_11 (x : Vec Ideal S1x2048x128 .f32) (g : FVec Ideal S256x256 .bf16) (kb vb : Fin 8 → Vec Ideal S1x256x128 .bf16) (r : Fin 256) (s : Fin 256) : d300 x g kb vb (ix2 ⟨256 + r.val, by omega⟩ s) = trow (zrow (fun k => k0_pay42 x (ix2 ⟨1536 + r.val, by omega⟩ k)) (fun j k => kb 5 (ix3 0 j k))) (fun i j => g (ix2 i j)) ((trowm (zrow (fun k => k0_pay42 x (ix2 ⟨1536 + r.val, by omega⟩ k)) (fun j k => kb 6 (ix3 0 j k))) (fun i j => g (ix2 i j)) r.val) 0) s := by
  have hr := r.isLt
  pointwise [d300, d190, d168, d173, d217, k0_pay88, k0_pay63, k0_pay60, k0_pay61, k0_pay65, k0_pay87, k0_pay62, k0_pay64, k_clamp, k_log2e]
  simp (disch := omega) only [dif_pos, dif_neg, mask_eq, select_ite, min_top_right, n1, n2, n3, n4, n5, n6, n7, n8, n9, n10, n11, dite_eq_ite, ite_self]
  rfl

theorem p5_11 (x : Vec Ideal S1x2048x128 .f32) (g : FVec Ideal S256x256 .bf16) (kb vb : Fin 8 → Vec Ideal S1x256x128 .bf16) (r : Fin 256) (d : Fin 128) : d402 x g kb vb (ix2 ⟨512 + (256 + r.val), by omega⟩ d) = prow (zrow (fun k => k0_pay42 x (ix2 ⟨1536 + r.val, by omega⟩ k)) (fun j k => kb 5 (ix3 0 j k))) (trow (zrow (fun k => k0_pay42 x (ix2 ⟨1536 + r.val, by omega⟩ k)) (fun j k => kb 5 (ix3 0 j k))) (fun i j => g (ix2 i j)) ((trowm (zrow (fun k => k0_pay42 x (ix2 ⟨1536 + r.val, by omega⟩ k)) (fun j k => kb 6 (ix3 0 j k))) (fun i j => g (ix2 i j)) r.val) 0)) (fun j => vb 5 (ix3 0 j d)) := by
  have hr := r.isLt
  have e : d402 x g kb vb = k0_pay95 k0_pay44 (d174 x g kb vb) (d284 x g kb vb) (d300 x g kb vb) (vb 5) := rfl
  rw [e, colP_eq]
  simp only [colW_eq, colE_eq]
  simp (disch := omega) only [dif_pos, dif_neg, mask_eq, select_ite, n3, n5, n6, n7, z5_11, t5_11]
  rfl

theorem z7_00 (x : Vec Ideal S1x2048x128 .f32) (g : FVec Ideal S256x256 .bf16) (kb vb : Fin 8 → Vec Ideal S1x256x128 .bf16) (r : Fin 256) (s : Fin 256) : d226 x g kb vb (ix2 ⟨r.val, by omega⟩ s) = (zrow (fun k => k0_pay41 x (ix2 ⟨1792 + r.val, by omega⟩ k)) (fun j k => kb 7 (ix3 0 j k))) s := by
  have hr := r.isLt
  pointwise [d226, d218, d219, k0_pay68, k0_pay66, k0_pay67]
  try simp (disch := omega) only [dif_pos, dif_neg, mask_eq, select_ite, min_top_right, n1, n2, n3, n4, n5, n6, n7, n8, n9, n10, n11, dite_eq_ite, ite_self]
  rfl

theorem t7_00 (x : Vec Ideal S1x2048x128 .f32) (g : FVec Ideal S256x256 .bf16) (kb vb : Fin 8 → Vec Ideal S1x256x128 .bf16) (r : Fin 256) (s : Fin 256) : d239 x g kb vb (ix2 ⟨r.val, by omega⟩ s) = (trowm (zrow (fun k => k0_pay41 x (ix2 ⟨1792 + r.val, by omega⟩ k)) (fun j k => kb 7 (ix3 0 j k))) (fun i j => g (ix2 i j)) r.val) s := by
  have hr := r.isLt
  pointwise [d239, d218, d219, k0_pay69, k0_pay66, k0_pay67, k0_pay68, k_clamp, k_log2e]
  simp (disch := omega) only [dif_pos, dif_neg, mask_eq, select_ite, min_top_right, n1, n2, n3, n4, n5, n6, n7, n8, n9, n10, n11, dite_eq_ite, ite_self]
  unfold trowm; refine Finset.sum_congr rfl fun i _ => ?_; rw [ite_mul, zero_mul]; rfl

theorem p7_00 (x : Vec Ideal S1x2048x128 .f32) (g : FVec Ideal S256x256 .bf16) (kb vb : Fin 8 → Vec Ideal S1x256x128 .bf16) (r : Fin 256) (d : Fin 128) : d428 x g kb vb (ix2 ⟨r.val, by omega⟩ d) = prowm (zrow (fun k => k0_pay41 x (ix2 ⟨1792 + r.val, by omega⟩ k)) (fun j k => kb 7 (ix3 0 j k))) (trowm (zrow (fun k => k0_pay41 x (ix2 ⟨1792 + r.val, by omega⟩ k)) (fun j k => kb 7 (ix3 0 j k))) (fun i j => g (ix2 i j)) r.val) (fun j => vb 7 (ix3 0 j d)) r.val := by
  have hr := r.isLt
  pointwise [d428, k0_pay105]
  simp (disch := omega) only [mask_eq, select_ite, n6, n7, z7_00, t7_00]
  unfold prowm
  refine Finset.sum_congr rfl fun s _ => ?_
  split
  · rfl
  · rw [zero_mul]

theorem z7_01 (x : Vec Ideal S1x2048x128 .f32) (g : FVec Ideal S256x256 .bf16) (kb vb : Fin 8 → Vec Ideal S1x256x128 .bf16) (r : Fin 256) (s : Fin 256) : d226 x g kb vb (ix2 ⟨256 + r.val, by omega⟩ s) = (zrow (fun k => k0_pay42 x (ix2 ⟨1792 + r.val, by omega⟩ k)) (fun j k => kb 7 (ix3 0 j k))) s := by
  have hr := r.isLt
  pointwise [d226, d218, d219, k0_pay68, k0_pay66, k0_pay67]
  try simp (disch := omega) only [dif_pos, dif_neg, mask_eq, select_ite, min_top_right, n1, n2, n3, n4, n5, n6, n7, n8, n9, n10, n11, dite_eq_ite, ite_self]
  rfl

theorem t7_01 (x : Vec Ideal S1x2048x128 .f32) (g : FVec Ideal S256x256 .bf16) (kb vb : Fin 8 → Vec Ideal S1x256x128 .bf16) (r : Fin 256) (s : Fin 256) : d239 x g kb vb (ix2 ⟨256 + r.val, by omega⟩ s) = (trowm (zrow (fun k => k0_pay42 x (ix2 ⟨1792 + r.val, by omega⟩ k)) (fun j k => kb 7 (ix3 0 j k))) (fun i j => g (ix2 i j)) r.val) s := by
  have hr := r.isLt
  pointwise [d239, d218, d219, k0_pay69, k0_pay66, k0_pay67, k0_pay68, k_clamp, k_log2e]
  simp (disch := omega) only [dif_pos, dif_neg, mask_eq, select_ite, min_top_right, n1, n2, n3, n4, n5, n6, n7, n8, n9, n10, n11, dite_eq_ite, ite_self]
  unfold trowm; refine Finset.sum_congr rfl fun i _ => ?_; rw [ite_mul, zero_mul]; rfl

theorem p7_01 (x : Vec Ideal S1x2048x128 .f32) (g : FVec Ideal S256x256 .bf16) (kb vb : Fin 8 → Vec Ideal S1x256x128 .bf16) (r : Fin 256) (d : Fin 128) : d428 x g kb vb (ix2 ⟨256 + r.val, by omega⟩ d) = prowm (zrow (fun k => k0_pay42 x (ix2 ⟨1792 + r.val, by omega⟩ k)) (fun j k => kb 7 (ix3 0 j k))) (trowm (zrow (fun k => k0_pay42 x (ix2 ⟨1792 + r.val, by omega⟩ k)) (fun j k => kb 7 (ix3 0 j k))) (fun i j => g (ix2 i j)) r.val) (fun j => vb 7 (ix3 0 j d)) r.val := by
  have hr := r.isLt
  pointwise [d428, k0_pay105]
  simp (disch := omega) only [mask_eq, select_ite, n6, n7, z7_01, t7_01]
  unfold prowm
  refine Finset.sum_congr rfl fun s _ => ?_
  split
  · rfl
  · rw [zero_mul]

theorem z6_00 (x : Vec Ideal S1x2048x128 .f32) (g : FVec Ideal S256x256 .bf16) (kb vb : Fin 8 → Vec Ideal S1x256x128 .bf16) (r : Fin 256) (s : Fin 256) : d201 x g kb vb (ix2 ⟨r.val, by omega⟩ s) = (zrow (fun k => k0_pay41 x (ix2 ⟨1536 + r.val, by omega⟩ k)) (fun j k => kb 6 (ix3 0 j k))) s := by
  have hr := r.isLt
  pointwise [d201, k0_pay64]
  try simp (disch := omega) only [dif_pos, dif_neg, mask_eq, select_ite, min_top_right, n1, n2, n3, n4, n5, n6, n7, n8, n9, n10, n11, dite_eq_ite, ite_self]
  rfl

theorem t6_00 (x : Vec Ideal S1x2048x128 .f32) (g : FVec Ideal S256x256 .bf16) (kb vb : Fin 8 → Vec Ideal S1x256x128 .bf16) (r : Fin 256) (s : Fin 256) : d294 x g kb vb (ix2 ⟨r.val, by omega⟩ s) = (trowm (zrow (fun k => k0_pay41 x (ix2 ⟨1536 + r.val, by omega⟩ k)) (fun j k => kb 6 (ix3 0 j k))) (fun i j => g (ix2 i j)) r.val) s := by
  have hr := r.isLt
  pointwise [d294, d217, k0_pay87, k0_pay65, k0_pay64, k_clamp, k_log2e]
  simp (disch := omega) only [dif_pos, dif_neg, mask_eq, select_ite, min_top_right, n1, n2, n3, n4, n5, n6, n7, n8, n9, n10, n11, dite_eq_ite, ite_self]
  rfl

theorem p6_00 (x : Vec Ideal S1x2048x128 .f32) (g : FVec Ideal S256x256 .bf16) (kb vb : Fin 8 → Vec Ideal S1x256x128 .bf16) (r : Fin 256) (d : Fin 128) : d417 x g kb vb (ix2 ⟨r.val, by omega⟩ d) = prowm (zrow (fun k => k0_pay41 x (ix2 ⟨1536 + r.val, by omega⟩ k)) (fun j k => kb 6 (ix3 0 j k))) (trowm (zrow (fun k => k0_pay41 x (ix2 ⟨1536 + r.val, by omega⟩ k)) (fun j k => kb 6 (ix3 0 j k))) (fun i j => g (ix2 i j)) r.val) (fun j => vb 6 (ix3 0 j d)) r.val := by
  have hr := r.isLt
  have e : d417 x g kb vb = k0_pay95 k0_pay44 (d201 x g kb vb) (d294 x g kb vb) (d309 x g kb vb) (vb 6) := rfl
  rw [e, colP_eq]
  simp only [colW_eq, colE_eq]
  simp (disch := omega) only [dif_pos, dif_neg, mask_eq, select_ite, n3, n5, n6, n7, z6_00, t6_00]
  rfl

theorem z6_10 (x : Vec Ideal S1x2048x128 .f32) (g : FVec Ideal S256x256 .bf16) (kb vb : Fin 8 → Vec Ideal S1x256x128 .bf16) (r : Fin 256) (s : Fin 256) : d201 x g kb vb (ix2 ⟨512 + r.val, by omega⟩ s) = (zrow (fun k => k0_pay41 x (ix2 ⟨1792 + r.val, by omega⟩ k)) (fun j k => kb 6 (ix3 0 j k))) s := by
  have hr := r.isLt
  pointwise [d201, k0_pay64]
  try simp (disch := omega) only [dif_pos, dif_neg, mask_eq, select_ite, min_top_right, n1, n2, n3, n4, n5, n6, n7, n8, n9, n10, n11, dite_eq_ite, ite_self]
  rfl

set_option maxHeartbeats 2000000 in
theorem t6_10 (x : Vec Ideal S1x2048x128 .f32) (g : FVec Ideal S256x256 .bf16) (kb vb : Fin 8 → Vec Ideal S1x256x128 .bf16) (r : Fin 256) (s : Fin 256) : d309 x g kb vb (ix2 ⟨r.val, by omega⟩ s) = trow (zrow (fun k => k0_pay41 x (ix2 ⟨1792 + r.val, by omega⟩ k)) (fun j k => kb 6 (ix3 0 j k))) (fun i j => g (ix2 i j)) ((trowm (zrow (fun k => k0_pay41 x (ix2 ⟨1792 + r.val, by omega⟩ k)) (fun j k => kb 7 (ix3 0 j k))) (fun i j => g (ix2 i j)) r.val) 0) s := by
  have hr := r.isLt
  pointwise [d309, d217, k0_pay90, k0_pay65, k0_pay64, k_clamp, k_log2e]
  simp (disch := omega) only [dif_pos, dif_neg, mask_eq, select_ite, min_top_right, n1, n2, n3, n4, n5, n6, n7, n8, n9, n10, n11, dite_eq_ite, ite_self, t7_00]
  rfl

theorem p6_10 (x : Vec Ideal S1x2048x128 .f32) (g : FVec Ideal S256x256 .bf16) (kb vb : Fin 8 → Vec Ideal S1x256x128 .bf16) (r : Fin 256) (d : Fin 128) : d417 x g kb vb (ix2 ⟨512 + r.val, by omega⟩ d) = prow (zrow (fun k => k0_pay41 x (ix2 ⟨1792 + r.val, by omega⟩ k)) (fun j k => kb 6 (ix3 0 j k))) (trow (zrow (fun k => k0_pay41 x (ix2 ⟨1792 + r.val, by omega⟩ k)) (fun j k => kb 6 (ix3 0 j k))) (fun i j => g (ix2 i j)) ((trowm (zrow (fun k => k0_pay41 x (ix2 ⟨1792 + r.val, by omega⟩ k)) (fun j k => kb 7 (ix3 0 j k))) (fun i j => g (ix2 i j)) r.val) 0)) (fun j => vb 6 (ix3 0 j d)) := by
  have hr := r.isLt
  have e : d417 x g kb vb = k0_pay95 k0_pay44 (d201 x g kb vb) (d294 x g kb vb) (d309 x g kb vb) (vb 6) := rfl
  rw [e, colP_eq]
  simp only [colW_eq, colE_eq]
  simp (disch := omega) only [dif_pos, dif_neg, mask_eq, select_ite, n3, n5, n6, n7, z6_10, t6_10]
  rfl

theorem z6_01 (x : Vec Ideal S1x2048x128 .f32) (g : FVec Ideal S256x256 .bf16) (kb vb : Fin 8 → Vec Ideal S1x256x128 .bf16) (r : Fin 256) (s : Fin 256) : d201 x g kb vb (ix2 ⟨256 + r.val, by omega⟩ s) = (zrow (fun k => k0_pay42 x (ix2 ⟨1536 + r.val, by omega⟩ k)) (fun j k => kb 6 (ix3 0 j k))) s := by
  have hr := r.isLt
  pointwise [d201, k0_pay64]
  try simp (disch := omega) only [dif_pos, dif_neg, mask_eq, select_ite, min_top_right, n1, n2, n3, n4, n5, n6, n7, n8, n9, n10, n11, dite_eq_ite, ite_self]
  rfl

theorem t6_01 (x : Vec Ideal S1x2048x128 .f32) (g : FVec Ideal S256x256 .bf16) (kb vb : Fin 8 → Vec Ideal S1x256x128 .bf16) (r : Fin 256) (s : Fin 256) : d294 x g kb vb (ix2 ⟨256 + r.val, by omega⟩ s) = (trowm (zrow (fun k => k0_pay42 x (ix2 ⟨1536 + r.val, by omega⟩ k)) (fun j k => kb 6 (ix3 0 j k))) (fun i j => g (ix2 i j)) r.val) s := by
  have hr := r.isLt
  pointwise [d294, d217, k0_pay87, k0_pay65, k0_pay64, k_clamp, k_log2e]
  simp (disch := omega) only [dif_pos, dif_neg, mask_eq, select_ite, min_top_right, n1, n2, n3, n4, n5, n6, n7, n8, n9, n10, n11, dite_eq_ite, ite_self]
  rfl

theorem p6_01 (x : Vec Ideal S1x2048x128 .f32) (g : FVec Ideal S256x256 .bf16) (kb vb : Fin 8 → Vec Ideal S1x256x128 .bf16) (r : Fin 256) (d : Fin 128) : d417 x g kb vb (ix2 ⟨256 + r.val, by omega⟩ d) = prowm (zrow (fun k => k0_pay42 x (ix2 ⟨1536 + r.val, by omega⟩ k)) (fun j k => kb 6 (ix3 0 j k))) (trowm (zrow (fun k => k0_pay42 x (ix2 ⟨1536 + r.val, by omega⟩ k)) (fun j k => kb 6 (ix3 0 j k))) (fun i j => g (ix2 i j)) r.val) (fun j => vb 6 (ix3 0 j d)) r.val := by
  have hr := r.isLt
  have e : d417 x g kb vb = k0_pay95 k0_pay44 (d201 x g kb vb) (d294 x g kb vb) (d309 x g kb vb) (vb 6) := rfl
  rw [e, colP_eq]
  simp only [colW_eq, colE_eq]
  simp (disch := omega) only [dif_pos, dif_neg, mask_eq, select_ite, n3, n5, n6, n7, z6_01, t6_01]
  rfl

theorem z6_11 (x : Vec Ideal S1x2048x128 .f32) (g : FVec Ideal S256x256 .bf16) (kb vb : Fin 8 → Vec Ideal S1x256x128 .bf16) (r : Fin 256) (s : Fin 256) : d201 x g kb vb (ix2 ⟨512 + (256 + r.val), by omega⟩ s) = (zrow (fun k => k0_pay42 x (ix2 ⟨1792 + r.val, by omega⟩ k)) (fun j k => kb 6 (ix3 0 j k))) s := by
  have hr := r.isLt
  pointwise [d201, k0_pay64]
  try simp (disch := omega) only [dif_pos, dif_neg, mask_eq, select_ite, min_top_right, n1, n2, n3, n4, n5, n6, n7, n8, n9, n10, n11, dite_eq_ite, ite_self]
  rfl

set_option maxHeartbeats 2000000 in
theorem t6_11 (x : Vec Ideal S1x2048x128 .f32) (g : FVec Ideal S256x256 .bf16) (kb vb : Fin 8 → Vec Ideal S1x256x128 .bf16) (r : Fin 256) (s : Fin 256) : d309 x g kb vb (ix2 ⟨256 + r.val, by omega⟩ s) = trow (zrow (fun k => k0_pay42 x (ix2 ⟨1792 + r.val, by omega⟩ k)) (fun j k => kb 6 (ix3 0 j k))) (fun i j => g (ix2 i j)) ((trowm (zrow (fun k => k0_pay42 x (ix2 ⟨1792 + r.val, by omega⟩ k)) (fun j k => kb 7 (ix3 0 j k))) (fun i j => g (ix2 i j)) r.val) 0) s := by
  have hr := r.isLt
  pointwise [d309, d217, k0_pay90, k0_pay65, k0_pay64, k_clamp, k_log2e]
  simp (disch := omega) only [dif_pos, dif_neg, mask_eq, select_ite, min_top_right, n1, n2, n3, n4, n5, n6, n7, n8, n9, n10, n11, dite_eq_ite, ite_self, t7_01]
  rfl

theorem p6_11 (x : Vec Ideal S1x2048x128 .f32) (g : FVec Ideal S256x256 .bf16) (kb vb : Fin 8 → Vec Ideal S1x256x128 .bf16) (r : Fin 256) (d : Fin 128) : d417 x g kb vb (ix2 ⟨512 + (256 + r.val), by omega⟩ d) = prow (zrow (fun k => k0_pay42 x (ix2 ⟨1792 + r.val, by omega⟩ k)) (fun j k => kb 6 (ix3 0 j k))) (trow (zrow (fun k => k0_pay42 x (ix2 ⟨1792 + r.val, by omega⟩ k)) (fun j k => kb 6 (ix3 0 j k))) (fun i j => g (ix2 i j)) ((trowm (zrow (fun k => k0_pay42 x (ix2 ⟨1792 + r.val, by omega⟩ k)) (fun j k => kb 7 (ix3 0 j k))) (fun i j => g (ix2 i j)) r.val) 0)) (fun j => vb 6 (ix3 0 j d)) := by
  have hr := r.isLt
  have e : d417 x g kb vb = k0_pay95 k0_pay44 (d201 x g kb vb) (d294 x g kb vb) (d309 x g kb vb) (vb 6) := rfl
  rw [e, colP_eq]
  simp only [colW_eq, colE_eq]
  simp (disch := omega) only [dif_pos, dif_neg, mask_eq, select_ite, n3, n5, n6, n7, z6_11, t6_11]
  rfl

theorem diag0_acc0 (x : Vec Ideal S1x2048x128 .f32) (g : FVec Ideal S256x256 .bf16) (kb vb : Fin 8 → Vec Ideal S1x256x128 .bf16) (r : Fin 256) (d : Fin 128) : d433 x g kb vb (ix3 0 r d) = prowm (zrow (fun k => k0_pay41 x (ix2 ⟨r.val, by omega⟩ k)) (fun j k => kb 0 (ix3 0 j k))) (trowm (zrow (fun k => k0_pay41 x (ix2 ⟨r.val, by omega⟩ k)) (fun j k => kb 0 (ix3 0 j k))) (fun i j => g (ix2 i j)) r.val) (fun j => vb 0 (ix3 0 j d)) r.val := by
  have hr := r.isLt
  pointwise [d433, k0_pay107, k0_pay106]
  simp only [p0_00]
  try rfl

theorem diag0_car0 (x : Vec Ideal S1x2048x128 .f32) (g : FVec Ideal S256x256 .bf16) (kb vb : Fin 8 → Vec Ideal S1x256x128 .bf16) (r : Fin 256) (d : Fin 128) : d437 x g kb vb (ix3 0 r d) = (trowm (zrow (fun k => k0_pay41 x (ix2 ⟨r.val, by omega⟩ k)) (fun j k => kb 0 (ix3 0 j k))) (fun i j => g (ix2 i j)) r.val) 0 := by
  have hr := r.isLt
  pointwise [d437, d243, d55, d33, d38, k0_pay108, k0_pay71, k0_pay48, k0_pay45, k0_pay46, k0_pay70, k0_pay47, k_clamp, k_log2e]
  simp (disch := omega) only [dif_pos, dif_neg, mask_eq, select_ite, min_top_right, n1, n2, n3, n4, n5, n6, n7, n8, n9, n10, n11, dite_eq_ite, ite_self]
  rfl

theorem diag0_acc1 (x : Vec Ideal S1x2048x128 .f32) (g : FVec Ideal S256x256 .bf16) (kb vb : Fin 8 → Vec Ideal S1x256x128 .bf16) (r : Fin 256) (d : Fin 128) : d441 x g kb vb (ix3 0 r d) = prowm (zrow (fun k => k0_pay42 x (ix2 ⟨r.val, by omega⟩ k)) (fun j k => kb 0 (ix3 0 j k))) (trowm (zrow (fun k => k0_pay42 x (ix2 ⟨r.val, by omega⟩ k)) (fun j k => kb 0 (ix3 0 j k))) (fun i j => g (ix2 i j)) r.val) (fun j => vb 0 (ix3 0 j d)) r.val := by
  have hr := r.isLt
  pointwise [d441, k0_pay109, k0_pay106]
  simp only [p0_01]
  try rfl

theorem diag0_car1 (x : Vec Ideal S1x2048x128 .f32) (g : FVec Ideal S256x256 .bf16) (kb vb : Fin 8 → Vec Ideal S1x256x128 .bf16) (r : Fin 256) (d : Fin 128) : d445 x g kb vb (ix3 0 r d) = (trowm (zrow (fun k => k0_pay42 x (ix2 ⟨r.val, by omega⟩ k)) (fun j k => kb 0 (ix3 0 j k))) (fun i j => g (ix2 i j)) r.val) 0 := by
  have hr := r.isLt
  pointwise [d445, d243, d55, d33, d38, k0_pay110, k0_pay71, k0_pay48, k0_pay45, k0_pay46, k0_pay70, k0_pay47, k_clamp, k_log2e]
  simp (disch := omega) only [dif_pos, dif_neg, mask_eq, select_ite, min_top_right, n1, n2, n3, n4, n5, n6, n7, n8, n9, n10, n11, dite_eq_ite, ite_self]
  rfl

theorem diag1_acc0 (x : Vec Ideal S1x2048x128 .f32) (g : FVec Ideal S256x256 .bf16) (kb vb : Fin 8 → Vec Ideal S1x256x128 .bf16) (r : Fin 256) (d : Fin 128) : d452 x g kb vb (ix3 0 r d) = prowm (zrow (fun k => k0_pay41 x (ix2 ⟨256 + r.val, by omega⟩ k)) (fun j k => kb 1 (ix3 0 j k))) (trowm (zrow (fun k => k0_pay41 x (ix2 ⟨256 + r.val, by omega⟩ k)) (fun j k => kb 1 (ix3 0 j k))) (fun i j => g (ix2 i j)) r.val) (fun j => vb 1 (ix3 0 j d)) r.val + tacc (fun k => k0_pay41 x (ix2 ⟨256 + r.val, by omega⟩ k)) (fun j k => kb 0 (ix3 0 j k)) (fun i j => g (ix2 i j)) ((trowm (zrow (fun k => k0_pay41 x (ix2 ⟨256 + r.val, by omega⟩ k)) (fun j k => kb 1 (ix3 0 j k))) (fun i j => g (ix2 i j)) r.val) 0) (fun j => vb 0 (ix3 0 j d)) := by
  have hr := r.isLt
  pointwise [d452, d449, k0_pay113, k0_pay112, k0_pay111]
  simp only [p1_00, p0_10]
  try rfl

theorem diag1_car0 (x : Vec Ideal S1x2048x128 .f32) (g : FVec Ideal S256x256 .bf16) (kb vb : Fin 8 → Vec Ideal S1x256x128 .bf16) (r : Fin 256) (d : Fin 128) : d456 x g kb vb (ix3 0 r d) = tcar (fun k => k0_pay41 x (ix2 ⟨256 + r.val, by omega⟩ k)) (fun j k => kb 0 (ix3 0 j k)) (fun i j => g (ix2 i j)) ((trowm (zrow (fun k => k0_pay41 x (ix2 ⟨256 + r.val, by omega⟩ k)) (fun j k => kb 1 (ix3 0 j k))) (fun i j => g (ix2 i j)) r.val) 0) := by
  have hr := r.isLt
  pointwise [d456, d253, d55, d33, d38, d82, k0_pay114, k0_pay74, k0_pay48, k0_pay45, k0_pay46, k0_pay50, k0_pay73, k0_pay47, k0_pay49, k0_pay72, k_clamp, k_log2e]
  simp (disch := omega) only [dif_pos, dif_neg, mask_eq, select_ite, min_top_right, n1, n2, n3, n4, n5, n6, n7, n8, n9, n10, n11, dite_eq_ite, ite_self]
  rfl

theorem diag1_acc1 (x : Vec Ideal S1x2048x128 .f32) (g : FVec Ideal S256x256 .bf16) (kb vb : Fin 8 → Vec Ideal S1x256x128 .bf16) (r : Fin 256) (d : Fin 128) : d460 x g kb vb (ix3 0 r d) = prowm (zrow (fun k => k0_pay42 x (ix2 ⟨256 + r.val, by omega⟩ k)) (fun j k => kb 1 (ix3 0 j k))) (trowm (zrow (fun k => k0_pay42 x (ix2 ⟨256 + r.val, by omega⟩ k)) (fun j k => kb 1 (ix3 0 j k))) (fun i j => g (ix2 i j)) r.val) (fun j => vb 1 (ix3 0 j d)) r.val + tacc (fun k => k0_pay42 x (ix2 ⟨256 + r.val, by omega⟩ k)) (fun j k => kb 0 (ix3 0 j k)) (fun i j => g (ix2 i j)) ((trowm (zrow (fun k => k0_pay42 x (ix2 ⟨256 + r.val, by omega⟩ k)) (fun j k => kb 1 (ix3 0 j k))) (fun i j => g (ix2 i j)) r.val) 0) (fun j => vb 0 (ix3 0 j d)) := by
  have hr := r.isLt
  pointwise [d460, d448, k0_pay115, k0_pay111]
  simp only [p1_01, p0_11]
  try rfl

theorem diag1_car1 (x : Vec Ideal S1x2048x128 .f32) (g : FVec Ideal S256x256 .bf16) (kb vb : Fin 8 → Vec Ideal S1x256x128 .bf16) (r : Fin 256) (d : Fin 128) : d464 x g kb vb (ix3 0 r d) = tcar (fun k => k0_pay42 x (ix2 ⟨256 + r.val, by omega⟩ k)) (fun j k => kb 0 (ix3 0 j k)) (fun i j => g (ix2 i j)) ((trowm (zrow (fun k => k0_pay42 x (ix2 ⟨256 + r.val, by omega⟩ k)) (fun j k => kb 1 (ix3 0 j k))) (fun i j => g (ix2 i j)) r.val) 0) := by
  have hr := r.isLt
  pointwise [d464, d253, d55, d33, d38, d82, k0_pay116, k0_pay74, k0_pay48, k0_pay45, k0_pay46, k0_pay50, k0_pay73, k0_pay47, k0_pay49, k0_pay72, k_clamp, k_log2e]
  simp (disch := omega) only [dif_pos, dif_neg, mask_eq, select_ite, min_top_right, n1, n2, n3, n4, n5, n6, n7, n8, n9, n10, n11, dite_eq_ite, ite_self]
  rfl

theorem diag2_acc0 (x : Vec Ideal S1x2048x128 .f32) (g : FVec Ideal S256x256 .bf16) (kb vb : Fin 8 → Vec Ideal S1x256x128 .bf16) (r : Fin 256) (d : Fin 128) : d471 x g kb vb (ix3 0 r d) = prowm (zrow (fun k => k0_pay41 x (ix2 ⟨512 + r.val, by omega⟩ k)) (fun j k => kb 2 (ix3 0 j k))) (trowm (zrow (fun k => k0_pay41 x (ix2 ⟨512 + r.val, by omega⟩ k)) (fun j k => kb 2 (ix3 0 j k))) (fun i j => g (ix2 i j)) r.val) (fun j => vb 2 (ix3 0 j d)) r.val + tacc (fun k => k0_pay41 x (ix2 ⟨512 + r.val, by omega⟩ k)) (fun j k => kb 1 (ix3 0 j k)) (fun i j => g (ix2 i j)) ((trowm (zrow (fun k => k0_pay41 x (ix2 ⟨512 + r.val, by omega⟩ k)) (fun j k => kb 2 (ix3 0 j k))) (fun i j => g (ix2 i j)) r.val) 0) (fun j => vb 1 (ix3 0 j d)) := by
  have hr := r.isLt
  pointwise [d471, k0_pay118, k0_pay117]
  simp only [p2_00, p1_10]
  try rfl

theorem diag2_car0 (x : Vec Ideal S1x2048x128 .f32) (g : FVec Ideal S256x256 .bf16) (kb vb : Fin 8 → Vec Ideal S1x256x128 .bf16) (r : Fin 256) (d : Fin 128) : d475 x g kb vb (ix3 0 r d) = tcar (fun k => k0_pay41 x (ix2 ⟨512 + r.val, by omega⟩ k)) (fun j k => kb 1 (ix3 0 j k)) (fun i j => g (ix2 i j)) ((trowm (zrow (fun k => k0_pay41 x (ix2 ⟨512 + r.val, by omega⟩ k)) (fun j k => kb 2 (ix3 0 j k))) (fun i j => g (ix2 i j)) r.val) 0) := by
  have hr := r.isLt
  pointwise [d475, d263, d82, d109, d83, d84, k0_pay119, k0_pay77, k0_pay50, k0_pay54, k0_pay51, k0_pay52, k0_pay76, k0_pay49, k0_pay53, k0_pay75, k_clamp, k_log2e]
  simp (disch := omega) only [dif_pos, dif_neg, mask_eq, select_ite, min_top_right, n1, n2, n3, n4, n5, n6, n7, n8, n9, n10, n11, dite_eq_ite, ite_self]
  rfl

theorem diag2_acc1 (x : Vec Ideal S1x2048x128 .f32) (g : FVec Ideal S256x256 .bf16) (kb vb : Fin 8 → Vec Ideal S1x256x128 .bf16) (r : Fin 256) (d : Fin 128) : d479 x g kb vb (ix3 0 r d) = prowm (zrow (fun k => k0_pay42 x (ix2 ⟨512 + r.val, by omega⟩ k)) (fun j k => kb 2 (ix3 0 j k))) (trowm (zrow (fun k => k0_pay42 x (ix2 ⟨512 + r.val, by omega⟩ k)) (fun j k => kb 2 (ix3 0 j k))) (fun i j => g (ix2 i j)) r.val) (fun j => vb 2 (ix3 0 j d)) r.val + tacc (fun k => k0_pay42 x (ix2 ⟨512 + r.val, by omega⟩ k)) (fun j k => kb 1 (ix3 0 j k)) (fun i j => g (ix2 i j)) ((trowm (zrow (fun k => k0_pay42 x (ix2 ⟨512 + r.val, by omega⟩ k)) (fun j k => kb 2 (ix3 0 j k))) (fun i j => g (ix2 i j)) r.val) 0) (fun j => vb 1 (ix3 0 j d)) := by
  have hr := r.isLt
  pointwise [d479, k0_pay120, k0_pay117]
  simp only [p2_01, p1_11]
  try rfl

theorem diag2_car1 (x : Vec Ideal S1x2048x128 .f32) (g : FVec Ideal S256x256 .bf16) (kb vb : Fin 8 → Vec Ideal S1x256x128 .bf16) (r : Fin 256) (d : Fin 128) : d483 x g kb vb (ix3 0 r d) = tcar (fun k => k0_pay42 x (ix2 ⟨512 + r.val, by omega⟩ k)) (fun j k => kb 1 (ix3 0 j k)) (fun i j => g (ix2 i j)) ((trowm (zrow (fun k => k0_pay42 x (ix2 ⟨512 + r.val, by omega⟩ k)) (fun j k => kb 2 (ix3 0 j k))) (fun i j => g (ix2 i j)) r.val) 0) := by
  have hr := r.isLt
  pointwise [d483, d263, d82, d109, d83, d84, k0_pay121, k0_pay77, k0_pay50, k0_pay54, k0_pay51, k0_pay52, k0_pay76, k0_pay49, k0_pay53, k0_pay75, k_clamp, k_log2e]
  simp (disch := omega) only [dif_pos, dif_neg, mask_eq, select_ite, min_top_right, n1, n2, n3, n4, n5, n6, n7, n8, n9, n10, n11, dite_eq_ite, ite_self]
  rfl

theorem diag3_acc0 (x : Vec Ideal S1x2048x128 .f32) (g : FVec Ideal S256x256 .bf16) (kb vb : Fin 8 → Vec Ideal S1x256x128 .bf16) (r : Fin 256) (d : Fin 128) : d490 x g kb vb (ix3 0 r d) = prowm (zrow (fun k => k0_pay41 x (ix2 ⟨768 + r.val, by omega⟩ k)) (fun j k => kb 3 (ix3 0 j k))) (trowm (zrow (fun k => k0_pay41 x (ix2 ⟨768 + r.val, by omega⟩ k)) (fun j k => kb 3 (ix3 0 j k))) (fun i j => g (ix2 i j)) r.val) (fun j => vb 3 (ix3 0 j d)) r.val + tacc (fun k => k0_pay41 x (ix2 ⟨768 + r.val, by omega⟩ k)) (fun j k => kb 2 (ix3 0 j k)) (fun i j => g (ix2 i j)) ((trowm (zrow (fun k => k0_pay41 x (ix2 ⟨768 + r.val, by omega⟩ k)) (fun j k => kb 3 (ix3 0 j k))) (fun i j => g (ix2 i j)) r.val) 0) (fun j => vb 2 (ix3 0 j d)) := by
  have hr := r.isLt
  pointwise [d490, k0_pay123, k0_pay122]
  simp only [p3_00, p2_10]
  try rfl

theorem diag3_car0 (x : Vec Ideal S1x2048x128 .f32) (g : FVec Ideal S256x256 .bf16) (kb vb : Fin 8 → Vec Ideal S1x256x128 .bf16) (r : Fin 256) (d : Fin 128) : d494 x g kb vb (ix3 0 r d) = tcar (fun k => k0_pay41 x (ix2 ⟨768 + r.val, by omega⟩ k)) (fun j k => kb 2 (ix3 0 j k)) (fun i j => g (ix2 i j)) ((trowm (zrow (fun k => k0_pay41 x (ix2 ⟨768 + r.val, by omega⟩ k)) (fun j k => kb 3 (ix3 0 j k))) (fun i j => g (ix2 i j)) r.val) 0) := by
  have hr := r.isLt
  pointwise [d494, d273, d270, d109, d83, d84, d136, d120, d128, k0_pay124, k0_pay80, k0_pay79, k0_pay54, k0_pay51, k0_pay52, k0_pay57, k0_pay55, k0_pay56, k0_pay78, k0_pay53, k_clamp, k_log2e]
  simp (disch := omega) only [dif_pos, dif_neg, mask_eq, select_ite, min_top_right, n1, n2, n3, n4, n5, n6, n7, n8, n9, n10, n11, dite_eq_ite, ite_self]
  rfl

theorem diag3_acc1 (x : Vec Ideal S1x2048x128 .f32) (g : FVec Ideal S256x256 .bf16) (kb vb : Fin 8 → Vec Ideal S1x256x128 .bf16) (r : Fin 256) (d : Fin 128) : d498 x g kb vb (ix3 0 r d) = prowm (zrow (fun k => k0_pay42 x (ix2 ⟨768 + r.val, by omega⟩ k)) (fun j k => kb 3 (ix3 0 j k))) (trowm (zrow (fun k => k0_pay42 x (ix2 ⟨768 + r.val, by omega⟩ k)) (fun j k => kb 3 (ix3 0 j k))) (fun i j => g (ix2 i j)) r.val) (fun j => vb 3 (ix3 0 j d)) r.val + tacc (fun k => k0_pay42 x (ix2 ⟨768 + r.val, by omega⟩ k)) (fun j k => kb 2 (ix3 0 j k)) (fun i j => g (ix2 i j)) ((trowm (zrow (fun k => k0_pay42 x (ix2 ⟨768 + r.val, by omega⟩ k)) (fun j k => kb 3 (ix3 0 j k))) (fun i j => g (ix2 i j)) r.val) 0) (fun j => vb 2 (ix3 0 j d)) := by
  have hr := r.isLt
  pointwise [d498, k0_pay125, k0_pay122]
  simp only [p3_01, p2_11]
  try rfl

theorem diag3_car1 (x : Vec Ideal S1x2048x128 .f32) (g : FVec Ideal S256x256 .bf16) (kb vb : Fin 8 → Vec Ideal S1x256x128 .bf16) (r : Fin 256) (d : Fin 128) : d502 x g kb vb (ix3 0 r d) = tcar (fun k => k0_pay42 x (ix2 ⟨768 + r.val, by omega⟩ k)) (fun j k => kb 2 (ix3 0 j k)) (fun i j => g (ix2 i j)) ((trowm (zrow (fun k => k0_pay42 x (ix2 ⟨768 + r.val, by omega⟩ k)) (fun j k => kb 3 (ix3 0 j k))) (fun i j => g (ix2 i j)) r.val) 0) := by
  have hr := r.isLt
  pointwise [d502, d273, d270, d109, d83, d84, d136, d120, d128, k0_pay126, k0_pay80, k0_pay79, k0_pay54, k0_pay51, k0_pay52, k0_pay57, k0_pay55, k0_pay56, k0_pay78, k0_pay53, k_clamp, k_log2e]
  simp (disch := omega) only [dif_pos, dif_neg, mask_eq, select_ite, min_top_right, n1, n2, n3, n4, n5, n6, n7, n8, n9, n10, n11, dite_eq_ite, ite_self]
  rfl

theorem diag4_acc0 (x : Vec Ideal S1x2048x128 .f32) (g : FVec Ideal S256x256 .bf16) (kb vb : Fin 8 → Vec Ideal S1x256x128 .bf16) (r : Fin 256) (d : Fin 128) : d509 x g kb vb (ix3 0 r d) = prowm (zrow (fun k => k0_pay41 x (ix2 ⟨1024 + r.val, by omega⟩ k)) (fun j k => kb 4 (ix3 0 j k))) (trowm (zrow (fun k => k0_pay41 x (ix2 ⟨1024 + r.val, by omega⟩ k)) (fun j k => kb 4 (ix3 0 j k))) (fun i j => g (ix2 i j)) r.val) (fun j => vb 4 (ix3 0 j d)) r.val + tacc (fun k => k0_pay41 x (ix2 ⟨1024 + r.val, by omega⟩ k)) (fun j k => kb 3 (ix3 0 j k)) (fun i j => g (ix2 i j)) ((trowm (zrow (fun k => k0_pay41 x (ix2 ⟨1024 + r.val, by omega⟩ k)) (fun j k => kb 4 (ix3 0 j k))) (fun i j => g (ix2 i j)) r.val) 0) (fun j => vb 3 (ix3 0 j d)) := by
  have hr := r.isLt
  pointwise [d509, k0_pay128, k0_pay127]
  simp only [p4_00, p3_10]
  try rfl

theorem diag4_car0 (x : Vec Ideal S1x2048x128 .f32) (g : FVec Ideal S256x256 .bf16) (kb vb : Fin 8 → Vec Ideal S1x256x128 .bf16) (r : Fin 256) (d : Fin 128) : d513 x g kb vb (ix3 0 r d) = tcar (fun k => k0_pay41 x (ix2 ⟨1024 + r.val, by omega⟩ k)) (fun j k => kb 3 (ix3 0 j k)) (fun i j => g (ix2 i j)) ((trowm (zrow (fun k => k0_pay41 x (ix2 ⟨1024 + r.val, by omega⟩ k)) (fun j k => kb 4 (ix3 0 j k))) (fun i j => g (ix2 i j)) r.val) 0) := by
  have hr := r.isLt
  pointwise [d513, d283, d136, d120, d128, d163, k0_pay129, k0_pay83, k0_pay57, k0_pay55, k0_pay56, k0_pay59, k0_pay82, k0_pay58, k0_pay81, k_clamp, k_log2e]
  simp (disch := omega) only [dif_pos, dif_neg, mask_eq, select_ite, min_top_right, n1, n2, n3, n4, n5, n6, n7, n8, n9, n10, n11, dite_eq_ite, ite_self]
  rfl

theorem diag4_acc1 (x : Vec Ideal S1x2048x128 .f32) (g : FVec Ideal S256x256 .bf16) (kb vb : Fin 8 → Vec Ideal S1x256x128 .bf16) (r : Fin 256) (d : Fin 128) : d517 x g kb vb (ix3 0 r d) = prowm (zrow (fun k => k0_pay42 x (ix2 ⟨1024 + r.val, by omega⟩ k)) (fun j k => kb 4 (ix3 0 j k))) (trowm (zrow (fun k => k0_pay42 x (ix2 ⟨1024 + r.val, by omega⟩ k)) (fun j k => kb 4 (ix3 0 j k))) (fun i j => g (ix2 i j)) r.val) (fun j => vb 4 (ix3 0 j d)) r.val + tacc (fun k => k0_pay42 x (ix2 ⟨1024 + r.val, by omega⟩ k)) (fun j k => kb 3 (ix3 0 j k)) (fun i j => g (ix2 i j)) ((trowm (zrow (fun k => k0_pay42 x (ix2 ⟨1024 + r.val, by omega⟩ k)) (fun j k => kb 4 (ix3 0 j k))) (fun i j => g (ix2 i j)) r.val) 0) (fun j => vb 3 (ix3 0 j d)) := by
  have hr := r.isLt
  pointwise [d517, d514, k0_pay131, k0_pay130, k0_pay127]
  simp only [p4_01, p3_11]
  try rfl

theorem diag4_car1 (x : Vec Ideal S1x2048x128 .f32) (g : FVec Ideal S256x256 .bf16) (kb vb : Fin 8 → Vec Ideal S1x256x128 .bf16) (r : Fin 256) (d : Fin 128) : d521 x g kb vb (ix3 0 r d) = tcar (fun k => k0_pay42 x (ix2 ⟨1024 + r.val, by omega⟩ k)) (fun j k => kb 3 (ix3 0 j k)) (fun i j => g (ix2 i j)) ((trowm (zrow (fun k => k0_pay42 x (ix2 ⟨1024 + r.val, by omega⟩ k)) (fun j k => kb 4 (ix3 0 j k))) (fun i j => g (ix2 i j)) r.val) 0) := by
  have hr := r.isLt
  pointwise [d521, d283, d136, d120, d128, d163, k0_pay132, k0_pay83, k0_pay57, k0_pay55, k0_pay56, k0_pay59, k0_pay82, k0_pay58, k0_pay81, k_clamp, k_log2e]
  simp (disch := omega) only [dif_pos, dif_neg, mask_eq, select_ite, min_top_right, n1, n2, n3, n4, n5, n6, n7, n8, n9, n10, n11, dite_eq_ite, ite_self]
  rfl

theorem diag5_acc0 (x : Vec Ideal S1x2048x128 .f32) (g : FVec Ideal S256x256 .bf16) (kb vb : Fin 8 → Vec Ideal S1x256x128 .bf16) (r : Fin 256) (d : Fin 128) : d528 x g kb vb (ix3 0 r d) = prowm (zrow (fun k => k0_pay41 x (ix2 ⟨1280 + r.val, by omega⟩ k)) (fun j k => kb 5 (ix3 0 j k))) (trowm (zrow (fun k => k0_pay41 x (ix2 ⟨1280 + r.val, by omega⟩ k)) (fun j k => kb 5 (ix3 0 j k))) (fun i j => g (ix2 i j)) r.val) (fun j => vb 5 (ix3 0 j d)) r.val + tacc (fun k => k0_pay41 x (ix2 ⟨1280 + r.val, by omega⟩ k)) (fun j k => kb 4 (ix3 0 j k)) (fun i j => g (ix2 i j)) ((trowm (zrow (fun k => k0_pay41 x (ix2 ⟨1280 + r.val, by omega⟩ k)) (fun j k => kb 5 (ix3 0 j k))) (fun i j => g (ix2 i j)) r.val) 0) (fun j => vb 4 (ix3 0 j d)) := by
  have hr := r.isLt
  pointwise [d528, k0_pay134, k0_pay133]
  simp only [p5_00, p4_10]
  try rfl

theorem diag5_car0 (x : Vec Ideal S1x2048x128 .f32) (g : FVec Ideal S256x256 .bf16) (kb vb : Fin 8 → Vec Ideal S1x256x128 .bf16) (r : Fin 256) (d : Fin 128) : d532 x g kb vb (ix3 0 r d) = tcar (fun k => k0_pay41 x (ix2 ⟨1280 + r.val, by omega⟩ k)) (fun j k => kb 4 (ix3 0 j k)) (fun i j => g (ix2 i j)) ((trowm (zrow (fun k => k0_pay41 x (ix2 ⟨1280 + r.val, by omega⟩ k)) (fun j k => kb 5 (ix3 0 j k))) (fun i j => g (ix2 i j)) r.val) 0) := by
  have hr := r.isLt
  pointwise [d532, d293, d163, d190, d168, d173, k0_pay135, k0_pay86, k0_pay59, k0_pay63, k0_pay60, k0_pay61, k0_pay85, k0_pay58, k0_pay62, k0_pay84, k_clamp, k_log2e]
  simp (disch := omega) only [dif_pos, dif_neg, mask_eq, select_ite, min_top_right, n1, n2, n3, n4, n5, n6, n7, n8, n9, n10, n11, dite_eq_ite, ite_self]
  rfl

theorem diag5_acc1 (x : Vec Ideal S1x2048x128 .f32) (g : FVec Ideal S256x256 .bf16) (kb vb : Fin 8 → Vec Ideal S1x256x128 .bf16) (r : Fin 256) (d : Fin 128) : d536 x g kb vb (ix3 0 r d) = prowm (zrow (fun k => k0_pay42 x (ix2 ⟨1280 + r.val, by omega⟩ k)) (fun j k => kb 5 (ix3 0 j k))) (trowm (zrow (fun k => k0_pay42 x (ix2 ⟨1280 + r.val, by omega⟩ k)) (fun j k => kb 5 (ix3 0 j k))) (fun i j => g (ix2 i j)) r.val) (fun j => vb 5 (ix3 0 j d)) r.val + tacc (fun k => k0_pay42 x (ix2 ⟨1280 + r.val, by omega⟩ k)) (fun j k => kb 4 (ix3 0 j k)) (fun i j => g (ix2 i j)) ((trowm (zrow (fun k => k0_pay42 x (ix2 ⟨1280 + r.val, by omega⟩ k)) (fun j k => kb 5 (ix3 0 j k))) (fun i j => g (ix2 i j)) r.val) 0) (fun j => vb 4 (ix3 0 j d)) := by
  have hr := r.isLt
  pointwise [d536, k0_pay136, k0_pay133]
  simp only [p5_01, p4_11]
  try rfl

theorem diag5_car1 (x : Vec Ideal S1x2048x128 .f32) (g : FVec Ideal S256x256 .bf16) (kb vb : Fin 8 → Vec Ideal S1x256x128 .bf16) (r : Fin 256) (d : Fin 128) : d540 x g kb vb (ix3 0 r d) = tcar (fun k => k0_pay42 x (ix2 ⟨1280 + r.val, by omega⟩ k)) (fun j k => kb 4 (ix3 0 j k)) (fun i j => g (ix2 i j)) ((trowm (zrow (fun k => k0_pay42 x (ix2 ⟨1280 + r.val, by omega⟩ k)) (fun j k => kb 5 (ix3 0 j k))) (fun i j => g (ix2 i j)) r.val) 0) := by
  have hr := r.isLt
  pointwise [d540, d293, d163, d190, d168, d173, k0_pay137, k0_pay86, k0_pay59, k0_pay63, k0_pay60, k0_pay61, k0_pay85, k0_pay58, k0_pay62, k0_pay84, k_clamp, k_log2e]
  simp (disch := omega) only [dif_pos, dif_neg, mask_eq, select_ite, min_top_right, n1, n2, n3, n4, n5, n6, n7, n8, n9, n10, n11, dite_eq_ite, ite_self]
  rfl

theorem diag6_acc0 (x : Vec Ideal S1x2048x128 .f32) (g : FVec Ideal S256x256 .bf16) (kb vb : Fin 8 → Vec Ideal S1x256x128 .bf16) (r : Fin 256) (d : Fin 128) : d547 x g kb vb (ix3 0 r d) = prowm (zrow (fun k => k0_pay41 x (ix2 ⟨1536 + r.val, by omega⟩ k)) (fun j k => kb 6 (ix3 0 j k))) (trowm (zrow (fun k => k0_pay41 x (ix2 ⟨1536 + r.val, by omega⟩ k)) (fun j k => kb 6 (ix3 0 j k))) (fun i j => g (ix2 i j)) r.val) (fun j => vb 6 (ix3 0 j d)) r.val + tacc (fun k => k0_pay41 x (ix2 ⟨1536 + r.val, by omega⟩ k)) (fun j k => kb 5 (ix3 0 j k)) (fun i j => g (ix2 i j)) ((trowm (zrow (fun k => k0_pay41 x (ix2 ⟨1536 + r.val, by omega⟩ k)) (fun j k => kb 6 (ix3 0 j k))) (fun i j => g (ix2 i j)) r.val) 0) (fun j => vb 5 (ix3 0 j d)) := by
  have hr := r.isLt
  pointwise [d547, k0_pay139, k0_pay138]
  simp only [p6_00, p5_10]
  try rfl

theorem diag6_car0 (x : Vec Ideal S1x2048x128 .f32) (g : FVec Ideal S256x256 .bf16) (kb vb : Fin 8 → Vec Ideal S1x256x128 .bf16) (r : Fin 256) (d : Fin 128) : d551 x g kb vb (ix3 0 r d) = tcar (fun k => k0_pay41 x (ix2 ⟨1536 + r.val, by omega⟩ k)) (fun j k => kb 5 (ix3 0 j k)) (fun i j => g (ix2 i j)) ((trowm (zrow (fun k => k0_pay41 x (ix2 ⟨1536 + r.val, by omega⟩ k)) (fun j k => kb 6 (ix3 0 j k))) (fun i j => g (ix2 i j)) r.val) 0) := by
  have hr := r.isLt
  pointwise [d551, d548, d303, d190, d168, d173, d217, k0_pay141, k0_pay140, k0_pay89, k0_pay63, k0_pay60, k0_pay61, k0_pay65, k0_pay88, k0_pay62, k0_pay64, k0_pay87, k_clamp, k_log2e]
  simp (disch := omega) only [dif_pos, dif_neg, mask_eq, select_ite, min_top_right, n1, n2, n3, n4, n5, n6, n7, n8, n9, n10, n11, dite_eq_ite, ite_self]
  rfl

theorem diag6_acc1 (x : Vec Ideal S1x2048x128 .f32) (g : FVec Ideal S256x256 .bf16) (kb vb : Fin 8 → Vec Ideal S1x256x128 .bf16) (r : Fin 256) (d : Fin 128) : d555 x g kb vb (ix3 0 r d) = prowm (zrow (fun k => k0_pay42 x (ix2 ⟨1536 + r.val, by omega⟩ k)) (fun j k => kb 6 (ix3 0 j k))) (trowm (zrow (fun k => k0_pay42 x (ix2 ⟨1536 + r.val, by omega⟩ k)) (fun j k => kb 6 (ix3 0 j k))) (fun i j => g (ix2 i j)) r.val) (fun j => vb 6 (ix3 0 j d)) r.val + tacc (fun k => k0_pay42 x (ix2 ⟨1536 + r.val, by omega⟩ k)) (fun j k => kb 5 (ix3 0 j k)) (fun i j => g (ix2 i j)) ((trowm (zrow (fun k => k0_pay42 x (ix2 ⟨1536 + r.val, by omega⟩ k)) (fun j k => kb 6 (ix3 0 j k))) (fun i j => g (ix2 i j)) r.val) 0) (fun j => vb 5 (ix3 0 j d)) := by
  have hr := r.isLt
  pointwise [d555, d543, k0_pay142, k0_pay138]
  simp only [p6_01, p5_11]
  try rfl

theorem diag6_car1 (x : Vec Ideal S1x2048x128 .f32) (g : FVec Ideal S256x256 .bf16) (kb vb : Fin 8 → Vec Ideal S1x256x128 .bf16) (r : Fin 256) (d : Fin 128) : d559 x g kb vb (ix3 0 r d) = tcar (fun k => k0_pay42 x (ix2 ⟨1536 + r.val, by omega⟩ k)) (fun j k => kb 5 (ix3 0 j k)) (fun i j => g (ix2 i j)) ((trowm (zrow (fun k => k0_pay42 x (ix2 ⟨1536 + r.val, by omega⟩ k)) (fun j k => kb 6 (ix3 0 j k))) (fun i j => g (ix2 i j)) r.val) 0) := by
  have hr := r.isLt
  pointwise [d559, d303, d190, d168, d173, d217, k0_pay143, k0_pay89, k0_pay63, k0_pay60, k0_pay61, k0_pay65, k0_pay88, k0_pay62, k0_pay64, k0_pay87, k_clamp, k_log2e]
  simp (disch := omega) only [dif_pos, dif_neg, mask_eq, select_ite, min_top_right, n1, n2, n3, n4, n5, n6, n7, n8, n9, n10, n11, dite_eq_ite, ite_self]
  rfl

theorem diag7_acc0 (x : Vec Ideal S1x2048x128 .f32) (g : FVec Ideal S256x256 .bf16) (kb vb : Fin 8 → Vec Ideal S1x256x128 .bf16) (r : Fin 256) (d : Fin 128) : d565 x g kb vb (ix3 0 r d) = prowm (zrow (fun k => k0_pay41 x (ix2 ⟨1792 + r.val, by omega⟩ k)) (fun j k => kb 7 (ix3 0 j k))) (trowm (zrow (fun k => k0_pay41 x (ix2 ⟨1792 + r.val, by omega⟩ k)) (fun j k => kb 7 (ix3 0 j k))) (fun i j => g (ix2 i j)) r.val) (fun j => vb 7 (ix3 0 j d)) r.val + tacc (fun k => k0_pay41 x (ix2 ⟨1792 + r.val, by omega⟩ k)) (fun j k => kb 6 (ix3 0 j k)) (fun i j => g (ix2 i j)) ((trowm (zrow (fun k => k0_pay41 x (ix2 ⟨1792 + r.val, by omega⟩ k)) (fun j k => kb 7 (ix3 0 j k))) (fun i j => g (ix2 i j)) r.val) 0) (fun j => vb 6 (ix3 0 j d)) := by
  have hr := r.isLt
  pointwise [d565, k0_pay145, k0_pay144]
  simp only [p7_00, p6_10]
  try rfl

set_option maxHeartbeats 2000000 in
theorem diag7_car0 (x : Vec Ideal S1x2048x128 .f32) (g : FVec Ideal S256x256 .bf16) (kb vb : Fin 8 → Vec Ideal S1x256x128 .bf16) (r : Fin 256) (d : Fin 128) : d569 x g kb vb (ix3 0 r d) = tcar (fun k => k0_pay41 x (ix2 ⟨1792 + r.val, by omega⟩ k)) (fun j k => kb 6 (ix3 0 j k)) (fun i j => g (ix2 i j)) ((trowm (zrow (fun k => k0_pay41 x (ix2 ⟨1792 + r.val, by omega⟩ k)) (fun j k => kb 7 (ix3 0 j k))) (fun i j => g (ix2 i j)) r.val) 0) := by
  have hr := r.isLt
  pointwise [d569, d312, d217, d239, d218, d219, k0_pay146, k0_pay91, k0_pay65, k0_pay69, k0_pay66, k0_pay67, k0_pay90, k0_pay64, k0_pay68, k_clamp, k_log2e]
  simp (disch := omega) only [dif_pos, dif_neg, mask_eq, select_ite, min_top_right, n1, n2, n3, n4, n5, n6, n7, n8, n9, n10, n11, dite_eq_ite, ite_self, t6_10]
  show _ + _ = trow _ _ _ 0
  refine congrArg₂ (· + ·) rfl ?_
  unfold trowm
  refine Finset.sum_congr rfl fun i _ => ?_
  rw [ite_mul, zero_mul]
  rfl

theorem diag7_acc1 (x : Vec Ideal S1x2048x128 .f32) (g : FVec Ideal S256x256 .bf16) (kb vb : Fin 8 → Vec Ideal S1x256x128 .bf16) (r : Fin 256) (d : Fin 128) : d573 x g kb vb (ix3 0 r d) = prowm (zrow (fun k => k0_pay42 x (ix2 ⟨1792 + r.val, by omega⟩ k)) (fun j k => kb 7 (ix3 0 j k))) (trowm (zrow (fun k => k0_pay42 x (ix2 ⟨1792 + r.val, by omega⟩ k)) (fun j k => kb 7 (ix3 0 j k))) (fun i j => g (ix2 i j)) r.val) (fun j => vb 7 (ix3 0 j d)) r.val + tacc (fun k => k0_pay42 x (ix2 ⟨1792 + r.val, by omega⟩ k)) (fun j k => kb 6 (ix3 0 j k)) (fun i j => g (ix2 i j)) ((trowm (zrow (fun k => k0_pay42 x (ix2 ⟨1792 + r.val, by omega⟩ k)) (fun j k => kb 7 (ix3 0 j k))) (fun i j => g (ix2 i j)) r.val) 0) (fun j => vb 6 (ix3 0 j d)) := by
  have hr := r.isLt
  pointwise [d573, k0_pay147, k0_pay144]
  simp only [p7_01, p6_11]
  try rfl

set_option maxHeartbeats 2000000 in
theorem diag7_car1 (x : Vec Ideal S1x2048x128 .f32) (g : FVec Ideal S256x256 .bf16) (kb vb : Fin 8 → Vec Ideal S1x256x128 .bf16) (r : Fin 256) (d : Fin 128) : d577 x g kb vb (ix3 0 r d) = tcar (fun k => k0_pay42 x (ix2 ⟨1792 + r.val, by omega⟩ k)) (fun j k => kb 6 (ix3 0 j k)) (fun i j => g (ix2 i j)) ((trowm (zrow (fun k => k0_pay42 x (ix2 ⟨1792 + r.val, by omega⟩ k)) (fun j k => kb 7 (ix3 0 j k))) (fun i j => g (ix2 i j)) r.val) 0) := by
  have hr := r.isLt
  pointwise [d577, d312, d217, d239, d218, d219, k0_pay148, k0_pay91, k0_pay65, k0_pay69, k0_pay66, k0_pay67, k0_pay90, k0_pay64, k0_pay68, k_clamp, k_log2e]
  simp (disch := omega) only [dif_pos, dif_neg, mask_eq, select_ite, min_top_right, n1, n2, n3, n4, n5, n6, n7, n8, n9, n10, n11, dite_eq_ite, ite_self, t6_11]
  show _ + _ = trow _ _ _ 0
  refine congrArg₂ (· + ·) rfl ?_
  unfold trowm
  refine Finset.sum_congr rfl fun i _ => ?_
  rw [ite_mul, zero_mul]
  rfl

end Cert.KernelIdeal.MixerB

end
-- ==== Proof.V.Good.lean ====
/- The two scratch buffers' meaning: each row's partial sum and carry, the keys from some block on taken; how a tile moves them,
and what the exit test tells. -/
module

public import proofs.«01_k».proof.Proof.V.Tiles
public import Idealize.ShloMosaic.Lib.WritesUnit
public import Idealize.ShloMosaic.Lib.VecWindow

@[expose] public section

set_option maxRecDepth 16384

noncomputable section

namespace Cert.KernelIdeal.MixerB

open Cert.KernelIdeal Cert.KernelIdeal.Gen
open Idealize.ShloMosaic Idealize.ShloMosaic.TcCoe
open Cert.Stick

/-- The query rows of head `h` of the pair. -/
def qm (v14 v21 : FVec Ideal S2048x128 .bf16) (h : Fin 2) : FVec Ideal S2048x128 .bf16 := if h = 0 then v14 else v21

/-- The score of row `r` and key `s`. -/
def zz (v14 v21 : FVec Ideal S2048x128 .bf16) (x4 : Vec Ideal S1x8192x128 .bf16) (h : Fin 2) (r : Fin 2048) (s : ℕ) : EReal :=
  if hs : s < 8192 then ∑ k : Fin 128, qm v14 v21 h (ix2 r k) * x4 (ix3 0 ⟨s, hs⟩ k) else 0

/-- The value of key `s` at lane `d`. -/
def vv (x5 : Vec Ideal S1x8192x128 .bf16) (d : Fin 128) (s : ℕ) : EReal := if hs : s < 8192 then x5 (ix3 0 ⟨s, hs⟩ d) else 0

/-- Both buffers hold, for each row of block `b`, the partial sum and the carry from key block `lv b` on. -/
def Good (v14 v21 : FVec Ideal S2048x128 .bf16) (x4 x5 : Vec Ideal S1x8192x128 .bf16) (G : ℕ) (lv : ℕ → ℕ) (A C : Vec Ideal S2x2048x128 .f32) : Prop :=
  ∀ (h : Fin 2) (r : Fin 2048),
    (∀ d : Fin 128, A (ix3 h r d) = acc 8192 (zz v14 v21 x4 h r) (vv x5 d) (256 * G + r.val) (256 * lv (r.val / 256)))
    ∧ ∀ d : Fin 128, C (ix3 h r d) = left 8192 (zz v14 v21 x4 h r) (256 * G + r.val) (256 * lv (r.val / 256))

/-- Nothing is left of the stick for the rows of block `b` at key block `l`. -/
def Dead (v14 v21 : FVec Ideal S2048x128 .bf16) (x4 : Vec Ideal S1x8192x128 .bf16) (G b l : ℕ) : Prop :=
  ∀ (h : Fin 2) (r : Fin 2048), r.val / 256 = b → left 8192 (zz v14 v21 x4 h r) (256 * G + r.val) (256 * l) = ⊥

variable {v14 v21 : FVec Ideal S2048x128 .bf16} {x4 x5 : Vec Ideal S1x8192x128 .bf16} {G : ℕ} {lv lv' : ℕ → ℕ} {A C A' C' : Vec Ideal S2x2048x128 .f32}

theorem Good.congr (hg : Good v14 v21 x4 x5 G lv A C) (h : ∀ b, b < 8 → lv' b = lv b) : Good v14 v21 x4 x5 G lv' A C := by
  intro k r
  rw [h (r.val / 256) (by have := r.isLt; omega)]
  exact hg k r

/-- A block of rows whose stick is used up may stand at any earlier key block. -/
theorem Good.skip (hg : Good v14 v21 x4 x5 G lv A C) (h : ∀ b, b < 8 → lv' b = lv b ∨ (lv' b ≤ lv b ∧ ∃ l, lv b ≤ l ∧ l ≤ 32 ∧ Dead v14 v21 x4 G b l)) :
    Good v14 v21 x4 x5 G lv' A C := by
  intro k r
  rcases h (r.val / 256) (by have := r.isLt; omega) with e | ⟨h1, l, h2, h3, hd⟩
  · rw [e]; exact hg k r
  · have e0 := hd k r rfl
    have e1 := left_bot 8192 (zz v14 v21 x4 k r) (256 * G + r.val) (256 * l) (256 * lv (r.val / 256)) (by omega) (by omega) e0
    refine ⟨fun d => ?_, fun d => ?_⟩
    · rw [(hg k r).1 d, acc_dead 8192 _ (vv x5 d) _ (256 * lv (r.val / 256)) (256 * lv' (r.val / 256)) (by omega) (by omega) e1]
    · rw [(hg k r).2 d, e1, left_bot 8192 _ _ (256 * lv (r.val / 256)) (256 * lv' (r.val / 256)) (by omega) (by omega) e1]

/-- A tile takes key block `L` for the row blocks from `ob` on, `nb` of them. -/
theorem Good.tile (hg : Good v14 v21 x4 x5 G lv A C) (ob nb L : ℕ) (hL : L + 1 ≤ G + ob) (hL' : L + 1 ≤ 32)
    (hin : ∀ b, ob ≤ b → b < ob + nb → lv b = L + 1 ∧ lv' b = L) (hout : ∀ b, b < 8 → b < ob ∨ ob + nb ≤ b → lv' b = lv b)
    (kb : Fin 256 → Fin 128 → EReal) (hkb : ∀ (j : Fin 256) k, kb j k = x4 (ix3 0 ⟨256 * L + j.val, by omega⟩ k))
    (g : Fin 256 → Fin 256 → EReal) (hgt : ∀ i j, g i j = tri i.val j.val)
    (vb : Fin 128 → Fin 256 → EReal) (hvb : ∀ d (j : Fin 256), vb d j = x5 (ix3 0 ⟨256 * L + j.val, by omega⟩ d))
    (ha : ∀ h (r : Fin 2048) d c, ob ≤ r.val / 256 → r.val / 256 < ob + nb → (∀ d, C (ix3 h r d) = c) →
      A' (ix3 h r d) = A (ix3 h r d) + tacc (fun k => qm v14 v21 h (ix2 r k)) kb g c (vb d))
    (hc : ∀ h (r : Fin 2048) (d : Fin 128) c, ob ≤ r.val / 256 → r.val / 256 < ob + nb → (∀ d, C (ix3 h r d) = c) →
      C' (ix3 h r d) = tcar (fun k => qm v14 v21 h (ix2 r k)) kb g c)
    (ho : ∀ h (r : Fin 2048) d, r.val / 256 < ob ∨ ob + nb ≤ r.val / 256 → A' (ix3 h r d) = A (ix3 h r d) ∧ C' (ix3 h r d) = C (ix3 h r d)) :
    Good v14 v21 x4 x5 G lv' A' C' := by
  intro h r
  by_cases hr : ob ≤ r.val / 256 ∧ r.val / 256 < ob + nb
  · obtain ⟨e1, e2⟩ := hin _ hr.1 hr.2
    have hp : 256 * (L + 1) ≤ 256 * G + r.val := by omega
    have hgg : g = fun i j => tri i.val j.val := funext fun i => funext fun j => hgt i j
    have hz : ∀ j, zrow (fun k => qm v14 v21 h (ix2 r k)) kb j = zz v14 v21 x4 h r (256 * L + j.val) := fun j => by
      unfold zrow zz
      rw [dif_pos (by omega)]
      exact Finset.sum_congr rfl fun k _ => by rw [hkb]
    have hl := (hg h r).2
    rw [e1] at hl
    have ht : ∀ j, trow (zrow (fun k => qm v14 v21 h (ix2 r k)) kb) g (left 8192 (zz v14 v21 x4 h r) (256 * G + r.val) (256 * (L + 1))) j
        = left 8192 (zz v14 v21 x4 h r) (256 * G + r.val) (256 * L + j.val) := fun j => by
      rw [hgg]
      exact trow_full _ _ L hp (by omega) _ hz _ rfl j
    rw [e2]
    refine ⟨fun d => ?_, fun d => ?_⟩
    · rw [ha h r d _ hr.1 hr.2 hl]
      unfold tacc
      refine prow_full _ _ L hp (by omega) _ _ hz ht (vv x5 d) _ (fun j => ?_) _ ?_
      · rw [hvb]; unfold vv; rw [dif_pos (by omega)]
      · rw [(hg h r).1 d, e1]
    · rw [hc h r d _ hr.1 hr.2 hl]
      exact ht 0
  · have hr' : r.val / 256 < ob ∨ ob + nb ≤ r.val / 256 := by omega
    rw [hout _ (by have := r.isLt; omega) hr']
    exact ⟨fun d => (ho h r d hr').1.trans ((hg h r).1 d), fun d => (ho h r d hr').2.trans ((hg h r).2 d)⟩

/-- A load of a head's rows, read at one row and lane. -/
theorem ld (a : Memref sig .tc .vmem S2x2048x128 .f32) (hd o n : ℕ) (hh : hd < 2) (ho : o + n ≤ 2048) (inb) (X) (r : Fin n) (d : Fin 128) :
    (a.view.readAt (Elt Ideal) (Rect.unit (s := S2x2048x128) ![hd, o, 0] ![1, n, 128] inb).toLoadRect X) (ix3 (0 : Fin 1) r d)
      = a.view.read (Elt Ideal) X (ix3 ⟨hd, hh⟩ ⟨o + r.val, by omega⟩ d) := by
  have e : (Rect.unit (s := S2x2048x128) ![hd, o, 0] ![1, n, 128] inb).toLoadRect.idx (ix3 (0 : Fin 1) r d) = ix3 ⟨hd, hh⟩ ⟨o + r.val, by omega⟩ d := by
    funext i
    refine Fin.ext ?_
    match i with
    | 0 => exact (show hd + 1 * 0 = hd by omega)
    | 1 => exact (show o + 1 * r.val = o + r.val by omega)
    | 2 => exact (show 0 + 1 * d.val = d.val by omega)
  exact congrArg (a.view.read (Elt Ideal) X) e

/-- A store of a head's rows, read where it wrote. -/
theorem st (a : Memref sig .tc .vmem S2x2048x128 .f32) (hd o n : ℕ) (hh : hd < 2) (ho : o + n ≤ 2048) (inb) (X)
    (w : (Rect.unit (s := S2x2048x128) ![hd, o, 0] ![1, n, 128] inb).shape.Idx → Elt Ideal .f32) (L) (r : Fin n) (d : Fin 128) :
    a.view.read (Elt Ideal) (a.view.writes (Elt Ideal) X (⟨Rect.unit (s := S2x2048x128) ![hd, o, 0] ![1, n, 128] inb, w⟩ :: L)) (ix3 ⟨hd, hh⟩ ⟨o + r.val, by omega⟩ d)
      = w (ix3 (0 : Fin 1) r d) := by
  refine View.read_writes_cons_unit_of_mem _ _ inb w L _ (ix3 (0 : Fin 1) r d) rfl fun i => ?_
  match i with
  | 0 => exact (show hd = hd + 0 by omega)
  | 1 => rfl
  | 2 => exact (show d.val = 0 + d.val by omega)

/-- A store of a head's rows, read at another head. -/
theorem st_head (a : Memref sig .tc .vmem S2x2048x128 .f32) (hd o n : ℕ) (inb) (X)
    (w : (Rect.unit (s := S2x2048x128) ![hd, o, 0] ![1, n, 128] inb).shape.Idx → Elt Ideal .f32) (L) (h : Fin 2) (r : Fin 2048) (d : Fin 128) (hne : h.val ≠ hd) :
    a.view.read (Elt Ideal) (a.view.writes (Elt Ideal) X (⟨Rect.unit (s := S2x2048x128) ![hd, o, 0] ![1, n, 128] inb, w⟩ :: L)) (ix3 h r d)
      = a.view.read (Elt Ideal) (a.view.writes (Elt Ideal) X L) (ix3 h r d) := by
  refine View.read_writes_cons_unit_of_not_mem _ _ inb w L _ rfl 0 ?_
  show h.val < hd ∨ hd + 1 ≤ h.val
  omega

/-- A store of a head's rows, read at another row. -/
theorem st_row (a : Memref sig .tc .vmem S2x2048x128 .f32) (hd o n : ℕ) (inb) (X)
    (w : (Rect.unit (s := S2x2048x128) ![hd, o, 0] ![1, n, 128] inb).shape.Idx → Elt Ideal .f32) (L) (h : Fin 2) (r : Fin 2048) (d : Fin 128) (hne : r.val < o ∨ o + n ≤ r.val) :
    a.view.read (Elt Ideal) (a.view.writes (Elt Ideal) X (⟨Rect.unit (s := S2x2048x128) ![hd, o, 0] ![1, n, 128] inb, w⟩ :: L)) (ix3 h r d)
      = a.view.read (Elt Ideal) (a.view.writes (Elt Ideal) X L) (ix3 h r d) :=
  View.read_writes_cons_unit_of_not_mem _ _ inb w L _ rfl 1 hne

/-- A tile's two stores into each buffer take key block `L` for its rows. -/
theorem Good.put (a8 a9 : Memref sig .tc .vmem S2x2048x128 .f32) (X8 X9) (hg : Good v14 v21 x4 x5 G lv (a8.view.read (Elt Ideal) X8) (a9.view.read (Elt Ideal) X9))
    (lv' : ℕ → ℕ) (ob nb o n L : ℕ) (ho : o = 256 * ob) (hn : n = 256 * nb) (hon : o + n ≤ 2048) (hL : L + 1 ≤ G + ob) (hL' : L + 1 ≤ 32)
    (hin : ∀ b, ob ≤ b → b < ob + nb → lv b = L + 1 ∧ lv' b = L) (hout : ∀ b, b < 8 → b < ob ∨ ob + nb ≤ b → lv' b = lv b)
    (v23 : FVec Ideal S256x256 .bf16) (hgt : ∀ i j, v23 (ix2 i j) = tri i.val j.val)
    (kb : Vec Ideal S1x256x128 .bf16) (hkb : ∀ (j : Fin 256) k, kb (ix3 0 j k) = x4 (ix3 0 ⟨256 * L + j.val, by omega⟩ k))
    (vb : Vec Ideal S1x256x128 .bf16) (hvb : ∀ (j : Fin 256) d, vb (ix3 0 j d) = x5 (ix3 0 ⟨256 * L + j.val, by omega⟩ d))
    (ρ : Fin n → Fin 2048) (hρ : ∀ r, (ρ r).val = o + r.val) (inb0 inb1)
    (w80 w90 a0 c0 w81 w91 a1 c1 : Vec Ideal (⟨3, ![1, n, 128]⟩ : Shape) .f32)
    (h80 : ∀ (r : Fin n) (d : Fin 128) c, (∀ d : Fin 128, c0 (ix3 (0 : Fin 1) r d) = c) →
      w80 (ix3 (0 : Fin 1) r d) = a0 (ix3 (0 : Fin 1) r d) + tacc (fun k => v14 (ix2 (ρ r) k)) (fun j k => kb (ix3 0 j k)) (fun i j => v23 (ix2 i j)) c (fun j => vb (ix3 0 j d)))
    (h81 : ∀ (r : Fin n) (d : Fin 128) c, (∀ d : Fin 128, c1 (ix3 (0 : Fin 1) r d) = c) →
      w81 (ix3 (0 : Fin 1) r d) = a1 (ix3 (0 : Fin 1) r d) + tacc (fun k => v21 (ix2 (ρ r) k)) (fun j k => kb (ix3 0 j k)) (fun i j => v23 (ix2 i j)) c (fun j => vb (ix3 0 j d)))
    (h90 : ∀ (r : Fin n) (d : Fin 128) c, (∀ d : Fin 128, c0 (ix3 (0 : Fin 1) r d) = c) →
      w90 (ix3 (0 : Fin 1) r d) = tcar (fun k => v14 (ix2 (ρ r) k)) (fun j k => kb (ix3 0 j k)) (fun i j => v23 (ix2 i j)) c)
    (h91 : ∀ (r : Fin n) (d : Fin 128) c, (∀ d : Fin 128, c1 (ix3 (0 : Fin 1) r d) = c) →
      w91 (ix3 (0 : Fin 1) r d) = tcar (fun k => v21 (ix2 (ρ r) k)) (fun j k => kb (ix3 0 j k)) (fun i j => v23 (ix2 i j)) c)
    (ea0 : ∀ (r : Fin n) (d : Fin 128), a0 (ix3 (0 : Fin 1) r d) = a8.view.read (Elt Ideal) X8 (ix3 0 ⟨o + r.val, by omega⟩ d))
    (ec0 : ∀ (r : Fin n) (d : Fin 128), c0 (ix3 (0 : Fin 1) r d) = a9.view.read (Elt Ideal) X9 (ix3 0 ⟨o + r.val, by omega⟩ d))
    (ea1 : ∀ (r : Fin n) (d : Fin 128), a1 (ix3 (0 : Fin 1) r d) = a8.view.read (Elt Ideal) X8 (ix3 1 ⟨o + r.val, by omega⟩ d))
    (ec1 : ∀ (r : Fin n) (d : Fin 128), c1 (ix3 (0 : Fin 1) r d) = a9.view.read (Elt Ideal) X9 (ix3 1 ⟨o + r.val, by omega⟩ d)) :
    Good v14 v21 x4 x5 G lv'
      (a8.view.read (Elt Ideal) (a8.view.writes (Elt Ideal) X8 [⟨Rect.unit (s := S2x2048x128) ![1, o, 0] ![1, n, 128] inb1, w81⟩, ⟨Rect.unit (s := S2x2048x128) ![0, o, 0] ![1, n, 128] inb0, w80⟩]))
      (a9.view.read (Elt Ideal) (a9.view.writes (Elt Ideal) X9 [⟨Rect.unit (s := S2x2048x128) ![1, o, 0] ![1, n, 128] inb1, w91⟩, ⟨Rect.unit (s := S2x2048x128) ![0, o, 0] ![1, n, 128] inb0, w90⟩])) := by
  have hrow : ∀ r : Fin 2048, ob ≤ r.val / 256 → r.val / 256 < ob + nb → ∃ r' : Fin n, r = ⟨o + r'.val, by omega⟩ := fun r h1 h2 =>
    ⟨⟨r.val - o, by omega⟩, Fin.ext (by show r.val = o + (r.val - o); omega)⟩
  have hq : ∀ r : Fin n, ρ r = ⟨o + r.val, by omega⟩ := fun r => Fin.ext (hρ r)
  simp only [hq] at h80 h81 h90 h91
  refine Good.tile hg ob nb L hL hL' hin hout _ hkb _ hgt (fun d j => vb (ix3 0 j d)) (fun d j => hvb j d) ?_ ?_ ?_
  · intro h r d c h1 h2 hc
    obtain ⟨r', rfl⟩ := hrow r h1 h2
    match h with
    | 0 =>
      rw [st_head _ 1 o n _ _ _ _ _ _ _ (by decide)]
      refine (st a8 0 o n (by omega) hon inb0 X8 w80 [] r' d).trans ((h80 r' d c fun d => ?_).trans ?_)
      · rw [ec0]; exact hc d
      · rw [ea0]; rfl
    | 1 =>
      refine (st a8 1 o n (by omega) hon inb1 X8 w81 _ r' d).trans ((h81 r' d c fun d => ?_).trans ?_)
      · rw [ec1]; exact hc d
      · rw [ea1]; rfl
  · intro h r d c h1 h2 hc
    obtain ⟨r', rfl⟩ := hrow r h1 h2
    match h with
    | 0 =>
      rw [st_head _ 1 o n _ _ _ _ _ _ _ (by decide)]
      refine (st a9 0 o n (by omega) hon inb0 X9 w90 [] r' d).trans ((h90 r' d c fun d => ?_).trans ?_)
      · rw [ec0]; exact hc d
      · rfl
    | 1 =>
      refine (st a9 1 o n (by omega) hon inb1 X9 w91 _ r' d).trans ((h91 r' d c fun d => ?_).trans ?_)
      · rw [ec1]; exact hc d
      · rfl
  · intro h r d hr
    have hr' : r.val < o ∨ o + n ≤ r.val := by omega
    rw [st_row _ 1 o n _ _ _ _ _ _ _ hr', st_row _ 0 o n _ _ _ _ _ _ _ hr', st_row _ 1 o n _ _ _ _ _ _ _ hr', st_row _ 0 o n _ _ _ _ _ _ _ hr']
    exact ⟨rfl, rfl⟩

/-- Both ways of a step that is taken or not. -/
theorem Good.either (a8 a9 : Memref sig .tc .vmem S2x2048x128 .f32) {c : Prop} [Decidable c] {E8 E9} {T8 T9 : c → _}
    (hg : Good v14 v21 x4 x5 G lv (a8.view.read (Elt Ideal) E8) (a9.view.read (Elt Ideal) E9))
    (ht : ∀ hc : c, Good v14 v21 x4 x5 G lv' (a8.view.read (Elt Ideal) (T8 hc)) (a9.view.read (Elt Ideal) (T9 hc)))
    (he : ¬ c → Good v14 v21 x4 x5 G lv' (a8.view.read (Elt Ideal) E8) (a9.view.read (Elt Ideal) E9)) :
    Good v14 v21 x4 x5 G lv' (a8.view.read (Elt Ideal) (if hc : c then T8 hc else E8)) (a9.view.read (Elt Ideal) (if hc : c then T9 hc else E9)) := by
  by_cases hc : c
  · rw [dif_pos hc, dif_pos hc]; exact ht hc
  · rw [dif_neg hc, dif_neg hc]; exact he hc

theorem fold_bot {ι : Type} (s : Finset ι) (b : EReal) (f : ι → EReal) (h : s.fold max b f = ⊥) : ∀ i ∈ s, f i = ⊥ :=
  fun i hi => le_bot_iff.1 (((Finset.fold_max_le (c := (⊥ : EReal))).1 h.le).2 i hi)

theorem peak_eq (x : FVec Ideal S512x128 .f32) :
    k0_pay151 x = (Finset.univ : Finset (Fin 8 × Fin 128)).fold max (Ideal.ofBits .f32 4286578688#32)
      (fun p => (Finset.univ : Finset (Fin 64)).fold max (Ideal.ofBits .f32 4286578688#32) fun q => x (ix2 ⟨q.val * 8 + p.1.val, by omega⟩ p.2)) := by
  pointwise [k0_pay151]
  try rfl

theorem peak_dead (x : FVec Ideal S512x128 .f32) (h : k0_pay151 x = (⊥ : EReal)) (a : Fin 512) (b : Fin 128) : x (ix2 a b) = (⊥ : EReal) := by
  rw [peak_eq] at h
  have h1 := fold_bot _ _ _ (fold_bot _ _ _ h (⟨⟨a.val % 8, by omega⟩, b⟩ : Fin 8 × Fin 128) (Finset.mem_univ _)) ⟨a.val / 8, by omega⟩ (Finset.mem_univ _)
  rw [← h1]
  exact congrArg x (congrArg (ix2 · b) (Fin.ext (show a.val = a.val / 8 * 8 + a.val % 8 by omega)))

theorem peakL_eq (x : FVec Ideal S4096x1 .f32) :
    k0_pay7 x = (Finset.univ : Finset (Fin 8 × Fin 128)).fold max (Ideal.ofBits .f32 4286578688#32)
      (fun p => (Finset.univ : Finset (Fin 512)).fold max (Ideal.ofBits .f32 4286578688#32) fun q => x (ix2 ⟨q.val * 8 + p.1.val, by omega⟩ 0)) := by
  pointwise [k0_pay7, k0_pay2]
  try rfl

theorem peakL_dead (x : FVec Ideal S4096x1 .f32) (h : k0_pay7 x = (⊥ : EReal)) (a : Fin 4096) : x (ix2 a 0) = (⊥ : EReal) := by
  rw [peakL_eq] at h
  have h1 := fold_bot _ _ _ (fold_bot _ _ _ h (⟨⟨a.val % 8, by omega⟩, 0⟩ : Fin 8 × Fin 128) (Finset.mem_univ _)) ⟨a.val / 8, by omega⟩ (Finset.mem_univ _)
  rw [← h1]
  exact congrArg x (congrArg (ix2 · 0) (Fin.ext (show a.val = a.val / 8 * 8 + a.val % 8 by omega)))

/-- The exit test failing: the peak is at the bottom. -/
theorem exit_bot (a : Ideal .f32) (b : BitVec 32) (h : ¬ (Scalar.cmpf .ogt a (Named.named (F := Ideal) κ "exit" b : Ideal .f32) = 1#1)) : a = (⊥ : EReal) := by
  by_contra hne
  apply h
  rw [k_exit]
  show BitVec.ofBool (decide ((⊥ : EReal) < a)) = 1#1
  rw [decide_eq_true (bot_lt_iff_ne_bot.2 hne)]; rfl

theorem max_bot (a b : Ideal .f32) (h : Scalar.maximumf a b = (⊥ : EReal)) : a = (⊥ : EReal) ∧ b = (⊥ : EReal) := by
  have h' : max (a : EReal) b = ⊥ := h
  exact max_eq_bot.1 h'

/-- A test spelled through a widened bit. -/
theorem bit_test (b : BitVec 1) : Scalar.cmpi .ne (Scalar.extui b) (0#32 : BitVec 32) = 1#1 ↔ b = 1#1 := by
  revert b; decide

end Cert.KernelIdeal.MixerB

end
-- ==== Proof.V.Puts.lean ====
/- Each tile of the key walk takes its key block for its rows. -/
module

public import proofs.«01_k».proof.Proof.V.Good

@[expose] public section

set_option maxRecDepth 16384

noncomputable section

namespace Cert.KernelIdeal.MixerB

open Cert.KernelIdeal Cert.KernelIdeal.Gen
open Idealize.ShloMosaic Idealize.ShloMosaic.TcCoe
open Cert.Stick

variable {v14 v21 : FVec Ideal S2048x128 .bf16} {x4 x5 : Vec Ideal S1x8192x128 .bf16} {G : ℕ} {lv : ℕ → ℕ}

/-- Rows whose carries are at the bottom have used their stick up. -/
theorem Good.dead {A C : Vec Ideal S2x2048x128 .f32} (hg : Good v14 v21 x4 x5 G lv A C) (b l : ℕ) (hl : lv b = l)
    (h0 : ∀ r : Fin 2048, r.val / 256 = b → C (ix3 0 r 0) = (⊥ : EReal)) (h1 : ∀ r : Fin 2048, r.val / 256 = b → C (ix3 1 r 0) = (⊥ : EReal)) : Dead v14 v21 x4 G b l := by
  intro h r hr
  have e := (hg h r).2 0
  rw [hr, hl] at e
  rw [← e]
  match h with
  | 0 => exact h0 r hr
  | 1 => exact h1 r hr

/-- After a store per head, both heads read where it wrote. -/
theorem two_rd (a : Memref sig .tc .vmem S2x2048x128 .f32) (o n : ℕ) (ho : o + n ≤ 2048) (inb0 inb1) (X) (w0 w1 : Vec Ideal (⟨3, ![1, n, 128]⟩ : Shape) .f32) (L) (r : Fin 2048) (r' : Fin n) (hr : r.val = o + r'.val) (d : Fin 128) :
    a.view.read (Elt Ideal) (a.view.writes (Elt Ideal) X (⟨Rect.unit (s := S2x2048x128) ![1, o, 0] ![1, n, 128] inb1, w1⟩ :: ⟨Rect.unit (s := S2x2048x128) ![0, o, 0] ![1, n, 128] inb0, w0⟩ :: L)) (ix3 0 r d) = w0 (ix3 (0 : Fin 1) r' d)
    ∧ a.view.read (Elt Ideal) (a.view.writes (Elt Ideal) X (⟨Rect.unit (s := S2x2048x128) ![1, o, 0] ![1, n, 128] inb1, w1⟩ :: ⟨Rect.unit (s := S2x2048x128) ![0, o, 0] ![1, n, 128] inb0, w0⟩ :: L)) (ix3 1 r d) = w1 (ix3 (0 : Fin 1) r' d) := by
  have hlt : o + r'.val < 2048 := by have := r'.isLt; clear hr; omega
  obtain rfl : r = ⟨o + r'.val, hlt⟩ := Fin.ext hr
  refine ⟨?_, st a 1 o n (by omega) ho inb1 X w1 _ r' d⟩
  rw [st_head _ 1 o n _ _ _ _ _ _ _ (by decide)]
  exact st a 0 o n (by omega) ho inb0 X w0 L r' d

theorem near_put (a8 a9 : Memref sig .tc .vmem S2x2048x128 .f32) (X8 X9) (hg : Good v14 v21 x4 x5 G lv (a8.view.read (Elt Ideal) X8) (a9.view.read (Elt Ideal) X9))
    (lv' : ℕ → ℕ) (L : ℕ) (hL : L + 1 ≤ G + 0) (hL' : L + 1 ≤ 32)
    (hin : ∀ b, 0 ≤ b → b < 0 + 1 → lv b = L + 1 ∧ lv' b = L) (hout : ∀ b, b < 8 → b < 0 ∨ 0 + 1 ≤ b → lv' b = lv b)
    (v23 : FVec Ideal S256x256 .bf16) (hgt : ∀ i j, v23 (ix2 i j) = tri i.val j.val)
    (kb vb : Vec Ideal S1x256x128 .bf16) (hkb : ∀ (j : Fin 256) k, kb (ix3 0 j k) = x4 (ix3 0 ⟨256 * L + j.val, by omega⟩ k)) (hvb : ∀ (j : Fin 256) d, vb (ix3 0 j d) = x5 (ix3 0 ⟨256 * L + j.val, by omega⟩ d))
    (inb0 inb1) (a0 c0 a1 c1 : Vec Ideal S1x256x128 .f32)
    (ea0 : ∀ (r : Fin 256) (d : Fin 128), a0 (ix3 (0 : Fin 1) r d) = a8.view.read (Elt Ideal) X8 (ix3 0 ⟨0 + r.val, by omega⟩ d))
    (ec0 : ∀ (r : Fin 256) (d : Fin 128), c0 (ix3 (0 : Fin 1) r d) = a9.view.read (Elt Ideal) X9 (ix3 0 ⟨0 + r.val, by omega⟩ d))
    (ea1 : ∀ (r : Fin 256) (d : Fin 128), a1 (ix3 (0 : Fin 1) r d) = a8.view.read (Elt Ideal) X8 (ix3 1 ⟨0 + r.val, by omega⟩ d))
    (ec1 : ∀ (r : Fin 256) (d : Fin 128), c1 (ix3 (0 : Fin 1) r d) = a9.view.read (Elt Ideal) X9 (ix3 1 ⟨0 + r.val, by omega⟩ d)) :
    Good v14 v21 x4 x5 G lv'
      (a8.view.read (Elt Ideal) (a8.view.writes (Elt Ideal) X8 [⟨Rect.unit (s := S2x2048x128) ![1, 0, 0] S1x256x128.size inb1, k0_pay160 (k0_pay10 v14 v21 v23 kb c0 c1 vb) a1⟩,
        ⟨Rect.unit (s := S2x2048x128) ![0, 0, 0] S1x256x128.size inb0, k0_pay158 (k0_pay10 v14 v21 v23 kb c0 c1 vb) a0⟩]))
      (a9.view.read (Elt Ideal) (a9.view.writes (Elt Ideal) X9 [⟨Rect.unit (s := S2x2048x128) ![1, 0, 0] S1x256x128.size inb1, k0_pay161 (k0_pay11 v14 v21 v23 kb c0 c1)⟩,
        ⟨Rect.unit (s := S2x2048x128) ![0, 0, 0] S1x256x128.size inb0, k0_pay159 (k0_pay11 v14 v21 v23 kb c0 c1)⟩])) :=
  Good.put a8 a9 X8 X9 hg lv' 0 1 0 256 L (by norm_num) (by norm_num) (by norm_num) hL hL' hin hout v23 hgt kb hkb vb hvb
    (fun r => ⟨r.val, by omega⟩) (fun r => (Nat.zero_add _).symm) inb0 inb1
    (k0_pay158 (k0_pay10 v14 v21 v23 kb c0 c1 vb) a0) (k0_pay159 (k0_pay11 v14 v21 v23 kb c0 c1)) a0 c0
    (k0_pay160 (k0_pay10 v14 v21 v23 kb c0 c1 vb) a1) (k0_pay161 (k0_pay11 v14 v21 v23 kb c0 c1)) a1 c1
    (fun r d c hc => near_acc0 v14 v21 v23 kb vb c0 c1 a0 r d c hc) (fun r d c hc => near_acc1 v14 v21 v23 kb vb c0 c1 a1 r d c hc)
    (fun r d c hc => near_car0 v14 v21 v23 kb c0 c1 r d c hc) (fun r d c hc => near_car1 v14 v21 v23 kb c0 c1 r d c hc)
    ea0 ec0 ea1 ec1

theorem far1792_put (a8 a9 : Memref sig .tc .vmem S2x2048x128 .f32) (X8 X9) (hg : Good v14 v21 x4 x5 G lv (a8.view.read (Elt Ideal) X8) (a9.view.read (Elt Ideal) X9))
    (lv' : ℕ → ℕ) (L : ℕ) (hL : L + 1 ≤ G + 7) (hL' : L + 1 ≤ 32)
    (hin : ∀ b, 7 ≤ b → b < 7 + 1 → lv b = L + 1 ∧ lv' b = L) (hout : ∀ b, b < 8 → b < 7 ∨ 7 + 1 ≤ b → lv' b = lv b)
    (v23 : FVec Ideal S256x256 .bf16) (hgt : ∀ i j, v23 (ix2 i j) = tri i.val j.val)
    (kb vb : Vec Ideal S1x256x128 .bf16) (hkb : ∀ (j : Fin 256) k, kb (ix3 0 j k) = x4 (ix3 0 ⟨256 * L + j.val, by omega⟩ k)) (hvb : ∀ (j : Fin 256) d, vb (ix3 0 j d) = x5 (ix3 0 ⟨256 * L + j.val, by omega⟩ d))
    (inb0 inb1) (a0 c0 a1 c1 : Vec Ideal S1x256x128 .f32)
    (ea0 : ∀ (r : Fin 256) (d : Fin 128), a0 (ix3 (0 : Fin 1) r d) = a8.view.read (Elt Ideal) X8 (ix3 0 ⟨1792 + r.val, by omega⟩ d))
    (ec0 : ∀ (r : Fin 256) (d : Fin 128), c0 (ix3 (0 : Fin 1) r d) = a9.view.read (Elt Ideal) X9 (ix3 0 ⟨1792 + r.val, by omega⟩ d))
    (ea1 : ∀ (r : Fin 256) (d : Fin 128), a1 (ix3 (0 : Fin 1) r d) = a8.view.read (Elt Ideal) X8 (ix3 1 ⟨1792 + r.val, by omega⟩ d))
    (ec1 : ∀ (r : Fin 256) (d : Fin 128), c1 (ix3 (0 : Fin 1) r d) = a9.view.read (Elt Ideal) X9 (ix3 1 ⟨1792 + r.val, by omega⟩ d)) :
    Good v14 v21 x4 x5 G lv'
      (a8.view.read (Elt Ideal) (a8.view.writes (Elt Ideal) X8 [⟨Rect.unit (s := S2x2048x128) ![1, 1792, 0] S1x256x128.size inb1, k0_pay165 (k0_pay14 v14 v21 v23 kb c0 c1 vb) a1⟩,
        ⟨Rect.unit (s := S2x2048x128) ![0, 1792, 0] S1x256x128.size inb0, k0_pay163 (k0_pay14 v14 v21 v23 kb c0 c1 vb) a0⟩]))
      (a9.view.read (Elt Ideal) (a9.view.writes (Elt Ideal) X9 [⟨Rect.unit (s := S2x2048x128) ![1, 1792, 0] S1x256x128.size inb1, k0_pay166 (k0_pay15 v14 v21 v23 kb c0 c1)⟩,
        ⟨Rect.unit (s := S2x2048x128) ![0, 1792, 0] S1x256x128.size inb0, k0_pay164 (k0_pay15 v14 v21 v23 kb c0 c1)⟩])) :=
  Good.put a8 a9 X8 X9 hg lv' 7 1 1792 256 L (by norm_num) (by norm_num) (by norm_num) hL hL' hin hout v23 hgt kb hkb vb hvb
    (fun r => ⟨1792 + r.val, by omega⟩) (fun r => rfl) inb0 inb1
    (k0_pay163 (k0_pay14 v14 v21 v23 kb c0 c1 vb) a0) (k0_pay164 (k0_pay15 v14 v21 v23 kb c0 c1)) a0 c0
    (k0_pay165 (k0_pay14 v14 v21 v23 kb c0 c1 vb) a1) (k0_pay166 (k0_pay15 v14 v21 v23 kb c0 c1)) a1 c1
    (fun r d c hc => far1792_acc0 v14 v21 v23 kb vb c0 c1 a0 r d c hc) (fun r d c hc => far1792_acc1 v14 v21 v23 kb vb c0 c1 a1 r d c hc)
    (fun r d c hc => far1792_car0 v14 v21 v23 kb c0 c1 r d c hc) (fun r d c hc => far1792_car1 v14 v21 v23 kb c0 c1 r d c hc)
    ea0 ec0 ea1 ec1

theorem far1536_put (a8 a9 : Memref sig .tc .vmem S2x2048x128 .f32) (X8 X9) (hg : Good v14 v21 x4 x5 G lv (a8.view.read (Elt Ideal) X8) (a9.view.read (Elt Ideal) X9))
    (lv' : ℕ → ℕ) (L : ℕ) (hL : L + 1 ≤ G + 6) (hL' : L + 1 ≤ 32)
    (hin : ∀ b, 6 ≤ b → b < 6 + 2 → lv b = L + 1 ∧ lv' b = L) (hout : ∀ b, b < 8 → b < 6 ∨ 6 + 2 ≤ b → lv' b = lv b)
    (v23 : FVec Ideal S256x256 .bf16) (hgt : ∀ i j, v23 (ix2 i j) = tri i.val j.val)
    (kb vb : Vec Ideal S1x256x128 .bf16) (hkb : ∀ (j : Fin 256) k, kb (ix3 0 j k) = x4 (ix3 0 ⟨256 * L + j.val, by omega⟩ k)) (hvb : ∀ (j : Fin 256) d, vb (ix3 0 j d) = x5 (ix3 0 ⟨256 * L + j.val, by omega⟩ d))
    (inb0 inb1) (a0 c0 a1 c1 : Vec Ideal S1x512x128 .f32)
    (ea0 : ∀ (r : Fin 512) (d : Fin 128), a0 (ix3 (0 : Fin 1) r d) = a8.view.read (Elt Ideal) X8 (ix3 0 ⟨1536 + r.val, by omega⟩ d))
    (ec0 : ∀ (r : Fin 512) (d : Fin 128), c0 (ix3 (0 : Fin 1) r d) = a9.view.read (Elt Ideal) X9 (ix3 0 ⟨1536 + r.val, by omega⟩ d))
    (ea1 : ∀ (r : Fin 512) (d : Fin 128), a1 (ix3 (0 : Fin 1) r d) = a8.view.read (Elt Ideal) X8 (ix3 1 ⟨1536 + r.val, by omega⟩ d))
    (ec1 : ∀ (r : Fin 512) (d : Fin 128), c1 (ix3 (0 : Fin 1) r d) = a9.view.read (Elt Ideal) X9 (ix3 1 ⟨1536 + r.val, by omega⟩ d)) :
    Good v14 v21 x4 x5 G lv'
      (a8.view.read (Elt Ideal) (a8.view.writes (Elt Ideal) X8 [⟨Rect.unit (s := S2x2048x128) ![1, 1536, 0] S1x512x128.size inb1, k0_pay170 (k0_pay18 v14 v21 v23 kb c0 c1 vb) a1⟩,
        ⟨Rect.unit (s := S2x2048x128) ![0, 1536, 0] S1x512x128.size inb0, k0_pay168 (k0_pay18 v14 v21 v23 kb c0 c1 vb) a0⟩]))
      (a9.view.read (Elt Ideal) (a9.view.writes (Elt Ideal) X9 [⟨Rect.unit (s := S2x2048x128) ![1, 1536, 0] S1x512x128.size inb1, k0_pay171 (k0_pay19 v14 v21 v23 kb c0 c1)⟩,
        ⟨Rect.unit (s := S2x2048x128) ![0, 1536, 0] S1x512x128.size inb0, k0_pay169 (k0_pay19 v14 v21 v23 kb c0 c1)⟩])) :=
  Good.put a8 a9 X8 X9 hg lv' 6 2 1536 512 L (by norm_num) (by norm_num) (by norm_num) hL hL' hin hout v23 hgt kb hkb vb hvb
    (fun r => ⟨1536 + r.val, by omega⟩) (fun r => rfl) inb0 inb1
    (k0_pay168 (k0_pay18 v14 v21 v23 kb c0 c1 vb) a0) (k0_pay169 (k0_pay19 v14 v21 v23 kb c0 c1)) a0 c0
    (k0_pay170 (k0_pay18 v14 v21 v23 kb c0 c1 vb) a1) (k0_pay171 (k0_pay19 v14 v21 v23 kb c0 c1)) a1 c1
    (fun r d c hc => far1536_acc0 v14 v21 v23 kb vb c0 c1 a0 r d c hc) (fun r d c hc => far1536_acc1 v14 v21 v23 kb vb c0 c1 a1 r d c hc)
    (fun r d c hc => far1536_car0 v14 v21 v23 kb c0 c1 r d c hc) (fun r d c hc => far1536_car1 v14 v21 v23 kb c0 c1 r d c hc)
    ea0 ec0 ea1 ec1

theorem far1280_put (a8 a9 : Memref sig .tc .vmem S2x2048x128 .f32) (X8 X9) (hg : Good v14 v21 x4 x5 G lv (a8.view.read (Elt Ideal) X8) (a9.view.read (Elt Ideal) X9))
    (lv' : ℕ → ℕ) (L : ℕ) (hL : L + 1 ≤ G + 5) (hL' : L + 1 ≤ 32)
    (hin : ∀ b, 5 ≤ b → b < 5 + 3 → lv b = L + 1 ∧ lv' b = L) (hout : ∀ b, b < 8 → b < 5 ∨ 5 + 3 ≤ b → lv' b = lv b)
    (v23 : FVec Ideal S256x256 .bf16) (hgt : ∀ i j, v23 (ix2 i j) = tri i.val j.val)
    (kb vb : Vec Ideal S1x256x128 .bf16) (hkb : ∀ (j : Fin 256) k, kb (ix3 0 j k) = x4 (ix3 0 ⟨256 * L + j.val, by omega⟩ k)) (hvb : ∀ (j : Fin 256) d, vb (ix3 0 j d) = x5 (ix3 0 ⟨256 * L + j.val, by omega⟩ d))
    (inb0 inb1) (a0 c0 a1 c1 : Vec Ideal S1x768x128 .f32)
    (ea0 : ∀ (r : Fin 768) (d : Fin 128), a0 (ix3 (0 : Fin 1) r d) = a8.view.read (Elt Ideal) X8 (ix3 0 ⟨1280 + r.val, by omega⟩ d))
    (ec0 : ∀ (r : Fin 768) (d : Fin 128), c0 (ix3 (0 : Fin 1) r d) = a9.view.read (Elt Ideal) X9 (ix3 0 ⟨1280 + r.val, by omega⟩ d))
    (ea1 : ∀ (r : Fin 768) (d : Fin 128), a1 (ix3 (0 : Fin 1) r d) = a8.view.read (Elt Ideal) X8 (ix3 1 ⟨1280 + r.val, by omega⟩ d))
    (ec1 : ∀ (r : Fin 768) (d : Fin 128), c1 (ix3 (0 : Fin 1) r d) = a9.view.read (Elt Ideal) X9 (ix3 1 ⟨1280 + r.val, by omega⟩ d)) :
    Good v14 v21 x4 x5 G lv'
      (a8.view.read (Elt Ideal) (a8.view.writes (Elt Ideal) X8 [⟨Rect.unit (s := S2x2048x128) ![1, 1280, 0] S1x768x128.size inb1, k0_pay175 (k0_pay22 v14 v21 v23 kb c0 c1 vb) a1⟩,
        ⟨Rect.unit (s := S2x2048x128) ![0, 1280, 0] S1x768x128.size inb0, k0_pay173 (k0_pay22 v14 v21 v23 kb c0 c1 vb) a0⟩]))
      (a9.view.read (Elt Ideal) (a9.view.writes (Elt Ideal) X9 [⟨Rect.unit (s := S2x2048x128) ![1, 1280, 0] S1x768x128.size inb1, k0_pay176 (k0_pay23 v14 v21 v23 kb c0 c1)⟩,
        ⟨Rect.unit (s := S2x2048x128) ![0, 1280, 0] S1x768x128.size inb0, k0_pay174 (k0_pay23 v14 v21 v23 kb c0 c1)⟩])) :=
  Good.put a8 a9 X8 X9 hg lv' 5 3 1280 768 L (by norm_num) (by norm_num) (by norm_num) hL hL' hin hout v23 hgt kb hkb vb hvb
    (fun r => ⟨1280 + r.val, by omega⟩) (fun r => rfl) inb0 inb1
    (k0_pay173 (k0_pay22 v14 v21 v23 kb c0 c1 vb) a0) (k0_pay174 (k0_pay23 v14 v21 v23 kb c0 c1)) a0 c0
    (k0_pay175 (k0_pay22 v14 v21 v23 kb c0 c1 vb) a1) (k0_pay176 (k0_pay23 v14 v21 v23 kb c0 c1)) a1 c1
    (fun r d c hc => far1280_acc0 v14 v21 v23 kb vb c0 c1 a0 r d c hc) (fun r d c hc => far1280_acc1 v14 v21 v23 kb vb c0 c1 a1 r d c hc)
    (fun r d c hc => far1280_car0 v14 v21 v23 kb c0 c1 r d c hc) (fun r d c hc => far1280_car1 v14 v21 v23 kb c0 c1 r d c hc)
    ea0 ec0 ea1 ec1

theorem far1024_put (a8 a9 : Memref sig .tc .vmem S2x2048x128 .f32) (X8 X9) (hg : Good v14 v21 x4 x5 G lv (a8.view.read (Elt Ideal) X8) (a9.view.read (Elt Ideal) X9))
    (lv' : ℕ → ℕ) (L : ℕ) (hL : L + 1 ≤ G + 4) (hL' : L + 1 ≤ 32)
    (hin : ∀ b, 4 ≤ b → b < 4 + 4 → lv b = L + 1 ∧ lv' b = L) (hout : ∀ b, b < 8 → b < 4 ∨ 4 + 4 ≤ b → lv' b = lv b)
    (v23 : FVec Ideal S256x256 .bf16) (hgt : ∀ i j, v23 (ix2 i j) = tri i.val j.val)
    (kb vb : Vec Ideal S1x256x128 .bf16) (hkb : ∀ (j : Fin 256) k, kb (ix3 0 j k) = x4 (ix3 0 ⟨256 * L + j.val, by omega⟩ k)) (hvb : ∀ (j : Fin 256) d, vb (ix3 0 j d) = x5 (ix3 0 ⟨256 * L + j.val, by omega⟩ d))
    (inb0 inb1) (a0 c0 a1 c1 : Vec Ideal S1x1024x128 .f32)
    (ea0 : ∀ (r : Fin 1024) (d : Fin 128), a0 (ix3 (0 : Fin 1) r d) = a8.view.read (Elt Ideal) X8 (ix3 0 ⟨1024 + r.val, by omega⟩ d))
    (ec0 : ∀ (r : Fin 1024) (d : Fin 128), c0 (ix3 (0 : Fin 1) r d) = a9.view.read (Elt Ideal) X9 (ix3 0 ⟨1024 + r.val, by omega⟩ d))
    (ea1 : ∀ (r : Fin 1024) (d : Fin 128), a1 (ix3 (0 : Fin 1) r d) = a8.view.read (Elt Ideal) X8 (ix3 1 ⟨1024 + r.val, by omega⟩ d))
    (ec1 : ∀ (r : Fin 1024) (d : Fin 128), c1 (ix3 (0 : Fin 1) r d) = a9.view.read (Elt Ideal) X9 (ix3 1 ⟨1024 + r.val, by omega⟩ d)) :
    Good v14 v21 x4 x5 G lv'
      (a8.view.read (Elt Ideal) (a8.view.writes (Elt Ideal) X8 [⟨Rect.unit (s := S2x2048x128) ![1, 1024, 0] S1x1024x128.size inb1, k0_pay180 (k0_pay26 v14 v21 v23 kb c0 c1 vb) a1⟩,
        ⟨Rect.unit (s := S2x2048x128) ![0, 1024, 0] S1x1024x128.size inb0, k0_pay178 (k0_pay26 v14 v21 v23 kb c0 c1 vb) a0⟩]))
      (a9.view.read (Elt Ideal) (a9.view.writes (Elt Ideal) X9 [⟨Rect.unit (s := S2x2048x128) ![1, 1024, 0] S1x1024x128.size inb1, k0_pay181 (k0_pay27 v14 v21 v23 kb c0 c1)⟩,
        ⟨Rect.unit (s := S2x2048x128) ![0, 1024, 0] S1x1024x128.size inb0, k0_pay179 (k0_pay27 v14 v21 v23 kb c0 c1)⟩])) :=
  Good.put a8 a9 X8 X9 hg lv' 4 4 1024 1024 L (by norm_num) (by norm_num) (by norm_num) hL hL' hin hout v23 hgt kb hkb vb hvb
    (fun r => ⟨1024 + r.val, by omega⟩) (fun r => rfl) inb0 inb1
    (k0_pay178 (k0_pay26 v14 v21 v23 kb c0 c1 vb) a0) (k0_pay179 (k0_pay27 v14 v21 v23 kb c0 c1)) a0 c0
    (k0_pay180 (k0_pay26 v14 v21 v23 kb c0 c1 vb) a1) (k0_pay181 (k0_pay27 v14 v21 v23 kb c0 c1)) a1 c1
    (fun r d c hc => far1024_acc0 v14 v21 v23 kb vb c0 c1 a0 r d c hc) (fun r d c hc => far1024_acc1 v14 v21 v23 kb vb c0 c1 a1 r d c hc)
    (fun r d c hc => far1024_car0 v14 v21 v23 kb c0 c1 r d c hc) (fun r d c hc => far1024_car1 v14 v21 v23 kb c0 c1 r d c hc)
    ea0 ec0 ea1 ec1

theorem far768_put (a8 a9 : Memref sig .tc .vmem S2x2048x128 .f32) (X8 X9) (hg : Good v14 v21 x4 x5 G lv (a8.view.read (Elt Ideal) X8) (a9.view.read (Elt Ideal) X9))
    (lv' : ℕ → ℕ) (L : ℕ) (hL : L + 1 ≤ G + 3) (hL' : L + 1 ≤ 32)
    (hin : ∀ b, 3 ≤ b → b < 3 + 5 → lv b = L + 1 ∧ lv' b = L) (hout : ∀ b, b < 8 → b < 3 ∨ 3 + 5 ≤ b → lv' b = lv b)
    (v23 : FVec Ideal S256x256 .bf16) (hgt : ∀ i j, v23 (ix2 i j) = tri i.val j.val)
    (kb vb : Vec Ideal S1x256x128 .bf16) (hkb : ∀ (j : Fin 256) k, kb (ix3 0 j k) = x4 (ix3 0 ⟨256 * L + j.val, by omega⟩ k)) (hvb : ∀ (j : Fin 256) d, vb (ix3 0 j d) = x5 (ix3 0 ⟨256 * L + j.val, by omega⟩ d))
    (inb0 inb1) (a0 c0 a1 c1 : Vec Ideal S1x1280x128 .f32)
    (ea0 : ∀ (r : Fin 1280) (d : Fin 128), a0 (ix3 (0 : Fin 1) r d) = a8.view.read (Elt Ideal) X8 (ix3 0 ⟨768 + r.val, by omega⟩ d))
    (ec0 : ∀ (r : Fin 1280) (d : Fin 128), c0 (ix3 (0 : Fin 1) r d) = a9.view.read (Elt Ideal) X9 (ix3 0 ⟨768 + r.val, by omega⟩ d))
    (ea1 : ∀ (r : Fin 1280) (d : Fin 128), a1 (ix3 (0 : Fin 1) r d) = a8.view.read (Elt Ideal) X8 (ix3 1 ⟨768 + r.val, by omega⟩ d))
    (ec1 : ∀ (r : Fin 1280) (d : Fin 128), c1 (ix3 (0 : Fin 1) r d) = a9.view.read (Elt Ideal) X9 (ix3 1 ⟨768 + r.val, by omega⟩ d)) :
    Good v14 v21 x4 x5 G lv'
      (a8.view.read (Elt Ideal) (a8.view.writes (Elt Ideal) X8 [⟨Rect.unit (s := S2x2048x128) ![1, 768, 0] S1x1280x128.size inb1, k0_pay185 (k0_pay30 v14 v21 v23 kb c0 c1 vb) a1⟩,
        ⟨Rect.unit (s := S2x2048x128) ![0, 768, 0] S1x1280x128.size inb0, k0_pay183 (k0_pay30 v14 v21 v23 kb c0 c1 vb) a0⟩]))
      (a9.view.read (Elt Ideal) (a9.view.writes (Elt Ideal) X9 [⟨Rect.unit (s := S2x2048x128) ![1, 768, 0] S1x1280x128.size inb1, k0_pay186 (k0_pay31 v14 v21 v23 kb c0 c1)⟩,
        ⟨Rect.unit (s := S2x2048x128) ![0, 768, 0] S1x1280x128.size inb0, k0_pay184 (k0_pay31 v14 v21 v23 kb c0 c1)⟩])) :=
  Good.put a8 a9 X8 X9 hg lv' 3 5 768 1280 L (by norm_num) (by norm_num) (by norm_num) hL hL' hin hout v23 hgt kb hkb vb hvb
    (fun r => ⟨768 + r.val, by omega⟩) (fun r => rfl) inb0 inb1
    (k0_pay183 (k0_pay30 v14 v21 v23 kb c0 c1 vb) a0) (k0_pay184 (k0_pay31 v14 v21 v23 kb c0 c1)) a0 c0
    (k0_pay185 (k0_pay30 v14 v21 v23 kb c0 c1 vb) a1) (k0_pay186 (k0_pay31 v14 v21 v23 kb c0 c1)) a1 c1
    (fun r d c hc => far768_acc0 v14 v21 v23 kb vb c0 c1 a0 r d c hc) (fun r d c hc => far768_acc1 v14 v21 v23 kb vb c0 c1 a1 r d c hc)
    (fun r d c hc => far768_car0 v14 v21 v23 kb c0 c1 r d c hc) (fun r d c hc => far768_car1 v14 v21 v23 kb c0 c1 r d c hc)
    ea0 ec0 ea1 ec1

theorem far512_put (a8 a9 : Memref sig .tc .vmem S2x2048x128 .f32) (X8 X9) (hg : Good v14 v21 x4 x5 G lv (a8.view.read (Elt Ideal) X8) (a9.view.read (Elt Ideal) X9))
    (lv' : ℕ → ℕ) (L : ℕ) (hL : L + 1 ≤ G + 2) (hL' : L + 1 ≤ 32)
    (hin : ∀ b, 2 ≤ b → b < 2 + 6 → lv b = L + 1 ∧ lv' b = L) (hout : ∀ b, b < 8 → b < 2 ∨ 2 + 6 ≤ b → lv' b = lv b)
    (v23 : FVec Ideal S256x256 .bf16) (hgt : ∀ i j, v23 (ix2 i j) = tri i.val j.val)
    (kb vb : Vec Ideal S1x256x128 .bf16) (hkb : ∀ (j : Fin 256) k, kb (ix3 0 j k) = x4 (ix3 0 ⟨256 * L + j.val, by omega⟩ k)) (hvb : ∀ (j : Fin 256) d, vb (ix3 0 j d) = x5 (ix3 0 ⟨256 * L + j.val, by omega⟩ d))
    (inb0 inb1) (a0 c0 a1 c1 : Vec Ideal S1x1536x128 .f32)
    (ea0 : ∀ (r : Fin 1536) (d : Fin 128), a0 (ix3 (0 : Fin 1) r d) = a8.view.read (Elt Ideal) X8 (ix3 0 ⟨512 + r.val, by omega⟩ d))
    (ec0 : ∀ (r : Fin 1536) (d : Fin 128), c0 (ix3 (0 : Fin 1) r d) = a9.view.read (Elt Ideal) X9 (ix3 0 ⟨512 + r.val, by omega⟩ d))
    (ea1 : ∀ (r : Fin 1536) (d : Fin 128), a1 (ix3 (0 : Fin 1) r d) = a8.view.read (Elt Ideal) X8 (ix3 1 ⟨512 + r.val, by omega⟩ d))
    (ec1 : ∀ (r : Fin 1536) (d : Fin 128), c1 (ix3 (0 : Fin 1) r d) = a9.view.read (Elt Ideal) X9 (ix3 1 ⟨512 + r.val, by omega⟩ d)) :
    Good v14 v21 x4 x5 G lv'
      (a8.view.read (Elt Ideal) (a8.view.writes (Elt Ideal) X8 [⟨Rect.unit (s := S2x2048x128) ![1, 512, 0] S1x1536x128.size inb1, k0_pay190 (k0_pay34 v14 v21 v23 kb c0 c1 vb) a1⟩,
        ⟨Rect.unit (s := S2x2048x128) ![0, 512, 0] S1x1536x128.size inb0, k0_pay188 (k0_pay34 v14 v21 v23 kb c0 c1 vb) a0⟩]))
      (a9.view.read (Elt Ideal) (a9.view.writes (Elt Ideal) X9 [⟨Rect.unit (s := S2x2048x128) ![1, 512, 0] S1x1536x128.size inb1, k0_pay191 (k0_pay35 v14 v21 v23 kb c0 c1)⟩,
        ⟨Rect.unit (s := S2x2048x128) ![0, 512, 0] S1x1536x128.size inb0, k0_pay189 (k0_pay35 v14 v21 v23 kb c0 c1)⟩])) :=
  Good.put a8 a9 X8 X9 hg lv' 2 6 512 1536 L (by norm_num) (by norm_num) (by norm_num) hL hL' hin hout v23 hgt kb hkb vb hvb
    (fun r => ⟨512 + r.val, by omega⟩) (fun r => rfl) inb0 inb1
    (k0_pay188 (k0_pay34 v14 v21 v23 kb c0 c1 vb) a0) (k0_pay189 (k0_pay35 v14 v21 v23 kb c0 c1)) a0 c0
    (k0_pay190 (k0_pay34 v14 v21 v23 kb c0 c1 vb) a1) (k0_pay191 (k0_pay35 v14 v21 v23 kb c0 c1)) a1 c1
    (fun r d c hc => far512_acc0 v14 v21 v23 kb vb c0 c1 a0 r d c hc) (fun r d c hc => far512_acc1 v14 v21 v23 kb vb c0 c1 a1 r d c hc)
    (fun r d c hc => far512_car0 v14 v21 v23 kb c0 c1 r d c hc) (fun r d c hc => far512_car1 v14 v21 v23 kb c0 c1 r d c hc)
    ea0 ec0 ea1 ec1

theorem far256_put (a8 a9 : Memref sig .tc .vmem S2x2048x128 .f32) (X8 X9) (hg : Good v14 v21 x4 x5 G lv (a8.view.read (Elt Ideal) X8) (a9.view.read (Elt Ideal) X9))
    (lv' : ℕ → ℕ) (L : ℕ) (hL : L + 1 ≤ G + 1) (hL' : L + 1 ≤ 32)
    (hin : ∀ b, 1 ≤ b → b < 1 + 7 → lv b = L + 1 ∧ lv' b = L) (hout : ∀ b, b < 8 → b < 1 ∨ 1 + 7 ≤ b → lv' b = lv b)
    (v23 : FVec Ideal S256x256 .bf16) (hgt : ∀ i j, v23 (ix2 i j) = tri i.val j.val)
    (kb vb : Vec Ideal S1x256x128 .bf16) (hkb : ∀ (j : Fin 256) k, kb (ix3 0 j k) = x4 (ix3 0 ⟨256 * L + j.val, by omega⟩ k)) (hvb : ∀ (j : Fin 256) d, vb (ix3 0 j d) = x5 (ix3 0 ⟨256 * L + j.val, by omega⟩ d))
    (inb0 inb1) (a0 c0 a1 c1 : Vec Ideal S1x1792x128 .f32)
    (ea0 : ∀ (r : Fin 1792) (d : Fin 128), a0 (ix3 (0 : Fin 1) r d) = a8.view.read (Elt Ideal) X8 (ix3 0 ⟨256 + r.val, by omega⟩ d))
    (ec0 : ∀ (r : Fin 1792) (d : Fin 128), c0 (ix3 (0 : Fin 1) r d) = a9.view.read (Elt Ideal) X9 (ix3 0 ⟨256 + r.val, by omega⟩ d))
    (ea1 : ∀ (r : Fin 1792) (d : Fin 128), a1 (ix3 (0 : Fin 1) r d) = a8.view.read (Elt Ideal) X8 (ix3 1 ⟨256 + r.val, by omega⟩ d))
    (ec1 : ∀ (r : Fin 1792) (d : Fin 128), c1 (ix3 (0 : Fin 1) r d) = a9.view.read (Elt Ideal) X9 (ix3 1 ⟨256 + r.val, by omega⟩ d)) :
    Good v14 v21 x4 x5 G lv'
      (a8.view.read (Elt Ideal) (a8.view.writes (Elt Ideal) X8 [⟨Rect.unit (s := S2x2048x128) ![1, 256, 0] S1x1792x128.size inb1, k0_pay196 (k0_pay38 v14 v21 v23 kb c0 c1 vb) a1⟩,
        ⟨Rect.unit (s := S2x2048x128) ![0, 256, 0] S1x1792x128.size inb0, k0_pay194 (k0_pay38 v14 v21 v23 kb c0 c1 vb) a0⟩]))
      (a9.view.read (Elt Ideal) (a9.view.writes (Elt Ideal) X9 [⟨Rect.unit (s := S2x2048x128) ![1, 256, 0] S1x1792x128.size inb1, k0_pay197 (k0_pay39 v14 v21 v23 kb c0 c1)⟩,
        ⟨Rect.unit (s := S2x2048x128) ![0, 256, 0] S1x1792x128.size inb0, k0_pay195 (k0_pay39 v14 v21 v23 kb c0 c1)⟩])) :=
  Good.put a8 a9 X8 X9 hg lv' 1 7 256 1792 L (by norm_num) (by norm_num) (by norm_num) hL hL' hin hout v23 hgt kb hkb vb hvb
    (fun r => ⟨256 + r.val, by omega⟩) (fun r => rfl) inb0 inb1
    (k0_pay194 (k0_pay38 v14 v21 v23 kb c0 c1 vb) a0) (k0_pay195 (k0_pay39 v14 v21 v23 kb c0 c1)) a0 c0
    (k0_pay196 (k0_pay38 v14 v21 v23 kb c0 c1 vb) a1) (k0_pay197 (k0_pay39 v14 v21 v23 kb c0 c1)) a1 c1
    (fun r d c hc => far256_acc0 v14 v21 v23 kb vb c0 c1 a0 r d c hc) (fun r d c hc => far256_acc1 v14 v21 v23 kb vb c0 c1 a1 r d c hc)
    (fun r d c hc => far256_car0 v14 v21 v23 kb c0 c1 r d c hc) (fun r d c hc => far256_car1 v14 v21 v23 kb c0 c1 r d c hc)
    ea0 ec0 ea1 ec1

theorem loop_put (a8 a9 : Memref sig .tc .vmem S2x2048x128 .f32) (X8 X9) (hg : Good v14 v21 x4 x5 G lv (a8.view.read (Elt Ideal) X8) (a9.view.read (Elt Ideal) X9))
    (lv' : ℕ → ℕ) (L : ℕ) (hL : L + 1 ≤ G + 0) (hL' : L + 1 ≤ 32)
    (hin : ∀ b, 0 ≤ b → b < 0 + 8 → lv b = L + 1 ∧ lv' b = L) (hout : ∀ b, b < 8 → b < 0 ∨ 0 + 8 ≤ b → lv' b = lv b)
    (v23 : FVec Ideal S256x256 .bf16) (hgt : ∀ i j, v23 (ix2 i j) = tri i.val j.val)
    (kb vb : Vec Ideal S1x256x128 .bf16) (hkb : ∀ (j : Fin 256) k, kb (ix3 0 j k) = x4 (ix3 0 ⟨256 * L + j.val, by omega⟩ k)) (hvb : ∀ (j : Fin 256) d, vb (ix3 0 j d) = x5 (ix3 0 ⟨256 * L + j.val, by omega⟩ d))
    (inb0 inb1) (a0 c0 a1 c1 : Vec Ideal S1x2048x128 .f32)
    (ea0 : ∀ (r : Fin 2048) (d : Fin 128), a0 (ix3 (0 : Fin 1) r d) = a8.view.read (Elt Ideal) X8 (ix3 0 ⟨0 + r.val, by omega⟩ d))
    (ec0 : ∀ (r : Fin 2048) (d : Fin 128), c0 (ix3 (0 : Fin 1) r d) = a9.view.read (Elt Ideal) X9 (ix3 0 ⟨0 + r.val, by omega⟩ d))
    (ea1 : ∀ (r : Fin 2048) (d : Fin 128), a1 (ix3 (0 : Fin 1) r d) = a8.view.read (Elt Ideal) X8 (ix3 1 ⟨0 + r.val, by omega⟩ d))
    (ec1 : ∀ (r : Fin 2048) (d : Fin 128), c1 (ix3 (0 : Fin 1) r d) = a9.view.read (Elt Ideal) X9 (ix3 1 ⟨0 + r.val, by omega⟩ d)) :
    Good v14 v21 x4 x5 G lv'
      (a8.view.read (Elt Ideal) (a8.view.writes (Elt Ideal) X8 [⟨Rect.unit (s := S2x2048x128) ![1, 0, 0] S1x2048x128.size inb1, k0_pay5 (k0_pay202 v14 v21 v23 kb c0 c1 vb) a1⟩,
        ⟨Rect.unit (s := S2x2048x128) ![0, 0, 0] S1x2048x128.size inb0, k0_pay3 (k0_pay202 v14 v21 v23 kb c0 c1 vb) a0⟩]))
      (a9.view.read (Elt Ideal) (a9.view.writes (Elt Ideal) X9 [⟨Rect.unit (s := S2x2048x128) ![1, 0, 0] S1x2048x128.size inb1, k0_pay6 (k0_pay203 v14 v21 v23 kb c0 c1)⟩,
        ⟨Rect.unit (s := S2x2048x128) ![0, 0, 0] S1x2048x128.size inb0, k0_pay4 (k0_pay203 v14 v21 v23 kb c0 c1)⟩])) :=
  Good.put a8 a9 X8 X9 hg lv' 0 8 0 2048 L (by norm_num) (by norm_num) (by norm_num) hL hL' hin hout v23 hgt kb hkb vb hvb
    (fun r => ⟨r.val, by omega⟩) (fun r => (Nat.zero_add _).symm) inb0 inb1
    (k0_pay3 (k0_pay202 v14 v21 v23 kb c0 c1 vb) a0) (k0_pay4 (k0_pay203 v14 v21 v23 kb c0 c1)) a0 c0
    (k0_pay5 (k0_pay202 v14 v21 v23 kb c0 c1 vb) a1) (k0_pay6 (k0_pay203 v14 v21 v23 kb c0 c1)) a1 c1
    (fun r d c hc => loop_acc0 v14 v21 v23 kb vb c0 c1 a0 r d c hc) (fun r d c hc => loop_acc1 v14 v21 v23 kb vb c0 c1 a1 r d c hc)
    (fun r d c hc => loop_car0 v14 v21 v23 kb c0 c1 r d c hc) (fun r d c hc => loop_car1 v14 v21 v23 kb c0 c1 r d c hc)
    ea0 ec0 ea1 ec1

end Cert.KernelIdeal.MixerB

end
-- ==== Proof.V.BaseA.lean ====
/- Both buffers after the diagonal tiles: every row block stands at the key block before its own. -/
module

public import proofs.«01_k».proof.Proof.V.Diag
public import proofs.«01_k».proof.Proof.V.Puts

@[expose] public section

set_option maxRecDepth 16384

noncomputable section

namespace Cert.KernelIdeal.MixerB

open Cert.KernelIdeal Cert.KernelIdeal.Gen
open Idealize.ShloMosaic Idealize.ShloMosaic.TcCoe
open Cert.Stick

theorem own_car (z : ℕ → EReal) (p L y : ℕ) (hy : y < 256) (hL : p = 256 * L + y) (hp : 256 * (L + 1) ≤ 8192) (zr : Fin 256 → EReal) (hz : ∀ j, zr j = z (256 * L + j.val))
    (g : Fin 256 → Fin 256 → EReal) (hg : g = fun i j => tri i.val j.val) : trowm zr g y 0 = left 8192 z p (256 * L) := by
  rw [hg]; exact trow_own z p L y hy hL hp zr hz 0

theorem own_acc (z : ℕ → EReal) (p L y : ℕ) (hy : y < 256) (hL : p = 256 * L + y) (hp : 256 * (L + 1) ≤ 8192) (zr : Fin 256 → EReal) (hz : ∀ j, zr j = z (256 * L + j.val))
    (g : Fin 256 → Fin 256 → EReal) (hg : g = fun i j => tri i.val j.val) (v : ℕ → EReal) (vr : Fin 256 → EReal) (hv : ∀ j, vr j = v (256 * L + j.val)) :
    prowm zr (trowm zr g y) vr y = acc 8192 z v p (256 * L) := by
  rw [hg]; exact prow_own z p L y hy hL hp zr _ hz (fun j => trow_own z p L y hy hL hp zr hz j) v vr hv

theorem two_car (z : ℕ → EReal) (p L y : ℕ) (hy : y < 256) (hL : p = 256 * (L + 1) + y) (hp : 256 * (L + 1 + 1) ≤ 8192) (q : Fin 128 → EReal) (kP : Fin 256 → Fin 128 → EReal) (zr : Fin 256 → EReal)
    (hz : ∀ j, zr j = z (256 * (L + 1) + j.val)) (hzP : ∀ j, zrow q kP j = z (256 * L + j.val))
    (g : Fin 256 → Fin 256 → EReal) (hg : g = fun i j => tri i.val j.val) : tcar q kP g (trowm zr g y 0) = left 8192 z p (256 * L) := by
  rw [own_car z p (L + 1) y hy hL hp zr hz g hg, hg]
  exact trow_full z p L (by omega) (by omega) _ hzP _ rfl 0

theorem two_acc (z : ℕ → EReal) (p L y : ℕ) (hy : y < 256) (hL : p = 256 * (L + 1) + y) (hp : 256 * (L + 1 + 1) ≤ 8192) (q : Fin 128 → EReal) (kP : Fin 256 → Fin 128 → EReal) (zr : Fin 256 → EReal)
    (hz : ∀ j, zr j = z (256 * (L + 1) + j.val)) (hzP : ∀ j, zrow q kP j = z (256 * L + j.val))
    (g : Fin 256 → Fin 256 → EReal) (hg : g = fun i j => tri i.val j.val) (v : ℕ → EReal) (vr vP : Fin 256 → EReal) (hv : ∀ j, vr j = v (256 * (L + 1) + j.val)) (hvP : ∀ j, vP j = v (256 * L + j.val)) :
    prowm zr (trowm zr g y) vr y + tacc q kP g (trowm zr g y 0) vP = acc 8192 z v p (256 * L) := by
  rw [own_acc z p (L + 1) y hy hL hp zr hz g hg v vr hv, own_car z p (L + 1) y hy hL hp zr hz g hg, hg]
  exact prow_full z p L (by omega) (by omega) _ _ hzP (fun j => trow_full z p L (by omega) (by omega) _ hzP _ rfl j) v vP hvP _ rfl

theorem zrow_zz (v14 v21 : FVec Ideal S2048x128 .bf16) (x4 : Vec Ideal S1x8192x128 .bf16) (h : Fin 2) (q : FVec Ideal S2048x128 .bf16) (hq : q = qm v14 v21 h) (L : ℕ) (hL : L + 1 ≤ 32)
    (kb : Vec Ideal S1x256x128 .bf16) (hkb : ∀ (j : Fin 256) k, kb (ix3 0 j k) = x4 (ix3 0 ⟨256 * L + j.val, by omega⟩ k)) (r : Fin 2048) (j : Fin 256) :
    zrow (fun k => q (ix2 r k)) (fun j k => kb (ix3 0 j k)) j = zz v14 v21 x4 h r (256 * L + j.val) := by
  unfold zz
  rw [dif_pos (by omega), ← hq]
  unfold zrow
  exact Finset.sum_congr rfl fun k _ => congrArg _ (hkb j k)

theorem vrow_vv (x5 : Vec Ideal S1x8192x128 .bf16) (L : ℕ) (hL : L + 1 ≤ 32)
    (vb : Vec Ideal S1x256x128 .bf16) (hvb : ∀ (j : Fin 256) k, vb (ix3 0 j k) = x5 (ix3 0 ⟨256 * L + j.val, by omega⟩ k)) (d : Fin 128) (j : Fin 256) :
    vb (ix3 0 j d) = vv x5 d (256 * L + j.val) := by
  unfold vv
  rw [dif_pos (by omega)]
  exact hvb j d

theorem kv_lt (G : ℕ) (hG : G + 8 ≤ 32) (b : Fin 8) (j : Fin 256) : 256 * (G + b.val) + j.val < 8192 := by omega

theorem at_blk (x4 : Vec Ideal S1x8192x128 .bf16) (G : ℕ) (hG : G + 8 ≤ 32) (kb : Fin 8 → Vec Ideal S1x256x128 .bf16) (hkb : ∀ (b : Fin 8) (j : Fin 256) k, kb b (ix3 0 j k) = x4 (ix3 0 ⟨256 * (G + b.val) + j.val, kv_lt G hG b j⟩ k))
    (b : Fin 8) (L : ℕ) (hL : L = G + b.val) (hL' : L + 1 ≤ 32) (j : Fin 256) (k : Fin 128) : kb b (ix3 0 j k) = x4 (ix3 0 ⟨256 * L + j.val, by omega⟩ k) := by
  subst hL
  exact hkb b j k

end Cert.KernelIdeal.MixerB

end
-- ==== Proof.V.BaseB0.lean ====
/- Both buffers after the diagonal tiles: every row block stands at the key block before its own. -/
module

public import proofs.«01_k».proof.Proof.V.BaseA

@[expose] public section

set_option maxRecDepth 16384

noncomputable section

namespace Cert.KernelIdeal.MixerB

open Cert.KernelIdeal Cert.KernelIdeal.Gen
open Idealize.ShloMosaic Idealize.ShloMosaic.TcCoe
open Cert.Stick

theorem pk0_0 (x : Vec Ideal S1x2048x128 .f32) (g : FVec Ideal S256x256 .bf16) (kb vb : Fin 8 → Vec Ideal S1x256x128 .bf16) (r : Fin 256) (d : Fin 128) : d437 x g kb vb (ix3 0 r d) = d243 x g kb vb (ix2 ⟨r.val, by omega⟩ d) := by
  pointwise [d437, k0_pay108]
  try rfl

theorem pk0_1 (x : Vec Ideal S1x2048x128 .f32) (g : FVec Ideal S256x256 .bf16) (kb vb : Fin 8 → Vec Ideal S1x256x128 .bf16) (r : Fin 256) (d : Fin 128) : d445 x g kb vb (ix3 0 r d) = d243 x g kb vb (ix2 ⟨256 + r.val, by omega⟩ d) := by
  pointwise [d445, k0_pay110]
  try rfl

variable (x : Vec Ideal S1x2048x128 .f32) (g : FVec Ideal S256x256 .bf16) (hgt : ∀ i j, g (ix2 i j) = tri i.val j.val) (x4 x5 : Vec Ideal S1x8192x128 .bf16) (G : ℕ) (hG : G + 8 ≤ 32)
  (kb vb : Fin 8 → Vec Ideal S1x256x128 .bf16) (hkb : ∀ (b : Fin 8) (j : Fin 256) k, kb b (ix3 0 j k) = x4 (ix3 0 ⟨256 * (G + b.val) + j.val, kv_lt G hG b j⟩ k))
  (hvb : ∀ (b : Fin 8) (j : Fin 256) k, vb b (ix3 0 j k) = x5 (ix3 0 ⟨256 * (G + b.val) + j.val, kv_lt G hG b j⟩ k))

include hgt hG hkb

theorem car0_0 (r : Fin 256) (d : Fin 128) : d437 x g kb vb (ix3 0 r d) = left 8192 (zz (k0_pay41 x) (k0_pay42 x) x4 0 ⟨r.val, by omega⟩) (256 * G + (r.val)) (256 * G) := by
  have hr := r.isLt
  rw [diag0_car0]
  exact own_car _ _ G r.val r.isLt (by omega) (by omega) _ (zrow_zz (k0_pay41 x) (k0_pay42 x) x4 0 (k0_pay41 x) (if_pos rfl).symm G (by omega) (kb 0) (at_blk x4 G hG kb hkb 0 G rfl (by omega)) _) _ (funext fun i => funext fun j => hgt i j)

include hvb in
theorem acc0_0 (r : Fin 256) (d : Fin 128) : d433 x g kb vb (ix3 0 r d) = acc 8192 (zz (k0_pay41 x) (k0_pay42 x) x4 0 ⟨r.val, by omega⟩) (vv x5 d) (256 * G + (r.val)) (256 * G) := by
  have hr := r.isLt
  rw [diag0_acc0]
  exact own_acc _ _ G r.val r.isLt (by omega) (by omega) _ (zrow_zz (k0_pay41 x) (k0_pay42 x) x4 0 (k0_pay41 x) (if_pos rfl).symm G (by omega) (kb 0) (at_blk x4 G hG kb hkb 0 G rfl (by omega)) _) _ (funext fun i => funext fun j => hgt i j) _ _ (vrow_vv x5 G (by omega) (vb 0) (at_blk x5 G hG vb hvb 0 G rfl (by omega)) d)

theorem car0_1 (r : Fin 256) (d : Fin 128) : d445 x g kb vb (ix3 0 r d) = left 8192 (zz (k0_pay41 x) (k0_pay42 x) x4 1 ⟨r.val, by omega⟩) (256 * G + (r.val)) (256 * G) := by
  have hr := r.isLt
  rw [diag0_car1]
  exact own_car _ _ G r.val r.isLt (by omega) (by omega) _ (zrow_zz (k0_pay41 x) (k0_pay42 x) x4 1 (k0_pay42 x) (if_neg (by decide)).symm G (by omega) (kb 0) (at_blk x4 G hG kb hkb 0 G rfl (by omega)) _) _ (funext fun i => funext fun j => hgt i j)

include hvb in
theorem acc0_1 (r : Fin 256) (d : Fin 128) : d441 x g kb vb (ix3 0 r d) = acc 8192 (zz (k0_pay41 x) (k0_pay42 x) x4 1 ⟨r.val, by omega⟩) (vv x5 d) (256 * G + (r.val)) (256 * G) := by
  have hr := r.isLt
  rw [diag0_acc1]
  exact own_acc _ _ G r.val r.isLt (by omega) (by omega) _ (zrow_zz (k0_pay41 x) (k0_pay42 x) x4 1 (k0_pay42 x) (if_neg (by decide)).symm G (by omega) (kb 0) (at_blk x4 G hG kb hkb 0 G rfl (by omega)) _) _ (funext fun i => funext fun j => hgt i j) _ _ (vrow_vv x5 G (by omega) (vb 0) (at_blk x5 G hG vb hvb 0 G rfl (by omega)) d)

/-- Block 0 of rows, once the largest carry its diagonal tiles leave is the exit value. -/
theorem dead0 (hp : k0_pay151 (d243 x g kb vb) = (⊥ : EReal)) : Dead (k0_pay41 x) (k0_pay42 x) x4 G 0 G := by
  intro h r hr
  obtain ⟨s, hs⟩ : ∃ s : Fin 256, r.val = s.val := ⟨⟨r.val - 0, by omega⟩, show r.val = (r.val - 0) by omega⟩
  have hlt : s.val < 2048 := by have := s.isLt; clear hr hs; omega
  obtain rfl : r = ⟨s.val, hlt⟩ := Fin.ext hs
  match h with
  | 0 => rw [← car0_0 x g hgt x4 G hG kb vb hkb s 0, pk0_0]; exact peak_dead _ hp _ _
  | 1 => rw [← car0_1 x g hgt x4 G hG kb vb hkb s 0, pk0_1]; exact peak_dead _ hp _ _

end Cert.KernelIdeal.MixerB

end
-- ==== Proof.V.BaseB1.lean ====
/- Both buffers after the diagonal tiles: every row block stands at the key block before its own. -/
module

public import proofs.«01_k».proof.Proof.V.BaseA

@[expose] public section

set_option maxRecDepth 16384

noncomputable section

namespace Cert.KernelIdeal.MixerB

open Cert.KernelIdeal Cert.KernelIdeal.Gen
open Idealize.ShloMosaic Idealize.ShloMosaic.TcCoe
open Cert.Stick

theorem pk1_0 (x : Vec Ideal S1x2048x128 .f32) (g : FVec Ideal S256x256 .bf16) (kb vb : Fin 8 → Vec Ideal S1x256x128 .bf16) (r : Fin 256) (d : Fin 128) : d456 x g kb vb (ix3 0 r d) = d253 x g kb vb (ix2 ⟨r.val, by omega⟩ d) := by
  pointwise [d456, k0_pay114]
  try rfl

theorem pk1_1 (x : Vec Ideal S1x2048x128 .f32) (g : FVec Ideal S256x256 .bf16) (kb vb : Fin 8 → Vec Ideal S1x256x128 .bf16) (r : Fin 256) (d : Fin 128) : d464 x g kb vb (ix3 0 r d) = d253 x g kb vb (ix2 ⟨256 + r.val, by omega⟩ d) := by
  pointwise [d464, k0_pay116]
  try rfl

variable (x : Vec Ideal S1x2048x128 .f32) (g : FVec Ideal S256x256 .bf16) (hgt : ∀ i j, g (ix2 i j) = tri i.val j.val) (x4 x5 : Vec Ideal S1x8192x128 .bf16) (G : ℕ) (hG : G + 8 ≤ 32)
  (kb vb : Fin 8 → Vec Ideal S1x256x128 .bf16) (hkb : ∀ (b : Fin 8) (j : Fin 256) k, kb b (ix3 0 j k) = x4 (ix3 0 ⟨256 * (G + b.val) + j.val, kv_lt G hG b j⟩ k))
  (hvb : ∀ (b : Fin 8) (j : Fin 256) k, vb b (ix3 0 j k) = x5 (ix3 0 ⟨256 * (G + b.val) + j.val, kv_lt G hG b j⟩ k))

include hgt hG hkb

theorem car1_0 (r : Fin 256) (d : Fin 128) : d456 x g kb vb (ix3 0 r d) = left 8192 (zz (k0_pay41 x) (k0_pay42 x) x4 0 ⟨256 + r.val, by omega⟩) (256 * G + (256 + r.val)) (256 * (G + 0)) := by
  have hr := r.isLt
  rw [diag1_car0]
  exact two_car _ _ (G + 0) r.val r.isLt (by omega) (by omega) _ _ _ (zrow_zz (k0_pay41 x) (k0_pay42 x) x4 0 (k0_pay41 x) (if_pos rfl).symm ((G + 0) + 1) (by omega) (kb 1) (at_blk x4 G hG kb hkb 1 ((G + 0) + 1) (show (G + 0) + 1 = G + 1 by omega) (by omega)) _) (zrow_zz (k0_pay41 x) (k0_pay42 x) x4 0 (k0_pay41 x) (if_pos rfl).symm (G + 0) (by omega) (kb 0) (at_blk x4 G hG kb hkb 0 (G + 0) rfl (by omega)) _) _ (funext fun i => funext fun j => hgt i j)

include hvb in
theorem acc1_0 (r : Fin 256) (d : Fin 128) : d452 x g kb vb (ix3 0 r d) = acc 8192 (zz (k0_pay41 x) (k0_pay42 x) x4 0 ⟨256 + r.val, by omega⟩) (vv x5 d) (256 * G + (256 + r.val)) (256 * (G + 0)) := by
  have hr := r.isLt
  rw [diag1_acc0]
  exact two_acc _ _ (G + 0) r.val r.isLt (by omega) (by omega) _ _ _ (zrow_zz (k0_pay41 x) (k0_pay42 x) x4 0 (k0_pay41 x) (if_pos rfl).symm ((G + 0) + 1) (by omega) (kb 1) (at_blk x4 G hG kb hkb 1 ((G + 0) + 1) (show (G + 0) + 1 = G + 1 by omega) (by omega)) _) (zrow_zz (k0_pay41 x) (k0_pay42 x) x4 0 (k0_pay41 x) (if_pos rfl).symm (G + 0) (by omega) (kb 0) (at_blk x4 G hG kb hkb 0 (G + 0) rfl (by omega)) _) _ (funext fun i => funext fun j => hgt i j) _ _ _ (vrow_vv x5 ((G + 0) + 1) (by omega) (vb 1) (at_blk x5 G hG vb hvb 1 ((G + 0) + 1) (show (G + 0) + 1 = G + 1 by omega) (by omega)) d) (vrow_vv x5 (G + 0) (by omega) (vb 0) (at_blk x5 G hG vb hvb 0 (G + 0) rfl (by omega)) d)

theorem car1_1 (r : Fin 256) (d : Fin 128) : d464 x g kb vb (ix3 0 r d) = left 8192 (zz (k0_pay41 x) (k0_pay42 x) x4 1 ⟨256 + r.val, by omega⟩) (256 * G + (256 + r.val)) (256 * (G + 0)) := by
  have hr := r.isLt
  rw [diag1_car1]
  exact two_car _ _ (G + 0) r.val r.isLt (by omega) (by omega) _ _ _ (zrow_zz (k0_pay41 x) (k0_pay42 x) x4 1 (k0_pay42 x) (if_neg (by decide)).symm ((G + 0) + 1) (by omega) (kb 1) (at_blk x4 G hG kb hkb 1 ((G + 0) + 1) (show (G + 0) + 1 = G + 1 by omega) (by omega)) _) (zrow_zz (k0_pay41 x) (k0_pay42 x) x4 1 (k0_pay42 x) (if_neg (by decide)).symm (G + 0) (by omega) (kb 0) (at_blk x4 G hG kb hkb 0 (G + 0) rfl (by omega)) _) _ (funext fun i => funext fun j => hgt i j)

include hvb in
theorem acc1_1 (r : Fin 256) (d : Fin 128) : d460 x g kb vb (ix3 0 r d) = acc 8192 (zz (k0_pay41 x) (k0_pay42 x) x4 1 ⟨256 + r.val, by omega⟩) (vv x5 d) (256 * G + (256 + r.val)) (256 * (G + 0)) := by
  have hr := r.isLt
  rw [diag1_acc1]
  exact two_acc _ _ (G + 0) r.val r.isLt (by omega) (by omega) _ _ _ (zrow_zz (k0_pay41 x) (k0_pay42 x) x4 1 (k0_pay42 x) (if_neg (by decide)).symm ((G + 0) + 1) (by omega) (kb 1) (at_blk x4 G hG kb hkb 1 ((G + 0) + 1) (show (G + 0) + 1 = G + 1 by omega) (by omega)) _) (zrow_zz (k0_pay41 x) (k0_pay42 x) x4 1 (k0_pay42 x) (if_neg (by decide)).symm (G + 0) (by omega) (kb 0) (at_blk x4 G hG kb hkb 0 (G + 0) rfl (by omega)) _) _ (funext fun i => funext fun j => hgt i j) _ _ _ (vrow_vv x5 ((G + 0) + 1) (by omega) (vb 1) (at_blk x5 G hG vb hvb 1 ((G + 0) + 1) (show (G + 0) + 1 = G + 1 by omega) (by omega)) d) (vrow_vv x5 (G + 0) (by omega) (vb 0) (at_blk x5 G hG vb hvb 0 (G + 0) rfl (by omega)) d)

/-- Block 1 of rows, once the largest carry its diagonal tiles leave is the exit value. -/
theorem dead1 (hp : k0_pay151 (d253 x g kb vb) = (⊥ : EReal)) : Dead (k0_pay41 x) (k0_pay42 x) x4 G 1 (G + 0) := by
  intro h r hr
  obtain ⟨s, hs⟩ : ∃ s : Fin 256, r.val = 256 + s.val := ⟨⟨r.val - 256, by omega⟩, show r.val = 256 + (r.val - 256) by omega⟩
  have hlt : 256 + s.val < 2048 := by have := s.isLt; clear hr hs; omega
  obtain rfl : r = ⟨256 + s.val, hlt⟩ := Fin.ext hs
  match h with
  | 0 => rw [← car1_0 x g hgt x4 G hG kb vb hkb s 0, pk1_0]; exact peak_dead _ hp _ _
  | 1 => rw [← car1_1 x g hgt x4 G hG kb vb hkb s 0, pk1_1]; exact peak_dead _ hp _ _

end Cert.KernelIdeal.MixerB

end
-- ==== Proof.V.BaseB2.lean ====
/- Both buffers after the diagonal tiles: every row block stands at the key block before its own. -/
module

public import proofs.«01_k».proof.Proof.V.BaseA

@[expose] public section

set_option maxRecDepth 16384

noncomputable section

namespace Cert.KernelIdeal.MixerB

open Cert.KernelIdeal Cert.KernelIdeal.Gen
open Idealize.ShloMosaic Idealize.ShloMosaic.TcCoe
open Cert.Stick

theorem pk2_0 (x : Vec Ideal S1x2048x128 .f32) (g : FVec Ideal S256x256 .bf16) (kb vb : Fin 8 → Vec Ideal S1x256x128 .bf16) (r : Fin 256) (d : Fin 128) : d475 x g kb vb (ix3 0 r d) = d263 x g kb vb (ix2 ⟨r.val, by omega⟩ d) := by
  pointwise [d475, k0_pay119]
  try rfl

theorem pk2_1 (x : Vec Ideal S1x2048x128 .f32) (g : FVec Ideal S256x256 .bf16) (kb vb : Fin 8 → Vec Ideal S1x256x128 .bf16) (r : Fin 256) (d : Fin 128) : d483 x g kb vb (ix3 0 r d) = d263 x g kb vb (ix2 ⟨256 + r.val, by omega⟩ d) := by
  pointwise [d483, k0_pay121]
  try rfl

variable (x : Vec Ideal S1x2048x128 .f32) (g : FVec Ideal S256x256 .bf16) (hgt : ∀ i j, g (ix2 i j) = tri i.val j.val) (x4 x5 : Vec Ideal S1x8192x128 .bf16) (G : ℕ) (hG : G + 8 ≤ 32)
  (kb vb : Fin 8 → Vec Ideal S1x256x128 .bf16) (hkb : ∀ (b : Fin 8) (j : Fin 256) k, kb b (ix3 0 j k) = x4 (ix3 0 ⟨256 * (G + b.val) + j.val, kv_lt G hG b j⟩ k))
  (hvb : ∀ (b : Fin 8) (j : Fin 256) k, vb b (ix3 0 j k) = x5 (ix3 0 ⟨256 * (G + b.val) + j.val, kv_lt G hG b j⟩ k))

include hgt hG hkb

theorem car2_0 (r : Fin 256) (d : Fin 128) : d475 x g kb vb (ix3 0 r d) = left 8192 (zz (k0_pay41 x) (k0_pay42 x) x4 0 ⟨512 + r.val, by omega⟩) (256 * G + (512 + r.val)) (256 * (G + 1)) := by
  have hr := r.isLt
  rw [diag2_car0]
  exact two_car _ _ (G + 1) r.val r.isLt (by omega) (by omega) _ _ _ (zrow_zz (k0_pay41 x) (k0_pay42 x) x4 0 (k0_pay41 x) (if_pos rfl).symm ((G + 1) + 1) (by omega) (kb 2) (at_blk x4 G hG kb hkb 2 ((G + 1) + 1) (show (G + 1) + 1 = G + 2 by omega) (by omega)) _) (zrow_zz (k0_pay41 x) (k0_pay42 x) x4 0 (k0_pay41 x) (if_pos rfl).symm (G + 1) (by omega) (kb 1) (at_blk x4 G hG kb hkb 1 (G + 1) rfl (by omega)) _) _ (funext fun i => funext fun j => hgt i j)

include hvb in
theorem acc2_0 (r : Fin 256) (d : Fin 128) : d471 x g kb vb (ix3 0 r d) = acc 8192 (zz (k0_pay41 x) (k0_pay42 x) x4 0 ⟨512 + r.val, by omega⟩) (vv x5 d) (256 * G + (512 + r.val)) (256 * (G + 1)) := by
  have hr := r.isLt
  rw [diag2_acc0]
  exact two_acc _ _ (G + 1) r.val r.isLt (by omega) (by omega) _ _ _ (zrow_zz (k0_pay41 x) (k0_pay42 x) x4 0 (k0_pay41 x) (if_pos rfl).symm ((G + 1) + 1) (by omega) (kb 2) (at_blk x4 G hG kb hkb 2 ((G + 1) + 1) (show (G + 1) + 1 = G + 2 by omega) (by omega)) _) (zrow_zz (k0_pay41 x) (k0_pay42 x) x4 0 (k0_pay41 x) (if_pos rfl).symm (G + 1) (by omega) (kb 1) (at_blk x4 G hG kb hkb 1 (G + 1) rfl (by omega)) _) _ (funext fun i => funext fun j => hgt i j) _ _ _ (vrow_vv x5 ((G + 1) + 1) (by omega) (vb 2) (at_blk x5 G hG vb hvb 2 ((G + 1) + 1) (show (G + 1) + 1 = G + 2 by omega) (by omega)) d) (vrow_vv x5 (G + 1) (by omega) (vb 1) (at_blk x5 G hG vb hvb 1 (G + 1) rfl (by omega)) d)

theorem car2_1 (r : Fin 256) (d : Fin 128) : d483 x g kb vb (ix3 0 r d) = left 8192 (zz (k0_pay41 x) (k0_pay42 x) x4 1 ⟨512 + r.val, by omega⟩) (256 * G + (512 + r.val)) (256 * (G + 1)) := by
  have hr := r.isLt
  rw [diag2_car1]
  exact two_car _ _ (G + 1) r.val r.isLt (by omega) (by omega) _ _ _ (zrow_zz (k0_pay41 x) (k0_pay42 x) x4 1 (k0_pay42 x) (if_neg (by decide)).symm ((G + 1) + 1) (by omega) (kb 2) (at_blk x4 G hG kb hkb 2 ((G + 1) + 1) (show (G + 1) + 1 = G + 2 by omega) (by omega)) _) (zrow_zz (k0_pay41 x) (k0_pay42 x) x4 1 (k0_pay42 x) (if_neg (by decide)).symm (G + 1) (by omega) (kb 1) (at_blk x4 G hG kb hkb 1 (G + 1) rfl (by omega)) _) _ (funext fun i => funext fun j => hgt i j)

include hvb in
theorem acc2_1 (r : Fin 256) (d : Fin 128) : d479 x g kb vb (ix3 0 r d) = acc 8192 (zz (k0_pay41 x) (k0_pay42 x) x4 1 ⟨512 + r.val, by omega⟩) (vv x5 d) (256 * G + (512 + r.val)) (256 * (G + 1)) := by
  have hr := r.isLt
  rw [diag2_acc1]
  exact two_acc _ _ (G + 1) r.val r.isLt (by omega) (by omega) _ _ _ (zrow_zz (k0_pay41 x) (k0_pay42 x) x4 1 (k0_pay42 x) (if_neg (by decide)).symm ((G + 1) + 1) (by omega) (kb 2) (at_blk x4 G hG kb hkb 2 ((G + 1) + 1) (show (G + 1) + 1 = G + 2 by omega) (by omega)) _) (zrow_zz (k0_pay41 x) (k0_pay42 x) x4 1 (k0_pay42 x) (if_neg (by decide)).symm (G + 1) (by omega) (kb 1) (at_blk x4 G hG kb hkb 1 (G + 1) rfl (by omega)) _) _ (funext fun i => funext fun j => hgt i j) _ _ _ (vrow_vv x5 ((G + 1) + 1) (by omega) (vb 2) (at_blk x5 G hG vb hvb 2 ((G + 1) + 1) (show (G + 1) + 1 = G + 2 by omega) (by omega)) d) (vrow_vv x5 (G + 1) (by omega) (vb 1) (at_blk x5 G hG vb hvb 1 (G + 1) rfl (by omega)) d)

/-- Block 2 of rows, once the largest carry its diagonal tiles leave is the exit value. -/
theorem dead2 (hp : k0_pay151 (d263 x g kb vb) = (⊥ : EReal)) : Dead (k0_pay41 x) (k0_pay42 x) x4 G 2 (G + 1) := by
  intro h r hr
  obtain ⟨s, hs⟩ : ∃ s : Fin 256, r.val = 512 + s.val := ⟨⟨r.val - 512, by omega⟩, show r.val = 512 + (r.val - 512) by omega⟩
  have hlt : 512 + s.val < 2048 := by have := s.isLt; clear hr hs; omega
  obtain rfl : r = ⟨512 + s.val, hlt⟩ := Fin.ext hs
  match h with
  | 0 => rw [← car2_0 x g hgt x4 G hG kb vb hkb s 0, pk2_0]; exact peak_dead _ hp _ _
  | 1 => rw [← car2_1 x g hgt x4 G hG kb vb hkb s 0, pk2_1]; exact peak_dead _ hp _ _

end Cert.KernelIdeal.MixerB

end
-- ==== Proof.V.BaseB3.lean ====
/- Both buffers after the diagonal tiles: every row block stands at the key block before its own. -/
module

public import proofs.«01_k».proof.Proof.V.BaseA

@[expose] public section

set_option maxRecDepth 16384

noncomputable section

namespace Cert.KernelIdeal.MixerB

open Cert.KernelIdeal Cert.KernelIdeal.Gen
open Idealize.ShloMosaic Idealize.ShloMosaic.TcCoe
open Cert.Stick

theorem pk3_0 (x : Vec Ideal S1x2048x128 .f32) (g : FVec Ideal S256x256 .bf16) (kb vb : Fin 8 → Vec Ideal S1x256x128 .bf16) (r : Fin 256) (d : Fin 128) : d494 x g kb vb (ix3 0 r d) = d273 x g kb vb (ix2 ⟨r.val, by omega⟩ d) := by
  pointwise [d494, k0_pay124]
  try rfl

theorem pk3_1 (x : Vec Ideal S1x2048x128 .f32) (g : FVec Ideal S256x256 .bf16) (kb vb : Fin 8 → Vec Ideal S1x256x128 .bf16) (r : Fin 256) (d : Fin 128) : d502 x g kb vb (ix3 0 r d) = d273 x g kb vb (ix2 ⟨256 + r.val, by omega⟩ d) := by
  pointwise [d502, k0_pay126]
  try rfl

variable (x : Vec Ideal S1x2048x128 .f32) (g : FVec Ideal S256x256 .bf16) (hgt : ∀ i j, g (ix2 i j) = tri i.val j.val) (x4 x5 : Vec Ideal S1x8192x128 .bf16) (G : ℕ) (hG : G + 8 ≤ 32)
  (kb vb : Fin 8 → Vec Ideal S1x256x128 .bf16) (hkb : ∀ (b : Fin 8) (j : Fin 256) k, kb b (ix3 0 j k) = x4 (ix3 0 ⟨256 * (G + b.val) + j.val, kv_lt G hG b j⟩ k))
  (hvb : ∀ (b : Fin 8) (j : Fin 256) k, vb b (ix3 0 j k) = x5 (ix3 0 ⟨256 * (G + b.val) + j.val, kv_lt G hG b j⟩ k))

include hgt hG hkb

theorem car3_0 (r : Fin 256) (d : Fin 128) : d494 x g kb vb (ix3 0 r d) = left 8192 (zz (k0_pay41 x) (k0_pay42 x) x4 0 ⟨768 + r.val, by omega⟩) (256 * G + (768 + r.val)) (256 * (G + 2)) := by
  have hr := r.isLt
  rw [diag3_car0]
  exact two_car _ _ (G + 2) r.val r.isLt (by omega) (by omega) _ _ _ (zrow_zz (k0_pay41 x) (k0_pay42 x) x4 0 (k0_pay41 x) (if_pos rfl).symm ((G + 2) + 1) (by omega) (kb 3) (at_blk x4 G hG kb hkb 3 ((G + 2) + 1) (show (G + 2) + 1 = G + 3 by omega) (by omega)) _) (zrow_zz (k0_pay41 x) (k0_pay42 x) x4 0 (k0_pay41 x) (if_pos rfl).symm (G + 2) (by omega) (kb 2) (at_blk x4 G hG kb hkb 2 (G + 2) rfl (by omega)) _) _ (funext fun i => funext fun j => hgt i j)

include hvb in
theorem acc3_0 (r : Fin 256) (d : Fin 128) : d490 x g kb vb (ix3 0 r d) = acc 8192 (zz (k0_pay41 x) (k0_pay42 x) x4 0 ⟨768 + r.val, by omega⟩) (vv x5 d) (256 * G + (768 + r.val)) (256 * (G + 2)) := by
  have hr := r.isLt
  rw [diag3_acc0]
  exact two_acc _ _ (G + 2) r.val r.isLt (by omega) (by omega) _ _ _ (zrow_zz (k0_pay41 x) (k0_pay42 x) x4 0 (k0_pay41 x) (if_pos rfl).symm ((G + 2) + 1) (by omega) (kb 3) (at_blk x4 G hG kb hkb 3 ((G + 2) + 1) (show (G + 2) + 1 = G + 3 by omega) (by omega)) _) (zrow_zz (k0_pay41 x) (k0_pay42 x) x4 0 (k0_pay41 x) (if_pos rfl).symm (G + 2) (by omega) (kb 2) (at_blk x4 G hG kb hkb 2 (G + 2) rfl (by omega)) _) _ (funext fun i => funext fun j => hgt i j) _ _ _ (vrow_vv x5 ((G + 2) + 1) (by omega) (vb 3) (at_blk x5 G hG vb hvb 3 ((G + 2) + 1) (show (G + 2) + 1 = G + 3 by omega) (by omega)) d) (vrow_vv x5 (G + 2) (by omega) (vb 2) (at_blk x5 G hG vb hvb 2 (G + 2) rfl (by omega)) d)

theorem car3_1 (r : Fin 256) (d : Fin 128) : d502 x g kb vb (ix3 0 r d) = left 8192 (zz (k0_pay41 x) (k0_pay42 x) x4 1 ⟨768 + r.val, by omega⟩) (256 * G + (768 + r.val)) (256 * (G + 2)) := by
  have hr := r.isLt
  rw [diag3_car1]
  exact two_car _ _ (G + 2) r.val r.isLt (by omega) (by omega) _ _ _ (zrow_zz (k0_pay41 x) (k0_pay42 x) x4 1 (k0_pay42 x) (if_neg (by decide)).symm ((G + 2) + 1) (by omega) (kb 3) (at_blk x4 G hG kb hkb 3 ((G + 2) + 1) (show (G + 2) + 1 = G + 3 by omega) (by omega)) _) (zrow_zz (k0_pay41 x) (k0_pay42 x) x4 1 (k0_pay42 x) (if_neg (by decide)).symm (G + 2) (by omega) (kb 2) (at_blk x4 G hG kb hkb 2 (G + 2) rfl (by omega)) _) _ (funext fun i => funext fun j => hgt i j)

include hvb in
theorem acc3_1 (r : Fin 256) (d : Fin 128) : d498 x g kb vb (ix3 0 r d) = acc 8192 (zz (k0_pay41 x) (k0_pay42 x) x4 1 ⟨768 + r.val, by omega⟩) (vv x5 d) (256 * G + (768 + r.val)) (256 * (G + 2)) := by
  have hr := r.isLt
  rw [diag3_acc1]
  exact two_acc _ _ (G + 2) r.val r.isLt (by omega) (by omega) _ _ _ (zrow_zz (k0_pay41 x) (k0_pay42 x) x4 1 (k0_pay42 x) (if_neg (by decide)).symm ((G + 2) + 1) (by omega) (kb 3) (at_blk x4 G hG kb hkb 3 ((G + 2) + 1) (show (G + 2) + 1 = G + 3 by omega) (by omega)) _) (zrow_zz (k0_pay41 x) (k0_pay42 x) x4 1 (k0_pay42 x) (if_neg (by decide)).symm (G + 2) (by omega) (kb 2) (at_blk x4 G hG kb hkb 2 (G + 2) rfl (by omega)) _) _ (funext fun i => funext fun j => hgt i j) _ _ _ (vrow_vv x5 ((G + 2) + 1) (by omega) (vb 3) (at_blk x5 G hG vb hvb 3 ((G + 2) + 1) (show (G + 2) + 1 = G + 3 by omega) (by omega)) d) (vrow_vv x5 (G + 2) (by omega) (vb 2) (at_blk x5 G hG vb hvb 2 (G + 2) rfl (by omega)) d)

/-- Block 3 of rows, once the largest carry its diagonal tiles leave is the exit value. -/
theorem dead3 (hp : k0_pay151 (d273 x g kb vb) = (⊥ : EReal)) : Dead (k0_pay41 x) (k0_pay42 x) x4 G 3 (G + 2) := by
  intro h r hr
  obtain ⟨s, hs⟩ : ∃ s : Fin 256, r.val = 768 + s.val := ⟨⟨r.val - 768, by omega⟩, show r.val = 768 + (r.val - 768) by omega⟩
  have hlt : 768 + s.val < 2048 := by have := s.isLt; clear hr hs; omega
  obtain rfl : r = ⟨768 + s.val, hlt⟩ := Fin.ext hs
  match h with
  | 0 => rw [← car3_0 x g hgt x4 G hG kb vb hkb s 0, pk3_0]; exact peak_dead _ hp _ _
  | 1 => rw [← car3_1 x g hgt x4 G hG kb vb hkb s 0, pk3_1]; exact peak_dead _ hp _ _

end Cert.KernelIdeal.MixerB

end
-- ==== Proof.V.BaseB4.lean ====
/- Both buffers after the diagonal tiles: every row block stands at the key block before its own. -/
module

public import proofs.«01_k».proof.Proof.V.BaseA

@[expose] public section

set_option maxRecDepth 16384

noncomputable section

namespace Cert.KernelIdeal.MixerB

open Cert.KernelIdeal Cert.KernelIdeal.Gen
open Idealize.ShloMosaic Idealize.ShloMosaic.TcCoe
open Cert.Stick

theorem pk4_0 (x : Vec Ideal S1x2048x128 .f32) (g : FVec Ideal S256x256 .bf16) (kb vb : Fin 8 → Vec Ideal S1x256x128 .bf16) (r : Fin 256) (d : Fin 128) : d513 x g kb vb (ix3 0 r d) = d283 x g kb vb (ix2 ⟨r.val, by omega⟩ d) := by
  pointwise [d513, k0_pay129]
  try rfl

theorem pk4_1 (x : Vec Ideal S1x2048x128 .f32) (g : FVec Ideal S256x256 .bf16) (kb vb : Fin 8 → Vec Ideal S1x256x128 .bf16) (r : Fin 256) (d : Fin 128) : d521 x g kb vb (ix3 0 r d) = d283 x g kb vb (ix2 ⟨256 + r.val, by omega⟩ d) := by
  pointwise [d521, k0_pay132]
  try rfl

variable (x : Vec Ideal S1x2048x128 .f32) (g : FVec Ideal S256x256 .bf16) (hgt : ∀ i j, g (ix2 i j) = tri i.val j.val) (x4 x5 : Vec Ideal S1x8192x128 .bf16) (G : ℕ) (hG : G + 8 ≤ 32)
  (kb vb : Fin 8 → Vec Ideal S1x256x128 .bf16) (hkb : ∀ (b : Fin 8) (j : Fin 256) k, kb b (ix3 0 j k) = x4 (ix3 0 ⟨256 * (G + b.val) + j.val, kv_lt G hG b j⟩ k))
  (hvb : ∀ (b : Fin 8) (j : Fin 256) k, vb b (ix3 0 j k) = x5 (ix3 0 ⟨256 * (G + b.val) + j.val, kv_lt G hG b j⟩ k))

include hgt hG hkb

theorem car4_0 (r : Fin 256) (d : Fin 128) : d513 x g kb vb (ix3 0 r d) = left 8192 (zz (k0_pay41 x) (k0_pay42 x) x4 0 ⟨1024 + r.val, by omega⟩) (256 * G + (1024 + r.val)) (256 * (G + 3)) := by
  have hr := r.isLt
  rw [diag4_car0]
  exact two_car _ _ (G + 3) r.val r.isLt (by omega) (by omega) _ _ _ (zrow_zz (k0_pay41 x) (k0_pay42 x) x4 0 (k0_pay41 x) (if_pos rfl).symm ((G + 3) + 1) (by omega) (kb 4) (at_blk x4 G hG kb hkb 4 ((G + 3) + 1) (show (G + 3) + 1 = G + 4 by omega) (by omega)) _) (zrow_zz (k0_pay41 x) (k0_pay42 x) x4 0 (k0_pay41 x) (if_pos rfl).symm (G + 3) (by omega) (kb 3) (at_blk x4 G hG kb hkb 3 (G + 3) rfl (by omega)) _) _ (funext fun i => funext fun j => hgt i j)

include hvb in
theorem acc4_0 (r : Fin 256) (d : Fin 128) : d509 x g kb vb (ix3 0 r d) = acc 8192 (zz (k0_pay41 x) (k0_pay42 x) x4 0 ⟨1024 + r.val, by omega⟩) (vv x5 d) (256 * G + (1024 + r.val)) (256 * (G + 3)) := by
  have hr := r.isLt
  rw [diag4_acc0]
  exact two_acc _ _ (G + 3) r.val r.isLt (by omega) (by omega) _ _ _ (zrow_zz (k0_pay41 x) (k0_pay42 x) x4 0 (k0_pay41 x) (if_pos rfl).symm ((G + 3) + 1) (by omega) (kb 4) (at_blk x4 G hG kb hkb 4 ((G + 3) + 1) (show (G + 3) + 1 = G + 4 by omega) (by omega)) _) (zrow_zz (k0_pay41 x) (k0_pay42 x) x4 0 (k0_pay41 x) (if_pos rfl).symm (G + 3) (by omega) (kb 3) (at_blk x4 G hG kb hkb 3 (G + 3) rfl (by omega)) _) _ (funext fun i => funext fun j => hgt i j) _ _ _ (vrow_vv x5 ((G + 3) + 1) (by omega) (vb 4) (at_blk x5 G hG vb hvb 4 ((G + 3) + 1) (show (G + 3) + 1 = G + 4 by omega) (by omega)) d) (vrow_vv x5 (G + 3) (by omega) (vb 3) (at_blk x5 G hG vb hvb 3 (G + 3) rfl (by omega)) d)

theorem car4_1 (r : Fin 256) (d : Fin 128) : d521 x g kb vb (ix3 0 r d) = left 8192 (zz (k0_pay41 x) (k0_pay42 x) x4 1 ⟨1024 + r.val, by omega⟩) (256 * G + (1024 + r.val)) (256 * (G + 3)) := by
  have hr := r.isLt
  rw [diag4_car1]
  exact two_car _ _ (G + 3) r.val r.isLt (by omega) (by omega) _ _ _ (zrow_zz (k0_pay41 x) (k0_pay42 x) x4 1 (k0_pay42 x) (if_neg (by decide)).symm ((G + 3) + 1) (by omega) (kb 4) (at_blk x4 G hG kb hkb 4 ((G + 3) + 1) (show (G + 3) + 1 = G + 4 by omega) (by omega)) _) (zrow_zz (k0_pay41 x) (k0_pay42 x) x4 1 (k0_pay42 x) (if_neg (by decide)).symm (G + 3) (by omega) (kb 3) (at_blk x4 G hG kb hkb 3 (G + 3) rfl (by omega)) _) _ (funext fun i => funext fun j => hgt i j)

include hvb in
theorem acc4_1 (r : Fin 256) (d : Fin 128) : d517 x g kb vb (ix3 0 r d) = acc 8192 (zz (k0_pay41 x) (k0_pay42 x) x4 1 ⟨1024 + r.val, by omega⟩) (vv x5 d) (256 * G + (1024 + r.val)) (256 * (G + 3)) := by
  have hr := r.isLt
  rw [diag4_acc1]
  exact two_acc _ _ (G + 3) r.val r.isLt (by omega) (by omega) _ _ _ (zrow_zz (k0_pay41 x) (k0_pay42 x) x4 1 (k0_pay42 x) (if_neg (by decide)).symm ((G + 3) + 1) (by omega) (kb 4) (at_blk x4 G hG kb hkb 4 ((G + 3) + 1) (show (G + 3) + 1 = G + 4 by omega) (by omega)) _) (zrow_zz (k0_pay41 x) (k0_pay42 x) x4 1 (k0_pay42 x) (if_neg (by decide)).symm (G + 3) (by omega) (kb 3) (at_blk x4 G hG kb hkb 3 (G + 3) rfl (by omega)) _) _ (funext fun i => funext fun j => hgt i j) _ _ _ (vrow_vv x5 ((G + 3) + 1) (by omega) (vb 4) (at_blk x5 G hG vb hvb 4 ((G + 3) + 1) (show (G + 3) + 1 = G + 4 by omega) (by omega)) d) (vrow_vv x5 (G + 3) (by omega) (vb 3) (at_blk x5 G hG vb hvb 3 (G + 3) rfl (by omega)) d)

/-- Block 4 of rows, once the largest carry its diagonal tiles leave is the exit value. -/
theorem dead4 (hp : k0_pay151 (d283 x g kb vb) = (⊥ : EReal)) : Dead (k0_pay41 x) (k0_pay42 x) x4 G 4 (G + 3) := by
  intro h r hr
  obtain ⟨s, hs⟩ : ∃ s : Fin 256, r.val = 1024 + s.val := ⟨⟨r.val - 1024, by omega⟩, show r.val = 1024 + (r.val - 1024) by omega⟩
  have hlt : 1024 + s.val < 2048 := by have := s.isLt; clear hr hs; omega
  obtain rfl : r = ⟨1024 + s.val, hlt⟩ := Fin.ext hs
  match h with
  | 0 => rw [← car4_0 x g hgt x4 G hG kb vb hkb s 0, pk4_0]; exact peak_dead _ hp _ _
  | 1 => rw [← car4_1 x g hgt x4 G hG kb vb hkb s 0, pk4_1]; exact peak_dead _ hp _ _

end Cert.KernelIdeal.MixerB

end
-- ==== Proof.V.BaseB5.lean ====
/- Both buffers after the diagonal tiles: every row block stands at the key block before its own. -/
module

public import proofs.«01_k».proof.Proof.V.BaseA

@[expose] public section

set_option maxRecDepth 16384

noncomputable section

namespace Cert.KernelIdeal.MixerB

open Cert.KernelIdeal Cert.KernelIdeal.Gen
open Idealize.ShloMosaic Idealize.ShloMosaic.TcCoe
open Cert.Stick

theorem pk5_0 (x : Vec Ideal S1x2048x128 .f32) (g : FVec Ideal S256x256 .bf16) (kb vb : Fin 8 → Vec Ideal S1x256x128 .bf16) (r : Fin 256) (d : Fin 128) : d532 x g kb vb (ix3 0 r d) = d293 x g kb vb (ix2 ⟨r.val, by omega⟩ d) := by
  pointwise [d532, k0_pay135]
  try rfl

theorem pk5_1 (x : Vec Ideal S1x2048x128 .f32) (g : FVec Ideal S256x256 .bf16) (kb vb : Fin 8 → Vec Ideal S1x256x128 .bf16) (r : Fin 256) (d : Fin 128) : d540 x g kb vb (ix3 0 r d) = d293 x g kb vb (ix2 ⟨256 + r.val, by omega⟩ d) := by
  pointwise [d540, k0_pay137]
  try rfl

variable (x : Vec Ideal S1x2048x128 .f32) (g : FVec Ideal S256x256 .bf16) (hgt : ∀ i j, g (ix2 i j) = tri i.val j.val) (x4 x5 : Vec Ideal S1x8192x128 .bf16) (G : ℕ) (hG : G + 8 ≤ 32)
  (kb vb : Fin 8 → Vec Ideal S1x256x128 .bf16) (hkb : ∀ (b : Fin 8) (j : Fin 256) k, kb b (ix3 0 j k) = x4 (ix3 0 ⟨256 * (G + b.val) + j.val, kv_lt G hG b j⟩ k))
  (hvb : ∀ (b : Fin 8) (j : Fin 256) k, vb b (ix3 0 j k) = x5 (ix3 0 ⟨256 * (G + b.val) + j.val, kv_lt G hG b j⟩ k))

include hgt hG hkb

theorem car5_0 (r : Fin 256) (d : Fin 128) : d532 x g kb vb (ix3 0 r d) = left 8192 (zz (k0_pay41 x) (k0_pay42 x) x4 0 ⟨1280 + r.val, by omega⟩) (256 * G + (1280 + r.val)) (256 * (G + 4)) := by
  have hr := r.isLt
  rw [diag5_car0]
  exact two_car _ _ (G + 4) r.val r.isLt (by omega) (by omega) _ _ _ (zrow_zz (k0_pay41 x) (k0_pay42 x) x4 0 (k0_pay41 x) (if_pos rfl).symm ((G + 4) + 1) (by omega) (kb 5) (at_blk x4 G hG kb hkb 5 ((G + 4) + 1) (show (G + 4) + 1 = G + 5 by omega) (by omega)) _) (zrow_zz (k0_pay41 x) (k0_pay42 x) x4 0 (k0_pay41 x) (if_pos rfl).symm (G + 4) (by omega) (kb 4) (at_blk x4 G hG kb hkb 4 (G + 4) rfl (by omega)) _) _ (funext fun i => funext fun j => hgt i j)

include hvb in
theorem acc5_0 (r : Fin 256) (d : Fin 128) : d528 x g kb vb (ix3 0 r d) = acc 8192 (zz (k0_pay41 x) (k0_pay42 x) x4 0 ⟨1280 + r.val, by omega⟩) (vv x5 d) (256 * G + (1280 + r.val)) (256 * (G + 4)) := by
  have hr := r.isLt
  rw [diag5_acc0]
  exact two_acc _ _ (G + 4) r.val r.isLt (by omega) (by omega) _ _ _ (zrow_zz (k0_pay41 x) (k0_pay42 x) x4 0 (k0_pay41 x) (if_pos rfl).symm ((G + 4) + 1) (by omega) (kb 5) (at_blk x4 G hG kb hkb 5 ((G + 4) + 1) (show (G + 4) + 1 = G + 5 by omega) (by omega)) _) (zrow_zz (k0_pay41 x) (k0_pay42 x) x4 0 (k0_pay41 x) (if_pos rfl).symm (G + 4) (by omega) (kb 4) (at_blk x4 G hG kb hkb 4 (G + 4) rfl (by omega)) _) _ (funext fun i => funext fun j => hgt i j) _ _ _ (vrow_vv x5 ((G + 4) + 1) (by omega) (vb 5) (at_blk x5 G hG vb hvb 5 ((G + 4) + 1) (show (G + 4) + 1 = G + 5 by omega) (by omega)) d) (vrow_vv x5 (G + 4) (by omega) (vb 4) (at_blk x5 G hG vb hvb 4 (G + 4) rfl (by omega)) d)

theorem car5_1 (r : Fin 256) (d : Fin 128) : d540 x g kb vb (ix3 0 r d) = left 8192 (zz (k0_pay41 x) (k0_pay42 x) x4 1 ⟨1280 + r.val, by omega⟩) (256 * G + (1280 + r.val)) (256 * (G + 4)) := by
  have hr := r.isLt
  rw [diag5_car1]
  exact two_car _ _ (G + 4) r.val r.isLt (by omega) (by omega) _ _ _ (zrow_zz (k0_pay41 x) (k0_pay42 x) x4 1 (k0_pay42 x) (if_neg (by decide)).symm ((G + 4) + 1) (by omega) (kb 5) (at_blk x4 G hG kb hkb 5 ((G + 4) + 1) (show (G + 4) + 1 = G + 5 by omega) (by omega)) _) (zrow_zz (k0_pay41 x) (k0_pay42 x) x4 1 (k0_pay42 x) (if_neg (by decide)).symm (G + 4) (by omega) (kb 4) (at_blk x4 G hG kb hkb 4 (G + 4) rfl (by omega)) _) _ (funext fun i => funext fun j => hgt i j)

include hvb in
theorem acc5_1 (r : Fin 256) (d : Fin 128) : d536 x g kb vb (ix3 0 r d) = acc 8192 (zz (k0_pay41 x) (k0_pay42 x) x4 1 ⟨1280 + r.val, by omega⟩) (vv x5 d) (256 * G + (1280 + r.val)) (256 * (G + 4)) := by
  have hr := r.isLt
  rw [diag5_acc1]
  exact two_acc _ _ (G + 4) r.val r.isLt (by omega) (by omega) _ _ _ (zrow_zz (k0_pay41 x) (k0_pay42 x) x4 1 (k0_pay42 x) (if_neg (by decide)).symm ((G + 4) + 1) (by omega) (kb 5) (at_blk x4 G hG kb hkb 5 ((G + 4) + 1) (show (G + 4) + 1 = G + 5 by omega) (by omega)) _) (zrow_zz (k0_pay41 x) (k0_pay42 x) x4 1 (k0_pay42 x) (if_neg (by decide)).symm (G + 4) (by omega) (kb 4) (at_blk x4 G hG kb hkb 4 (G + 4) rfl (by omega)) _) _ (funext fun i => funext fun j => hgt i j) _ _ _ (vrow_vv x5 ((G + 4) + 1) (by omega) (vb 5) (at_blk x5 G hG vb hvb 5 ((G + 4) + 1) (show (G + 4) + 1 = G + 5 by omega) (by omega)) d) (vrow_vv x5 (G + 4) (by omega) (vb 4) (at_blk x5 G hG vb hvb 4 (G + 4) rfl (by omega)) d)

/-- Block 5 of rows, once the largest carry its diagonal tiles leave is the exit value. -/
theorem dead5 (hp : k0_pay151 (d293 x g kb vb) = (⊥ : EReal)) : Dead (k0_pay41 x) (k0_pay42 x) x4 G 5 (G + 4) := by
  intro h r hr
  obtain ⟨s, hs⟩ : ∃ s : Fin 256, r.val = 1280 + s.val := ⟨⟨r.val - 1280, by omega⟩, show r.val = 1280 + (r.val - 1280) by omega⟩
  have hlt : 1280 + s.val < 2048 := by have := s.isLt; clear hr hs; omega
  obtain rfl : r = ⟨1280 + s.val, hlt⟩ := Fin.ext hs
  match h with
  | 0 => rw [← car5_0 x g hgt x4 G hG kb vb hkb s 0, pk5_0]; exact peak_dead _ hp _ _
  | 1 => rw [← car5_1 x g hgt x4 G hG kb vb hkb s 0, pk5_1]; exact peak_dead _ hp _ _

end Cert.KernelIdeal.MixerB

end
-- ==== Proof.V.BaseB6.lean ====
/- Both buffers after the diagonal tiles: every row block stands at the key block before its own. -/
module

public import proofs.«01_k».proof.Proof.V.BaseA

@[expose] public section

set_option maxRecDepth 16384

noncomputable section

namespace Cert.KernelIdeal.MixerB

open Cert.KernelIdeal Cert.KernelIdeal.Gen
open Idealize.ShloMosaic Idealize.ShloMosaic.TcCoe
open Cert.Stick

theorem pk6_0 (x : Vec Ideal S1x2048x128 .f32) (g : FVec Ideal S256x256 .bf16) (kb vb : Fin 8 → Vec Ideal S1x256x128 .bf16) (r : Fin 256) (d : Fin 128) : d551 x g kb vb (ix3 0 r d) = d303 x g kb vb (ix2 ⟨r.val, by omega⟩ d) := by
  pointwise [d551, d548, k0_pay141, k0_pay140]
  try rfl

theorem pk6_1 (x : Vec Ideal S1x2048x128 .f32) (g : FVec Ideal S256x256 .bf16) (kb vb : Fin 8 → Vec Ideal S1x256x128 .bf16) (r : Fin 256) (d : Fin 128) : d559 x g kb vb (ix3 0 r d) = d303 x g kb vb (ix2 ⟨256 + r.val, by omega⟩ d) := by
  pointwise [d559, k0_pay143]
  try rfl

variable (x : Vec Ideal S1x2048x128 .f32) (g : FVec Ideal S256x256 .bf16) (hgt : ∀ i j, g (ix2 i j) = tri i.val j.val) (x4 x5 : Vec Ideal S1x8192x128 .bf16) (G : ℕ) (hG : G + 8 ≤ 32)
  (kb vb : Fin 8 → Vec Ideal S1x256x128 .bf16) (hkb : ∀ (b : Fin 8) (j : Fin 256) k, kb b (ix3 0 j k) = x4 (ix3 0 ⟨256 * (G + b.val) + j.val, kv_lt G hG b j⟩ k))
  (hvb : ∀ (b : Fin 8) (j : Fin 256) k, vb b (ix3 0 j k) = x5 (ix3 0 ⟨256 * (G + b.val) + j.val, kv_lt G hG b j⟩ k))

include hgt hG hkb

theorem car6_0 (r : Fin 256) (d : Fin 128) : d551 x g kb vb (ix3 0 r d) = left 8192 (zz (k0_pay41 x) (k0_pay42 x) x4 0 ⟨1536 + r.val, by omega⟩) (256 * G + (1536 + r.val)) (256 * (G + 5)) := by
  have hr := r.isLt
  rw [diag6_car0]
  exact two_car _ _ (G + 5) r.val r.isLt (by omega) (by omega) _ _ _ (zrow_zz (k0_pay41 x) (k0_pay42 x) x4 0 (k0_pay41 x) (if_pos rfl).symm ((G + 5) + 1) (by omega) (kb 6) (at_blk x4 G hG kb hkb 6 ((G + 5) + 1) (show (G + 5) + 1 = G + 6 by omega) (by omega)) _) (zrow_zz (k0_pay41 x) (k0_pay42 x) x4 0 (k0_pay41 x) (if_pos rfl).symm (G + 5) (by omega) (kb 5) (at_blk x4 G hG kb hkb 5 (G + 5) rfl (by omega)) _) _ (funext fun i => funext fun j => hgt i j)

include hvb in
theorem acc6_0 (r : Fin 256) (d : Fin 128) : d547 x g kb vb (ix3 0 r d) = acc 8192 (zz (k0_pay41 x) (k0_pay42 x) x4 0 ⟨1536 + r.val, by omega⟩) (vv x5 d) (256 * G + (1536 + r.val)) (256 * (G + 5)) := by
  have hr := r.isLt
  rw [diag6_acc0]
  exact two_acc _ _ (G + 5) r.val r.isLt (by omega) (by omega) _ _ _ (zrow_zz (k0_pay41 x) (k0_pay42 x) x4 0 (k0_pay41 x) (if_pos rfl).symm ((G + 5) + 1) (by omega) (kb 6) (at_blk x4 G hG kb hkb 6 ((G + 5) + 1) (show (G + 5) + 1 = G + 6 by omega) (by omega)) _) (zrow_zz (k0_pay41 x) (k0_pay42 x) x4 0 (k0_pay41 x) (if_pos rfl).symm (G + 5) (by omega) (kb 5) (at_blk x4 G hG kb hkb 5 (G + 5) rfl (by omega)) _) _ (funext fun i => funext fun j => hgt i j) _ _ _ (vrow_vv x5 ((G + 5) + 1) (by omega) (vb 6) (at_blk x5 G hG vb hvb 6 ((G + 5) + 1) (show (G + 5) + 1 = G + 6 by omega) (by omega)) d) (vrow_vv x5 (G + 5) (by omega) (vb 5) (at_blk x5 G hG vb hvb 5 (G + 5) rfl (by omega)) d)

theorem car6_1 (r : Fin 256) (d : Fin 128) : d559 x g kb vb (ix3 0 r d) = left 8192 (zz (k0_pay41 x) (k0_pay42 x) x4 1 ⟨1536 + r.val, by omega⟩) (256 * G + (1536 + r.val)) (256 * (G + 5)) := by
  have hr := r.isLt
  rw [diag6_car1]
  exact two_car _ _ (G + 5) r.val r.isLt (by omega) (by omega) _ _ _ (zrow_zz (k0_pay41 x) (k0_pay42 x) x4 1 (k0_pay42 x) (if_neg (by decide)).symm ((G + 5) + 1) (by omega) (kb 6) (at_blk x4 G hG kb hkb 6 ((G + 5) + 1) (show (G + 5) + 1 = G + 6 by omega) (by omega)) _) (zrow_zz (k0_pay41 x) (k0_pay42 x) x4 1 (k0_pay42 x) (if_neg (by decide)).symm (G + 5) (by omega) (kb 5) (at_blk x4 G hG kb hkb 5 (G + 5) rfl (by omega)) _) _ (funext fun i => funext fun j => hgt i j)

include hvb in
theorem acc6_1 (r : Fin 256) (d : Fin 128) : d555 x g kb vb (ix3 0 r d) = acc 8192 (zz (k0_pay41 x) (k0_pay42 x) x4 1 ⟨1536 + r.val, by omega⟩) (vv x5 d) (256 * G + (1536 + r.val)) (256 * (G + 5)) := by
  have hr := r.isLt
  rw [diag6_acc1]
  exact two_acc _ _ (G + 5) r.val r.isLt (by omega) (by omega) _ _ _ (zrow_zz (k0_pay41 x) (k0_pay42 x) x4 1 (k0_pay42 x) (if_neg (by decide)).symm ((G + 5) + 1) (by omega) (kb 6) (at_blk x4 G hG kb hkb 6 ((G + 5) + 1) (show (G + 5) + 1 = G + 6 by omega) (by omega)) _) (zrow_zz (k0_pay41 x) (k0_pay42 x) x4 1 (k0_pay42 x) (if_neg (by decide)).symm (G + 5) (by omega) (kb 5) (at_blk x4 G hG kb hkb 5 (G + 5) rfl (by omega)) _) _ (funext fun i => funext fun j => hgt i j) _ _ _ (vrow_vv x5 ((G + 5) + 1) (by omega) (vb 6) (at_blk x5 G hG vb hvb 6 ((G + 5) + 1) (show (G + 5) + 1 = G + 6 by omega) (by omega)) d) (vrow_vv x5 (G + 5) (by omega) (vb 5) (at_blk x5 G hG vb hvb 5 (G + 5) rfl (by omega)) d)

/-- Block 6 of rows, once the largest carry its diagonal tiles leave is the exit value. -/
theorem dead6 (hp : k0_pay151 (d303 x g kb vb) = (⊥ : EReal)) : Dead (k0_pay41 x) (k0_pay42 x) x4 G 6 (G + 5) := by
  intro h r hr
  obtain ⟨s, hs⟩ : ∃ s : Fin 256, r.val = 1536 + s.val := ⟨⟨r.val - 1536, by omega⟩, show r.val = 1536 + (r.val - 1536) by omega⟩
  have hlt : 1536 + s.val < 2048 := by have := s.isLt; clear hr hs; omega
  obtain rfl : r = ⟨1536 + s.val, hlt⟩ := Fin.ext hs
  match h with
  | 0 => rw [← car6_0 x g hgt x4 G hG kb vb hkb s 0, pk6_0]; exact peak_dead _ hp _ _
  | 1 => rw [← car6_1 x g hgt x4 G hG kb vb hkb s 0, pk6_1]; exact peak_dead _ hp _ _

end Cert.KernelIdeal.MixerB

end
-- ==== Proof.V.BaseB7.lean ====
/- Both buffers after the diagonal tiles: every row block stands at the key block before its own. -/
module

public import proofs.«01_k».proof.Proof.V.BaseA

@[expose] public section

set_option maxRecDepth 16384

noncomputable section

namespace Cert.KernelIdeal.MixerB

open Cert.KernelIdeal Cert.KernelIdeal.Gen
open Idealize.ShloMosaic Idealize.ShloMosaic.TcCoe
open Cert.Stick

theorem pk7_0 (x : Vec Ideal S1x2048x128 .f32) (g : FVec Ideal S256x256 .bf16) (kb vb : Fin 8 → Vec Ideal S1x256x128 .bf16) (r : Fin 256) (d : Fin 128) : d569 x g kb vb (ix3 0 r d) = d312 x g kb vb (ix2 ⟨r.val, by omega⟩ d) := by
  pointwise [d569, k0_pay146]
  try rfl

theorem pk7_1 (x : Vec Ideal S1x2048x128 .f32) (g : FVec Ideal S256x256 .bf16) (kb vb : Fin 8 → Vec Ideal S1x256x128 .bf16) (r : Fin 256) (d : Fin 128) : d577 x g kb vb (ix3 0 r d) = d312 x g kb vb (ix2 ⟨256 + r.val, by omega⟩ d) := by
  pointwise [d577, k0_pay148]
  try rfl

variable (x : Vec Ideal S1x2048x128 .f32) (g : FVec Ideal S256x256 .bf16) (hgt : ∀ i j, g (ix2 i j) = tri i.val j.val) (x4 x5 : Vec Ideal S1x8192x128 .bf16) (G : ℕ) (hG : G + 8 ≤ 32)
  (kb vb : Fin 8 → Vec Ideal S1x256x128 .bf16) (hkb : ∀ (b : Fin 8) (j : Fin 256) k, kb b (ix3 0 j k) = x4 (ix3 0 ⟨256 * (G + b.val) + j.val, kv_lt G hG b j⟩ k))
  (hvb : ∀ (b : Fin 8) (j : Fin 256) k, vb b (ix3 0 j k) = x5 (ix3 0 ⟨256 * (G + b.val) + j.val, kv_lt G hG b j⟩ k))

include hgt hG hkb

theorem car7_0 (r : Fin 256) (d : Fin 128) : d569 x g kb vb (ix3 0 r d) = left 8192 (zz (k0_pay41 x) (k0_pay42 x) x4 0 ⟨1792 + r.val, by omega⟩) (256 * G + (1792 + r.val)) (256 * (G + 6)) := by
  have hr := r.isLt
  rw [diag7_car0]
  exact two_car _ _ (G + 6) r.val r.isLt (by omega) (by omega) _ _ _ (zrow_zz (k0_pay41 x) (k0_pay42 x) x4 0 (k0_pay41 x) (if_pos rfl).symm ((G + 6) + 1) (by omega) (kb 7) (at_blk x4 G hG kb hkb 7 ((G + 6) + 1) (show (G + 6) + 1 = G + 7 by omega) (by omega)) _) (zrow_zz (k0_pay41 x) (k0_pay42 x) x4 0 (k0_pay41 x) (if_pos rfl).symm (G + 6) (by omega) (kb 6) (at_blk x4 G hG kb hkb 6 (G + 6) rfl (by omega)) _) _ (funext fun i => funext fun j => hgt i j)

include hvb in
theorem acc7_0 (r : Fin 256) (d : Fin 128) : d565 x g kb vb (ix3 0 r d) = acc 8192 (zz (k0_pay41 x) (k0_pay42 x) x4 0 ⟨1792 + r.val, by omega⟩) (vv x5 d) (256 * G + (1792 + r.val)) (256 * (G + 6)) := by
  have hr := r.isLt
  rw [diag7_acc0]
  exact two_acc _ _ (G + 6) r.val r.isLt (by omega) (by omega) _ _ _ (zrow_zz (k0_pay41 x) (k0_pay42 x) x4 0 (k0_pay41 x) (if_pos rfl).symm ((G + 6) + 1) (by omega) (kb 7) (at_blk x4 G hG kb hkb 7 ((G + 6) + 1) (show (G + 6) + 1 = G + 7 by omega) (by omega)) _) (zrow_zz (k0_pay41 x) (k0_pay42 x) x4 0 (k0_pay41 x) (if_pos rfl).symm (G + 6) (by omega) (kb 6) (at_blk x4 G hG kb hkb 6 (G + 6) rfl (by omega)) _) _ (funext fun i => funext fun j => hgt i j) _ _ _ (vrow_vv x5 ((G + 6) + 1) (by omega) (vb 7) (at_blk x5 G hG vb hvb 7 ((G + 6) + 1) (show (G + 6) + 1 = G + 7 by omega) (by omega)) d) (vrow_vv x5 (G + 6) (by omega) (vb 6) (at_blk x5 G hG vb hvb 6 (G + 6) rfl (by omega)) d)

theorem car7_1 (r : Fin 256) (d : Fin 128) : d577 x g kb vb (ix3 0 r d) = left 8192 (zz (k0_pay41 x) (k0_pay42 x) x4 1 ⟨1792 + r.val, by omega⟩) (256 * G + (1792 + r.val)) (256 * (G + 6)) := by
  have hr := r.isLt
  rw [diag7_car1]
  exact two_car _ _ (G + 6) r.val r.isLt (by omega) (by omega) _ _ _ (zrow_zz (k0_pay41 x) (k0_pay42 x) x4 1 (k0_pay42 x) (if_neg (by decide)).symm ((G + 6) + 1) (by omega) (kb 7) (at_blk x4 G hG kb hkb 7 ((G + 6) + 1) (show (G + 6) + 1 = G + 7 by omega) (by omega)) _) (zrow_zz (k0_pay41 x) (k0_pay42 x) x4 1 (k0_pay42 x) (if_neg (by decide)).symm (G + 6) (by omega) (kb 6) (at_blk x4 G hG kb hkb 6 (G + 6) rfl (by omega)) _) _ (funext fun i => funext fun j => hgt i j)

include hvb in
theorem acc7_1 (r : Fin 256) (d : Fin 128) : d573 x g kb vb (ix3 0 r d) = acc 8192 (zz (k0_pay41 x) (k0_pay42 x) x4 1 ⟨1792 + r.val, by omega⟩) (vv x5 d) (256 * G + (1792 + r.val)) (256 * (G + 6)) := by
  have hr := r.isLt
  rw [diag7_acc1]
  exact two_acc _ _ (G + 6) r.val r.isLt (by omega) (by omega) _ _ _ (zrow_zz (k0_pay41 x) (k0_pay42 x) x4 1 (k0_pay42 x) (if_neg (by decide)).symm ((G + 6) + 1) (by omega) (kb 7) (at_blk x4 G hG kb hkb 7 ((G + 6) + 1) (show (G + 6) + 1 = G + 7 by omega) (by omega)) _) (zrow_zz (k0_pay41 x) (k0_pay42 x) x4 1 (k0_pay42 x) (if_neg (by decide)).symm (G + 6) (by omega) (kb 6) (at_blk x4 G hG kb hkb 6 (G + 6) rfl (by omega)) _) _ (funext fun i => funext fun j => hgt i j) _ _ _ (vrow_vv x5 ((G + 6) + 1) (by omega) (vb 7) (at_blk x5 G hG vb hvb 7 ((G + 6) + 1) (show (G + 6) + 1 = G + 7 by omega) (by omega)) d) (vrow_vv x5 (G + 6) (by omega) (vb 6) (at_blk x5 G hG vb hvb 6 (G + 6) rfl (by omega)) d)

/-- Block 7 of rows, once the largest carry its diagonal tiles leave is the exit value. -/
theorem dead7 (hp : k0_pay151 (d312 x g kb vb) = (⊥ : EReal)) : Dead (k0_pay41 x) (k0_pay42 x) x4 G 7 (G + 6) := by
  intro h r hr
  obtain ⟨s, hs⟩ : ∃ s : Fin 256, r.val = 1792 + s.val := ⟨⟨r.val - 1792, by omega⟩, show r.val = 1792 + (r.val - 1792) by omega⟩
  have hlt : 1792 + s.val < 2048 := by have := s.isLt; clear hr hs; omega
  obtain rfl : r = ⟨1792 + s.val, hlt⟩ := Fin.ext hs
  match h with
  | 0 => rw [← car7_0 x g hgt x4 G hG kb vb hkb s 0, pk7_0]; exact peak_dead _ hp _ _
  | 1 => rw [← car7_1 x g hgt x4 G hG kb vb hkb s 0, pk7_1]; exact peak_dead _ hp _ _

end Cert.KernelIdeal.MixerB

end
-- ==== Proof.V.BaseR.lean ====
/- Both buffers after the diagonal tiles: every row block stands at the key block before its own. -/
module

public import proofs.«01_k».proof.Proof.V.Puts

@[expose] public section

set_option maxRecDepth 16384

noncomputable section

namespace Cert.KernelIdeal.MixerB

open Cert.KernelIdeal Cert.KernelIdeal.Gen
open Idealize.ShloMosaic Idealize.ShloMosaic.TcCoe
open Cert.Stick

theorem rd0 (a : Memref sig .tc .vmem S2x2048x128 .f32) (X) (w0_0 w0_1 w1_0 w1_1 w2_0 w2_1 w3_0 w3_1 w4_0 w4_1 w5_0 w5_1 w6_0 w6_1 w7_0 w7_1 : Vec Ideal S1x256x128 .f32) (r : Fin 256) (d : Fin 128) :
    a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 0 ⟨0 + r.val, by omega⟩ d) = w0_0 (ix3 0 r d)
    ∧ a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 1 ⟨0 + r.val, by omega⟩ d) = w0_1 (ix3 0 r d) := by
  have hr := r.isLt
  constructor
  · skip
    rw [st_row a 1 1792 256 inb_S2x2048x128_S1x256x128_1_1792_0 _ _ _ _ _ _ (Or.inl (show 0 + r.val < 1792 by omega))]
    rw [st_row a 0 1792 256 inb_S2x2048x128_S1x256x128_0_1792_0 _ _ _ _ _ _ (Or.inl (show 0 + r.val < 1792 by omega))]
    rw [st_row a 1 1536 256 inb_S2x2048x128_S1x256x128_1_1536_0 _ _ _ _ _ _ (Or.inl (show 0 + r.val < 1536 by omega))]
    rw [st_row a 0 1536 256 inb_S2x2048x128_S1x256x128_0_1536_0 _ _ _ _ _ _ (Or.inl (show 0 + r.val < 1536 by omega))]
    rw [st_row a 1 1280 256 inb_S2x2048x128_S1x256x128_1_1280_0 _ _ _ _ _ _ (Or.inl (show 0 + r.val < 1280 by omega))]
    rw [st_row a 0 1280 256 inb_S2x2048x128_S1x256x128_0_1280_0 _ _ _ _ _ _ (Or.inl (show 0 + r.val < 1280 by omega))]
    rw [st_row a 1 1024 256 inb_S2x2048x128_S1x256x128_1_1024_0 _ _ _ _ _ _ (Or.inl (show 0 + r.val < 1024 by omega))]
    rw [st_row a 0 1024 256 inb_S2x2048x128_S1x256x128_0_1024_0 _ _ _ _ _ _ (Or.inl (show 0 + r.val < 1024 by omega))]
    rw [st_row a 1 768 256 inb_S2x2048x128_S1x256x128_1_768_0 _ _ _ _ _ _ (Or.inl (show 0 + r.val < 768 by omega))]
    rw [st_row a 0 768 256 inb_S2x2048x128_S1x256x128_0_768_0 _ _ _ _ _ _ (Or.inl (show 0 + r.val < 768 by omega))]
    rw [st_row a 1 512 256 inb_S2x2048x128_S1x256x128_1_512_0 _ _ _ _ _ _ (Or.inl (show 0 + r.val < 512 by omega))]
    rw [st_row a 0 512 256 inb_S2x2048x128_S1x256x128_0_512_0 _ _ _ _ _ _ (Or.inl (show 0 + r.val < 512 by omega))]
    rw [st_row a 1 256 256 inb_S2x2048x128_S1x256x128_1_256_0 _ _ _ _ _ _ (Or.inl (show 0 + r.val < 256 by omega))]
    rw [st_row a 0 256 256 inb_S2x2048x128_S1x256x128_0_256_0 _ _ _ _ _ _ (Or.inl (show 0 + r.val < 256 by omega))]
    exact (two_rd a 0 256 (by norm_num) _ _ X w0_0 w0_1 _ _ r rfl d).1
  · skip
    rw [st_row a 1 1792 256 inb_S2x2048x128_S1x256x128_1_1792_0 _ _ _ _ _ _ (Or.inl (show 0 + r.val < 1792 by omega))]
    rw [st_row a 0 1792 256 inb_S2x2048x128_S1x256x128_0_1792_0 _ _ _ _ _ _ (Or.inl (show 0 + r.val < 1792 by omega))]
    rw [st_row a 1 1536 256 inb_S2x2048x128_S1x256x128_1_1536_0 _ _ _ _ _ _ (Or.inl (show 0 + r.val < 1536 by omega))]
    rw [st_row a 0 1536 256 inb_S2x2048x128_S1x256x128_0_1536_0 _ _ _ _ _ _ (Or.inl (show 0 + r.val < 1536 by omega))]
    rw [st_row a 1 1280 256 inb_S2x2048x128_S1x256x128_1_1280_0 _ _ _ _ _ _ (Or.inl (show 0 + r.val < 1280 by omega))]
    rw [st_row a 0 1280 256 inb_S2x2048x128_S1x256x128_0_1280_0 _ _ _ _ _ _ (Or.inl (show 0 + r.val < 1280 by omega))]
    rw [st_row a 1 1024 256 inb_S2x2048x128_S1x256x128_1_1024_0 _ _ _ _ _ _ (Or.inl (show 0 + r.val < 1024 by omega))]
    rw [st_row a 0 1024 256 inb_S2x2048x128_S1x256x128_0_1024_0 _ _ _ _ _ _ (Or.inl (show 0 + r.val < 1024 by omega))]
    rw [st_row a 1 768 256 inb_S2x2048x128_S1x256x128_1_768_0 _ _ _ _ _ _ (Or.inl (show 0 + r.val < 768 by omega))]
    rw [st_row a 0 768 256 inb_S2x2048x128_S1x256x128_0_768_0 _ _ _ _ _ _ (Or.inl (show 0 + r.val < 768 by omega))]
    rw [st_row a 1 512 256 inb_S2x2048x128_S1x256x128_1_512_0 _ _ _ _ _ _ (Or.inl (show 0 + r.val < 512 by omega))]
    rw [st_row a 0 512 256 inb_S2x2048x128_S1x256x128_0_512_0 _ _ _ _ _ _ (Or.inl (show 0 + r.val < 512 by omega))]
    rw [st_row a 1 256 256 inb_S2x2048x128_S1x256x128_1_256_0 _ _ _ _ _ _ (Or.inl (show 0 + r.val < 256 by omega))]
    rw [st_row a 0 256 256 inb_S2x2048x128_S1x256x128_0_256_0 _ _ _ _ _ _ (Or.inl (show 0 + r.val < 256 by omega))]
    exact (two_rd a 0 256 (by norm_num) _ _ X w0_0 w0_1 _ _ r rfl d).2

theorem rd1 (a : Memref sig .tc .vmem S2x2048x128 .f32) (X) (w0_0 w0_1 w1_0 w1_1 w2_0 w2_1 w3_0 w3_1 w4_0 w4_1 w5_0 w5_1 w6_0 w6_1 w7_0 w7_1 : Vec Ideal S1x256x128 .f32) (r : Fin 256) (d : Fin 128) :
    a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 0 ⟨256 + r.val, by omega⟩ d) = w1_0 (ix3 0 r d)
    ∧ a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 1 ⟨256 + r.val, by omega⟩ d) = w1_1 (ix3 0 r d) := by
  have hr := r.isLt
  constructor
  · skip
    rw [st_row a 1 1792 256 inb_S2x2048x128_S1x256x128_1_1792_0 _ _ _ _ _ _ (Or.inl (show 256 + r.val < 1792 by omega))]
    rw [st_row a 0 1792 256 inb_S2x2048x128_S1x256x128_0_1792_0 _ _ _ _ _ _ (Or.inl (show 256 + r.val < 1792 by omega))]
    rw [st_row a 1 1536 256 inb_S2x2048x128_S1x256x128_1_1536_0 _ _ _ _ _ _ (Or.inl (show 256 + r.val < 1536 by omega))]
    rw [st_row a 0 1536 256 inb_S2x2048x128_S1x256x128_0_1536_0 _ _ _ _ _ _ (Or.inl (show 256 + r.val < 1536 by omega))]
    rw [st_row a 1 1280 256 inb_S2x2048x128_S1x256x128_1_1280_0 _ _ _ _ _ _ (Or.inl (show 256 + r.val < 1280 by omega))]
    rw [st_row a 0 1280 256 inb_S2x2048x128_S1x256x128_0_1280_0 _ _ _ _ _ _ (Or.inl (show 256 + r.val < 1280 by omega))]
    rw [st_row a 1 1024 256 inb_S2x2048x128_S1x256x128_1_1024_0 _ _ _ _ _ _ (Or.inl (show 256 + r.val < 1024 by omega))]
    rw [st_row a 0 1024 256 inb_S2x2048x128_S1x256x128_0_1024_0 _ _ _ _ _ _ (Or.inl (show 256 + r.val < 1024 by omega))]
    rw [st_row a 1 768 256 inb_S2x2048x128_S1x256x128_1_768_0 _ _ _ _ _ _ (Or.inl (show 256 + r.val < 768 by omega))]
    rw [st_row a 0 768 256 inb_S2x2048x128_S1x256x128_0_768_0 _ _ _ _ _ _ (Or.inl (show 256 + r.val < 768 by omega))]
    rw [st_row a 1 512 256 inb_S2x2048x128_S1x256x128_1_512_0 _ _ _ _ _ _ (Or.inl (show 256 + r.val < 512 by omega))]
    rw [st_row a 0 512 256 inb_S2x2048x128_S1x256x128_0_512_0 _ _ _ _ _ _ (Or.inl (show 256 + r.val < 512 by omega))]
    exact (two_rd a 256 256 (by norm_num) _ _ X w1_0 w1_1 _ _ r rfl d).1
  · skip
    rw [st_row a 1 1792 256 inb_S2x2048x128_S1x256x128_1_1792_0 _ _ _ _ _ _ (Or.inl (show 256 + r.val < 1792 by omega))]
    rw [st_row a 0 1792 256 inb_S2x2048x128_S1x256x128_0_1792_0 _ _ _ _ _ _ (Or.inl (show 256 + r.val < 1792 by omega))]
    rw [st_row a 1 1536 256 inb_S2x2048x128_S1x256x128_1_1536_0 _ _ _ _ _ _ (Or.inl (show 256 + r.val < 1536 by omega))]
    rw [st_row a 0 1536 256 inb_S2x2048x128_S1x256x128_0_1536_0 _ _ _ _ _ _ (Or.inl (show 256 + r.val < 1536 by omega))]
    rw [st_row a 1 1280 256 inb_S2x2048x128_S1x256x128_1_1280_0 _ _ _ _ _ _ (Or.inl (show 256 + r.val < 1280 by omega))]
    rw [st_row a 0 1280 256 inb_S2x2048x128_S1x256x128_0_1280_0 _ _ _ _ _ _ (Or.inl (show 256 + r.val < 1280 by omega))]
    rw [st_row a 1 1024 256 inb_S2x2048x128_S1x256x128_1_1024_0 _ _ _ _ _ _ (Or.inl (show 256 + r.val < 1024 by omega))]
    rw [st_row a 0 1024 256 inb_S2x2048x128_S1x256x128_0_1024_0 _ _ _ _ _ _ (Or.inl (show 256 + r.val < 1024 by omega))]
    rw [st_row a 1 768 256 inb_S2x2048x128_S1x256x128_1_768_0 _ _ _ _ _ _ (Or.inl (show 256 + r.val < 768 by omega))]
    rw [st_row a 0 768 256 inb_S2x2048x128_S1x256x128_0_768_0 _ _ _ _ _ _ (Or.inl (show 256 + r.val < 768 by omega))]
    rw [st_row a 1 512 256 inb_S2x2048x128_S1x256x128_1_512_0 _ _ _ _ _ _ (Or.inl (show 256 + r.val < 512 by omega))]
    rw [st_row a 0 512 256 inb_S2x2048x128_S1x256x128_0_512_0 _ _ _ _ _ _ (Or.inl (show 256 + r.val < 512 by omega))]
    exact (two_rd a 256 256 (by norm_num) _ _ X w1_0 w1_1 _ _ r rfl d).2

theorem rd2 (a : Memref sig .tc .vmem S2x2048x128 .f32) (X) (w0_0 w0_1 w1_0 w1_1 w2_0 w2_1 w3_0 w3_1 w4_0 w4_1 w5_0 w5_1 w6_0 w6_1 w7_0 w7_1 : Vec Ideal S1x256x128 .f32) (r : Fin 256) (d : Fin 128) :
    a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 0 ⟨512 + r.val, by omega⟩ d) = w2_0 (ix3 0 r d)
    ∧ a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 1 ⟨512 + r.val, by omega⟩ d) = w2_1 (ix3 0 r d) := by
  have hr := r.isLt
  constructor
  · skip
    rw [st_row a 1 1792 256 inb_S2x2048x128_S1x256x128_1_1792_0 _ _ _ _ _ _ (Or.inl (show 512 + r.val < 1792 by omega))]
    rw [st_row a 0 1792 256 inb_S2x2048x128_S1x256x128_0_1792_0 _ _ _ _ _ _ (Or.inl (show 512 + r.val < 1792 by omega))]
    rw [st_row a 1 1536 256 inb_S2x2048x128_S1x256x128_1_1536_0 _ _ _ _ _ _ (Or.inl (show 512 + r.val < 1536 by omega))]
    rw [st_row a 0 1536 256 inb_S2x2048x128_S1x256x128_0_1536_0 _ _ _ _ _ _ (Or.inl (show 512 + r.val < 1536 by omega))]
    rw [st_row a 1 1280 256 inb_S2x2048x128_S1x256x128_1_1280_0 _ _ _ _ _ _ (Or.inl (show 512 + r.val < 1280 by omega))]
    rw [st_row a 0 1280 256 inb_S2x2048x128_S1x256x128_0_1280_0 _ _ _ _ _ _ (Or.inl (show 512 + r.val < 1280 by omega))]
    rw [st_row a 1 1024 256 inb_S2x2048x128_S1x256x128_1_1024_0 _ _ _ _ _ _ (Or.inl (show 512 + r.val < 1024 by omega))]
    rw [st_row a 0 1024 256 inb_S2x2048x128_S1x256x128_0_1024_0 _ _ _ _ _ _ (Or.inl (show 512 + r.val < 1024 by omega))]
    rw [st_row a 1 768 256 inb_S2x2048x128_S1x256x128_1_768_0 _ _ _ _ _ _ (Or.inl (show 512 + r.val < 768 by omega))]
    rw [st_row a 0 768 256 inb_S2x2048x128_S1x256x128_0_768_0 _ _ _ _ _ _ (Or.inl (show 512 + r.val < 768 by omega))]
    exact (two_rd a 512 256 (by norm_num) _ _ X w2_0 w2_1 _ _ r rfl d).1
  · skip
    rw [st_row a 1 1792 256 inb_S2x2048x128_S1x256x128_1_1792_0 _ _ _ _ _ _ (Or.inl (show 512 + r.val < 1792 by omega))]
    rw [st_row a 0 1792 256 inb_S2x2048x128_S1x256x128_0_1792_0 _ _ _ _ _ _ (Or.inl (show 512 + r.val < 1792 by omega))]
    rw [st_row a 1 1536 256 inb_S2x2048x128_S1x256x128_1_1536_0 _ _ _ _ _ _ (Or.inl (show 512 + r.val < 1536 by omega))]
    rw [st_row a 0 1536 256 inb_S2x2048x128_S1x256x128_0_1536_0 _ _ _ _ _ _ (Or.inl (show 512 + r.val < 1536 by omega))]
    rw [st_row a 1 1280 256 inb_S2x2048x128_S1x256x128_1_1280_0 _ _ _ _ _ _ (Or.inl (show 512 + r.val < 1280 by omega))]
    rw [st_row a 0 1280 256 inb_S2x2048x128_S1x256x128_0_1280_0 _ _ _ _ _ _ (Or.inl (show 512 + r.val < 1280 by omega))]
    rw [st_row a 1 1024 256 inb_S2x2048x128_S1x256x128_1_1024_0 _ _ _ _ _ _ (Or.inl (show 512 + r.val < 1024 by omega))]
    rw [st_row a 0 1024 256 inb_S2x2048x128_S1x256x128_0_1024_0 _ _ _ _ _ _ (Or.inl (show 512 + r.val < 1024 by omega))]
    rw [st_row a 1 768 256 inb_S2x2048x128_S1x256x128_1_768_0 _ _ _ _ _ _ (Or.inl (show 512 + r.val < 768 by omega))]
    rw [st_row a 0 768 256 inb_S2x2048x128_S1x256x128_0_768_0 _ _ _ _ _ _ (Or.inl (show 512 + r.val < 768 by omega))]
    exact (two_rd a 512 256 (by norm_num) _ _ X w2_0 w2_1 _ _ r rfl d).2

theorem rd3 (a : Memref sig .tc .vmem S2x2048x128 .f32) (X) (w0_0 w0_1 w1_0 w1_1 w2_0 w2_1 w3_0 w3_1 w4_0 w4_1 w5_0 w5_1 w6_0 w6_1 w7_0 w7_1 : Vec Ideal S1x256x128 .f32) (r : Fin 256) (d : Fin 128) :
    a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 0 ⟨768 + r.val, by omega⟩ d) = w3_0 (ix3 0 r d)
    ∧ a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 1 ⟨768 + r.val, by omega⟩ d) = w3_1 (ix3 0 r d) := by
  have hr := r.isLt
  constructor
  · skip
    rw [st_row a 1 1792 256 inb_S2x2048x128_S1x256x128_1_1792_0 _ _ _ _ _ _ (Or.inl (show 768 + r.val < 1792 by omega))]
    rw [st_row a 0 1792 256 inb_S2x2048x128_S1x256x128_0_1792_0 _ _ _ _ _ _ (Or.inl (show 768 + r.val < 1792 by omega))]
    rw [st_row a 1 1536 256 inb_S2x2048x128_S1x256x128_1_1536_0 _ _ _ _ _ _ (Or.inl (show 768 + r.val < 1536 by omega))]
    rw [st_row a 0 1536 256 inb_S2x2048x128_S1x256x128_0_1536_0 _ _ _ _ _ _ (Or.inl (show 768 + r.val < 1536 by omega))]
    rw [st_row a 1 1280 256 inb_S2x2048x128_S1x256x128_1_1280_0 _ _ _ _ _ _ (Or.inl (show 768 + r.val < 1280 by omega))]
    rw [st_row a 0 1280 256 inb_S2x2048x128_S1x256x128_0_1280_0 _ _ _ _ _ _ (Or.inl (show 768 + r.val < 1280 by omega))]
    rw [st_row a 1 1024 256 inb_S2x2048x128_S1x256x128_1_1024_0 _ _ _ _ _ _ (Or.inl (show 768 + r.val < 1024 by omega))]
    rw [st_row a 0 1024 256 inb_S2x2048x128_S1x256x128_0_1024_0 _ _ _ _ _ _ (Or.inl (show 768 + r.val < 1024 by omega))]
    exact (two_rd a 768 256 (by norm_num) _ _ X w3_0 w3_1 _ _ r rfl d).1
  · skip
    rw [st_row a 1 1792 256 inb_S2x2048x128_S1x256x128_1_1792_0 _ _ _ _ _ _ (Or.inl (show 768 + r.val < 1792 by omega))]
    rw [st_row a 0 1792 256 inb_S2x2048x128_S1x256x128_0_1792_0 _ _ _ _ _ _ (Or.inl (show 768 + r.val < 1792 by omega))]
    rw [st_row a 1 1536 256 inb_S2x2048x128_S1x256x128_1_1536_0 _ _ _ _ _ _ (Or.inl (show 768 + r.val < 1536 by omega))]
    rw [st_row a 0 1536 256 inb_S2x2048x128_S1x256x128_0_1536_0 _ _ _ _ _ _ (Or.inl (show 768 + r.val < 1536 by omega))]
    rw [st_row a 1 1280 256 inb_S2x2048x128_S1x256x128_1_1280_0 _ _ _ _ _ _ (Or.inl (show 768 + r.val < 1280 by omega))]
    rw [st_row a 0 1280 256 inb_S2x2048x128_S1x256x128_0_1280_0 _ _ _ _ _ _ (Or.inl (show 768 + r.val < 1280 by omega))]
    rw [st_row a 1 1024 256 inb_S2x2048x128_S1x256x128_1_1024_0 _ _ _ _ _ _ (Or.inl (show 768 + r.val < 1024 by omega))]
    rw [st_row a 0 1024 256 inb_S2x2048x128_S1x256x128_0_1024_0 _ _ _ _ _ _ (Or.inl (show 768 + r.val < 1024 by omega))]
    exact (two_rd a 768 256 (by norm_num) _ _ X w3_0 w3_1 _ _ r rfl d).2

theorem rd4 (a : Memref sig .tc .vmem S2x2048x128 .f32) (X) (w0_0 w0_1 w1_0 w1_1 w2_0 w2_1 w3_0 w3_1 w4_0 w4_1 w5_0 w5_1 w6_0 w6_1 w7_0 w7_1 : Vec Ideal S1x256x128 .f32) (r : Fin 256) (d : Fin 128) :
    a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 0 ⟨1024 + r.val, by omega⟩ d) = w4_0 (ix3 0 r d)
    ∧ a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 1 ⟨1024 + r.val, by omega⟩ d) = w4_1 (ix3 0 r d) := by
  have hr := r.isLt
  constructor
  · skip
    rw [st_row a 1 1792 256 inb_S2x2048x128_S1x256x128_1_1792_0 _ _ _ _ _ _ (Or.inl (show 1024 + r.val < 1792 by omega))]
    rw [st_row a 0 1792 256 inb_S2x2048x128_S1x256x128_0_1792_0 _ _ _ _ _ _ (Or.inl (show 1024 + r.val < 1792 by omega))]
    rw [st_row a 1 1536 256 inb_S2x2048x128_S1x256x128_1_1536_0 _ _ _ _ _ _ (Or.inl (show 1024 + r.val < 1536 by omega))]
    rw [st_row a 0 1536 256 inb_S2x2048x128_S1x256x128_0_1536_0 _ _ _ _ _ _ (Or.inl (show 1024 + r.val < 1536 by omega))]
    rw [st_row a 1 1280 256 inb_S2x2048x128_S1x256x128_1_1280_0 _ _ _ _ _ _ (Or.inl (show 1024 + r.val < 1280 by omega))]
    rw [st_row a 0 1280 256 inb_S2x2048x128_S1x256x128_0_1280_0 _ _ _ _ _ _ (Or.inl (show 1024 + r.val < 1280 by omega))]
    exact (two_rd a 1024 256 (by norm_num) _ _ X w4_0 w4_1 _ _ r rfl d).1
  · skip
    rw [st_row a 1 1792 256 inb_S2x2048x128_S1x256x128_1_1792_0 _ _ _ _ _ _ (Or.inl (show 1024 + r.val < 1792 by omega))]
    rw [st_row a 0 1792 256 inb_S2x2048x128_S1x256x128_0_1792_0 _ _ _ _ _ _ (Or.inl (show 1024 + r.val < 1792 by omega))]
    rw [st_row a 1 1536 256 inb_S2x2048x128_S1x256x128_1_1536_0 _ _ _ _ _ _ (Or.inl (show 1024 + r.val < 1536 by omega))]
    rw [st_row a 0 1536 256 inb_S2x2048x128_S1x256x128_0_1536_0 _ _ _ _ _ _ (Or.inl (show 1024 + r.val < 1536 by omega))]
    rw [st_row a 1 1280 256 inb_S2x2048x128_S1x256x128_1_1280_0 _ _ _ _ _ _ (Or.inl (show 1024 + r.val < 1280 by omega))]
    rw [st_row a 0 1280 256 inb_S2x2048x128_S1x256x128_0_1280_0 _ _ _ _ _ _ (Or.inl (show 1024 + r.val < 1280 by omega))]
    exact (two_rd a 1024 256 (by norm_num) _ _ X w4_0 w4_1 _ _ r rfl d).2

theorem rd5 (a : Memref sig .tc .vmem S2x2048x128 .f32) (X) (w0_0 w0_1 w1_0 w1_1 w2_0 w2_1 w3_0 w3_1 w4_0 w4_1 w5_0 w5_1 w6_0 w6_1 w7_0 w7_1 : Vec Ideal S1x256x128 .f32) (r : Fin 256) (d : Fin 128) :
    a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 0 ⟨1280 + r.val, by omega⟩ d) = w5_0 (ix3 0 r d)
    ∧ a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 1 ⟨1280 + r.val, by omega⟩ d) = w5_1 (ix3 0 r d) := by
  have hr := r.isLt
  constructor
  · skip
    rw [st_row a 1 1792 256 inb_S2x2048x128_S1x256x128_1_1792_0 _ _ _ _ _ _ (Or.inl (show 1280 + r.val < 1792 by omega))]
    rw [st_row a 0 1792 256 inb_S2x2048x128_S1x256x128_0_1792_0 _ _ _ _ _ _ (Or.inl (show 1280 + r.val < 1792 by omega))]
    rw [st_row a 1 1536 256 inb_S2x2048x128_S1x256x128_1_1536_0 _ _ _ _ _ _ (Or.inl (show 1280 + r.val < 1536 by omega))]
    rw [st_row a 0 1536 256 inb_S2x2048x128_S1x256x128_0_1536_0 _ _ _ _ _ _ (Or.inl (show 1280 + r.val < 1536 by omega))]
    exact (two_rd a 1280 256 (by norm_num) _ _ X w5_0 w5_1 _ _ r rfl d).1
  · skip
    rw [st_row a 1 1792 256 inb_S2x2048x128_S1x256x128_1_1792_0 _ _ _ _ _ _ (Or.inl (show 1280 + r.val < 1792 by omega))]
    rw [st_row a 0 1792 256 inb_S2x2048x128_S1x256x128_0_1792_0 _ _ _ _ _ _ (Or.inl (show 1280 + r.val < 1792 by omega))]
    rw [st_row a 1 1536 256 inb_S2x2048x128_S1x256x128_1_1536_0 _ _ _ _ _ _ (Or.inl (show 1280 + r.val < 1536 by omega))]
    rw [st_row a 0 1536 256 inb_S2x2048x128_S1x256x128_0_1536_0 _ _ _ _ _ _ (Or.inl (show 1280 + r.val < 1536 by omega))]
    exact (two_rd a 1280 256 (by norm_num) _ _ X w5_0 w5_1 _ _ r rfl d).2

theorem rd6 (a : Memref sig .tc .vmem S2x2048x128 .f32) (X) (w0_0 w0_1 w1_0 w1_1 w2_0 w2_1 w3_0 w3_1 w4_0 w4_1 w5_0 w5_1 w6_0 w6_1 w7_0 w7_1 : Vec Ideal S1x256x128 .f32) (r : Fin 256) (d : Fin 128) :
    a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 0 ⟨1536 + r.val, by omega⟩ d) = w6_0 (ix3 0 r d)
    ∧ a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 1 ⟨1536 + r.val, by omega⟩ d) = w6_1 (ix3 0 r d) := by
  have hr := r.isLt
  constructor
  · skip
    rw [st_row a 1 1792 256 inb_S2x2048x128_S1x256x128_1_1792_0 _ _ _ _ _ _ (Or.inl (show 1536 + r.val < 1792 by omega))]
    rw [st_row a 0 1792 256 inb_S2x2048x128_S1x256x128_0_1792_0 _ _ _ _ _ _ (Or.inl (show 1536 + r.val < 1792 by omega))]
    exact (two_rd a 1536 256 (by norm_num) _ _ X w6_0 w6_1 _ _ r rfl d).1
  · skip
    rw [st_row a 1 1792 256 inb_S2x2048x128_S1x256x128_1_1792_0 _ _ _ _ _ _ (Or.inl (show 1536 + r.val < 1792 by omega))]
    rw [st_row a 0 1792 256 inb_S2x2048x128_S1x256x128_0_1792_0 _ _ _ _ _ _ (Or.inl (show 1536 + r.val < 1792 by omega))]
    exact (two_rd a 1536 256 (by norm_num) _ _ X w6_0 w6_1 _ _ r rfl d).2

theorem rd7 (a : Memref sig .tc .vmem S2x2048x128 .f32) (X) (w0_0 w0_1 w1_0 w1_1 w2_0 w2_1 w3_0 w3_1 w4_0 w4_1 w5_0 w5_1 w6_0 w6_1 w7_0 w7_1 : Vec Ideal S1x256x128 .f32) (r : Fin 256) (d : Fin 128) :
    a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 0 ⟨1792 + r.val, by omega⟩ d) = w7_0 (ix3 0 r d)
    ∧ a.view.read (Elt Ideal) (a.view.writes (Elt Ideal) X [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩]) (ix3 1 ⟨1792 + r.val, by omega⟩ d) = w7_1 (ix3 0 r d) := by
  have hr := r.isLt
  constructor
  · skip
    exact (two_rd a 1792 256 (by norm_num) _ _ X w7_0 w7_1 _ _ r rfl d).1
  · skip
    exact (two_rd a 1792 256 (by norm_num) _ _ X w7_0 w7_1 _ _ r rfl d).2

end Cert.KernelIdeal.MixerB

end
-- ==== Proof.V.Base.lean ====
/- Both buffers after the diagonal tiles: every row block stands at the key block before its own. -/
module

public import proofs.«01_k».proof.Proof.V.BaseB0
public import proofs.«01_k».proof.Proof.V.BaseB1
public import proofs.«01_k».proof.Proof.V.BaseB2
public import proofs.«01_k».proof.Proof.V.BaseB3
public import proofs.«01_k».proof.Proof.V.BaseB4
public import proofs.«01_k».proof.Proof.V.BaseB5
public import proofs.«01_k».proof.Proof.V.BaseB6
public import proofs.«01_k».proof.Proof.V.BaseB7
public import proofs.«01_k».proof.Proof.V.BaseR

@[expose] public section

set_option maxRecDepth 16384

noncomputable section

namespace Cert.KernelIdeal.MixerB

open Cert.KernelIdeal Cert.KernelIdeal.Gen
open Idealize.ShloMosaic Idealize.ShloMosaic.TcCoe
open Cert.Stick

variable (x : Vec Ideal S1x2048x128 .f32) (g : FVec Ideal S256x256 .bf16) (hgt : ∀ i j, g (ix2 i j) = tri i.val j.val) (x4 x5 : Vec Ideal S1x8192x128 .bf16) (G : ℕ) (hG : G + 8 ≤ 32)
  (kb vb : Fin 8 → Vec Ideal S1x256x128 .bf16) (hkb : ∀ (b : Fin 8) (j : Fin 256) k, kb b (ix3 0 j k) = x4 (ix3 0 ⟨256 * (G + b.val) + j.val, kv_lt G hG b j⟩ k))
  (hvb : ∀ (b : Fin 8) (j : Fin 256) k, vb b (ix3 0 j k) = x5 (ix3 0 ⟨256 * (G + b.val) + j.val, kv_lt G hG b j⟩ k))

/-- The key block each block of rows stands at after the diagonal tiles. -/
def lv0 (G b : ℕ) : ℕ := if b = 0 then G else G + (b - 1)

include hgt hG hkb hvb
theorem diag_good (a8 a9 : Memref sig .tc .vmem S2x2048x128 .f32) (X8 X9) : Good (k0_pay41 x) (k0_pay42 x) x4 x5 G (lv0 G)
    (a8.view.read (Elt Ideal) (a8.view.writes (Elt Ideal) X8 [⟨Rect.unit (s := S2x2048x128) ![1, 1792, 0] S1x256x128.size inb_S2x2048x128_S1x256x128_1_1792_0, d573 x g kb vb⟩, ⟨Rect.unit (s := S2x2048x128) ![0, 1792, 0] S1x256x128.size inb_S2x2048x128_S1x256x128_0_1792_0, d565 x g kb vb⟩, ⟨Rect.unit (s := S2x2048x128) ![1, 1536, 0] S1x256x128.size inb_S2x2048x128_S1x256x128_1_1536_0, d555 x g kb vb⟩, ⟨Rect.unit (s := S2x2048x128) ![0, 1536, 0] S1x256x128.size inb_S2x2048x128_S1x256x128_0_1536_0, d547 x g kb vb⟩, ⟨Rect.unit (s := S2x2048x128) ![1, 1280, 0] S1x256x128.size inb_S2x2048x128_S1x256x128_1_1280_0, d536 x g kb vb⟩, ⟨Rect.unit (s := S2x2048x128) ![0, 1280, 0] S1x256x128.size inb_S2x2048x128_S1x256x128_0_1280_0, d528 x g kb vb⟩, ⟨Rect.unit (s := S2x2048x128) ![1, 1024, 0] S1x256x128.size inb_S2x2048x128_S1x256x128_1_1024_0, d517 x g kb vb⟩, ⟨Rect.unit (s := S2x2048x128) ![0, 1024, 0] S1x256x128.size inb_S2x2048x128_S1x256x128_0_1024_0, d509 x g kb vb⟩, ⟨Rect.unit (s := S2x2048x128) ![1, 768, 0] S1x256x128.size inb_S2x2048x128_S1x256x128_1_768_0, d498 x g kb vb⟩, ⟨Rect.unit (s := S2x2048x128) ![0, 768, 0] S1x256x128.size inb_S2x2048x128_S1x256x128_0_768_0, d490 x g kb vb⟩, ⟨Rect.unit (s := S2x2048x128) ![1, 512, 0] S1x256x128.size inb_S2x2048x128_S1x256x128_1_512_0, d479 x g kb vb⟩, ⟨Rect.unit (s := S2x2048x128) ![0, 512, 0] S1x256x128.size inb_S2x2048x128_S1x256x128_0_512_0, d471 x g kb vb⟩, ⟨Rect.unit (s := S2x2048x128) ![1, 256, 0] S1x256x128.size inb_S2x2048x128_S1x256x128_1_256_0, d460 x g kb vb⟩, ⟨Rect.unit (s := S2x2048x128) ![0, 256, 0] S1x256x128.size inb_S2x2048x128_S1x256x128_0_256_0, d452 x g kb vb⟩, ⟨Rect.unit (s := S2x2048x128) ![1, 0, 0] S1x256x128.size inb_S2x2048x128_S1x256x128_1_0_0, d441 x g kb vb⟩, ⟨Rect.unit (s := S2x2048x128) ![0, 0, 0] S1x256x128.size inb_S2x2048x128_S1x256x128_0_0_0, d433 x g kb vb⟩]))
    (a9.view.read (Elt Ideal) (a9.view.writes (Elt Ideal) X9 [⟨Rect.unit (s := S2x2048x128) ![1, 1792, 0] S1x256x128.size inb_S2x2048x128_S1x256x128_1_1792_0, d577 x g kb vb⟩, ⟨Rect.unit (s := S2x2048x128) ![0, 1792, 0] S1x256x128.size inb_S2x2048x128_S1x256x128_0_1792_0, d569 x g kb vb⟩, ⟨Rect.unit (s := S2x2048x128) ![1, 1536, 0] S1x256x128.size inb_S2x2048x128_S1x256x128_1_1536_0, d559 x g kb vb⟩, ⟨Rect.unit (s := S2x2048x128) ![0, 1536, 0] S1x256x128.size inb_S2x2048x128_S1x256x128_0_1536_0, d551 x g kb vb⟩, ⟨Rect.unit (s := S2x2048x128) ![1, 1280, 0] S1x256x128.size inb_S2x2048x128_S1x256x128_1_1280_0, d540 x g kb vb⟩, ⟨Rect.unit (s := S2x2048x128) ![0, 1280, 0] S1x256x128.size inb_S2x2048x128_S1x256x128_0_1280_0, d532 x g kb vb⟩, ⟨Rect.unit (s := S2x2048x128) ![1, 1024, 0] S1x256x128.size inb_S2x2048x128_S1x256x128_1_1024_0, d521 x g kb vb⟩, ⟨Rect.unit (s := S2x2048x128) ![0, 1024, 0] S1x256x128.size inb_S2x2048x128_S1x256x128_0_1024_0, d513 x g kb vb⟩, ⟨Rect.unit (s := S2x2048x128) ![1, 768, 0] S1x256x128.size inb_S2x2048x128_S1x256x128_1_768_0, d502 x g kb vb⟩, ⟨Rect.unit (s := S2x2048x128) ![0, 768, 0] S1x256x128.size inb_S2x2048x128_S1x256x128_0_768_0, d494 x g kb vb⟩, ⟨Rect.unit (s := S2x2048x128) ![1, 512, 0] S1x256x128.size inb_S2x2048x128_S1x256x128_1_512_0, d483 x g kb vb⟩, ⟨Rect.unit (s := S2x2048x128) ![0, 512, 0] S1x256x128.size inb_S2x2048x128_S1x256x128_0_512_0, d475 x g kb vb⟩, ⟨Rect.unit (s := S2x2048x128) ![1, 256, 0] S1x256x128.size inb_S2x2048x128_S1x256x128_1_256_0, d464 x g kb vb⟩, ⟨Rect.unit (s := S2x2048x128) ![0, 256, 0] S1x256x128.size inb_S2x2048x128_S1x256x128_0_256_0, d456 x g kb vb⟩, ⟨Rect.unit (s := S2x2048x128) ![1, 0, 0] S1x256x128.size inb_S2x2048x128_S1x256x128_1_0_0, d445 x g kb vb⟩, ⟨Rect.unit (s := S2x2048x128) ![0, 0, 0] S1x256x128.size inb_S2x2048x128_S1x256x128_0_0_0, d437 x g kb vb⟩])) := by
  intro h r
  have hr2 := r.isLt
  obtain ⟨b, s, hb, hbs⟩ : ∃ (b : ℕ) (s : Fin 256), b < 8 ∧ r.val = 256 * b + s.val := ⟨r.val / 256, ⟨r.val % 256, by omega⟩, by omega, show r.val = 256 * (r.val / 256) + r.val % 256 by omega⟩
  have hlt : 256 * b + s.val < 2048 := by rw [← hbs]; exact r.isLt
  obtain rfl : r = ⟨256 * b + s.val, hlt⟩ := Fin.ext hbs
  clear hr2 hbs
  have hs := s.isLt
  have hdiv : (256 * b + s.val) / 256 = b := by omega
  show (∀ d, _ = acc 8192 _ _ (256 * G + (256 * b + s.val)) (256 * lv0 G ((256 * b + s.val) / 256))) ∧ ∀ d, _ = left 8192 _ (256 * G + (256 * b + s.val)) (256 * lv0 G ((256 * b + s.val) / 256))
  rw [hdiv]
  clear hdiv
  interval_cases b
  · skip
    have e : (⟨256 * 0 + s.val, by omega⟩ : Fin 2048) = ⟨s.val, by omega⟩ := Fin.ext (by show 256 * 0 + s.val = s.val; omega)
    have e2 : (⟨0 + s.val, by omega⟩ : Fin 2048) = ⟨s.val, by omega⟩ := Fin.ext (by show 0 + s.val = s.val; omega)
    rw [e, show 256 * 0 + s.val = s.val by omega]
    have R8 := fun d => rd0 a8 X8 (d433 x g kb vb) (d441 x g kb vb) (d452 x g kb vb) (d460 x g kb vb) (d471 x g kb vb) (d479 x g kb vb) (d490 x g kb vb) (d498 x g kb vb) (d509 x g kb vb) (d517 x g kb vb) (d528 x g kb vb) (d536 x g kb vb) (d547 x g kb vb) (d555 x g kb vb) (d565 x g kb vb) (d573 x g kb vb) s d
    have R9 := fun d => rd0 a9 X9 (d437 x g kb vb) (d445 x g kb vb) (d456 x g kb vb) (d464 x g kb vb) (d475 x g kb vb) (d483 x g kb vb) (d494 x g kb vb) (d502 x g kb vb) (d513 x g kb vb) (d521 x g kb vb) (d532 x g kb vb) (d540 x g kb vb) (d551 x g kb vb) (d559 x g kb vb) (d569 x g kb vb) (d577 x g kb vb) s d
    rw [e2] at R8 R9
    match h with
    | 0 => exact ⟨fun d => (R8 d).1.trans (acc0_0 x g hgt x4 x5 G hG kb vb hkb hvb s d), fun d => (R9 d).1.trans (car0_0 x g hgt x4 G hG kb vb hkb s d)⟩
    | 1 => exact ⟨fun d => (R8 d).2.trans (acc0_1 x g hgt x4 x5 G hG kb vb hkb hvb s d), fun d => (R9 d).2.trans (car0_1 x g hgt x4 G hG kb vb hkb s d)⟩
  · skip
    have R8 := fun d => rd1 a8 X8 (d433 x g kb vb) (d441 x g kb vb) (d452 x g kb vb) (d460 x g kb vb) (d471 x g kb vb) (d479 x g kb vb) (d490 x g kb vb) (d498 x g kb vb) (d509 x g kb vb) (d517 x g kb vb) (d528 x g kb vb) (d536 x g kb vb) (d547 x g kb vb) (d555 x g kb vb) (d565 x g kb vb) (d573 x g kb vb) s d
    have R9 := fun d => rd1 a9 X9 (d437 x g kb vb) (d445 x g kb vb) (d456 x g kb vb) (d464 x g kb vb) (d475 x g kb vb) (d483 x g kb vb) (d494 x g kb vb) (d502 x g kb vb) (d513 x g kb vb) (d521 x g kb vb) (d532 x g kb vb) (d540 x g kb vb) (d551 x g kb vb) (d559 x g kb vb) (d569 x g kb vb) (d577 x g kb vb) s d
    match h with
    | 0 => exact ⟨fun d => (R8 d).1.trans (acc1_0 x g hgt x4 x5 G hG kb vb hkb hvb s d), fun d => (R9 d).1.trans (car1_0 x g hgt x4 G hG kb vb hkb s d)⟩
    | 1 => exact ⟨fun d => (R8 d).2.trans (acc1_1 x g hgt x4 x5 G hG kb vb hkb hvb s d), fun d => (R9 d).2.trans (car1_1 x g hgt x4 G hG kb vb hkb s d)⟩
  · skip
    have R8 := fun d => rd2 a8 X8 (d433 x g kb vb) (d441 x g kb vb) (d452 x g kb vb) (d460 x g kb vb) (d471 x g kb vb) (d479 x g kb vb) (d490 x g kb vb) (d498 x g kb vb) (d509 x g kb vb) (d517 x g kb vb) (d528 x g kb vb) (d536 x g kb vb) (d547 x g kb vb) (d555 x g kb vb) (d565 x g kb vb) (d573 x g kb vb) s d
    have R9 := fun d => rd2 a9 X9 (d437 x g kb vb) (d445 x g kb vb) (d456 x g kb vb) (d464 x g kb vb) (d475 x g kb vb) (d483 x g kb vb) (d494 x g kb vb) (d502 x g kb vb) (d513 x g kb vb) (d521 x g kb vb) (d532 x g kb vb) (d540 x g kb vb) (d551 x g kb vb) (d559 x g kb vb) (d569 x g kb vb) (d577 x g kb vb) s d
    match h with
    | 0 => exact ⟨fun d => (R8 d).1.trans (acc2_0 x g hgt x4 x5 G hG kb vb hkb hvb s d), fun d => (R9 d).1.trans (car2_0 x g hgt x4 G hG kb vb hkb s d)⟩
    | 1 => exact ⟨fun d => (R8 d).2.trans (acc2_1 x g hgt x4 x5 G hG kb vb hkb hvb s d), fun d => (R9 d).2.trans (car2_1 x g hgt x4 G hG kb vb hkb s d)⟩
  · skip
    have R8 := fun d => rd3 a8 X8 (d433 x g kb vb) (d441 x g kb vb) (d452 x g kb vb) (d460 x g kb vb) (d471 x g kb vb) (d479 x g kb vb) (d490 x g kb vb) (d498 x g kb vb) (d509 x g kb vb) (d517 x g kb vb) (d528 x g kb vb) (d536 x g kb vb) (d547 x g kb vb) (d555 x g kb vb) (d565 x g kb vb) (d573 x g kb vb) s d
    have R9 := fun d => rd3 a9 X9 (d437 x g kb vb) (d445 x g kb vb) (d456 x g kb vb) (d464 x g kb vb) (d475 x g kb vb) (d483 x g kb vb) (d494 x g kb vb) (d502 x g kb vb) (d513 x g kb vb) (d521 x g kb vb) (d532 x g kb vb) (d540 x g kb vb) (d551 x g kb vb) (d559 x g kb vb) (d569 x g kb vb) (d577 x g kb vb) s d
    match h with
    | 0 => exact ⟨fun d => (R8 d).1.trans (acc3_0 x g hgt x4 x5 G hG kb vb hkb hvb s d), fun d => (R9 d).1.trans (car3_0 x g hgt x4 G hG kb vb hkb s d)⟩
    | 1 => exact ⟨fun d => (R8 d).2.trans (acc3_1 x g hgt x4 x5 G hG kb vb hkb hvb s d), fun d => (R9 d).2.trans (car3_1 x g hgt x4 G hG kb vb hkb s d)⟩
  · skip
    have R8 := fun d => rd4 a8 X8 (d433 x g kb vb) (d441 x g kb vb) (d452 x g kb vb) (d460 x g kb vb) (d471 x g kb vb) (d479 x g kb vb) (d490 x g kb vb) (d498 x g kb vb) (d509 x g kb vb) (d517 x g kb vb) (d528 x g kb vb) (d536 x g kb vb) (d547 x g kb vb) (d555 x g kb vb) (d565 x g kb vb) (d573 x g kb vb) s d
    have R9 := fun d => rd4 a9 X9 (d437 x g kb vb) (d445 x g kb vb) (d456 x g kb vb) (d464 x g kb vb) (d475 x g kb vb) (d483 x g kb vb) (d494 x g kb vb) (d502 x g kb vb) (d513 x g kb vb) (d521 x g kb vb) (d532 x g kb vb) (d540 x g kb vb) (d551 x g kb vb) (d559 x g kb vb) (d569 x g kb vb) (d577 x g kb vb) s d
    match h with
    | 0 => exact ⟨fun d => (R8 d).1.trans (acc4_0 x g hgt x4 x5 G hG kb vb hkb hvb s d), fun d => (R9 d).1.trans (car4_0 x g hgt x4 G hG kb vb hkb s d)⟩
    | 1 => exact ⟨fun d => (R8 d).2.trans (acc4_1 x g hgt x4 x5 G hG kb vb hkb hvb s d), fun d => (R9 d).2.trans (car4_1 x g hgt x4 G hG kb vb hkb s d)⟩
  · skip
    have R8 := fun d => rd5 a8 X8 (d433 x g kb vb) (d441 x g kb vb) (d452 x g kb vb) (d460 x g kb vb) (d471 x g kb vb) (d479 x g kb vb) (d490 x g kb vb) (d498 x g kb vb) (d509 x g kb vb) (d517 x g kb vb) (d528 x g kb vb) (d536 x g kb vb) (d547 x g kb vb) (d555 x g kb vb) (d565 x g kb vb) (d573 x g kb vb) s d
    have R9 := fun d => rd5 a9 X9 (d437 x g kb vb) (d445 x g kb vb) (d456 x g kb vb) (d464 x g kb vb) (d475 x g kb vb) (d483 x g kb vb) (d494 x g kb vb) (d502 x g kb vb) (d513 x g kb vb) (d521 x g kb vb) (d532 x g kb vb) (d540 x g kb vb) (d551 x g kb vb) (d559 x g kb vb) (d569 x g kb vb) (d577 x g kb vb) s d
    match h with
    | 0 => exact ⟨fun d => (R8 d).1.trans (acc5_0 x g hgt x4 x5 G hG kb vb hkb hvb s d), fun d => (R9 d).1.trans (car5_0 x g hgt x4 G hG kb vb hkb s d)⟩
    | 1 => exact ⟨fun d => (R8 d).2.trans (acc5_1 x g hgt x4 x5 G hG kb vb hkb hvb s d), fun d => (R9 d).2.trans (car5_1 x g hgt x4 G hG kb vb hkb s d)⟩
  · skip
    have R8 := fun d => rd6 a8 X8 (d433 x g kb vb) (d441 x g kb vb) (d452 x g kb vb) (d460 x g kb vb) (d471 x g kb vb) (d479 x g kb vb) (d490 x g kb vb) (d498 x g kb vb) (d509 x g kb vb) (d517 x g kb vb) (d528 x g kb vb) (d536 x g kb vb) (d547 x g kb vb) (d555 x g kb vb) (d565 x g kb vb) (d573 x g kb vb) s d
    have R9 := fun d => rd6 a9 X9 (d437 x g kb vb) (d445 x g kb vb) (d456 x g kb vb) (d464 x g kb vb) (d475 x g kb vb) (d483 x g kb vb) (d494 x g kb vb) (d502 x g kb vb) (d513 x g kb vb) (d521 x g kb vb) (d532 x g kb vb) (d540 x g kb vb) (d551 x g kb vb) (d559 x g kb vb) (d569 x g kb vb) (d577 x g kb vb) s d
    match h with
    | 0 => exact ⟨fun d => (R8 d).1.trans (acc6_0 x g hgt x4 x5 G hG kb vb hkb hvb s d), fun d => (R9 d).1.trans (car6_0 x g hgt x4 G hG kb vb hkb s d)⟩
    | 1 => exact ⟨fun d => (R8 d).2.trans (acc6_1 x g hgt x4 x5 G hG kb vb hkb hvb s d), fun d => (R9 d).2.trans (car6_1 x g hgt x4 G hG kb vb hkb s d)⟩
  · skip
    have R8 := fun d => rd7 a8 X8 (d433 x g kb vb) (d441 x g kb vb) (d452 x g kb vb) (d460 x g kb vb) (d471 x g kb vb) (d479 x g kb vb) (d490 x g kb vb) (d498 x g kb vb) (d509 x g kb vb) (d517 x g kb vb) (d528 x g kb vb) (d536 x g kb vb) (d547 x g kb vb) (d555 x g kb vb) (d565 x g kb vb) (d573 x g kb vb) s d
    have R9 := fun d => rd7 a9 X9 (d437 x g kb vb) (d445 x g kb vb) (d456 x g kb vb) (d464 x g kb vb) (d475 x g kb vb) (d483 x g kb vb) (d494 x g kb vb) (d502 x g kb vb) (d513 x g kb vb) (d521 x g kb vb) (d532 x g kb vb) (d540 x g kb vb) (d551 x g kb vb) (d559 x g kb vb) (d569 x g kb vb) (d577 x g kb vb) s d
    match h with
    | 0 => exact ⟨fun d => (R8 d).1.trans (acc7_0 x g hgt x4 x5 G hG kb vb hkb hvb s d), fun d => (R9 d).1.trans (car7_0 x g hgt x4 G hG kb vb hkb s d)⟩
    | 1 => exact ⟨fun d => (R8 d).2.trans (acc7_1 x g hgt x4 x5 G hG kb vb hkb hvb s d), fun d => (R9 d).2.trans (car7_1 x g hgt x4 G hG kb vb hkb s d)⟩

end Cert.KernelIdeal.MixerB

end
-- ==== Proof.V.Loop.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.K.WordsI
public import proofs.«01_k».proof.Proof.V.Puts

@[expose] public section

set_option maxRecDepth 16384

noncomputable section

namespace Cert.KernelIdeal.MixerB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Stick

/-- What the key loop holds: the key and value blocks at their contents, both scratch buffers at anything. -/
def Keeps (c : Dev nD) (a4 a5 : Memref sig .tc .vmem S1x8192x128 .bf16) (a8 a9 : Memref sig .tc .vmem S2x2048x128 .f32)
    (v14 v21 : FVec Ideal S2048x128 .bf16) (x4 x5 : Vec Ideal S1x8192x128 .bf16) (G l : ℕ) : sProp 𝕄 :=
  iprop(owns (c : Thread nD τ) a4 fullShare x4 ∗ owns (c : Thread nD τ) a5 fullShare x5
    ∗ (∃ A C, ⌜Good v14 v21 x4 x5 G (fun _ => l) A C⌝ ∗ owns (c : Thread nD τ) a8 fullShare A ∗ owns (c : Thread nD τ) a9 fullShare C))

/-- A key block's load, read at one key and lane. -/
theorem ldk (a : Memref sig .tc .vmem S1x8192x128 .bf16) (ha : a.IsWhole) (off : Fin 3 → ℕ) (o : ℕ) (ho : off = ![0, o, 0]) (hb : o + 256 ≤ 8192) (inb) (x : Vec Ideal S1x8192x128 .bf16) (j : Fin 256) (k : Fin 128) :
    (a.view.readAt (Elt Ideal) (Rect.unit (s := S1x8192x128) off S1x256x128.size inb).toLoadRect (ha.unread x)) (ix3 (0 : Fin 1) j k)
      = x (ix3 0 ⟨o + j.val, by omega⟩ k) := by
  subst ho
  have e : (Rect.unit (s := S1x8192x128) ![0, o, 0] S1x256x128.size inb).toLoadRect.idx (ix3 (0 : Fin 1) j k) = ix3 0 ⟨o + j.val, by omega⟩ k := by
    funext i
    refine Fin.ext ?_
    match i with
    | 0 => rfl
    | 1 => exact (show o + 1 * j.val = o + j.val by omega)
    | 2 => exact (show 0 + 1 * k.val = k.val by omega)
  have h0 : a.view.read (Elt Ideal) (ha.unread x) = x := ha.read_unread x
  exact (congrArg (a.view.read (Elt Ideal) (ha.unread x)) e).trans (congrFun h0 _)

theorem pay4_at (x : FVec Ideal S4096x1 .f32) (r : Fin 2048) (d : Fin 128) : k0_pay4 x (ix3 0 r d) = x (ix2 ⟨r.val, by omega⟩ 0) := by
  pointwise [k0_pay4, k0_pay2]

theorem pay6_at (x : FVec Ideal S4096x1 .f32) (r : Fin 2048) (d : Fin 128) : k0_pay6 x (ix3 0 r d) = x (ix2 ⟨2048 + r.val, by omega⟩ 0) := by
  pointwise [k0_pay6, k0_pay2]

set_option maxHeartbeats 4000000 in
/-- The key loop entered at trip `it` with `n` trips left ends with every key taken: by induction on `n`. -/
theorem loop_good (c : Dev nD) (i : grid0.Coords) (v630 v634 v639 v645 v652 v660 v669 : BitVec 1) (hw1 : k0_chk1 i v669)
    (v14 v21 : FVec Ideal S2048x128 .bf16) (a4 : Memref sig .tc .vmem S1x8192x128 .bf16) (h4 : a4.IsWhole) (v23 : FVec Ideal S256x256 .bf16)
    (a9 : Memref sig .tc .vmem S2x2048x128 .f32) (h9 : a9.IsWhole) (a5 : Memref sig .tc .vmem S1x8192x128 .bf16) (h5 : a5.IsWhole)
    (a8 : Memref sig .tc .vmem S2x2048x128 .f32) (h8 : a8.IsWhole) (x4 x5 : Vec Ideal S1x8192x128 .bf16) (E : Set ℕ)
    (hgt : ∀ i j : Fin 256, v23 (ix2 i j) = tri i.val j.val) (n : ℕ) :
    ∀ (it : ℕ), 8 * (i 2).val - 1 = it + n → ∀ (al : BitVec 1) (K : BitVec 32 × BitVec 1 → sProp 𝕄),
      (¬ (al = 1#1) → ∀ b, b < 8 → Dead v14 v21 x4 (8 * (i 2).val) b (8 * (i 2).val - 1 - it)) →
      iprop(Keeps c a4 a5 a8 a9 v14 v21 x4 x5 (8 * (i 2).val) (8 * (i 2).val - 1 - it) ∗ (∀ r, Keeps c a4 a5 a8 a9 v14 v21 x4 x5 (8 * (i 2).val) 0 -∗ K r))
        ⊢ wp frame (wpE (defs₀ (F := Ideal)) Variants.nat (c : Thread nD τ) (some n)) E
            (cc0_while1 i v630 v634 v639 v645 v652 v660 v669 hw1 v14 v21 a4 h4 v23 a9 h9 a5 h5 a8 h8 (BitVec.ofNat 32 it) al) K := by
  induction n with
  | zero =>
    intro it hit al K hal
    have hq := qi_lt i
    have ht : ¬ (Scalar.andi (Scalar.cmpi .slt (BitVec.ofNat 32 it) (Scalar.subi (Scalar.muli (BitVec.ofNat 32 (i 2).val) 8#32) 1#32)) al = 1#1) := by
      rw [test_iff i it (by omega)]; omega
    simp only [cc0_while1_eq_skeleton]; unfold cc0_while1_skel
    simp only [if_neg ht, Prog.pure_eq_ret]
    rw [show 8 * (i 2).val - 1 - it = 0 by omega]
    iintro ⟨H, Hk⟩
    rw [wp_ret]; imodintro
    iapply Hk; iexact H
  | succ n ih =>
    intro it hit al K hal
    have hq := qi_lt i
    by_cases ht : (Scalar.andi (Scalar.cmpi .slt (BitVec.ofNat 32 it) (Scalar.subi (Scalar.muli (BitVec.ofNat 32 (i 2).val) 8#32) 1#32)) al = 1#1)
    · have hlt : it + 1 < 8 * (i 2).val := ((test_iff i it (by omega) al).1 ht).1
      have hc2 := chk2_of i it hlt
      simp only [cc0_while1_eq_skeleton]; unfold cc0_while1_skel
      unfold Keeps owns
      iintro ⟨⟨⟨%f4, %e4, H4⟩, ⟨%f5, %e5, H5⟩, ⟨%A, %C, %hg, ⟨%f8, %e8, H8⟩, ⟨%f9, %e9, H9⟩⟩⟩, Hk⟩
      obtain rfl := h4.eq_unread e4; obtain rfl := h5.eq_unread e5
      subst e8; subst e9
      sl_exec (disch := first | sl_exact ht | with_reducible exact hc2)
      have hs : loop_good.sl.v695_1 it = BitVec.ofNat 32 (it + 1) := ctr_succ it (by omega)
      rw [hs]
      have hoff : k0_off10 i (BitVec.ofNat 32 it) = ![0, 256 * (8 * (i 2).val - 2 - it), 0] := by
        have h1 := off10_eq i it hlt
        rw [off10_triple, mid_entry] at h1
        rw [off10_triple, h1]
      have hnew : Good v14 v21 x4 x5 (8 * (i 2).val) (fun _ => 8 * (i 2).val - 1 - (it + 1))
          (a8.view.read (Elt Ideal) (a8.view.writes (Elt Ideal) f8
            [⟨Rect.unit (s := S2x2048x128) ![1, 0, 0] S1x2048x128.size inb_S2x2048x128_S1x2048x128_1_0_0,
              k0_pay5 (loop_good.sl.r c i v14 v21 a4 h4 v23 a9 a5 h5 x4 x5 it hc2 f9) (loop_good.sl.v747 c a8 f8)⟩,
             ⟨Rect.unit (s := S2x2048x128) ![0, 0, 0] S1x2048x128.size inb_S2x2048x128_S1x2048x128_0_0_0,
              k0_pay3 (loop_good.sl.r c i v14 v21 a4 h4 v23 a9 a5 h5 x4 x5 it hc2 f9)
                (View.readAt (Elt Ideal) a8.view (Rect.unit (s := S2x2048x128) ![0, 0, 0] S1x2048x128.size inb_S2x2048x128_S1x2048x128_0_0_0).toLoadRect f8)⟩]))
          (a9.view.read (Elt Ideal) (a9.view.writes (Elt Ideal) f9
            [⟨Rect.unit (s := S2x2048x128) ![1, 0, 0] S1x2048x128.size inb_S2x2048x128_S1x2048x128_1_0_0, k0_pay6 (loop_good.sl.r_1 c i v14 v21 a4 h4 v23 a9 x4 it hc2 f9)⟩,
             ⟨Rect.unit (s := S2x2048x128) ![0, 0, 0] S1x2048x128.size inb_S2x2048x128_S1x2048x128_0_0_0, k0_pay4 (loop_good.sl.r_1 c i v14 v21 a4 h4 v23 a9 x4 it hc2 f9)⟩])) :=
        loop_put a8 a9 f8 f9 hg (fun _ => 8 * (i 2).val - 1 - (it + 1)) (8 * (i 2).val - 2 - it) (by omega) (by omega)
          (fun b _ _ => ⟨by omega, by omega⟩) (fun b hb h => (by omega : False).elim) v23 hgt _ _ (fun j k => ldk a4 h4 _ _ hoff (by omega) _ x4 j k) (fun j k => ldk a5 h5 _ _ hoff (by omega) _ x5 j k)
          _ _ _ _ _ _
          (fun r d => ld a8 0 0 2048 (by omega) (by omega) _ f8 r d) (fun r d => ld a9 0 0 2048 (by omega) (by omega) _ f9 r d)
          (fun r d => ld a8 1 0 2048 (by omega) (by omega) _ f8 r d) (fun r d => ld a9 1 0 2048 (by omega) (by omega) _ f9 r d)
      iapply (wp_call Variants.nat (c : Thread nD τ) (some (n + 1)) E n (fun u hu => by cases hu; exact Nat.lt_succ_self n))
      iapply (ih (it + 1) (by omega) _ _ (fun hx => ?_))
      · have h0 := peakL_dead _ (exit_bot _ _ hx)
        intro b hb
        refine Good.dead hnew b _ rfl (fun r _ => ?_) (fun r _ => ?_)
        · exact ((two_rd a9 0 2048 (by omega) _ _ f9 _ _ [] r r (Nat.zero_add _).symm 0).1.trans (pay4_at _ r 0)).trans (h0 _)
        · exact ((two_rd a9 0 2048 (by omega) _ _ f9 _ _ [] r r (Nat.zero_add _).symm 0).2.trans (pay6_at _ r 0)).trans (h0 _)
      isplitl [H4 H5 H8 H9]
      · unfold Keeps owns
        isplitl [H4]
        · iexists _; isplitr; · ipureintro; exact h4.read_unread _
          iexact H4
        isplitl [H5]
        · iexists _; isplitr; · ipureintro; exact h5.read_unread _
          iexact H5
        iexists _, _
        isplitr
        · ipureintro; exact hnew
        isplitl [H8]
        · iexists _; isplitr; swap; · iexact H8
          ipureintro; rfl
        iexists _; isplitr; swap; · iexact H9
        ipureintro; rfl
      iintro %r H
      rw [wp_ret]; imodintro
      iapply Hk
      unfold Keeps owns
      iexact H
    · simp only [cc0_while1_eq_skeleton]; unfold cc0_while1_skel
      simp only [if_neg ht, Prog.pure_eq_ret]
      unfold Keeps
      iintro ⟨⟨H4, H5, ⟨%A, %C, %hg, H8, H9⟩⟩, Hk⟩
      rw [wp_ret]; imodintro
      iapply Hk
      isplitl [H4]; · iexact H4
      isplitl [H5]; · iexact H5
      iexists A, C
      isplitr
      · ipureintro
        refine Good.skip hg fun b hb => Or.inr ⟨Nat.zero_le _, 8 * (i 2).val - 1 - it, le_refl _, by omega, hal ?_ b hb⟩
        intro h1; apply ht; rw [test_iff i it (by omega)]; exact ⟨by omega, h1⟩
      isplitl [H8]; · iexact H8
      iexact H9

end Cert.KernelIdeal.MixerB

end
-- ==== Proof.V.Walk.lean ====
/- The walk over the key blocks before the loop: each tile is taken or its rows are used up. -/
module

public import proofs.«01_k».proof.Proof.V.Base
public import proofs.«01_k».proof.Proof.V.Loop

@[expose] public section

set_option maxRecDepth 16384

noncomputable section

namespace Cert.KernelIdeal.MixerB

open Cert.KernelIdeal Cert.KernelIdeal.Gen
open Idealize.ShloMosaic Idealize.ShloMosaic.TcCoe
open Cert.Stick

variable {v14 v21 : FVec Ideal S2048x128 .bf16} {x4 x5 : Vec Ideal S1x8192x128 .bf16} {G : ℕ} {lv : ℕ → ℕ}

/-- The key block each block of rows stands at once the blocks from `k` on have caught up with block `k - 1`. -/
def lvT (z G k b : ℕ) : ℕ := if b = 0 then z else G + min b (k - 1) - 1

theorem dead_mono {b l l' : ℕ} (h : Dead v14 v21 x4 G b l) (hl : l' ≤ l) (hl' : l ≤ 32) : Dead v14 v21 x4 G b l' := fun k r hr =>
  left_bot 8192 _ _ (256 * l) (256 * l') (by omega) (by omega) (h k r hr)

theorem lv0_lvT {A C : Vec Ideal S2x2048x128 .f32} (hg : Good v14 v21 x4 x5 G (lv0 G) A C) (z : ℕ) (hz : z = G) : Good v14 v21 x4 x5 G (lvT z G 8) A C := by
  refine Good.congr hg fun b hb => ?_
  unfold lvT lv0
  subst hz
  split
  · rfl
  · omega

/-- What a list of stores leaves does not depend on what was there before. -/
def Cov (a : Memref sig .tc .vmem S2x2048x128 .f32)  := fun L =>
  ∀ X X' (h : Fin 2) (r : Fin 2048) (d : Fin 128), a.view.read (Elt Ideal) (a.view.writes (Elt Ideal) X L) (ix3 h r d) = a.view.read (Elt Ideal) (a.view.writes (Elt Ideal) X' L) (ix3 h r d)

theorem Cov.cons {a : Memref sig .tc .vmem S2x2048x128 .f32} {L} (hL : Cov a L) (hd o n : ℕ) (hh : hd < 2) (ho : o + n ≤ 2048) (inb)
    (w : (Rect.unit (s := S2x2048x128) ![hd, o, 0] ![1, n, 128] inb).shape.Idx → Elt Ideal .f32) : Cov a (⟨Rect.unit (s := S2x2048x128) ![hd, o, 0] ![1, n, 128] inb, w⟩ :: L) := by
  intro X X' h r d
  by_cases h1 : h.val = hd
  · by_cases h2 : r.val < o ∨ o + n ≤ r.val
    · rw [st_row a hd o n inb X w L h r d h2, st_row a hd o n inb X' w L h r d h2]; exact hL X X' h r d
    · have h3 : o ≤ r.val ∧ r.val < o + n := by omega
      have hlt : o + (r.val - o) < 2048 := by omega
      obtain rfl : h = ⟨hd, hh⟩ := Fin.ext h1
      have e : r = ⟨o + (⟨r.val - o, by omega⟩ : Fin n).val, hlt⟩ := Fin.ext (show r.val = o + (r.val - o) by omega)
      rw [e, st a hd o n hh ho inb X w L ⟨r.val - o, by omega⟩ d, st a hd o n hh ho inb X' w L ⟨r.val - o, by omega⟩ d]
  · rw [st_head a hd o n inb X w L h r d h1, st_head a hd o n inb X' w L h r d h1]; exact hL X X' h r d

theorem cov16 (a : Memref sig .tc .vmem S2x2048x128 .f32) (w0_0 w0_1 w1_0 w1_1 w2_0 w2_1 w3_0 w3_1 w4_0 w4_1 w5_0 w5_1 w6_0 w6_1 w7_0 w7_1 : Vec Ideal S1x256x128 .f32) : Cov a [⟨Rect.unit (s := S2x2048x128) ![1, 1792, 0] S1x256x128.size inb_S2x2048x128_S1x256x128_1_1792_0, w7_1⟩, ⟨Rect.unit (s := S2x2048x128) ![0, 1792, 0] S1x256x128.size inb_S2x2048x128_S1x256x128_0_1792_0, w7_0⟩, ⟨Rect.unit (s := S2x2048x128) ![1, 1536, 0] S1x256x128.size inb_S2x2048x128_S1x256x128_1_1536_0, w6_1⟩, ⟨Rect.unit (s := S2x2048x128) ![0, 1536, 0] S1x256x128.size inb_S2x2048x128_S1x256x128_0_1536_0, w6_0⟩, ⟨Rect.unit (s := S2x2048x128) ![1, 1280, 0] S1x256x128.size inb_S2x2048x128_S1x256x128_1_1280_0, w5_1⟩, ⟨Rect.unit (s := S2x2048x128) ![0, 1280, 0] S1x256x128.size inb_S2x2048x128_S1x256x128_0_1280_0, w5_0⟩, ⟨Rect.unit (s := S2x2048x128) ![1, 1024, 0] S1x256x128.size inb_S2x2048x128_S1x256x128_1_1024_0, w4_1⟩, ⟨Rect.unit (s := S2x2048x128) ![0, 1024, 0] S1x256x128.size inb_S2x2048x128_S1x256x128_0_1024_0, w4_0⟩, ⟨Rect.unit (s := S2x2048x128) ![1, 768, 0] S1x256x128.size inb_S2x2048x128_S1x256x128_1_768_0, w3_1⟩, ⟨Rect.unit (s := S2x2048x128) ![0, 768, 0] S1x256x128.size inb_S2x2048x128_S1x256x128_0_768_0, w3_0⟩, ⟨Rect.unit (s := S2x2048x128) ![1, 512, 0] S1x256x128.size inb_S2x2048x128_S1x256x128_1_512_0, w2_1⟩, ⟨Rect.unit (s := S2x2048x128) ![0, 512, 0] S1x256x128.size inb_S2x2048x128_S1x256x128_0_512_0, w2_0⟩, ⟨Rect.unit (s := S2x2048x128) ![1, 256, 0] S1x256x128.size inb_S2x2048x128_S1x256x128_1_256_0, w1_1⟩, ⟨Rect.unit (s := S2x2048x128) ![0, 256, 0] S1x256x128.size inb_S2x2048x128_S1x256x128_0_256_0, w1_0⟩, ⟨Rect.unit (s := S2x2048x128) ![1, 0, 0] S1x256x128.size inb_S2x2048x128_S1x256x128_1_0_0, w0_1⟩, ⟨Rect.unit (s := S2x2048x128) ![0, 0, 0] S1x256x128.size inb_S2x2048x128_S1x256x128_0_0_0, w0_0⟩] := by
  intro X X' h r d
  obtain ⟨b, s, hb, hbs⟩ : ∃ (b : ℕ) (s : Fin 256), b < 8 ∧ r.val = 256 * b + s.val := ⟨r.val / 256, ⟨r.val % 256, by omega⟩, by omega, show r.val = 256 * (r.val / 256) + r.val % 256 by omega⟩
  have hlt : 256 * b + s.val < 2048 := by rw [← hbs]; exact r.isLt
  obtain rfl : r = ⟨256 * b + s.val, hlt⟩ := Fin.ext hbs
  clear hbs
  interval_cases b
  · have R := rd0 a X w0_0 w0_1 w1_0 w1_1 w2_0 w2_1 w3_0 w3_1 w4_0 w4_1 w5_0 w5_1 w6_0 w6_1 w7_0 w7_1 s d
    have R' := rd0 a X' w0_0 w0_1 w1_0 w1_1 w2_0 w2_1 w3_0 w3_1 w4_0 w4_1 w5_0 w5_1 w6_0 w6_1 w7_0 w7_1 s d
    match h with
    | 0 => exact R.1.trans R'.1.symm
    | 1 => exact R.2.trans R'.2.symm
  · have R := rd1 a X w0_0 w0_1 w1_0 w1_1 w2_0 w2_1 w3_0 w3_1 w4_0 w4_1 w5_0 w5_1 w6_0 w6_1 w7_0 w7_1 s d
    have R' := rd1 a X' w0_0 w0_1 w1_0 w1_1 w2_0 w2_1 w3_0 w3_1 w4_0 w4_1 w5_0 w5_1 w6_0 w6_1 w7_0 w7_1 s d
    match h with
    | 0 => exact R.1.trans R'.1.symm
    | 1 => exact R.2.trans R'.2.symm
  · have R := rd2 a X w0_0 w0_1 w1_0 w1_1 w2_0 w2_1 w3_0 w3_1 w4_0 w4_1 w5_0 w5_1 w6_0 w6_1 w7_0 w7_1 s d
    have R' := rd2 a X' w0_0 w0_1 w1_0 w1_1 w2_0 w2_1 w3_0 w3_1 w4_0 w4_1 w5_0 w5_1 w6_0 w6_1 w7_0 w7_1 s d
    match h with
    | 0 => exact R.1.trans R'.1.symm
    | 1 => exact R.2.trans R'.2.symm
  · have R := rd3 a X w0_0 w0_1 w1_0 w1_1 w2_0 w2_1 w3_0 w3_1 w4_0 w4_1 w5_0 w5_1 w6_0 w6_1 w7_0 w7_1 s d
    have R' := rd3 a X' w0_0 w0_1 w1_0 w1_1 w2_0 w2_1 w3_0 w3_1 w4_0 w4_1 w5_0 w5_1 w6_0 w6_1 w7_0 w7_1 s d
    match h with
    | 0 => exact R.1.trans R'.1.symm
    | 1 => exact R.2.trans R'.2.symm
  · have R := rd4 a X w0_0 w0_1 w1_0 w1_1 w2_0 w2_1 w3_0 w3_1 w4_0 w4_1 w5_0 w5_1 w6_0 w6_1 w7_0 w7_1 s d
    have R' := rd4 a X' w0_0 w0_1 w1_0 w1_1 w2_0 w2_1 w3_0 w3_1 w4_0 w4_1 w5_0 w5_1 w6_0 w6_1 w7_0 w7_1 s d
    match h with
    | 0 => exact R.1.trans R'.1.symm
    | 1 => exact R.2.trans R'.2.symm
  · have R := rd5 a X w0_0 w0_1 w1_0 w1_1 w2_0 w2_1 w3_0 w3_1 w4_0 w4_1 w5_0 w5_1 w6_0 w6_1 w7_0 w7_1 s d
    have R' := rd5 a X' w0_0 w0_1 w1_0 w1_1 w2_0 w2_1 w3_0 w3_1 w4_0 w4_1 w5_0 w5_1 w6_0 w6_1 w7_0 w7_1 s d
    match h with
    | 0 => exact R.1.trans R'.1.symm
    | 1 => exact R.2.trans R'.2.symm
  · have R := rd6 a X w0_0 w0_1 w1_0 w1_1 w2_0 w2_1 w3_0 w3_1 w4_0 w4_1 w5_0 w5_1 w6_0 w6_1 w7_0 w7_1 s d
    have R' := rd6 a X' w0_0 w0_1 w1_0 w1_1 w2_0 w2_1 w3_0 w3_1 w4_0 w4_1 w5_0 w5_1 w6_0 w6_1 w7_0 w7_1 s d
    match h with
    | 0 => exact R.1.trans R'.1.symm
    | 1 => exact R.2.trans R'.2.symm
  · have R := rd7 a X w0_0 w0_1 w1_0 w1_1 w2_0 w2_1 w3_0 w3_1 w4_0 w4_1 w5_0 w5_1 w6_0 w6_1 w7_0 w7_1 s d
    have R' := rd7 a X' w0_0 w0_1 w1_0 w1_1 w2_0 w2_1 w3_0 w3_1 w4_0 w4_1 w5_0 w5_1 w6_0 w6_1 w7_0 w7_1 s d
    match h with
    | 0 => exact R.1.trans R'.1.symm
    | 1 => exact R.2.trans R'.2.symm

theorem near_first (a8 a9 : Memref sig .tc .vmem S2x2048x128 .f32) (X8 X9 J8 J9) (L8 L9) (h8 : Cov a8 L8) (h9 : Cov a9 L9)
    (hg : Good v14 v21 x4 x5 G (lv0 G) (a8.view.read (Elt Ideal) (a8.view.writes (Elt Ideal) X8 L8)) (a9.view.read (Elt Ideal) (a9.view.writes (Elt Ideal) X9 L9)))
    (z L : ℕ) (hz : z = L) (hL : L + 1 = G) (hL' : L + 1 ≤ 32) (v23 : FVec Ideal S256x256 .bf16) (hgt : ∀ i j, v23 (ix2 i j) = tri i.val j.val)
    (kb vb : Vec Ideal S1x256x128 .bf16) (hkb : ∀ (j : Fin 256) k, kb (ix3 0 j k) = x4 (ix3 0 ⟨256 * L + j.val, by omega⟩ k)) (hvb : ∀ (j : Fin 256) d, vb (ix3 0 j d) = x5 (ix3 0 ⟨256 * L + j.val, by omega⟩ d))
    (inb0 inb1) (a0 c0 a1 c1 : Vec Ideal S1x256x128 .f32) (i0 i1)
    (ea0 : a0 = View.readAt (Elt Ideal) a8.view (Rect.unit (s := S2x2048x128) ![0, 0, 0] S1x256x128.size i0).toLoadRect (a8.view.writes (Elt Ideal) J8 L8))
    (ec0 : c0 = View.readAt (Elt Ideal) a9.view (Rect.unit (s := S2x2048x128) ![0, 0, 0] S1x256x128.size i0).toLoadRect (a9.view.writes (Elt Ideal) J9 L9))
    (ea1 : a1 = View.readAt (Elt Ideal) a8.view (Rect.unit (s := S2x2048x128) ![1, 0, 0] S1x256x128.size i1).toLoadRect (a8.view.writes (Elt Ideal) J8 (⟨Rect.unit (s := S2x2048x128) ![0, 0, 0] S1x256x128.size inb0, k0_pay158 (k0_pay10 v14 v21 v23 kb c0 c1 vb) a0⟩ :: L8)))
    (ec1 : c1 = View.readAt (Elt Ideal) a9.view (Rect.unit (s := S2x2048x128) ![1, 0, 0] S1x256x128.size i1).toLoadRect (a9.view.writes (Elt Ideal) J9 L9)) :
    Good v14 v21 x4 x5 G (lvT z G 8)
      (a8.view.read (Elt Ideal) (a8.view.writes (Elt Ideal) X8 (⟨Rect.unit (s := S2x2048x128) ![1, 0, 0] S1x256x128.size inb1, k0_pay160 (k0_pay10 v14 v21 v23 kb c0 c1 vb) a1⟩ ::
        ⟨Rect.unit (s := S2x2048x128) ![0, 0, 0] S1x256x128.size inb0, k0_pay158 (k0_pay10 v14 v21 v23 kb c0 c1 vb) a0⟩ :: L8)))
      (a9.view.read (Elt Ideal) (a9.view.writes (Elt Ideal) X9 (⟨Rect.unit (s := S2x2048x128) ![1, 0, 0] S1x256x128.size inb1, k0_pay161 (k0_pay11 v14 v21 v23 kb c0 c1)⟩ ::
        ⟨Rect.unit (s := S2x2048x128) ![0, 0, 0] S1x256x128.size inb0, k0_pay159 (k0_pay11 v14 v21 v23 kb c0 c1)⟩ :: L9))) :=
  near_put a8 a9 (a8.view.writes (Elt Ideal) X8 L8) (a9.view.writes (Elt Ideal) X9 L9) hg (lvT z G 8) L (by omega) hL'
    (fun b h1 h2 => by unfold lv0 lvT; rw [if_pos (by omega), if_pos (by omega)]; omega)
    (fun b h1 h2 => by unfold lv0 lvT; rw [if_neg (by omega), if_neg (by omega)]; omega) v23 hgt kb vb hkb hvb inb0 inb1 a0 c0 a1 c1
    (fun r d => (congrFun ea0 _).trans ((ld a8 0 0 256 (by omega) (by omega) i0 _ r d).trans (h8 _ _ _ _ _)))
    (fun r d => (congrFun ec0 _).trans ((ld a9 0 0 256 (by omega) (by omega) i0 _ r d).trans (h9 _ _ _ _ _)))
    (fun r d => (congrFun ea1 _).trans ((ld a8 1 0 256 (by omega) (by omega) i1 _ r d).trans ((st_head a8 0 0 256 inb0 _ _ _ _ _ _ (show (1 : ℕ) ≠ 0 by decide)).trans (h8 _ _ _ _ _))))
    (fun r d => (congrFun ec1 _).trans ((ld a9 1 0 256 (by omega) (by omega) i1 _ r d).trans (h9 _ _ _ _ _)))

theorem far1792_tile (a8 a9 : Memref sig .tc .vmem S2x2048x128 .f32) (X8 X9) (z : ℕ) (hg : Good v14 v21 x4 x5 G (lvT z G 8) (a8.view.read (Elt Ideal) X8) (a9.view.read (Elt Ideal) X9))
    (c : Prop) [Decidable c] (L : ℕ) (hG : G + 8 ≤ 32) (hL : c → L + 2 = G + 7) (hL' : L + 1 ≤ 32) (v23 : FVec Ideal S256x256 .bf16) (hgt : ∀ i j, v23 (ix2 i j) = tri i.val j.val)
    (kb vb : c → Vec Ideal S1x256x128 .bf16) (hkb : ∀ hc (j : Fin 256) k, kb hc (ix3 0 j k) = x4 (ix3 0 ⟨256 * L + j.val, by omega⟩ k)) (hvb : ∀ hc (j : Fin 256) d, vb hc (ix3 0 j d) = x5 (ix3 0 ⟨256 * L + j.val, by omega⟩ d))
    (hd : ¬ c → (∀ b, 7 ≤ b → b < 8 → Dead v14 v21 x4 G b (G + (b - 1))) ∨ (7 = 1 ∧ G = 0))
    (inb0 inb1) (a0 c0 a1 c1 : c → Vec Ideal S1x256x128 .f32)
    (ea0 : ∀ hc (r : Fin 256) (d : Fin 128), a0 hc (ix3 (0 : Fin 1) r d) = a8.view.read (Elt Ideal) X8 (ix3 0 ⟨1792 + r.val, by omega⟩ d))
    (ec0 : ∀ hc (r : Fin 256) (d : Fin 128), c0 hc (ix3 (0 : Fin 1) r d) = a9.view.read (Elt Ideal) X9 (ix3 0 ⟨1792 + r.val, by omega⟩ d))
    (ea1 : ∀ hc (r : Fin 256) (d : Fin 128), a1 hc (ix3 (0 : Fin 1) r d) = a8.view.read (Elt Ideal) X8 (ix3 1 ⟨1792 + r.val, by omega⟩ d))
    (ec1 : ∀ hc (r : Fin 256) (d : Fin 128), c1 hc (ix3 (0 : Fin 1) r d) = a9.view.read (Elt Ideal) X9 (ix3 1 ⟨1792 + r.val, by omega⟩ d)) :
    Good v14 v21 x4 x5 G (lvT z G 7)
      (a8.view.read (Elt Ideal) (if hc : c then a8.view.writes (Elt Ideal) X8 [⟨Rect.unit (s := S2x2048x128) ![1, 1792, 0] S1x256x128.size inb1, k0_pay165 (k0_pay14 v14 v21 v23 (kb hc) (c0 hc) (c1 hc) (vb hc)) (a1 hc)⟩,
        ⟨Rect.unit (s := S2x2048x128) ![0, 1792, 0] S1x256x128.size inb0, k0_pay163 (k0_pay14 v14 v21 v23 (kb hc) (c0 hc) (c1 hc) (vb hc)) (a0 hc)⟩] else X8))
      (a9.view.read (Elt Ideal) (if hc : c then a9.view.writes (Elt Ideal) X9 [⟨Rect.unit (s := S2x2048x128) ![1, 1792, 0] S1x256x128.size inb1, k0_pay166 (k0_pay15 v14 v21 v23 (kb hc) (c0 hc) (c1 hc))⟩,
        ⟨Rect.unit (s := S2x2048x128) ![0, 1792, 0] S1x256x128.size inb0, k0_pay164 (k0_pay15 v14 v21 v23 (kb hc) (c0 hc) (c1 hc))⟩] else X9)) := by
  refine Good.either a8 a9 hg (fun hc => far1792_put a8 a9 X8 X9 hg (lvT z G 7) L (by have := hL hc; omega) hL' (fun b h1 h2 => ?_) (fun b h1 h2 => ?_) v23 hgt (kb hc) (vb hc) (hkb hc) (hvb hc) inb0 inb1 (a0 hc) (c0 hc) (a1 hc) (c1 hc)
    (ea0 hc) (ec0 hc) (ea1 hc) (ec1 hc)) (fun hc => Good.skip hg fun b hb => ?_)
  · have := hL hc
    unfold lvT; rw [if_neg (by omega), if_neg (by omega)]; omega
  · unfold lvT
    by_cases h3 : b = 0
    · rw [if_pos h3, if_pos h3]
    · rw [if_neg h3, if_neg h3]; omega
  · by_cases h3 : b < 7
    · left; unfold lvT
      by_cases h4 : b = 0
      · rw [if_pos h4, if_pos h4]
      · rw [if_neg h4, if_neg h4]; omega
    · rcases hd hc with hd | ⟨h5, h6⟩
      · right
        refine ⟨?_, G + (b - 1), ?_, by omega, hd b (by omega) hb⟩
        · unfold lvT; rw [if_neg (by omega), if_neg (by omega)]; omega
        · unfold lvT; rw [if_neg (by omega)]; omega
      · exact absurd h5 (by decide)

theorem far1792_first (a8 a9 : Memref sig .tc .vmem S2x2048x128 .f32) (X8 X9 J8 J9) (L8 L9) (h8 : Cov a8 L8) (h9 : Cov a9 L9) (z : ℕ)
    (hg : Good v14 v21 x4 x5 G (lvT z G 8) (a8.view.read (Elt Ideal) (a8.view.writes (Elt Ideal) X8 L8)) (a9.view.read (Elt Ideal) (a9.view.writes (Elt Ideal) X9 L9)))
    (c : Prop) [Decidable c] (L : ℕ) (hG : G + 8 ≤ 32) (hL : c → L + 2 = G + 7) (hL' : L + 1 ≤ 32) (v23 : FVec Ideal S256x256 .bf16) (hgt : ∀ i j, v23 (ix2 i j) = tri i.val j.val)
    (kb vb : c → Vec Ideal S1x256x128 .bf16) (hkb : ∀ hc (j : Fin 256) k, kb hc (ix3 0 j k) = x4 (ix3 0 ⟨256 * L + j.val, by omega⟩ k)) (hvb : ∀ hc (j : Fin 256) d, vb hc (ix3 0 j d) = x5 (ix3 0 ⟨256 * L + j.val, by omega⟩ d))
    (hd : ¬ c → (∀ b, 7 ≤ b → b < 8 → Dead v14 v21 x4 G b (G + (b - 1))) ∨ (7 = 1 ∧ G = 0))
    (inb0 inb1) (a0 c0 a1 c1 : c → Vec Ideal S1x256x128 .f32) (i0 i1)
    (ea0 : ∀ hc, a0 hc = View.readAt (Elt Ideal) a8.view (Rect.unit (s := S2x2048x128) ![0, 1792, 0] S1x256x128.size i0).toLoadRect (a8.view.writes (Elt Ideal) J8 L8))
    (ec0 : ∀ hc, c0 hc = View.readAt (Elt Ideal) a9.view (Rect.unit (s := S2x2048x128) ![0, 1792, 0] S1x256x128.size i0).toLoadRect (a9.view.writes (Elt Ideal) J9 L9))
    (ea1 : ∀ hc, a1 hc = View.readAt (Elt Ideal) a8.view (Rect.unit (s := S2x2048x128) ![1, 1792, 0] S1x256x128.size i1).toLoadRect (a8.view.writes (Elt Ideal) J8 (⟨Rect.unit (s := S2x2048x128) ![0, 1792, 0] S1x256x128.size inb0, k0_pay163 (k0_pay14 v14 v21 v23 (kb hc) (c0 hc) (c1 hc) (vb hc)) (a0 hc)⟩ :: L8)))
    (ec1 : ∀ hc, c1 hc = View.readAt (Elt Ideal) a9.view (Rect.unit (s := S2x2048x128) ![1, 1792, 0] S1x256x128.size i1).toLoadRect (a9.view.writes (Elt Ideal) J9 L9)) :
    Good v14 v21 x4 x5 G (lvT z G 7)
      (a8.view.read (Elt Ideal) (if hc : c then a8.view.writes (Elt Ideal) X8 (⟨Rect.unit (s := S2x2048x128) ![1, 1792, 0] S1x256x128.size inb1, k0_pay165 (k0_pay14 v14 v21 v23 (kb hc) (c0 hc) (c1 hc) (vb hc)) (a1 hc)⟩ :: ⟨Rect.unit (s := S2x2048x128) ![0, 1792, 0] S1x256x128.size inb0, k0_pay163 (k0_pay14 v14 v21 v23 (kb hc) (c0 hc) (c1 hc) (vb hc)) (a0 hc)⟩ :: L8) else a8.view.writes (Elt Ideal) X8 L8))
      (a9.view.read (Elt Ideal) (if hc : c then a9.view.writes (Elt Ideal) X9 (⟨Rect.unit (s := S2x2048x128) ![1, 1792, 0] S1x256x128.size inb1, k0_pay166 (k0_pay15 v14 v21 v23 (kb hc) (c0 hc) (c1 hc))⟩ :: ⟨Rect.unit (s := S2x2048x128) ![0, 1792, 0] S1x256x128.size inb0, k0_pay164 (k0_pay15 v14 v21 v23 (kb hc) (c0 hc) (c1 hc))⟩ :: L9) else a9.view.writes (Elt Ideal) X9 L9)) :=
  far1792_tile a8 a9 (a8.view.writes (Elt Ideal) X8 L8) (a9.view.writes (Elt Ideal) X9 L9) z hg c L hG hL hL' v23 hgt kb vb hkb hvb hd inb0 inb1 a0 c0 a1 c1
    (fun hc r d => (congrFun (ea0 hc) _).trans ((ld a8 0 1792 256 (by omega) (by omega) i0 _ r d).trans (h8 _ _ _ _ _)))
    (fun hc r d => (congrFun (ec0 hc) _).trans ((ld a9 0 1792 256 (by omega) (by omega) i0 _ r d).trans (h9 _ _ _ _ _)))
    (fun hc r d => (congrFun (ea1 hc) _).trans ((ld a8 1 1792 256 (by omega) (by omega) i1 _ r d).trans ((st_head a8 0 1792 256 inb0 _ _ _ _ _ _ (show (1 : ℕ) ≠ 0 by decide)).trans (h8 _ _ _ _ _))))
    (fun hc r d => (congrFun (ec1 hc) _).trans ((ld a9 1 1792 256 (by omega) (by omega) i1 _ r d).trans (h9 _ _ _ _ _)))

theorem far1536_tile (a8 a9 : Memref sig .tc .vmem S2x2048x128 .f32) (X8 X9) (z : ℕ) (hg : Good v14 v21 x4 x5 G (lvT z G 7) (a8.view.read (Elt Ideal) X8) (a9.view.read (Elt Ideal) X9))
    (c : Prop) [Decidable c] (L : ℕ) (hG : G + 8 ≤ 32) (hL : c → L + 2 = G + 6) (hL' : L + 1 ≤ 32) (v23 : FVec Ideal S256x256 .bf16) (hgt : ∀ i j, v23 (ix2 i j) = tri i.val j.val)
    (kb vb : c → Vec Ideal S1x256x128 .bf16) (hkb : ∀ hc (j : Fin 256) k, kb hc (ix3 0 j k) = x4 (ix3 0 ⟨256 * L + j.val, by omega⟩ k)) (hvb : ∀ hc (j : Fin 256) d, vb hc (ix3 0 j d) = x5 (ix3 0 ⟨256 * L + j.val, by omega⟩ d))
    (hd : ¬ c → (∀ b, 6 ≤ b → b < 8 → Dead v14 v21 x4 G b (G + (b - 1))) ∨ (6 = 1 ∧ G = 0))
    (inb0 inb1) (a0 c0 a1 c1 : c → Vec Ideal S1x512x128 .f32)
    (ea0 : ∀ hc (r : Fin 512) (d : Fin 128), a0 hc (ix3 (0 : Fin 1) r d) = a8.view.read (Elt Ideal) X8 (ix3 0 ⟨1536 + r.val, by omega⟩ d))
    (ec0 : ∀ hc (r : Fin 512) (d : Fin 128), c0 hc (ix3 (0 : Fin 1) r d) = a9.view.read (Elt Ideal) X9 (ix3 0 ⟨1536 + r.val, by omega⟩ d))
    (ea1 : ∀ hc (r : Fin 512) (d : Fin 128), a1 hc (ix3 (0 : Fin 1) r d) = a8.view.read (Elt Ideal) X8 (ix3 1 ⟨1536 + r.val, by omega⟩ d))
    (ec1 : ∀ hc (r : Fin 512) (d : Fin 128), c1 hc (ix3 (0 : Fin 1) r d) = a9.view.read (Elt Ideal) X9 (ix3 1 ⟨1536 + r.val, by omega⟩ d)) :
    Good v14 v21 x4 x5 G (lvT z G 6)
      (a8.view.read (Elt Ideal) (if hc : c then a8.view.writes (Elt Ideal) X8 [⟨Rect.unit (s := S2x2048x128) ![1, 1536, 0] S1x512x128.size inb1, k0_pay170 (k0_pay18 v14 v21 v23 (kb hc) (c0 hc) (c1 hc) (vb hc)) (a1 hc)⟩,
        ⟨Rect.unit (s := S2x2048x128) ![0, 1536, 0] S1x512x128.size inb0, k0_pay168 (k0_pay18 v14 v21 v23 (kb hc) (c0 hc) (c1 hc) (vb hc)) (a0 hc)⟩] else X8))
      (a9.view.read (Elt Ideal) (if hc : c then a9.view.writes (Elt Ideal) X9 [⟨Rect.unit (s := S2x2048x128) ![1, 1536, 0] S1x512x128.size inb1, k0_pay171 (k0_pay19 v14 v21 v23 (kb hc) (c0 hc) (c1 hc))⟩,
        ⟨Rect.unit (s := S2x2048x128) ![0, 1536, 0] S1x512x128.size inb0, k0_pay169 (k0_pay19 v14 v21 v23 (kb hc) (c0 hc) (c1 hc))⟩] else X9)) := by
  refine Good.either a8 a9 hg (fun hc => far1536_put a8 a9 X8 X9 hg (lvT z G 6) L (by have := hL hc; omega) hL' (fun b h1 h2 => ?_) (fun b h1 h2 => ?_) v23 hgt (kb hc) (vb hc) (hkb hc) (hvb hc) inb0 inb1 (a0 hc) (c0 hc) (a1 hc) (c1 hc)
    (ea0 hc) (ec0 hc) (ea1 hc) (ec1 hc)) (fun hc => Good.skip hg fun b hb => ?_)
  · have := hL hc
    unfold lvT; rw [if_neg (by omega), if_neg (by omega)]; omega
  · unfold lvT
    by_cases h3 : b = 0
    · rw [if_pos h3, if_pos h3]
    · rw [if_neg h3, if_neg h3]; omega
  · by_cases h3 : b < 6
    · left; unfold lvT
      by_cases h4 : b = 0
      · rw [if_pos h4, if_pos h4]
      · rw [if_neg h4, if_neg h4]; omega
    · rcases hd hc with hd | ⟨h5, h6⟩
      · right
        refine ⟨?_, G + (b - 1), ?_, by omega, hd b (by omega) hb⟩
        · unfold lvT; rw [if_neg (by omega), if_neg (by omega)]; omega
        · unfold lvT; rw [if_neg (by omega)]; omega
      · exact absurd h5 (by decide)

theorem far1280_tile (a8 a9 : Memref sig .tc .vmem S2x2048x128 .f32) (X8 X9) (z : ℕ) (hg : Good v14 v21 x4 x5 G (lvT z G 6) (a8.view.read (Elt Ideal) X8) (a9.view.read (Elt Ideal) X9))
    (c : Prop) [Decidable c] (L : ℕ) (hG : G + 8 ≤ 32) (hL : c → L + 2 = G + 5) (hL' : L + 1 ≤ 32) (v23 : FVec Ideal S256x256 .bf16) (hgt : ∀ i j, v23 (ix2 i j) = tri i.val j.val)
    (kb vb : c → Vec Ideal S1x256x128 .bf16) (hkb : ∀ hc (j : Fin 256) k, kb hc (ix3 0 j k) = x4 (ix3 0 ⟨256 * L + j.val, by omega⟩ k)) (hvb : ∀ hc (j : Fin 256) d, vb hc (ix3 0 j d) = x5 (ix3 0 ⟨256 * L + j.val, by omega⟩ d))
    (hd : ¬ c → (∀ b, 5 ≤ b → b < 8 → Dead v14 v21 x4 G b (G + (b - 1))) ∨ (5 = 1 ∧ G = 0))
    (inb0 inb1) (a0 c0 a1 c1 : c → Vec Ideal S1x768x128 .f32)
    (ea0 : ∀ hc (r : Fin 768) (d : Fin 128), a0 hc (ix3 (0 : Fin 1) r d) = a8.view.read (Elt Ideal) X8 (ix3 0 ⟨1280 + r.val, by omega⟩ d))
    (ec0 : ∀ hc (r : Fin 768) (d : Fin 128), c0 hc (ix3 (0 : Fin 1) r d) = a9.view.read (Elt Ideal) X9 (ix3 0 ⟨1280 + r.val, by omega⟩ d))
    (ea1 : ∀ hc (r : Fin 768) (d : Fin 128), a1 hc (ix3 (0 : Fin 1) r d) = a8.view.read (Elt Ideal) X8 (ix3 1 ⟨1280 + r.val, by omega⟩ d))
    (ec1 : ∀ hc (r : Fin 768) (d : Fin 128), c1 hc (ix3 (0 : Fin 1) r d) = a9.view.read (Elt Ideal) X9 (ix3 1 ⟨1280 + r.val, by omega⟩ d)) :
    Good v14 v21 x4 x5 G (lvT z G 5)
      (a8.view.read (Elt Ideal) (if hc : c then a8.view.writes (Elt Ideal) X8 [⟨Rect.unit (s := S2x2048x128) ![1, 1280, 0] S1x768x128.size inb1, k0_pay175 (k0_pay22 v14 v21 v23 (kb hc) (c0 hc) (c1 hc) (vb hc)) (a1 hc)⟩,
        ⟨Rect.unit (s := S2x2048x128) ![0, 1280, 0] S1x768x128.size inb0, k0_pay173 (k0_pay22 v14 v21 v23 (kb hc) (c0 hc) (c1 hc) (vb hc)) (a0 hc)⟩] else X8))
      (a9.view.read (Elt Ideal) (if hc : c then a9.view.writes (Elt Ideal) X9 [⟨Rect.unit (s := S2x2048x128) ![1, 1280, 0] S1x768x128.size inb1, k0_pay176 (k0_pay23 v14 v21 v23 (kb hc) (c0 hc) (c1 hc))⟩,
        ⟨Rect.unit (s := S2x2048x128) ![0, 1280, 0] S1x768x128.size inb0, k0_pay174 (k0_pay23 v14 v21 v23 (kb hc) (c0 hc) (c1 hc))⟩] else X9)) := by
  refine Good.either a8 a9 hg (fun hc => far1280_put a8 a9 X8 X9 hg (lvT z G 5) L (by have := hL hc; omega) hL' (fun b h1 h2 => ?_) (fun b h1 h2 => ?_) v23 hgt (kb hc) (vb hc) (hkb hc) (hvb hc) inb0 inb1 (a0 hc) (c0 hc) (a1 hc) (c1 hc)
    (ea0 hc) (ec0 hc) (ea1 hc) (ec1 hc)) (fun hc => Good.skip hg fun b hb => ?_)
  · have := hL hc
    unfold lvT; rw [if_neg (by omega), if_neg (by omega)]; omega
  · unfold lvT
    by_cases h3 : b = 0
    · rw [if_pos h3, if_pos h3]
    · rw [if_neg h3, if_neg h3]; omega
  · by_cases h3 : b < 5
    · left; unfold lvT
      by_cases h4 : b = 0
      · rw [if_pos h4, if_pos h4]
      · rw [if_neg h4, if_neg h4]; omega
    · rcases hd hc with hd | ⟨h5, h6⟩
      · right
        refine ⟨?_, G + (b - 1), ?_, by omega, hd b (by omega) hb⟩
        · unfold lvT; rw [if_neg (by omega), if_neg (by omega)]; omega
        · unfold lvT; rw [if_neg (by omega)]; omega
      · exact absurd h5 (by decide)

theorem far1024_tile (a8 a9 : Memref sig .tc .vmem S2x2048x128 .f32) (X8 X9) (z : ℕ) (hg : Good v14 v21 x4 x5 G (lvT z G 5) (a8.view.read (Elt Ideal) X8) (a9.view.read (Elt Ideal) X9))
    (c : Prop) [Decidable c] (L : ℕ) (hG : G + 8 ≤ 32) (hL : c → L + 2 = G + 4) (hL' : L + 1 ≤ 32) (v23 : FVec Ideal S256x256 .bf16) (hgt : ∀ i j, v23 (ix2 i j) = tri i.val j.val)
    (kb vb : c → Vec Ideal S1x256x128 .bf16) (hkb : ∀ hc (j : Fin 256) k, kb hc (ix3 0 j k) = x4 (ix3 0 ⟨256 * L + j.val, by omega⟩ k)) (hvb : ∀ hc (j : Fin 256) d, vb hc (ix3 0 j d) = x5 (ix3 0 ⟨256 * L + j.val, by omega⟩ d))
    (hd : ¬ c → (∀ b, 4 ≤ b → b < 8 → Dead v14 v21 x4 G b (G + (b - 1))) ∨ (4 = 1 ∧ G = 0))
    (inb0 inb1) (a0 c0 a1 c1 : c → Vec Ideal S1x1024x128 .f32)
    (ea0 : ∀ hc (r : Fin 1024) (d : Fin 128), a0 hc (ix3 (0 : Fin 1) r d) = a8.view.read (Elt Ideal) X8 (ix3 0 ⟨1024 + r.val, by omega⟩ d))
    (ec0 : ∀ hc (r : Fin 1024) (d : Fin 128), c0 hc (ix3 (0 : Fin 1) r d) = a9.view.read (Elt Ideal) X9 (ix3 0 ⟨1024 + r.val, by omega⟩ d))
    (ea1 : ∀ hc (r : Fin 1024) (d : Fin 128), a1 hc (ix3 (0 : Fin 1) r d) = a8.view.read (Elt Ideal) X8 (ix3 1 ⟨1024 + r.val, by omega⟩ d))
    (ec1 : ∀ hc (r : Fin 1024) (d : Fin 128), c1 hc (ix3 (0 : Fin 1) r d) = a9.view.read (Elt Ideal) X9 (ix3 1 ⟨1024 + r.val, by omega⟩ d)) :
    Good v14 v21 x4 x5 G (lvT z G 4)
      (a8.view.read (Elt Ideal) (if hc : c then a8.view.writes (Elt Ideal) X8 [⟨Rect.unit (s := S2x2048x128) ![1, 1024, 0] S1x1024x128.size inb1, k0_pay180 (k0_pay26 v14 v21 v23 (kb hc) (c0 hc) (c1 hc) (vb hc)) (a1 hc)⟩,
        ⟨Rect.unit (s := S2x2048x128) ![0, 1024, 0] S1x1024x128.size inb0, k0_pay178 (k0_pay26 v14 v21 v23 (kb hc) (c0 hc) (c1 hc) (vb hc)) (a0 hc)⟩] else X8))
      (a9.view.read (Elt Ideal) (if hc : c then a9.view.writes (Elt Ideal) X9 [⟨Rect.unit (s := S2x2048x128) ![1, 1024, 0] S1x1024x128.size inb1, k0_pay181 (k0_pay27 v14 v21 v23 (kb hc) (c0 hc) (c1 hc))⟩,
        ⟨Rect.unit (s := S2x2048x128) ![0, 1024, 0] S1x1024x128.size inb0, k0_pay179 (k0_pay27 v14 v21 v23 (kb hc) (c0 hc) (c1 hc))⟩] else X9)) := by
  refine Good.either a8 a9 hg (fun hc => far1024_put a8 a9 X8 X9 hg (lvT z G 4) L (by have := hL hc; omega) hL' (fun b h1 h2 => ?_) (fun b h1 h2 => ?_) v23 hgt (kb hc) (vb hc) (hkb hc) (hvb hc) inb0 inb1 (a0 hc) (c0 hc) (a1 hc) (c1 hc)
    (ea0 hc) (ec0 hc) (ea1 hc) (ec1 hc)) (fun hc => Good.skip hg fun b hb => ?_)
  · have := hL hc
    unfold lvT; rw [if_neg (by omega), if_neg (by omega)]; omega
  · unfold lvT
    by_cases h3 : b = 0
    · rw [if_pos h3, if_pos h3]
    · rw [if_neg h3, if_neg h3]; omega
  · by_cases h3 : b < 4
    · left; unfold lvT
      by_cases h4 : b = 0
      · rw [if_pos h4, if_pos h4]
      · rw [if_neg h4, if_neg h4]; omega
    · rcases hd hc with hd | ⟨h5, h6⟩
      · right
        refine ⟨?_, G + (b - 1), ?_, by omega, hd b (by omega) hb⟩
        · unfold lvT; rw [if_neg (by omega), if_neg (by omega)]; omega
        · unfold lvT; rw [if_neg (by omega)]; omega
      · exact absurd h5 (by decide)

theorem far768_tile (a8 a9 : Memref sig .tc .vmem S2x2048x128 .f32) (X8 X9) (z : ℕ) (hg : Good v14 v21 x4 x5 G (lvT z G 4) (a8.view.read (Elt Ideal) X8) (a9.view.read (Elt Ideal) X9))
    (c : Prop) [Decidable c] (L : ℕ) (hG : G + 8 ≤ 32) (hL : c → L + 2 = G + 3) (hL' : L + 1 ≤ 32) (v23 : FVec Ideal S256x256 .bf16) (hgt : ∀ i j, v23 (ix2 i j) = tri i.val j.val)
    (kb vb : c → Vec Ideal S1x256x128 .bf16) (hkb : ∀ hc (j : Fin 256) k, kb hc (ix3 0 j k) = x4 (ix3 0 ⟨256 * L + j.val, by omega⟩ k)) (hvb : ∀ hc (j : Fin 256) d, vb hc (ix3 0 j d) = x5 (ix3 0 ⟨256 * L + j.val, by omega⟩ d))
    (hd : ¬ c → (∀ b, 3 ≤ b → b < 8 → Dead v14 v21 x4 G b (G + (b - 1))) ∨ (3 = 1 ∧ G = 0))
    (inb0 inb1) (a0 c0 a1 c1 : c → Vec Ideal S1x1280x128 .f32)
    (ea0 : ∀ hc (r : Fin 1280) (d : Fin 128), a0 hc (ix3 (0 : Fin 1) r d) = a8.view.read (Elt Ideal) X8 (ix3 0 ⟨768 + r.val, by omega⟩ d))
    (ec0 : ∀ hc (r : Fin 1280) (d : Fin 128), c0 hc (ix3 (0 : Fin 1) r d) = a9.view.read (Elt Ideal) X9 (ix3 0 ⟨768 + r.val, by omega⟩ d))
    (ea1 : ∀ hc (r : Fin 1280) (d : Fin 128), a1 hc (ix3 (0 : Fin 1) r d) = a8.view.read (Elt Ideal) X8 (ix3 1 ⟨768 + r.val, by omega⟩ d))
    (ec1 : ∀ hc (r : Fin 1280) (d : Fin 128), c1 hc (ix3 (0 : Fin 1) r d) = a9.view.read (Elt Ideal) X9 (ix3 1 ⟨768 + r.val, by omega⟩ d)) :
    Good v14 v21 x4 x5 G (lvT z G 3)
      (a8.view.read (Elt Ideal) (if hc : c then a8.view.writes (Elt Ideal) X8 [⟨Rect.unit (s := S2x2048x128) ![1, 768, 0] S1x1280x128.size inb1, k0_pay185 (k0_pay30 v14 v21 v23 (kb hc) (c0 hc) (c1 hc) (vb hc)) (a1 hc)⟩,
        ⟨Rect.unit (s := S2x2048x128) ![0, 768, 0] S1x1280x128.size inb0, k0_pay183 (k0_pay30 v14 v21 v23 (kb hc) (c0 hc) (c1 hc) (vb hc)) (a0 hc)⟩] else X8))
      (a9.view.read (Elt Ideal) (if hc : c then a9.view.writes (Elt Ideal) X9 [⟨Rect.unit (s := S2x2048x128) ![1, 768, 0] S1x1280x128.size inb1, k0_pay186 (k0_pay31 v14 v21 v23 (kb hc) (c0 hc) (c1 hc))⟩,
        ⟨Rect.unit (s := S2x2048x128) ![0, 768, 0] S1x1280x128.size inb0, k0_pay184 (k0_pay31 v14 v21 v23 (kb hc) (c0 hc) (c1 hc))⟩] else X9)) := by
  refine Good.either a8 a9 hg (fun hc => far768_put a8 a9 X8 X9 hg (lvT z G 3) L (by have := hL hc; omega) hL' (fun b h1 h2 => ?_) (fun b h1 h2 => ?_) v23 hgt (kb hc) (vb hc) (hkb hc) (hvb hc) inb0 inb1 (a0 hc) (c0 hc) (a1 hc) (c1 hc)
    (ea0 hc) (ec0 hc) (ea1 hc) (ec1 hc)) (fun hc => Good.skip hg fun b hb => ?_)
  · have := hL hc
    unfold lvT; rw [if_neg (by omega), if_neg (by omega)]; omega
  · unfold lvT
    by_cases h3 : b = 0
    · rw [if_pos h3, if_pos h3]
    · rw [if_neg h3, if_neg h3]; omega
  · by_cases h3 : b < 3
    · left; unfold lvT
      by_cases h4 : b = 0
      · rw [if_pos h4, if_pos h4]
      · rw [if_neg h4, if_neg h4]; omega
    · rcases hd hc with hd | ⟨h5, h6⟩
      · right
        refine ⟨?_, G + (b - 1), ?_, by omega, hd b (by omega) hb⟩
        · unfold lvT; rw [if_neg (by omega), if_neg (by omega)]; omega
        · unfold lvT; rw [if_neg (by omega)]; omega
      · exact absurd h5 (by decide)

theorem far512_tile (a8 a9 : Memref sig .tc .vmem S2x2048x128 .f32) (X8 X9) (z : ℕ) (hg : Good v14 v21 x4 x5 G (lvT z G 3) (a8.view.read (Elt Ideal) X8) (a9.view.read (Elt Ideal) X9))
    (c : Prop) [Decidable c] (L : ℕ) (hG : G + 8 ≤ 32) (hL : c → L + 2 = G + 2) (hL' : L + 1 ≤ 32) (v23 : FVec Ideal S256x256 .bf16) (hgt : ∀ i j, v23 (ix2 i j) = tri i.val j.val)
    (kb vb : c → Vec Ideal S1x256x128 .bf16) (hkb : ∀ hc (j : Fin 256) k, kb hc (ix3 0 j k) = x4 (ix3 0 ⟨256 * L + j.val, by omega⟩ k)) (hvb : ∀ hc (j : Fin 256) d, vb hc (ix3 0 j d) = x5 (ix3 0 ⟨256 * L + j.val, by omega⟩ d))
    (hd : ¬ c → (∀ b, 2 ≤ b → b < 8 → Dead v14 v21 x4 G b (G + (b - 1))) ∨ (2 = 1 ∧ G = 0))
    (inb0 inb1) (a0 c0 a1 c1 : c → Vec Ideal S1x1536x128 .f32)
    (ea0 : ∀ hc (r : Fin 1536) (d : Fin 128), a0 hc (ix3 (0 : Fin 1) r d) = a8.view.read (Elt Ideal) X8 (ix3 0 ⟨512 + r.val, by omega⟩ d))
    (ec0 : ∀ hc (r : Fin 1536) (d : Fin 128), c0 hc (ix3 (0 : Fin 1) r d) = a9.view.read (Elt Ideal) X9 (ix3 0 ⟨512 + r.val, by omega⟩ d))
    (ea1 : ∀ hc (r : Fin 1536) (d : Fin 128), a1 hc (ix3 (0 : Fin 1) r d) = a8.view.read (Elt Ideal) X8 (ix3 1 ⟨512 + r.val, by omega⟩ d))
    (ec1 : ∀ hc (r : Fin 1536) (d : Fin 128), c1 hc (ix3 (0 : Fin 1) r d) = a9.view.read (Elt Ideal) X9 (ix3 1 ⟨512 + r.val, by omega⟩ d)) :
    Good v14 v21 x4 x5 G (lvT z G 2)
      (a8.view.read (Elt Ideal) (if hc : c then a8.view.writes (Elt Ideal) X8 [⟨Rect.unit (s := S2x2048x128) ![1, 512, 0] S1x1536x128.size inb1, k0_pay190 (k0_pay34 v14 v21 v23 (kb hc) (c0 hc) (c1 hc) (vb hc)) (a1 hc)⟩,
        ⟨Rect.unit (s := S2x2048x128) ![0, 512, 0] S1x1536x128.size inb0, k0_pay188 (k0_pay34 v14 v21 v23 (kb hc) (c0 hc) (c1 hc) (vb hc)) (a0 hc)⟩] else X8))
      (a9.view.read (Elt Ideal) (if hc : c then a9.view.writes (Elt Ideal) X9 [⟨Rect.unit (s := S2x2048x128) ![1, 512, 0] S1x1536x128.size inb1, k0_pay191 (k0_pay35 v14 v21 v23 (kb hc) (c0 hc) (c1 hc))⟩,
        ⟨Rect.unit (s := S2x2048x128) ![0, 512, 0] S1x1536x128.size inb0, k0_pay189 (k0_pay35 v14 v21 v23 (kb hc) (c0 hc) (c1 hc))⟩] else X9)) := by
  refine Good.either a8 a9 hg (fun hc => far512_put a8 a9 X8 X9 hg (lvT z G 2) L (by have := hL hc; omega) hL' (fun b h1 h2 => ?_) (fun b h1 h2 => ?_) v23 hgt (kb hc) (vb hc) (hkb hc) (hvb hc) inb0 inb1 (a0 hc) (c0 hc) (a1 hc) (c1 hc)
    (ea0 hc) (ec0 hc) (ea1 hc) (ec1 hc)) (fun hc => Good.skip hg fun b hb => ?_)
  · have := hL hc
    unfold lvT; rw [if_neg (by omega), if_neg (by omega)]; omega
  · unfold lvT
    by_cases h3 : b = 0
    · rw [if_pos h3, if_pos h3]
    · rw [if_neg h3, if_neg h3]; omega
  · by_cases h3 : b < 2
    · left; unfold lvT
      by_cases h4 : b = 0
      · rw [if_pos h4, if_pos h4]
      · rw [if_neg h4, if_neg h4]; omega
    · rcases hd hc with hd | ⟨h5, h6⟩
      · right
        refine ⟨?_, G + (b - 1), ?_, by omega, hd b (by omega) hb⟩
        · unfold lvT; rw [if_neg (by omega), if_neg (by omega)]; omega
        · unfold lvT; rw [if_neg (by omega)]; omega
      · exact absurd h5 (by decide)

theorem far256_tile (a8 a9 : Memref sig .tc .vmem S2x2048x128 .f32) (X8 X9) (z : ℕ) (hg : Good v14 v21 x4 x5 G (lvT z G 2) (a8.view.read (Elt Ideal) X8) (a9.view.read (Elt Ideal) X9))
    (c : Prop) [Decidable c] (L : ℕ) (hG : G + 8 ≤ 32) (hL : c → L + 2 = G + 1) (hL' : L + 1 ≤ 32) (v23 : FVec Ideal S256x256 .bf16) (hgt : ∀ i j, v23 (ix2 i j) = tri i.val j.val)
    (kb vb : c → Vec Ideal S1x256x128 .bf16) (hkb : ∀ hc (j : Fin 256) k, kb hc (ix3 0 j k) = x4 (ix3 0 ⟨256 * L + j.val, by omega⟩ k)) (hvb : ∀ hc (j : Fin 256) d, vb hc (ix3 0 j d) = x5 (ix3 0 ⟨256 * L + j.val, by omega⟩ d))
    (hd : ¬ c → (∀ b, 1 ≤ b → b < 8 → Dead v14 v21 x4 G b (G + (b - 1))) ∨ (1 = 1 ∧ G = 0))
    (inb0 inb1) (a0 c0 a1 c1 : c → Vec Ideal S1x1792x128 .f32)
    (ea0 : ∀ hc (r : Fin 1792) (d : Fin 128), a0 hc (ix3 (0 : Fin 1) r d) = a8.view.read (Elt Ideal) X8 (ix3 0 ⟨256 + r.val, by omega⟩ d))
    (ec0 : ∀ hc (r : Fin 1792) (d : Fin 128), c0 hc (ix3 (0 : Fin 1) r d) = a9.view.read (Elt Ideal) X9 (ix3 0 ⟨256 + r.val, by omega⟩ d))
    (ea1 : ∀ hc (r : Fin 1792) (d : Fin 128), a1 hc (ix3 (0 : Fin 1) r d) = a8.view.read (Elt Ideal) X8 (ix3 1 ⟨256 + r.val, by omega⟩ d))
    (ec1 : ∀ hc (r : Fin 1792) (d : Fin 128), c1 hc (ix3 (0 : Fin 1) r d) = a9.view.read (Elt Ideal) X9 (ix3 1 ⟨256 + r.val, by omega⟩ d)) :
    Good v14 v21 x4 x5 G (lvT z G 1)
      (a8.view.read (Elt Ideal) (if hc : c then a8.view.writes (Elt Ideal) X8 [⟨Rect.unit (s := S2x2048x128) ![1, 256, 0] S1x1792x128.size inb1, k0_pay196 (k0_pay38 v14 v21 v23 (kb hc) (c0 hc) (c1 hc) (vb hc)) (a1 hc)⟩,
        ⟨Rect.unit (s := S2x2048x128) ![0, 256, 0] S1x1792x128.size inb0, k0_pay194 (k0_pay38 v14 v21 v23 (kb hc) (c0 hc) (c1 hc) (vb hc)) (a0 hc)⟩] else X8))
      (a9.view.read (Elt Ideal) (if hc : c then a9.view.writes (Elt Ideal) X9 [⟨Rect.unit (s := S2x2048x128) ![1, 256, 0] S1x1792x128.size inb1, k0_pay197 (k0_pay39 v14 v21 v23 (kb hc) (c0 hc) (c1 hc))⟩,
        ⟨Rect.unit (s := S2x2048x128) ![0, 256, 0] S1x1792x128.size inb0, k0_pay195 (k0_pay39 v14 v21 v23 (kb hc) (c0 hc) (c1 hc))⟩] else X9)) := by
  refine Good.either a8 a9 hg (fun hc => far256_put a8 a9 X8 X9 hg (lvT z G 1) L (by have := hL hc; omega) hL' (fun b h1 h2 => ?_) (fun b h1 h2 => ?_) v23 hgt (kb hc) (vb hc) (hkb hc) (hvb hc) inb0 inb1 (a0 hc) (c0 hc) (a1 hc) (c1 hc)
    (ea0 hc) (ec0 hc) (ea1 hc) (ec1 hc)) (fun hc => Good.skip hg fun b hb => ?_)
  · have := hL hc
    unfold lvT; rw [if_neg (by omega), if_neg (by omega)]; omega
  · unfold lvT
    by_cases h3 : b = 0
    · rw [if_pos h3, if_pos h3]
    · rw [if_neg h3, if_neg h3]; omega
  · by_cases h3 : b < 1
    · left; unfold lvT
      by_cases h4 : b = 0
      · rw [if_pos h4, if_pos h4]
      · rw [if_neg h4, if_neg h4]; omega
    · rcases hd hc with hd | ⟨h5, h6⟩
      · right
        refine ⟨?_, G + (b - 1), ?_, by omega, hd b (by omega) hb⟩
        · unfold lvT; rw [if_neg (by omega), if_neg (by omega)]; omega
        · unfold lvT; rw [if_neg (by omega)]; omega
      · left; unfold lvT; rw [if_neg (by omega), if_neg (by omega)]; omega

theorem ex1 (p7 : Ideal .f32) (w : BitVec 32) (h : ¬ (Scalar.cmpi .ne (Scalar.extui (Scalar.cmpf .ogt p7 (Named.named (F := Ideal) κ "exit" w : Ideal .f32))) (0#32 : BitVec 32) = 1#1)) : p7 = (⊥ : EReal) := exit_bot _ _ (mt (bit_test _).2 h)

theorem ex2 (p6 p7 : Ideal .f32) (w : BitVec 32) (h : ¬ (Scalar.cmpi .ne (Scalar.extui (Scalar.cmpf .ogt (k0_pay167 p6 p7) (Named.named (F := Ideal) κ "exit" w : Ideal .f32))) (0#32 : BitVec 32) = 1#1)) : p6 = (⊥ : EReal) ∧ p7 = (⊥ : EReal) := by
  have e := exit_bot _ _ (mt (bit_test _).2 h)
  unfold k0_pay167 at e
  obtain ⟨e6, f7⟩ := max_bot _ _ e
  exact ⟨e6, f7⟩

theorem ex3 (p5 p6 p7 : Ideal .f32) (w : BitVec 32) (h : ¬ (Scalar.cmpi .ne (Scalar.extui (Scalar.cmpf .ogt (k0_pay172 p5 p6 p7) (Named.named (F := Ideal) κ "exit" w : Ideal .f32))) (0#32 : BitVec 32) = 1#1)) : p5 = (⊥ : EReal) ∧ p6 = (⊥ : EReal) ∧ p7 = (⊥ : EReal) := by
  have e := exit_bot _ _ (mt (bit_test _).2 h)
  unfold k0_pay172 at e
  obtain ⟨e, f7⟩ := max_bot _ _ e
  obtain ⟨e5, f6⟩ := max_bot _ _ e
  exact ⟨e5, f6, f7⟩

theorem ex4 (p4 p5 p6 p7 : Ideal .f32) (w : BitVec 32) (h : ¬ (Scalar.cmpi .ne (Scalar.extui (Scalar.cmpf .ogt (k0_pay177 p4 p5 p6 p7) (Named.named (F := Ideal) κ "exit" w : Ideal .f32))) (0#32 : BitVec 32) = 1#1)) : p4 = (⊥ : EReal) ∧ p5 = (⊥ : EReal) ∧ p6 = (⊥ : EReal) ∧ p7 = (⊥ : EReal) := by
  have e := exit_bot _ _ (mt (bit_test _).2 h)
  unfold k0_pay177 at e
  obtain ⟨e, f7⟩ := max_bot _ _ e
  obtain ⟨e, f6⟩ := max_bot _ _ e
  obtain ⟨e4, f5⟩ := max_bot _ _ e
  exact ⟨e4, f5, f6, f7⟩

theorem ex5 (p3 p4 p5 p6 p7 : Ideal .f32) (w : BitVec 32) (h : ¬ (Scalar.cmpi .ne (Scalar.extui (Scalar.cmpf .ogt (k0_pay182 p3 p4 p5 p6 p7) (Named.named (F := Ideal) κ "exit" w : Ideal .f32))) (0#32 : BitVec 32) = 1#1)) : p3 = (⊥ : EReal) ∧ p4 = (⊥ : EReal) ∧ p5 = (⊥ : EReal) ∧ p6 = (⊥ : EReal) ∧ p7 = (⊥ : EReal) := by
  have e := exit_bot _ _ (mt (bit_test _).2 h)
  unfold k0_pay182 at e
  obtain ⟨e, f7⟩ := max_bot _ _ e
  obtain ⟨e, f6⟩ := max_bot _ _ e
  obtain ⟨e, f5⟩ := max_bot _ _ e
  obtain ⟨e3, f4⟩ := max_bot _ _ e
  exact ⟨e3, f4, f5, f6, f7⟩

theorem ex6 (p2 p3 p4 p5 p6 p7 : Ideal .f32) (w : BitVec 32) (h : ¬ (Scalar.cmpi .ne (Scalar.extui (Scalar.cmpf .ogt (k0_pay187 p2 p3 p4 p5 p6 p7) (Named.named (F := Ideal) κ "exit" w : Ideal .f32))) (0#32 : BitVec 32) = 1#1)) : p2 = (⊥ : EReal) ∧ p3 = (⊥ : EReal) ∧ p4 = (⊥ : EReal) ∧ p5 = (⊥ : EReal) ∧ p6 = (⊥ : EReal) ∧ p7 = (⊥ : EReal) := by
  have e := exit_bot _ _ (mt (bit_test _).2 h)
  unfold k0_pay187 at e
  obtain ⟨e, f7⟩ := max_bot _ _ e
  obtain ⟨e, f6⟩ := max_bot _ _ e
  obtain ⟨e, f5⟩ := max_bot _ _ e
  obtain ⟨e, f4⟩ := max_bot _ _ e
  obtain ⟨e2, f3⟩ := max_bot _ _ e
  exact ⟨e2, f3, f4, f5, f6, f7⟩

theorem ex7 (p1 p2 p3 p4 p5 p6 p7 : Ideal .f32) (w : BitVec 32) (h : ¬ (Scalar.cmpf .ogt (k0_pay193 p6 p7 (k0_pay192 p1 p2 p3 p4 p5)) (Named.named (F := Ideal) κ "exit" w : Ideal .f32) = 1#1)) : p1 = (⊥ : EReal) ∧ p2 = (⊥ : EReal) ∧ p3 = (⊥ : EReal) ∧ p4 = (⊥ : EReal) ∧ p5 = (⊥ : EReal) ∧ p6 = (⊥ : EReal) ∧ p7 = (⊥ : EReal) := by
  have e := exit_bot _ _ h
  unfold k0_pay193 k0_pay192 at e
  obtain ⟨e, f7⟩ := max_bot _ _ e
  obtain ⟨e, f6⟩ := max_bot _ _ e
  obtain ⟨e, f5⟩ := max_bot _ _ e
  obtain ⟨e, f4⟩ := max_bot _ _ e
  obtain ⟨e, f3⟩ := max_bot _ _ e
  obtain ⟨f1, f2⟩ := max_bot _ _ e
  exact ⟨f1, f2, f3, f4, f5, f6, f7⟩

theorem ex8 (p1 p2 p3 p4 p5 p6 p7 p0 : Ideal .f32) (w : BitVec 32) (h : ¬ (Scalar.cmpf .ogt (k0_pay198 p1 p2 p3 p4 p5 p6 p7 p0) (Named.named (F := Ideal) κ "exit" w : Ideal .f32) = 1#1)) : p1 = (⊥ : EReal) ∧ p2 = (⊥ : EReal) ∧ p3 = (⊥ : EReal) ∧ p4 = (⊥ : EReal) ∧ p5 = (⊥ : EReal) ∧ p6 = (⊥ : EReal) ∧ p7 = (⊥ : EReal) ∧ p0 = (⊥ : EReal) := by
  have e := exit_bot _ _ h
  unfold k0_pay198 at e
  obtain ⟨e, f0⟩ := max_bot _ _ e
  obtain ⟨e, f7⟩ := max_bot _ _ e
  obtain ⟨e, f6⟩ := max_bot _ _ e
  obtain ⟨e, f5⟩ := max_bot _ _ e
  obtain ⟨e, f4⟩ := max_bot _ _ e
  obtain ⟨e, f3⟩ := max_bot _ _ e
  obtain ⟨f1, f2⟩ := max_bot _ _ e
  exact ⟨f1, f2, f3, f4, f5, f6, f7, f0⟩

/-- Block 0 once the largest carry the near tile leaves is the exit value. -/
theorem near_dead (a9 : Memref sig .tc .vmem S2x2048x128 .f32) (A : Vec Ideal S2x2048x128 .f32) (X9 L9) (x : FVec Ideal S512x128 .f32) (inb0 inb1) (lv : ℕ → ℕ) (l : ℕ) (hl : lv 0 = l)
    (hg : Good v14 v21 x4 x5 G lv A (a9.view.read (Elt Ideal) (a9.view.writes (Elt Ideal) X9 (⟨Rect.unit (s := S2x2048x128) ![1, 0, 0] S1x256x128.size inb1, k0_pay161 x⟩ ::
        ⟨Rect.unit (s := S2x2048x128) ![0, 0, 0] S1x256x128.size inb0, k0_pay159 x⟩ :: L9))))
    (h : k0_pay162 x = (⊥ : EReal)) : Dead v14 v21 x4 G 0 l := by
  have h0 := peak_dead x h
  refine Good.dead hg 0 l hl (fun r hr => ?_) (fun r hr => ?_)
  · refine (two_rd a9 0 256 (by omega) _ _ X9 _ _ L9 r ⟨r.val, by omega⟩ (Nat.zero_add _).symm 0).1.trans ?_
    pointwise [k0_pay159]
    exact h0 _ _
  · refine (two_rd a9 0 256 (by omega) _ _ X9 _ _ L9 r ⟨r.val, by omega⟩ (Nat.zero_add _).symm 0).2.trans ?_
    pointwise [k0_pay161]
    exact h0 _ _

theorem out_at (a b : Vec Ideal S1x2048x128 .f32) (r : Fin 2048) (d : Fin 128) :
    k0_pay1 (k0_pay199 (iota .tc S2048x128 32 [1] iota_S2048x128_d1_w32) a b) (ix3 0 r d) = if d.val < 64 then a (ix3 0 r d) else b (ix3 0 r d) := by
  have hb : ∀ d : Fin 128, Scalar.cmpi .sge (BitVec.ofNat 32 d.val) (64#32 : BitVec 32) = if d.val < 64 then 0#1 else 1#1 := by decide +kernel
  have e : k0_pay1 (k0_pay199 (iota .tc S2048x128 32 [1] iota_S2048x128_d1_w32) a b) (ix3 0 r d) = Scalar.select (Scalar.cmpi .sge (BitVec.ofNat 32 d.val) (64#32 : BitVec 32)) (b (ix3 0 r d)) (a (ix3 0 r d)) := by
    pointwise [k0_pay1, k0_pay199]
    try rfl
  rw [e, hb]
  split <;> rfl

end Cert.KernelIdeal.MixerB

end
-- ==== Proof.V.Offs.lean ====
/- Where each tile's key block lies, and the loads of a whole block. -/
module

public import proofs.«01_k».proof.Proof.V.Walk

@[expose] public section

set_option maxRecDepth 16384

noncomputable section

namespace Cert.KernelIdeal.MixerB

open Cert.KernelIdeal Cert.KernelIdeal.Gen
open Idealize.ShloMosaic Idealize.ShloMosaic.TcCoe
open Cert.Stick

theorem add_words : ∀ (q : Fin 4) (b : Fin 8), ((Scalar.indexCast (Scalar.addi (Scalar.muli (BitVec.ofNat 32 q.val) 2048#32) (BitVec.ofNat 32 (256 * b.val))) : Index).toNat = 256 * (8 * q.val + b.val)) := by
  decide +kernel

theorem sub_words : ∀ (q : Fin 4), 0 < q.val → ((Scalar.indexCast (Scalar.addi (Scalar.muli (BitVec.ofNat 32 q.val) 2048#32) 4294967040#32) : Index).toNat = 256 * (8 * q.val - 1)) := by
  decide +kernel

theorem add_off (i : grid0.Coords) (b : Fin 8) : (![0, (Scalar.indexCast (Scalar.addi (Scalar.muli (BitVec.ofNat 32 (i 2).val) 2048#32) (BitVec.ofNat 32 (256 * b.val))) : Index).toNat, 0] : Fin 3 → ℕ) = ![0, 256 * (8 * (i 2).val + b.val), 0] := by
  obtain ⟨q, hq⟩ := qi_fin i
  rw [hq, add_words q b]

theorem sub_off (i : grid0.Coords) (h : 0 < (i 2).val) : (![0, (Scalar.indexCast (Scalar.addi (Scalar.muli (BitVec.ofNat 32 (i 2).val) 2048#32) 4294967040#32) : Index).toNat, 0] : Fin 3 → ℕ) = ![0, 256 * (8 * (i 2).val - 1), 0] := by
  obtain ⟨q, hq⟩ := qi_fin i
  rw [hq] at h
  rw [hq, sub_words q h]

theorem off1_triple (i : grid0.Coords) (w : BitVec 32) : k0_off1 i w = (![0, (Scalar.indexCast (Scalar.addi (Scalar.muli (BitVec.ofNat 32 (i 2).val) 2048#32) w) : Index).toNat, 0] : Fin 3 → ℕ) := by
  unfold k0_off1; rfl

theorem off1_at (i : grid0.Coords) (b : Fin 8) (w : BitVec 32) (hw : w = BitVec.ofNat 32 (256 * b.val)) : k0_off1 i w = ![0, 256 * (8 * (i 2).val + b.val), 0] := by
  rw [off1_triple, hw]; exact add_off i b

theorem off2_at (i : grid0.Coords) (h : 0 < (i 2).val) : k0_off2 i = ![0, 256 * (8 * (i 2).val - 1), 0] := by
  rw [← sub_off i h]; unfold k0_off2; rfl

theorem off9_at (i : grid0.Coords) (h : 0 < (i 2).val) : k0_off9 i = ![0, 256 * (8 * (i 2).val - 1), 0] := by
  rw [← sub_off i h]; unfold k0_off9; rfl

theorem off3_at (i : grid0.Coords) : k0_off3 i = ![0, 256 * (8 * (i 2).val + 5), 0] :=
  (show k0_off3 i = (![0, (Scalar.indexCast (Scalar.addi (Scalar.muli (BitVec.ofNat 32 (i 2).val) 2048#32) 1280#32) : Index).toNat, 0] : Fin 3 → ℕ) by unfold k0_off3; rfl).trans (add_off i 5)

theorem off4_at (i : grid0.Coords) : k0_off4 i = ![0, 256 * (8 * (i 2).val + 4), 0] :=
  (show k0_off4 i = (![0, (Scalar.indexCast (Scalar.addi (Scalar.muli (BitVec.ofNat 32 (i 2).val) 2048#32) 1024#32) : Index).toNat, 0] : Fin 3 → ℕ) by unfold k0_off4; rfl).trans (add_off i 4)

theorem off5_at (i : grid0.Coords) : k0_off5 i = ![0, 256 * (8 * (i 2).val + 3), 0] :=
  (show k0_off5 i = (![0, (Scalar.indexCast (Scalar.addi (Scalar.muli (BitVec.ofNat 32 (i 2).val) 2048#32) 768#32) : Index).toNat, 0] : Fin 3 → ℕ) by unfold k0_off5; rfl).trans (add_off i 3)

theorem off6_at (i : grid0.Coords) : k0_off6 i = ![0, 256 * (8 * (i 2).val + 2), 0] :=
  (show k0_off6 i = (![0, (Scalar.indexCast (Scalar.addi (Scalar.muli (BitVec.ofNat 32 (i 2).val) 2048#32) 512#32) : Index).toNat, 0] : Fin 3 → ℕ) by unfold k0_off6; rfl).trans (add_off i 2)

theorem off7_at (i : grid0.Coords) : k0_off7 i = ![0, 256 * (8 * (i 2).val + 1), 0] :=
  (show k0_off7 i = (![0, (Scalar.indexCast (Scalar.addi (Scalar.muli (BitVec.ofNat 32 (i 2).val) 2048#32) 256#32) : Index).toNat, 0] : Fin 3 → ℕ) by unfold k0_off7; rfl).trans (add_off i 1)

theorem off8_at (i : grid0.Coords) : k0_off8 i = ![0, 256 * (8 * (i 2).val + 0), 0] :=
  (show k0_off8 i = (![0, (Scalar.indexCast (Scalar.addi (Scalar.muli (BitVec.ofNat 32 (i 2).val) 2048#32) 0#32) : Index).toNat, 0] : Fin 3 → ℕ) by unfold k0_off8; rfl).trans (add_off i 0)

theorem first_words : ∀ (q : Fin 4), (Scalar.cmpi .ne (Scalar.extui (Scalar.cmpi .sgt (BitVec.ofNat 32 q.val) 0#32)) (0#32 : BitVec 32) = 1#1) ↔ 0 < q.val := by decide +kernel

theorem cond1_iff (i : grid0.Coords) : k0_cond1 i = 1#1 ↔ 0 < (i 2).val := by
  obtain ⟨q, hq⟩ := qi_fin i
  rw [hq, ← first_words q]
  unfold k0_cond1
  rw [hq]

theorem eighth_words : ∀ (q : Fin 4) (b : Bool), Scalar.cmpi .ne (Scalar.extui (Scalar.andi (Scalar.cmpi .sgt (BitVec.ofNat 32 q.val) 0#32) (BitVec.ofBool b))) (0#32 : BitVec 32) = 1#1 ↔ (0 < q.val ∧ BitVec.ofBool b = 1#1) := by
  decide +kernel

theorem cond8_iff (i : grid0.Coords) (b : BitVec 1) : k0_cond8 i b = 1#1 ↔ (0 < (i 2).val ∧ b = 1#1) := by
  obtain ⟨t, rfl⟩ := bit_cases b
  obtain ⟨q, hq⟩ := qi_fin i
  rw [hq, ← eighth_words q t]
  unfold k0_cond8
  rw [hq]

theorem ld_rows (a : Memref sig .tc .vmem S1x2048x128 .f32) (ha : a.IsWhole) (inb) (x : Vec Ideal S1x2048x128 .f32) :
    a.view.readAt (Elt Ideal) (Rect.unit (s := S1x2048x128) ![0, 0, 0] S1x2048x128.size inb).toLoadRect (ha.unread x) = x := by
  have h0 : a.view.read (Elt Ideal) (ha.unread x) = x := ha.read_unread x
  funext j
  have e : (Rect.unit (s := S1x2048x128) ![0, 0, 0] S1x2048x128.size inb).toLoadRect.idx j = j := by
    funext k
    refine Fin.ext ?_
    match k with
    | 0 => exact (show 0 + 1 * (j 0).val = (j 0).val by omega)
    | 1 => exact (show 0 + 1 * (j 1).val = (j 1).val by omega)
    | 2 => exact (show 0 + 1 * (j 2).val = (j 2).val by omega)
  exact (congrArg (a.view.read (Elt Ideal) (ha.unread x)) e).trans (congrFun h0 _)

theorem ld_tri (a : Memref sig .tc .vmem S256x256 .bf16) (ha : a.IsWhole) (inb) (x : Vec Ideal S256x256 .bf16) :
    a.view.readAt (Elt Ideal) (Rect.unit (s := S256x256) ![0, 0] S256x256.size inb).toLoadRect (ha.unread x) = x := by
  have h0 : a.view.read (Elt Ideal) (ha.unread x) = x := ha.read_unread x
  funext j
  have e : (Rect.unit (s := S256x256) ![0, 0] S256x256.size inb).toLoadRect.idx j = j := by
    funext k
    refine Fin.ext ?_
    match k with
    | 0 => exact (show 0 + 1 * (j 0).val = (j 0).val by omega)
    | 1 => exact (show 0 + 1 * (j 1).val = (j 1).val by omega)
  exact (congrArg (a.view.read (Elt Ideal) (ha.unread x)) e).trans (congrFun h0 _)

theorem pay43_at (x : Vec Ideal S256x256 .bf16) (i j : Fin 256) : k0_pay43 x (ix2 i j) = x (ix2 i j) := by
  pointwise [k0_pay43]

/-- The block stored whole into the result, read back. -/
theorem st_out (a : Memref sig .tc .vmem S1x2048x128 .bf16) (inb) (X) (w : Vec Ideal S1x2048x128 .bf16) (L) (r : Fin 2048) (d : Fin 128) :
    a.view.read (Elt Ideal) (a.view.writes (Elt Ideal) X (⟨Rect.unit (s := S1x2048x128) ![0, 0, 0] S1x2048x128.size inb, w⟩ :: L)) (ix3 0 r d) = w (ix3 0 r d) := by
  refine View.read_writes_cons_unit_of_mem _ _ inb w L _ (ix3 (0 : Fin 1) r d) rfl fun i => ?_
  match i with
  | 0 => rfl
  | 1 => exact (show r.val = 0 + r.val by omega)
  | 2 => exact (show d.val = 0 + d.val by omega)

theorem off1_inb (i : grid0.Coords) (b : Fin 8) (w : BitVec 32) (hw : w = BitVec.ofNat 32 (256 * b.val)) : ∀ a, k0_off1 i w a + S1x256x128.size a ≤ S1x8192x128.size a := by
  have hq := qi_lt i
  rw [off1_at i b w hw]
  intro a
  match a with
  | 0 => exact (show 0 + 1 ≤ 1 by omega)
  | 1 => exact (show 256 * (8 * (i 2).val + b.val) + 256 ≤ 8192 by have := b.isLt; omega)
  | 2 => exact (show 0 + 128 ≤ 128 by omega)

/-- A diagonal tile's key or value block, as loaded. -/
def dblk (a : Memref sig .tc .vmem S1x8192x128 .bf16) (ha : a.IsWhole) (i : grid0.Coords) (x : Vec Ideal S1x8192x128 .bf16) (b : Fin 8) (w : BitVec 32) (hw : w = BitVec.ofNat 32 (256 * b.val)) : Vec Ideal S1x256x128 .bf16 :=
  a.view.readAt (Elt Ideal) (Rect.unit (s := S1x8192x128) (k0_off1 i w) S1x256x128.size (off1_inb i b w hw)).toLoadRect (ha.unread x)

/-- The eight diagonal blocks. -/
def dblks (a : Memref sig .tc .vmem S1x8192x128 .bf16) (ha : a.IsWhole) (i : grid0.Coords) (x : Vec Ideal S1x8192x128 .bf16) : Fin 8 → Vec Ideal S1x256x128 .bf16 :=
  ![dblk a ha i x 0 0#32 rfl, dblk a ha i x 1 256#32 rfl, dblk a ha i x 2 512#32 rfl, dblk a ha i x 3 768#32 rfl, dblk a ha i x 4 1024#32 rfl, dblk a ha i x 5 1280#32 rfl, dblk a ha i x 6 1536#32 rfl, dblk a ha i x 7 1792#32 rfl]

theorem dblk_at (a : Memref sig .tc .vmem S1x8192x128 .bf16) (ha : a.IsWhole) (i : grid0.Coords) (x : Vec Ideal S1x8192x128 .bf16) (b : Fin 8) (w : BitVec 32) (hw) (hG : 8 * (i 2).val + 8 ≤ 32) (j : Fin 256) (k : Fin 128) :
    dblk a ha i x b w hw (ix3 0 j k) = x (ix3 0 ⟨256 * (8 * (i 2).val + b.val) + j.val, kv_lt _ hG b j⟩ k) :=
  ldk a ha _ _ (off1_at i b w hw) (by have := qi_lt i; omega) _ x j k

theorem dblks_at (a : Memref sig .tc .vmem S1x8192x128 .bf16) (ha : a.IsWhole) (i : grid0.Coords) (x : Vec Ideal S1x8192x128 .bf16) (hG : 8 * (i 2).val + 8 ≤ 32) (b : Fin 8) (j : Fin 256) (k : Fin 128) :
    dblks a ha i x b (ix3 0 j k) = x (ix3 0 ⟨256 * (8 * (i 2).val + b.val) + j.val, kv_lt _ hG b j⟩ k) := by
  match b with
  | 0 => exact dblk_at a ha i x 0 _ rfl hG j k
  | 1 => exact dblk_at a ha i x 1 _ rfl hG j k
  | 2 => exact dblk_at a ha i x 2 _ rfl hG j k
  | 3 => exact dblk_at a ha i x 3 _ rfl hG j k
  | 4 => exact dblk_at a ha i x 4 _ rfl hG j k
  | 5 => exact dblk_at a ha i x 5 _ rfl hG j k
  | 6 => exact dblk_at a ha i x 6 _ rfl hG j k
  | 7 => exact dblk_at a ha i x 7 _ rfl hG j k

end Cert.KernelIdeal.MixerB

end
-- ==== Proof.V.BodyPre.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.K.WordsI
public import proofs.«01_k».proof.Proof.V.Offs

@[expose] public section

set_option maxRecDepth 16384

noncomputable section

namespace Cert.KernelIdeal.MixerB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Stick

/-- What the body leaves in the result block for query block `q`. -/
def outv (x3 : Vec Ideal S1x2048x128 .f32) (x4 x5 : Vec Ideal S1x8192x128 .bf16) (q : ℕ) : Vec Ideal S1x2048x128 .bf16 := fun j =>
  acc 8192 (zz (k0_pay41 x3) (k0_pay42 x3) x4 (if (j 2).val < 64 then 0 else 1) (j 1)) (vv x5 (j 2)) (256 * (8 * q) + (j 1).val) 0

/-- The query rows as loaded. -/
def xr (a : Memref sig .tc .vmem S1x2048x128 .f32) (ha : a.IsWhole) (x : Vec Ideal S1x2048x128 .f32) : Vec Ideal S1x2048x128 .f32 :=
  View.readAt (Elt Ideal) a.view (Rect.unit (s := S1x2048x128) ![0, 0, 0] S1x2048x128.size inb_S1x2048x128_S1x2048x128_0_0_0).toLoadRect (ha.unread x)

/-- The triangle as loaded. -/
def gr (a : Memref sig .tc .vmem S256x256 .bf16) (ha : a.IsWhole) (x : Vec Ideal S256x256 .bf16) : FVec Ideal S256x256 .bf16 :=
  k0_pay43 (View.readAt (Elt Ideal) a.view (Rect.unit (s := S256x256) ![0, 0] S256x256.size inb_S256x256_S256x256_0_0).toLoadRect (ha.unread x))

theorem out_good (a3 : Memref sig .tc .vmem S1x2048x128 .f32) (h3 : a3.IsWhole) (x3 : Vec Ideal S1x2048x128 .f32) (a7 : Memref sig .tc .vmem S1x2048x128 .bf16) (X inb L) (a8 : Memref sig .tc .vmem S2x2048x128 .f32) (g8) (C) (x4 x5 : Vec Ideal S1x8192x128 .bf16) (q : ℕ)
    (hA : Good (k0_pay41 (xr a3 h3 x3)) (k0_pay42 (xr a3 h3 x3)) x4 x5 (8 * q) (fun _ => 0) (a8.view.read (Elt Ideal) g8) C) (s0 s1 : Vec Ideal S1x2048x128 .f32) (i0 i1)
    (e0 : s0 = View.readAt (Elt Ideal) a8.view (Rect.unit (s := S2x2048x128) ![0, 0, 0] S1x2048x128.size i0).toLoadRect g8)
    (e1 : s1 = View.readAt (Elt Ideal) a8.view (Rect.unit (s := S2x2048x128) ![1, 0, 0] S1x2048x128.size i1).toLoadRect g8) :
    a7.view.read (Elt Ideal) (a7.view.writes (Elt Ideal) X (⟨Rect.unit (s := S1x2048x128) ![0, 0, 0] S1x2048x128.size inb, k0_pay1 (k0_pay199 (iota .tc S2048x128 32 [1] iota_S2048x128_d1_w32) s0 s1)⟩ :: L))
      = outv x3 x4 x5 q := by
  rw [show xr a3 h3 x3 = x3 from ld_rows a3 h3 _ x3] at hA
  funext j
  obtain ⟨r, d, rfl⟩ : ∃ (r : Fin 2048) (d : Fin 128), j = ix3 0 r d := ⟨j 1, j 2, by
    funext k
    match k with
    | 0 => exact Fin.ext (show (j 0).val = 0 by have h : (j 0).val < 1 := (j 0).isLt; omega)
    | 1 => rfl
    | 2 => rfl⟩
  rw [st_out, out_at]
  show _ = acc 8192 (zz (k0_pay41 x3) (k0_pay42 x3) x4 (if d.val < 64 then 0 else 1) r) (vv x5 d) (256 * (8 * q) + r.val) 0
  have er : (⟨0 + r.val, by omega⟩ : Fin 2048) = r := Fin.ext (Nat.zero_add _)
  by_cases hd : d.val < 64
  · rw [if_pos hd, if_pos hd, e0]
    refine (ld a8 0 0 2048 (by omega) (by omega) i0 g8 r d).trans ?_
    rw [er]
    exact (hA 0 r).1 d
  · rw [if_neg hd, if_neg hd, e1]
    refine (ld a8 1 0 2048 (by omega) (by omega) i1 g8 r d).trans ?_
    rw [er]
    exact (hA 1 r).1 d

theorem near_pack {v14 v21 : FVec Ideal S2048x128 .bf16} {x4 x5 : Vec Ideal S1x8192x128 .bf16} {G : ℕ} (a8 a9 : Memref sig .tc .vmem S2x2048x128 .f32) (X8 X9 J9) (L8 L9) (h8 : Cov a8 L8) (h9 : Cov a9 L9)
    (hg : Good v14 v21 x4 x5 G (lv0 G) (a8.view.read (Elt Ideal) (a8.view.writes (Elt Ideal) X8 L8)) (a9.view.read (Elt Ideal) (a9.view.writes (Elt Ideal) X9 L9)))
    (L : ℕ) (hL : L + 1 = G) (hL' : L + 1 ≤ 32) (v23 : FVec Ideal S256x256 .bf16) (hgt : ∀ i j, v23 (ix2 i j) = tri i.val j.val)
    (kb vb : Vec Ideal S1x256x128 .bf16) (hkb : ∀ (j : Fin 256) k, kb (ix3 0 j k) = x4 (ix3 0 ⟨256 * L + j.val, by omega⟩ k)) (hvb : ∀ (j : Fin 256) d, vb (ix3 0 j d) = x5 (ix3 0 ⟨256 * L + j.val, by omega⟩ d))
    (c0 c1 : Vec Ideal S1x256x128 .f32) (i0 i1)
    (ec0 : c0 = View.readAt (Elt Ideal) a9.view (Rect.unit (s := S2x2048x128) ![0, 0, 0] S1x256x128.size i0).toLoadRect (a9.view.writes (Elt Ideal) J9 L9))
    (ec1 : c1 = View.readAt (Elt Ideal) a9.view (Rect.unit (s := S2x2048x128) ![1, 0, 0] S1x256x128.size i1).toLoadRect (a9.view.writes (Elt Ideal) J9 L9))
    (h : k0_pay162 (k0_pay11 v14 v21 v23 kb c0 c1) = (⊥ : EReal)) : Dead v14 v21 x4 G 0 L :=
  near_dead a9 _ X9 L9 _ i0 i1 (lvT L G 8) L (if_pos rfl)
    (near_first a8 a9 X8 X9 X8 J9 L8 L9 h8 h9 hg L L rfl hL hL' v23 hgt kb vb hkb hvb i0 i1 _ c0 _ c1 i0 i1 rfl ec0 rfl ec1) h

theorem off2_inb (i : grid0.Coords) (h : 0 < (i 2).val) : ∀ a, k0_off2 i a + S1x256x128.size a ≤ S1x8192x128.size a := by
  have hq := qi_lt i
  rw [off2_at i h]
  intro a
  match a with
  | 0 => exact (show 0 + 1 ≤ 1 by omega)
  | 1 => exact (show 256 * (8 * (i 2).val - 1) + 256 ≤ 8192 by omega)
  | 2 => exact (show 0 + 128 ≤ 128 by omega)

end Cert.KernelIdeal.MixerB

end
-- ==== Proof.V.Kind.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.K.WordsI
public import proofs.«01_k».proof.Proof.V.BodyPre

@[expose] public section

set_option maxRecDepth 16384

noncomputable section

namespace Cert.KernelIdeal.MixerB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Stick

/-- A kind of floats with its operations and named constants. -/
structure Flav where
  F : FTy → Type
  fi : FloatOps F
  ni : Named F

end Cert.KernelIdeal.MixerB

end
-- ==== Proof.V.BodyP.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.K.WordsI
public import proofs.«01_k».proof.Proof.V.Kind

@[expose] public section

set_option maxRecDepth 16384

noncomputable section

namespace Cert.KernelIdeal.MixerB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Stick

set_option maxHeartbeats 4000000 in
/-- The body on any staging memrefs: it ends with the four inputs as they were, the result at what the attention of its rows gives, both scratch buffers at some contents. The floats are named through an equation, which only the last steps use. -/
theorem body_pos {F : FTy → Type} [fi : FloatOps F] [ni : Named F] (hF : (⟨F, fi, ni⟩ : Flav) = ⟨Ideal, inferInstance, inferInstance⟩) (c : Dev nD) (i : grid0.Coords) (arg3 : Memref sig .tc .vmem S1x2048x128 .f32) (harg3 : arg3.IsWhole)
    (arg4 : Memref sig .tc .vmem S1x8192x128 .bf16) (harg4 : arg4.IsWhole) (arg5 : Memref sig .tc .vmem S1x8192x128 .bf16) (harg5 : arg5.IsWhole)
    (arg6 : Memref sig .tc .vmem S256x256 .bf16) (harg6 : arg6.IsWhole) (arg7 : Memref sig .tc .vmem S1x2048x128 .bf16) (harg7 : arg7.IsWhole)
    (arg8 : Memref sig .tc .vmem S2x2048x128 .f32) (harg8 : arg8.IsWhole) (arg9 : Memref sig .tc .vmem S2x2048x128 .f32) (harg9 : arg9.IsWhole)
    (x3 : Vec F S1x2048x128 .f32) (x4 x5 : Vec F S1x8192x128 .bf16) (x6 : Vec F S256x256 .bf16) (y3 : Vec Ideal S1x2048x128 .f32) (y4 y5 : Vec Ideal S1x8192x128 .bf16) (y6 : Vec Ideal S256x256 .bf16) (o7 : Vec F S1x2048x128 .bf16)
    (hx3 : HEq x3 y3) (hx4 : HEq x4 y4) (hx5 : HEq x5 y5) (hx6e : HEq x6 y6) (ho7 : HEq o7 (outv y3 y4 y5 (i 2).val)) (hx6 : ∀ i j : Fin 256, y6 (ix2 i j) = tri i.val j.val) (h1 : k0_cond1 i = 1#1) (E : Set ℕ) (K : PUnit → sProp (MT nD τ sig Unit (Elt F) ℕ (UR sig nD τ) ℕ)) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare o7
            ∗ (∃ d, owns (c : Thread nD τ) arg8 fullShare d) ∗ (∃ d, owns (c : Thread nD τ) arg9 fullShare d)) -∗ K ⟨⟩))
      ⊢ wp frame (wpE (defs₀ (F := F)) Variants.nat (c : Thread nD τ) none) E
          (cc0_mixer_b i arg3 harg3 arg4 harg4 arg5 harg5 arg6 harg6 arg7 harg7 arg8 harg8 arg9 harg9) K := by
  simp only [cc0_mixer_b_eq_skeleton]; unfold cc0_mixer_b_skel
  unfold owns
  iintro ⟨⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, Hk⟩
  obtain rfl := harg3.eq_unread e3; obtain rfl := harg4.eq_unread e4; obtain rfl := harg5.eq_unread e5; obtain rfl := harg6.eq_unread e6
  have hpos := (cond1_iff i).1 h1
  sl_exec (disch := first | sl_exact h1 | with_reducible exact chk1_all _ _)
  cases hF
  obtain rfl := eq_of_heq hx3; obtain rfl := eq_of_heq hx4; obtain rfl := eq_of_heq hx5; obtain rfl := eq_of_heq hx6e; obtain rfl := eq_of_heq ho7
  have hq := qi_lt i
  have hG : 8 * (i 2).val + 8 ≤ 32 := by omega
  have hgt : ∀ i j : Fin 256, gr arg6 harg6 x6 (ix2 i j) = tri i.val j.val := fun i j => (pay43_at _ i j).trans ((congrFun (ld_tri arg6 harg6 _ x6) _).trans (hx6 i j))
  have hkb := dblks_at arg4 harg4 i x4 hG
  have hvb := dblks_at arg5 harg5 i x5 hG
  have hD := diag_good (xr arg3 harg3 x3) (gr arg6 harg6 x6) hgt x4 x5 (8 * (i 2).val) hG (dblks arg4 harg4 i x4) (dblks arg5 harg5 i x5) hkb hvb arg8 arg9 f8 f9
  iapply (wp_call Variants.nat (c : Thread nD τ) none E (8 * (i 2).val - 1) (fun u hu => nomatch hu))
  iapply (loop_good c i _ _ _ _ _ _ _ _ (k0_pay41 (xr arg3 harg3 x3)) (k0_pay42 (xr arg3 harg3 x3)) arg4 harg4 (gr arg6 harg6 x6) arg9 harg9 arg5 harg5 arg8 harg8 x4 x5 E hgt _ 0 (Nat.zero_add _).symm _ _ (fun hx => ?_))
  · intro b hb
    obtain ⟨f1, f2, f3, f4, f5, f6, f7, f0⟩ := ex8 _ _ _ _ _ _ _ _ _ hx
    interval_cases b
    · exact near_pack arg8 arg9 f8 f9 _ _ _ (cov16 arg8 _ _ _ _ _ _ _ _ _ _ _ _ _ _ _ _) (cov16 arg9 _ _ _ _ _ _ _ _ _ _ _ _ _ _ _ _) hD (8 * (i 2).val - 1) (by omega) (by omega) (gr arg6 harg6 x6) hgt _ (View.readAt (Elt Ideal) arg5.view (Rect.unit (s := S1x8192x128) (k0_off2 i) S1x256x128.size (off2_inb i hpos)).toLoadRect (harg5.unread x5)) (fun j k => ldk arg4 harg4 _ _ (off2_at i hpos) (by omega) _ x4 j k) (fun j k => ldk arg5 harg5 _ _ (off2_at i hpos) (by omega) _ x5 j k) _ _ inb_S2x2048x128_S1x256x128_0_0_0 inb_S2x2048x128_S1x256x128_1_0_0 rfl rfl f0
    · exact dead_mono (dead1 (xr arg3 harg3 x3) (gr arg6 harg6 x6) hgt x4 (8 * (i 2).val) hG (dblks arg4 harg4 i x4) (dblks arg5 harg5 i x5) hkb f1) (by omega) (by omega)
    · exact dead_mono (dead2 (xr arg3 harg3 x3) (gr arg6 harg6 x6) hgt x4 (8 * (i 2).val) hG (dblks arg4 harg4 i x4) (dblks arg5 harg5 i x5) hkb f2) (by omega) (by omega)
    · exact dead_mono (dead3 (xr arg3 harg3 x3) (gr arg6 harg6 x6) hgt x4 (8 * (i 2).val) hG (dblks arg4 harg4 i x4) (dblks arg5 harg5 i x5) hkb f3) (by omega) (by omega)
    · exact dead_mono (dead4 (xr arg3 harg3 x3) (gr arg6 harg6 x6) hgt x4 (8 * (i 2).val) hG (dblks arg4 harg4 i x4) (dblks arg5 harg5 i x5) hkb f4) (by omega) (by omega)
    · exact dead_mono (dead5 (xr arg3 harg3 x3) (gr arg6 harg6 x6) hgt x4 (8 * (i 2).val) hG (dblks arg4 harg4 i x4) (dblks arg5 harg5 i x5) hkb f5) (by omega) (by omega)
    · exact dead_mono (dead6 (xr arg3 harg3 x3) (gr arg6 harg6 x6) hgt x4 (8 * (i 2).val) hG (dblks arg4 harg4 i x4) (dblks arg5 harg5 i x5) hkb f6) (by omega) (by omega)
    · exact dead_mono (dead7 (xr arg3 harg3 x3) (gr arg6 harg6 x6) hgt x4 (8 * (i 2).val) hG (dblks arg4 harg4 i x4) (dblks arg5 harg5 i x5) hkb f7) (by omega) (by omega)
  isplitl [H4 H5 H8 H9]
  · unfold Keeps owns
    isplitl [H4]
    · iexists _; isplitr; · ipureintro; exact harg4.read_unread _
      iexact H4
    isplitl [H5]
    · iexists _; isplitr; · ipureintro; exact harg5.read_unread _
      iexact H5
    iexists _, _
    isplitr; swap
    · isplitl [H8]
      · iexists _; isplitr; swap; · iexact H8
        ipureintro; rfl
      iexists _; isplitr; swap; · iexact H9
      ipureintro; rfl
    ipureintro
    refine Good.congr (lv := lvT (8 * (i 2).val - 1) (8 * (i 2).val) 1) ?_ (fun b hb => by unfold lvT; split <;> omega)
    refine far256_tile arg8 arg9 _ _ (8 * (i 2).val - 1) ?_ _ (8 * (i 2).val - 1) hG (fun _ => by omega) (by omega) _ hgt _ _ (fun _ j k => ldk arg4 harg4 _ _ (off9_at i hpos) (by omega) _ x4 j k) (fun _ j k => ldk arg5 harg5 _ _ (off9_at i hpos) (by omega) _ x5 j k)
      (fun hc => Or.inl fun b hb1 hb2 => by
        obtain ⟨f1, f2, f3, f4, f5, f6, f7⟩ := ex7 _ _ _ _ _ _ _ _ (fun h => hc ((cond8_iff i _).2 ⟨hpos, h⟩))
        interval_cases b
        · exact dead1 (xr arg3 harg3 x3) (gr arg6 harg6 x6) hgt x4 (8 * (i 2).val) hG (dblks arg4 harg4 i x4) (dblks arg5 harg5 i x5) hkb f1
        · exact dead2 (xr arg3 harg3 x3) (gr arg6 harg6 x6) hgt x4 (8 * (i 2).val) hG (dblks arg4 harg4 i x4) (dblks arg5 harg5 i x5) hkb f2
        · exact dead3 (xr arg3 harg3 x3) (gr arg6 harg6 x6) hgt x4 (8 * (i 2).val) hG (dblks arg4 harg4 i x4) (dblks arg5 harg5 i x5) hkb f3
        · exact dead4 (xr arg3 harg3 x3) (gr arg6 harg6 x6) hgt x4 (8 * (i 2).val) hG (dblks arg4 harg4 i x4) (dblks arg5 harg5 i x5) hkb f4
        · exact dead5 (xr arg3 harg3 x3) (gr arg6 harg6 x6) hgt x4 (8 * (i 2).val) hG (dblks arg4 harg4 i x4) (dblks arg5 harg5 i x5) hkb f5
        · exact dead6 (xr arg3 harg3 x3) (gr arg6 harg6 x6) hgt x4 (8 * (i 2).val) hG (dblks arg4 harg4 i x4) (dblks arg5 harg5 i x5) hkb f6
        · exact dead7 (xr arg3 harg3 x3) (gr arg6 harg6 x6) hgt x4 (8 * (i 2).val) hG (dblks arg4 harg4 i x4) (dblks arg5 harg5 i x5) hkb f7
      ) _ _ _ _ _ _
      (fun _ r d => ld arg8 0 256 1792 (by omega) (by omega) _ _ r d)
      (fun _ r d => ld arg9 0 256 1792 (by omega) (by omega) _ _ r d)
      (fun _ r d => ld arg8 1 256 1792 (by omega) (by omega) _ _ r d)
      (fun _ r d => ld arg9 1 256 1792 (by omega) (by omega) _ _ r d)
    refine far512_tile arg8 arg9 _ _ (8 * (i 2).val - 1) ?_ _ (8 * (i 2).val + 0) hG (fun _ => by omega) (by omega) _ hgt _ _ (fun _ j k => ldk arg4 harg4 _ _ (off8_at i) (by omega) _ x4 j k) (fun _ j k => ldk arg5 harg5 _ _ (off8_at i) (by omega) _ x5 j k)
      (fun hc => Or.inl fun b hb1 hb2 => by
        obtain ⟨f2, f3, f4, f5, f6, f7⟩ := ex6 _ _ _ _ _ _ _ hc
        interval_cases b
        · exact dead2 (xr arg3 harg3 x3) (gr arg6 harg6 x6) hgt x4 (8 * (i 2).val) hG (dblks arg4 harg4 i x4) (dblks arg5 harg5 i x5) hkb f2
        · exact dead3 (xr arg3 harg3 x3) (gr arg6 harg6 x6) hgt x4 (8 * (i 2).val) hG (dblks arg4 harg4 i x4) (dblks arg5 harg5 i x5) hkb f3
        · exact dead4 (xr arg3 harg3 x3) (gr arg6 harg6 x6) hgt x4 (8 * (i 2).val) hG (dblks arg4 harg4 i x4) (dblks arg5 harg5 i x5) hkb f4
        · exact dead5 (xr arg3 harg3 x3) (gr arg6 harg6 x6) hgt x4 (8 * (i 2).val) hG (dblks arg4 harg4 i x4) (dblks arg5 harg5 i x5) hkb f5
        · exact dead6 (xr arg3 harg3 x3) (gr arg6 harg6 x6) hgt x4 (8 * (i 2).val) hG (dblks arg4 harg4 i x4) (dblks arg5 harg5 i x5) hkb f6
        · exact dead7 (xr arg3 harg3 x3) (gr arg6 harg6 x6) hgt x4 (8 * (i 2).val) hG (dblks arg4 harg4 i x4) (dblks arg5 harg5 i x5) hkb f7
      ) _ _ _ _ _ _
      (fun _ r d => ld arg8 0 512 1536 (by omega) (by omega) _ _ r d)
      (fun _ r d => ld arg9 0 512 1536 (by omega) (by omega) _ _ r d)
      (fun _ r d => ld arg8 1 512 1536 (by omega) (by omega) _ _ r d)
      (fun _ r d => ld arg9 1 512 1536 (by omega) (by omega) _ _ r d)
    refine far768_tile arg8 arg9 _ _ (8 * (i 2).val - 1) ?_ _ (8 * (i 2).val + 1) hG (fun _ => by omega) (by omega) _ hgt _ _ (fun _ j k => ldk arg4 harg4 _ _ (off7_at i) (by omega) _ x4 j k) (fun _ j k => ldk arg5 harg5 _ _ (off7_at i) (by omega) _ x5 j k)
      (fun hc => Or.inl fun b hb1 hb2 => by
        obtain ⟨f3, f4, f5, f6, f7⟩ := ex5 _ _ _ _ _ _ hc
        interval_cases b
        · exact dead3 (xr arg3 harg3 x3) (gr arg6 harg6 x6) hgt x4 (8 * (i 2).val) hG (dblks arg4 harg4 i x4) (dblks arg5 harg5 i x5) hkb f3
        · exact dead4 (xr arg3 harg3 x3) (gr arg6 harg6 x6) hgt x4 (8 * (i 2).val) hG (dblks arg4 harg4 i x4) (dblks arg5 harg5 i x5) hkb f4
        · exact dead5 (xr arg3 harg3 x3) (gr arg6 harg6 x6) hgt x4 (8 * (i 2).val) hG (dblks arg4 harg4 i x4) (dblks arg5 harg5 i x5) hkb f5
        · exact dead6 (xr arg3 harg3 x3) (gr arg6 harg6 x6) hgt x4 (8 * (i 2).val) hG (dblks arg4 harg4 i x4) (dblks arg5 harg5 i x5) hkb f6
        · exact dead7 (xr arg3 harg3 x3) (gr arg6 harg6 x6) hgt x4 (8 * (i 2).val) hG (dblks arg4 harg4 i x4) (dblks arg5 harg5 i x5) hkb f7
      ) _ _ _ _ _ _
      (fun _ r d => ld arg8 0 768 1280 (by omega) (by omega) _ _ r d)
      (fun _ r d => ld arg9 0 768 1280 (by omega) (by omega) _ _ r d)
      (fun _ r d => ld arg8 1 768 1280 (by omega) (by omega) _ _ r d)
      (fun _ r d => ld arg9 1 768 1280 (by omega) (by omega) _ _ r d)
    refine far1024_tile arg8 arg9 _ _ (8 * (i 2).val - 1) ?_ _ (8 * (i 2).val + 2) hG (fun _ => by omega) (by omega) _ hgt _ _ (fun _ j k => ldk arg4 harg4 _ _ (off6_at i) (by omega) _ x4 j k) (fun _ j k => ldk arg5 harg5 _ _ (off6_at i) (by omega) _ x5 j k)
      (fun hc => Or.inl fun b hb1 hb2 => by
        obtain ⟨f4, f5, f6, f7⟩ := ex4 _ _ _ _ _ hc
        interval_cases b
        · exact dead4 (xr arg3 harg3 x3) (gr arg6 harg6 x6) hgt x4 (8 * (i 2).val) hG (dblks arg4 harg4 i x4) (dblks arg5 harg5 i x5) hkb f4
        · exact dead5 (xr arg3 harg3 x3) (gr arg6 harg6 x6) hgt x4 (8 * (i 2).val) hG (dblks arg4 harg4 i x4) (dblks arg5 harg5 i x5) hkb f5
        · exact dead6 (xr arg3 harg3 x3) (gr arg6 harg6 x6) hgt x4 (8 * (i 2).val) hG (dblks arg4 harg4 i x4) (dblks arg5 harg5 i x5) hkb f6
        · exact dead7 (xr arg3 harg3 x3) (gr arg6 harg6 x6) hgt x4 (8 * (i 2).val) hG (dblks arg4 harg4 i x4) (dblks arg5 harg5 i x5) hkb f7
      ) _ _ _ _ _ _
      (fun _ r d => ld arg8 0 1024 1024 (by omega) (by omega) _ _ r d)
      (fun _ r d => ld arg9 0 1024 1024 (by omega) (by omega) _ _ r d)
      (fun _ r d => ld arg8 1 1024 1024 (by omega) (by omega) _ _ r d)
      (fun _ r d => ld arg9 1 1024 1024 (by omega) (by omega) _ _ r d)
    refine far1280_tile arg8 arg9 _ _ (8 * (i 2).val - 1) ?_ _ (8 * (i 2).val + 3) hG (fun _ => by omega) (by omega) _ hgt _ _ (fun _ j k => ldk arg4 harg4 _ _ (off5_at i) (by omega) _ x4 j k) (fun _ j k => ldk arg5 harg5 _ _ (off5_at i) (by omega) _ x5 j k)
      (fun hc => Or.inl fun b hb1 hb2 => by
        obtain ⟨f5, f6, f7⟩ := ex3 _ _ _ _ hc
        interval_cases b
        · exact dead5 (xr arg3 harg3 x3) (gr arg6 harg6 x6) hgt x4 (8 * (i 2).val) hG (dblks arg4 harg4 i x4) (dblks arg5 harg5 i x5) hkb f5
        · exact dead6 (xr arg3 harg3 x3) (gr arg6 harg6 x6) hgt x4 (8 * (i 2).val) hG (dblks arg4 harg4 i x4) (dblks arg5 harg5 i x5) hkb f6
        · exact dead7 (xr arg3 harg3 x3) (gr arg6 harg6 x6) hgt x4 (8 * (i 2).val) hG (dblks arg4 harg4 i x4) (dblks arg5 harg5 i x5) hkb f7
      ) _ _ _ _ _ _
      (fun _ r d => ld arg8 0 1280 768 (by omega) (by omega) _ _ r d)
      (fun _ r d => ld arg9 0 1280 768 (by omega) (by omega) _ _ r d)
      (fun _ r d => ld arg8 1 1280 768 (by omega) (by omega) _ _ r d)
      (fun _ r d => ld arg9 1 1280 768 (by omega) (by omega) _ _ r d)
    refine far1536_tile arg8 arg9 _ _ (8 * (i 2).val - 1) ?_ _ (8 * (i 2).val + 4) hG (fun _ => by omega) (by omega) _ hgt _ _ (fun _ j k => ldk arg4 harg4 _ _ (off4_at i) (by omega) _ x4 j k) (fun _ j k => ldk arg5 harg5 _ _ (off4_at i) (by omega) _ x5 j k)
      (fun hc => Or.inl fun b hb1 hb2 => by
        obtain ⟨f6, f7⟩ := ex2 _ _ _ hc
        interval_cases b
        · exact dead6 (xr arg3 harg3 x3) (gr arg6 harg6 x6) hgt x4 (8 * (i 2).val) hG (dblks arg4 harg4 i x4) (dblks arg5 harg5 i x5) hkb f6
        · exact dead7 (xr arg3 harg3 x3) (gr arg6 harg6 x6) hgt x4 (8 * (i 2).val) hG (dblks arg4 harg4 i x4) (dblks arg5 harg5 i x5) hkb f7
      ) _ _ _ _ _ _
      (fun _ r d => ld arg8 0 1536 512 (by omega) (by omega) _ _ r d)
      (fun _ r d => ld arg9 0 1536 512 (by omega) (by omega) _ _ r d)
      (fun _ r d => ld arg8 1 1536 512 (by omega) (by omega) _ _ r d)
      (fun _ r d => ld arg9 1 1536 512 (by omega) (by omega) _ _ r d)
    refine far1792_first arg8 arg9 f8 f9 _ _ _ _ ?c8 ?c9 (8 * (i 2).val - 1) ?_ _ (8 * (i 2).val + 5) hG (fun _ => by omega) (by omega) _ hgt _ _ (fun _ j k => ldk arg4 harg4 _ _ (off3_at i) (by omega) _ x4 j k) (fun _ j k => ldk arg5 harg5 _ _ (off3_at i) (by omega) _ x5 j k)
      (fun hc => Or.inl fun b hb1 hb2 => by
        have f7 := ex1 _ _ hc
        interval_cases b
        · exact dead7 (xr arg3 harg3 x3) (gr arg6 harg6 x6) hgt x4 (8 * (i 2).val) hG (dblks arg4 harg4 i x4) (dblks arg5 harg5 i x5) hkb f7
      ) _ _ _ _ _ _ _ _ (fun _ => rfl) (fun _ => rfl) (fun _ => rfl) (fun _ => rfl)
    case c8 => exact Cov.cons (Cov.cons (cov16 arg8 _ _ _ _ _ _ _ _ _ _ _ _ _ _ _ _) 0 0 256 (by omega) (by omega) _ _) 1 0 256 (by omega) (by omega) _ _
    case c9 => exact Cov.cons (Cov.cons (cov16 arg9 _ _ _ _ _ _ _ _ _ _ _ _ _ _ _ _) 0 0 256 (by omega) (by omega) _ _) 1 0 256 (by omega) (by omega) _ _
    refine near_first arg8 arg9 f8 f9 _ _ _ _ (cov16 arg8 _ _ _ _ _ _ _ _ _ _ _ _ _ _ _ _) (cov16 arg9 _ _ _ _ _ _ _ _ _ _ _ _ _ _ _ _) hD _ (8 * (i 2).val - 1) rfl (by omega) (by omega) (gr arg6 harg6 x6) hgt _ _ (fun j k => ldk arg4 harg4 _ _ (off2_at i hpos) (by omega) _ x4 j k) (fun j k => ldk arg5 harg5 _ _ (off2_at i hpos) (by omega) _ x5 j k) _ _ _ _ _ _ _ _ rfl rfl rfl rfl
  unfold Keeps owns
  iintro %r ⟨⟨%g4, %e4', H4⟩, ⟨%g5, %e5', H5⟩, ⟨%A, %C, %hA, ⟨%g8, %e8', H8⟩, ⟨%g9, %e9', H9⟩⟩⟩
  subst e8'
  sl_exec
  sl_step
  iapply Hk
  isplitl [H3]
  · iexists _; isplitr; · ipureintro; exact harg3.read_unread _
    iexact H3
  isplitl [H4]
  · iexists _; isplitr; · ipureintro; exact e4'
    iexact H4
  isplitl [H5]
  · iexists _; isplitr; · ipureintro; exact e5'
    iexact H5
  isplitl [H6]
  · iexists _; isplitr; · ipureintro; exact harg6.read_unread _
    iexact H6
  isplitl [H7]
  · iexists _; isplitr; swap; · iexact H7
    ipureintro; exact out_good arg3 harg3 x3 arg7 f7 _ _ arg8 g8 C x4 x5 (i 2).val hA _ _ _ _ rfl rfl
  isplitl [H8]
  · iexists _, _; isplitr; swap; · iexact H8
    ipureintro; rfl
  iexists _, _; isplitr; swap; · iexact H9
  ipureintro; rfl

end Cert.KernelIdeal.MixerB

end
-- ==== Proof.V.BodyN.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.K.WordsI
public import proofs.«01_k».proof.Proof.V.Kind

@[expose] public section

set_option maxRecDepth 16384

noncomputable section

namespace Cert.KernelIdeal.MixerB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Stick

set_option maxHeartbeats 4000000 in
/-- The body on any staging memrefs: it ends with the four inputs as they were, the result at what the attention of its rows gives, both scratch buffers at some contents. The floats are named through an equation, which only the last steps use. -/
theorem body_neg {F : FTy → Type} [fi : FloatOps F] [ni : Named F] (hF : (⟨F, fi, ni⟩ : Flav) = ⟨Ideal, inferInstance, inferInstance⟩) (c : Dev nD) (i : grid0.Coords) (arg3 : Memref sig .tc .vmem S1x2048x128 .f32) (harg3 : arg3.IsWhole)
    (arg4 : Memref sig .tc .vmem S1x8192x128 .bf16) (harg4 : arg4.IsWhole) (arg5 : Memref sig .tc .vmem S1x8192x128 .bf16) (harg5 : arg5.IsWhole)
    (arg6 : Memref sig .tc .vmem S256x256 .bf16) (harg6 : arg6.IsWhole) (arg7 : Memref sig .tc .vmem S1x2048x128 .bf16) (harg7 : arg7.IsWhole)
    (arg8 : Memref sig .tc .vmem S2x2048x128 .f32) (harg8 : arg8.IsWhole) (arg9 : Memref sig .tc .vmem S2x2048x128 .f32) (harg9 : arg9.IsWhole)
    (x3 : Vec F S1x2048x128 .f32) (x4 x5 : Vec F S1x8192x128 .bf16) (x6 : Vec F S256x256 .bf16) (y3 : Vec Ideal S1x2048x128 .f32) (y4 y5 : Vec Ideal S1x8192x128 .bf16) (y6 : Vec Ideal S256x256 .bf16) (o7 : Vec F S1x2048x128 .bf16)
    (hx3 : HEq x3 y3) (hx4 : HEq x4 y4) (hx5 : HEq x5 y5) (hx6e : HEq x6 y6) (ho7 : HEq o7 (outv y3 y4 y5 (i 2).val)) (hx6 : ∀ i j : Fin 256, y6 (ix2 i j) = tri i.val j.val) (h1 : ¬ k0_cond1 i = 1#1) (E : Set ℕ) (K : PUnit → sProp (MT nD τ sig Unit (Elt F) ℕ (UR sig nD τ) ℕ)) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare o7
            ∗ (∃ d, owns (c : Thread nD τ) arg8 fullShare d) ∗ (∃ d, owns (c : Thread nD τ) arg9 fullShare d)) -∗ K ⟨⟩))
      ⊢ wp frame (wpE (defs₀ (F := F)) Variants.nat (c : Thread nD τ) none) E
          (cc0_mixer_b i arg3 harg3 arg4 harg4 arg5 harg5 arg6 harg6 arg7 harg7 arg8 harg8 arg9 harg9) K := by
  simp only [cc0_mixer_b_eq_skeleton]; unfold cc0_mixer_b_skel
  unfold owns
  iintro ⟨⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, Hk⟩
  obtain rfl := harg3.eq_unread e3; obtain rfl := harg4.eq_unread e4; obtain rfl := harg5.eq_unread e5; obtain rfl := harg6.eq_unread e6
  have hpos : ¬ 0 < (i 2).val := fun h => h1 ((cond1_iff i).2 h)
  sl_exec (disch := first | sl_exact h1 | with_reducible exact chk1_all _ _)
  cases hF
  obtain rfl := eq_of_heq hx3; obtain rfl := eq_of_heq hx4; obtain rfl := eq_of_heq hx5; obtain rfl := eq_of_heq hx6e; obtain rfl := eq_of_heq ho7
  have hq := qi_lt i
  have hG : 8 * (i 2).val + 8 ≤ 32 := by omega
  have hgt : ∀ i j : Fin 256, gr arg6 harg6 x6 (ix2 i j) = tri i.val j.val := fun i j => (pay43_at _ i j).trans ((congrFun (ld_tri arg6 harg6 _ x6) _).trans (hx6 i j))
  have hkb := dblks_at arg4 harg4 i x4 hG
  have hvb := dblks_at arg5 harg5 i x5 hG
  have hD := diag_good (xr arg3 harg3 x3) (gr arg6 harg6 x6) hgt x4 x5 (8 * (i 2).val) hG (dblks arg4 harg4 i x4) (dblks arg5 harg5 i x5) hkb hvb arg8 arg9 f8 f9
  iapply (wp_call Variants.nat (c : Thread nD τ) none E (8 * (i 2).val - 1) (fun u hu => nomatch hu))
  iapply (loop_good c i _ _ _ _ _ _ _ _ (k0_pay41 (xr arg3 harg3 x3)) (k0_pay42 (xr arg3 harg3 x3)) arg4 harg4 (gr arg6 harg6 x6) arg9 harg9 arg5 harg5 arg8 harg8 x4 x5 E hgt _ 0 (Nat.zero_add _).symm _ _ (fun hx => ?_))
  · intro b hb
    obtain ⟨f1, f2, f3, f4, f5, f6, f7, f0⟩ := ex8 _ _ _ _ _ _ _ _ _ hx
    interval_cases b
    · exact dead_mono (dead0 (xr arg3 harg3 x3) (gr arg6 harg6 x6) hgt x4 (8 * (i 2).val) hG (dblks arg4 harg4 i x4) (dblks arg5 harg5 i x5) hkb f0) (by omega) (by omega)
    · exact dead_mono (dead1 (xr arg3 harg3 x3) (gr arg6 harg6 x6) hgt x4 (8 * (i 2).val) hG (dblks arg4 harg4 i x4) (dblks arg5 harg5 i x5) hkb f1) (by omega) (by omega)
    · exact dead_mono (dead2 (xr arg3 harg3 x3) (gr arg6 harg6 x6) hgt x4 (8 * (i 2).val) hG (dblks arg4 harg4 i x4) (dblks arg5 harg5 i x5) hkb f2) (by omega) (by omega)
    · exact dead_mono (dead3 (xr arg3 harg3 x3) (gr arg6 harg6 x6) hgt x4 (8 * (i 2).val) hG (dblks arg4 harg4 i x4) (dblks arg5 harg5 i x5) hkb f3) (by omega) (by omega)
    · exact dead_mono (dead4 (xr arg3 harg3 x3) (gr arg6 harg6 x6) hgt x4 (8 * (i 2).val) hG (dblks arg4 harg4 i x4) (dblks arg5 harg5 i x5) hkb f4) (by omega) (by omega)
    · exact dead_mono (dead5 (xr arg3 harg3 x3) (gr arg6 harg6 x6) hgt x4 (8 * (i 2).val) hG (dblks arg4 harg4 i x4) (dblks arg5 harg5 i x5) hkb f5) (by omega) (by omega)
    · exact dead_mono (dead6 (xr arg3 harg3 x3) (gr arg6 harg6 x6) hgt x4 (8 * (i 2).val) hG (dblks arg4 harg4 i x4) (dblks arg5 harg5 i x5) hkb f6) (by omega) (by omega)
    · exact dead_mono (dead7 (xr arg3 harg3 x3) (gr arg6 harg6 x6) hgt x4 (8 * (i 2).val) hG (dblks arg4 harg4 i x4) (dblks arg5 harg5 i x5) hkb f7) (by omega) (by omega)
  isplitl [H4 H5 H8 H9]
  · unfold Keeps owns
    isplitl [H4]
    · iexists _; isplitr; · ipureintro; exact harg4.read_unread _
      iexact H4
    isplitl [H5]
    · iexists _; isplitr; · ipureintro; exact harg5.read_unread _
      iexact H5
    iexists _, _
    isplitr; swap
    · isplitl [H8]
      · iexists _; isplitr; swap; · iexact H8
        ipureintro; rfl
      iexists _; isplitr; swap; · iexact H9
      ipureintro; rfl
    ipureintro
    refine Good.congr (lv := lvT (8 * (i 2).val) (8 * (i 2).val) 1) ?_ (fun b hb => by unfold lvT; split <;> omega)
    refine far256_tile arg8 arg9 _ _ (8 * (i 2).val) ?_ _ (8 * (i 2).val - 1) hG (fun hc => absurd ((cond8_iff i _).1 hc).1 (by omega)) (by omega) _ hgt _ _ (fun hc j k => absurd ((cond8_iff i _).1 hc).1 (by omega)) (fun hc j k => absurd ((cond8_iff i _).1 hc).1 (by omega))
      (fun _ => Or.inr ⟨rfl, by omega⟩) _ _ _ _ _ _
      (fun _ r d => ld arg8 0 256 1792 (by omega) (by omega) _ _ r d)
      (fun _ r d => ld arg9 0 256 1792 (by omega) (by omega) _ _ r d)
      (fun _ r d => ld arg8 1 256 1792 (by omega) (by omega) _ _ r d)
      (fun _ r d => ld arg9 1 256 1792 (by omega) (by omega) _ _ r d)
    refine far512_tile arg8 arg9 _ _ (8 * (i 2).val) ?_ _ (8 * (i 2).val + 0) hG (fun _ => by omega) (by omega) _ hgt _ _ (fun _ j k => ldk arg4 harg4 _ _ (off8_at i) (by omega) _ x4 j k) (fun _ j k => ldk arg5 harg5 _ _ (off8_at i) (by omega) _ x5 j k)
      (fun hc => Or.inl fun b hb1 hb2 => by
        obtain ⟨f2, f3, f4, f5, f6, f7⟩ := ex6 _ _ _ _ _ _ _ hc
        interval_cases b
        · exact dead2 (xr arg3 harg3 x3) (gr arg6 harg6 x6) hgt x4 (8 * (i 2).val) hG (dblks arg4 harg4 i x4) (dblks arg5 harg5 i x5) hkb f2
        · exact dead3 (xr arg3 harg3 x3) (gr arg6 harg6 x6) hgt x4 (8 * (i 2).val) hG (dblks arg4 harg4 i x4) (dblks arg5 harg5 i x5) hkb f3
        · exact dead4 (xr arg3 harg3 x3) (gr arg6 harg6 x6) hgt x4 (8 * (i 2).val) hG (dblks arg4 harg4 i x4) (dblks arg5 harg5 i x5) hkb f4
        · exact dead5 (xr arg3 harg3 x3) (gr arg6 harg6 x6) hgt x4 (8 * (i 2).val) hG (dblks arg4 harg4 i x4) (dblks arg5 harg5 i x5) hkb f5
        · exact dead6 (xr arg3 harg3 x3) (gr arg6 harg6 x6) hgt x4 (8 * (i 2).val) hG (dblks arg4 harg4 i x4) (dblks arg5 harg5 i x5) hkb f6
        · exact dead7 (xr arg3 harg3 x3) (gr arg6 harg6 x6) hgt x4 (8 * (i 2).val) hG (dblks arg4 harg4 i x4) (dblks arg5 harg5 i x5) hkb f7
      ) _ _ _ _ _ _
      (fun _ r d => ld arg8 0 512 1536 (by omega) (by omega) _ _ r d)
      (fun _ r d => ld arg9 0 512 1536 (by omega) (by omega) _ _ r d)
      (fun _ r d => ld arg8 1 512 1536 (by omega) (by omega) _ _ r d)
      (fun _ r d => ld arg9 1 512 1536 (by omega) (by omega) _ _ r d)
    refine far768_tile arg8 arg9 _ _ (8 * (i 2).val) ?_ _ (8 * (i 2).val + 1) hG (fun _ => by omega) (by omega) _ hgt _ _ (fun _ j k => ldk arg4 harg4 _ _ (off7_at i) (by omega) _ x4 j k) (fun _ j k => ldk arg5 harg5 _ _ (off7_at i) (by omega) _ x5 j k)
      (fun hc => Or.inl fun b hb1 hb2 => by
        obtain ⟨f3, f4, f5, f6, f7⟩ := ex5 _ _ _ _ _ _ hc
        interval_cases b
        · exact dead3 (xr arg3 harg3 x3) (gr arg6 harg6 x6) hgt x4 (8 * (i 2).val) hG (dblks arg4 harg4 i x4) (dblks arg5 harg5 i x5) hkb f3
        · exact dead4 (xr arg3 harg3 x3) (gr arg6 harg6 x6) hgt x4 (8 * (i 2).val) hG (dblks arg4 harg4 i x4) (dblks arg5 harg5 i x5) hkb f4
        · exact dead5 (xr arg3 harg3 x3) (gr arg6 harg6 x6) hgt x4 (8 * (i 2).val) hG (dblks arg4 harg4 i x4) (dblks arg5 harg5 i x5) hkb f5
        · exact dead6 (xr arg3 harg3 x3) (gr arg6 harg6 x6) hgt x4 (8 * (i 2).val) hG (dblks arg4 harg4 i x4) (dblks arg5 harg5 i x5) hkb f6
        · exact dead7 (xr arg3 harg3 x3) (gr arg6 harg6 x6) hgt x4 (8 * (i 2).val) hG (dblks arg4 harg4 i x4) (dblks arg5 harg5 i x5) hkb f7
      ) _ _ _ _ _ _
      (fun _ r d => ld arg8 0 768 1280 (by omega) (by omega) _ _ r d)
      (fun _ r d => ld arg9 0 768 1280 (by omega) (by omega) _ _ r d)
      (fun _ r d => ld arg8 1 768 1280 (by omega) (by omega) _ _ r d)
      (fun _ r d => ld arg9 1 768 1280 (by omega) (by omega) _ _ r d)
    refine far1024_tile arg8 arg9 _ _ (8 * (i 2).val) ?_ _ (8 * (i 2).val + 2) hG (fun _ => by omega) (by omega) _ hgt _ _ (fun _ j k => ldk arg4 harg4 _ _ (off6_at i) (by omega) _ x4 j k) (fun _ j k => ldk arg5 harg5 _ _ (off6_at i) (by omega) _ x5 j k)
      (fun hc => Or.inl fun b hb1 hb2 => by
        obtain ⟨f4, f5, f6, f7⟩ := ex4 _ _ _ _ _ hc
        interval_cases b
        · exact dead4 (xr arg3 harg3 x3) (gr arg6 harg6 x6) hgt x4 (8 * (i 2).val) hG (dblks arg4 harg4 i x4) (dblks arg5 harg5 i x5) hkb f4
        · exact dead5 (xr arg3 harg3 x3) (gr arg6 harg6 x6) hgt x4 (8 * (i 2).val) hG (dblks arg4 harg4 i x4) (dblks arg5 harg5 i x5) hkb f5
        · exact dead6 (xr arg3 harg3 x3) (gr arg6 harg6 x6) hgt x4 (8 * (i 2).val) hG (dblks arg4 harg4 i x4) (dblks arg5 harg5 i x5) hkb f6
        · exact dead7 (xr arg3 harg3 x3) (gr arg6 harg6 x6) hgt x4 (8 * (i 2).val) hG (dblks arg4 harg4 i x4) (dblks arg5 harg5 i x5) hkb f7
      ) _ _ _ _ _ _
      (fun _ r d => ld arg8 0 1024 1024 (by omega) (by omega) _ _ r d)
      (fun _ r d => ld arg9 0 1024 1024 (by omega) (by omega) _ _ r d)
      (fun _ r d => ld arg8 1 1024 1024 (by omega) (by omega) _ _ r d)
      (fun _ r d => ld arg9 1 1024 1024 (by omega) (by omega) _ _ r d)
    refine far1280_tile arg8 arg9 _ _ (8 * (i 2).val) ?_ _ (8 * (i 2).val + 3) hG (fun _ => by omega) (by omega) _ hgt _ _ (fun _ j k => ldk arg4 harg4 _ _ (off5_at i) (by omega) _ x4 j k) (fun _ j k => ldk arg5 harg5 _ _ (off5_at i) (by omega) _ x5 j k)
      (fun hc => Or.inl fun b hb1 hb2 => by
        obtain ⟨f5, f6, f7⟩ := ex3 _ _ _ _ hc
        interval_cases b
        · exact dead5 (xr arg3 harg3 x3) (gr arg6 harg6 x6) hgt x4 (8 * (i 2).val) hG (dblks arg4 harg4 i x4) (dblks arg5 harg5 i x5) hkb f5
        · exact dead6 (xr arg3 harg3 x3) (gr arg6 harg6 x6) hgt x4 (8 * (i 2).val) hG (dblks arg4 harg4 i x4) (dblks arg5 harg5 i x5) hkb f6
        · exact dead7 (xr arg3 harg3 x3) (gr arg6 harg6 x6) hgt x4 (8 * (i 2).val) hG (dblks arg4 harg4 i x4) (dblks arg5 harg5 i x5) hkb f7
      ) _ _ _ _ _ _
      (fun _ r d => ld arg8 0 1280 768 (by omega) (by omega) _ _ r d)
      (fun _ r d => ld arg9 0 1280 768 (by omega) (by omega) _ _ r d)
      (fun _ r d => ld arg8 1 1280 768 (by omega) (by omega) _ _ r d)
      (fun _ r d => ld arg9 1 1280 768 (by omega) (by omega) _ _ r d)
    refine far1536_tile arg8 arg9 _ _ (8 * (i 2).val) ?_ _ (8 * (i 2).val + 4) hG (fun _ => by omega) (by omega) _ hgt _ _ (fun _ j k => ldk arg4 harg4 _ _ (off4_at i) (by omega) _ x4 j k) (fun _ j k => ldk arg5 harg5 _ _ (off4_at i) (by omega) _ x5 j k)
      (fun hc => Or.inl fun b hb1 hb2 => by
        obtain ⟨f6, f7⟩ := ex2 _ _ _ hc
        interval_cases b
        · exact dead6 (xr arg3 harg3 x3) (gr arg6 harg6 x6) hgt x4 (8 * (i 2).val) hG (dblks arg4 harg4 i x4) (dblks arg5 harg5 i x5) hkb f6
        · exact dead7 (xr arg3 harg3 x3) (gr arg6 harg6 x6) hgt x4 (8 * (i 2).val) hG (dblks arg4 harg4 i x4) (dblks arg5 harg5 i x5) hkb f7
      ) _ _ _ _ _ _
      (fun _ r d => ld arg8 0 1536 512 (by omega) (by omega) _ _ r d)
      (fun _ r d => ld arg9 0 1536 512 (by omega) (by omega) _ _ r d)
      (fun _ r d => ld arg8 1 1536 512 (by omega) (by omega) _ _ r d)
      (fun _ r d => ld arg9 1 1536 512 (by omega) (by omega) _ _ r d)
    refine far1792_first arg8 arg9 f8 f9 _ _ _ _ ?c8 ?c9 (8 * (i 2).val) ?_ _ (8 * (i 2).val + 5) hG (fun _ => by omega) (by omega) _ hgt _ _ (fun _ j k => ldk arg4 harg4 _ _ (off3_at i) (by omega) _ x4 j k) (fun _ j k => ldk arg5 harg5 _ _ (off3_at i) (by omega) _ x5 j k)
      (fun hc => Or.inl fun b hb1 hb2 => by
        have f7 := ex1 _ _ hc
        interval_cases b
        · exact dead7 (xr arg3 harg3 x3) (gr arg6 harg6 x6) hgt x4 (8 * (i 2).val) hG (dblks arg4 harg4 i x4) (dblks arg5 harg5 i x5) hkb f7
      ) _ _ _ _ _ _ _ _ (fun _ => rfl) (fun _ => rfl) (fun _ => rfl) (fun _ => rfl)
    case c8 => exact cov16 arg8 _ _ _ _ _ _ _ _ _ _ _ _ _ _ _ _
    case c9 => exact cov16 arg9 _ _ _ _ _ _ _ _ _ _ _ _ _ _ _ _
    exact lv0_lvT hD _ rfl
  unfold Keeps owns
  iintro %r ⟨⟨%g4, %e4', H4⟩, ⟨%g5, %e5', H5⟩, ⟨%A, %C, %hA, ⟨%g8, %e8', H8⟩, ⟨%g9, %e9', H9⟩⟩⟩
  subst e8'
  sl_exec
  sl_step
  iapply Hk
  isplitl [H3]
  · iexists _; isplitr; · ipureintro; exact harg3.read_unread _
    iexact H3
  isplitl [H4]
  · iexists _; isplitr; · ipureintro; exact e4'
    iexact H4
  isplitl [H5]
  · iexists _; isplitr; · ipureintro; exact e5'
    iexact H5
  isplitl [H6]
  · iexists _; isplitr; · ipureintro; exact harg6.read_unread _
    iexact H6
  isplitl [H7]
  · iexists _; isplitr; swap; · iexact H7
    ipureintro; exact out_good arg3 harg3 x3 arg7 f7 _ _ arg8 g8 C x4 x5 (i 2).val hA _ _ _ _ rfl rfl
  isplitl [H8]
  · iexists _, _; isplitr; swap; · iexact H8
    ipureintro; rfl
  iexists _, _; isplitr; swap; · iexact H9
  ipureintro; rfl

end Cert.KernelIdeal.MixerB

end
-- ==== Proof.V.Body.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.K.WordsI
public import proofs.«01_k».proof.Proof.V.BodyP
public import proofs.«01_k».proof.Proof.V.BodyN

@[expose] public section

set_option maxRecDepth 16384

noncomputable section

namespace Cert.KernelIdeal.MixerB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Stick

/-- The body on any staging memrefs: it ends with the four inputs as they were, the result at what the attention of its rows gives, both scratch buffers at some contents. The floats are named through an equation, which only the last steps use. -/
theorem body_good {F : FTy → Type} [fi : FloatOps F] [ni : Named F] (hF : (⟨F, fi, ni⟩ : Flav) = ⟨Ideal, inferInstance, inferInstance⟩) (c : Dev nD) (i : grid0.Coords) (arg3 : Memref sig .tc .vmem S1x2048x128 .f32) (harg3 : arg3.IsWhole)
    (arg4 : Memref sig .tc .vmem S1x8192x128 .bf16) (harg4 : arg4.IsWhole) (arg5 : Memref sig .tc .vmem S1x8192x128 .bf16) (harg5 : arg5.IsWhole)
    (arg6 : Memref sig .tc .vmem S256x256 .bf16) (harg6 : arg6.IsWhole) (arg7 : Memref sig .tc .vmem S1x2048x128 .bf16) (harg7 : arg7.IsWhole)
    (arg8 : Memref sig .tc .vmem S2x2048x128 .f32) (harg8 : arg8.IsWhole) (arg9 : Memref sig .tc .vmem S2x2048x128 .f32) (harg9 : arg9.IsWhole)
    (x3 : Vec F S1x2048x128 .f32) (x4 x5 : Vec F S1x8192x128 .bf16) (x6 : Vec F S256x256 .bf16) (y3 : Vec Ideal S1x2048x128 .f32) (y4 y5 : Vec Ideal S1x8192x128 .bf16) (y6 : Vec Ideal S256x256 .bf16) (o7 : Vec F S1x2048x128 .bf16)
    (hx3 : HEq x3 y3) (hx4 : HEq x4 y4) (hx5 : HEq x5 y5) (hx6e : HEq x6 y6) (ho7 : HEq o7 (outv y3 y4 y5 (i 2).val)) (hx6 : ∀ i j : Fin 256, y6 (ix2 i j) = tri i.val j.val) (E : Set ℕ) (K : PUnit → sProp (MT nD τ sig Unit (Elt F) ℕ (UR sig nD τ) ℕ)) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare o7
            ∗ (∃ d, owns (c : Thread nD τ) arg8 fullShare d) ∗ (∃ d, owns (c : Thread nD τ) arg9 fullShare d)) -∗ K ⟨⟩))
      ⊢ wp frame (wpE (defs₀ (F := F)) Variants.nat (c : Thread nD τ) none) E
          (cc0_mixer_b i arg3 harg3 arg4 harg4 arg5 harg5 arg6 harg6 arg7 harg7 arg8 harg8 arg9 harg9) K := by
  by_cases h1 : k0_cond1 i = 1#1
  · exact body_pos hF c i arg3 harg3 arg4 harg4 arg5 harg5 arg6 harg6 arg7 harg7 arg8 harg8 arg9 harg9 x3 x4 x5 x6 y3 y4 y5 y6 o7 hx3 hx4 hx5 hx6e ho7 hx6 h1 E K
  · exact body_neg hF c i arg3 harg3 arg4 harg4 arg5 harg5 arg6 harg6 arg7 harg7 arg8 harg8 arg9 harg9 x3 x4 x5 x6 y3 y4 y5 y6 o7 hx3 hx4 hx5 hx6e ho7 hx6 h1 E K

end Cert.KernelIdeal.MixerB

end
-- ==== Proof.V.Soft.lean ====
/- The two ways of writing a row's weights agree: with natural logarithms, each key's share taken off a suffix sum that holds it,
   and in base two with a running sum. -/
module

public import proofs.«01_k».proof.Proof.V.Math

@[expose] public section

noncomputable section

namespace Cert.Stick

open Idealize.ShloMosaic

/-- The softplus in its stable form. -/
def sp (x : EReal) : EReal := max x 0 + Ideal.log1p (Ideal.exp (-(max x (-x))))

/-- Minus what key `s` takes from the stick, in natural logarithms. -/
def lk (t : ℕ → EReal) (p s : ℕ) : EReal := if s < p then -(sp (t s)) else 0

theorem log2_pos : 0 < Real.log 2 := Real.log_pos (by norm_num)

theorem lg_pos : 0 < (Real.log 2)⁻¹ := inv_pos.2 log2_pos

theorem one_add_exp_pos (r : ℝ) : 0 < 1 + Real.exp r := by have := Real.exp_pos r; linarith

theorem log_coe_pos {r : ℝ} (h : 0 < r) : Ideal.log (r : EReal) = (Real.log r : EReal) := by
  rw [Ideal.log_coe, if_neg (not_le.2 h)]

theorem log1p_exp (r : ℝ) : Ideal.log1p (Ideal.exp (r : EReal)) = ((Real.log (1 + Real.exp r) : ℝ) : EReal) := by
  unfold Ideal.log1p
  rw [Ideal.exp_coe, ← EReal.coe_one, ← EReal.coe_add, log_coe_pos (one_add_exp_pos r)]

theorem log_one_add_exp (r : ℝ) : r + Real.log (1 + Real.exp (-r)) = Real.log (1 + Real.exp r) := by
  have h : 1 + Real.exp r = Real.exp r * (1 + Real.exp (-r)) := by
    rw [mul_add, mul_one, ← Real.exp_add, add_neg_cancel, Real.exp_zero, add_comm]
  rw [h, Real.log_mul (Real.exp_pos r).ne' (one_add_exp_pos _).ne', Real.log_exp]

theorem sp_coe (r : ℝ) : sp (r : EReal) = ((Real.log (1 + Real.exp r) : ℝ) : EReal) := by
  unfold sp
  by_cases h : 0 ≤ r
  · have h1 : max (r : EReal) 0 = (r : EReal) := max_eq_left (EReal.coe_nonneg.2 h)
    have h2 : max (r : EReal) (-(r : EReal)) = (r : EReal) := max_eq_left (by rw [← EReal.coe_neg]; exact EReal.coe_le_coe_iff.2 (by linarith))
    rw [h1, h2, ← EReal.coe_neg, log1p_exp, ← EReal.coe_add, log_one_add_exp]
  · have h' : r ≤ 0 := le_of_not_ge h
    have h1 : max (r : EReal) 0 = 0 := max_eq_right (EReal.coe_nonpos.2 h')
    have h2 : max (r : EReal) (-(r : EReal)) = -(r : EReal) := max_eq_right (by rw [← EReal.coe_neg]; exact EReal.coe_le_coe_iff.2 (by linarith))
    rw [h1, h2, neg_neg, log1p_exp, zero_add]

theorem log1p_zero : Ideal.log1p 0 = 0 := by
  unfold Ideal.log1p
  rw [add_zero, ← EReal.coe_one, log_coe_pos one_pos, Real.log_one]; rfl

theorem sp_top : sp ⊤ = ⊤ := by
  unfold sp
  rw [max_eq_left (le_top : (0 : EReal) ≤ ⊤), max_eq_left (le_top : -(⊤ : EReal) ≤ ⊤), EReal.neg_top, Ideal.exp_bot, log1p_zero, add_zero]

theorem sp_bot : sp ⊥ = 0 := by
  unfold sp
  rw [max_eq_right (bot_le : (⊥ : EReal) ≤ 0), max_eq_right (bot_le : (⊥ : EReal) ≤ -⊥), neg_neg, Ideal.exp_bot, log1p_zero, add_zero]

theorem two_rpow (r : ℝ) : Real.rpow 2 ((Real.log 2)⁻¹ * r) = Real.exp r := by
  rw [Real.rpow_eq_pow, Real.rpow_def_of_pos (by norm_num), ← mul_assoc, mul_inv_cancel₀ log2_pos.ne', one_mul]

theorem lg_mul_top : lg * ⊤ = ⊤ := EReal.coe_mul_top_of_pos lg_pos
theorem lg_mul_bot : lg * ⊥ = ⊥ := EReal.coe_mul_bot_of_pos lg_pos

/-- A power of two of a rescaled exponent is the exponential. -/
theorem exp2_lg (x : EReal) : Ideal.exp2 (lg * x) = Ideal.exp x := by
  induction x using EReal.rec with
  | bot => rw [lg_mul_bot, Ideal.exp2_bot, Ideal.exp_bot]
  | top => rw [lg_mul_top, Ideal.exp2_top, Ideal.exp_top]
  | coe r =>
    unfold lg
    rw [← EReal.coe_mul, Ideal.exp2_coe, two_rpow, Ideal.exp_coe]

/-- The base-two softplus of a rescaled score is the rescaled softplus. -/
theorem sp2_lg (t : EReal) : sp2 (lg * t) = lg * sp t := by
  unfold sp2
  rw [exp2_lg]
  induction t using EReal.rec with
  | bot => rw [lg_mul_bot, sp_bot, Ideal.exp_bot, max_eq_right bot_le, mul_zero]; have := log1p_zero; unfold Ideal.log1p at this; rw [this, zero_mul]
  | top => rw [lg_mul_top, sp_top, lg_mul_top, max_eq_left le_top]
  | coe r =>
    have h := log1p_exp r
    unfold Ideal.log1p at h
    rw [h, sp_coe, mul_comm _ lg]
    refine max_eq_right ?_
    unfold lg
    rw [← EReal.coe_mul, ← EReal.coe_mul]
    refine EReal.coe_le_coe_iff.2 (mul_le_mul_of_nonneg_left ?_ lg_pos.le)
    rw [Real.le_log_iff_exp_le (one_add_exp_pos r)]
    linarith

/-- A nonnegative real factor goes into a sum. -/
theorem coe_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.2 hc) (EReal.coe_ne_top c), ih]

theorem left_lg (n : ℕ) (t : ℕ → EReal) (p s : ℕ) : left n (fun u => lg * t u) p s = lg * ∑ u ∈ Finset.Ico s n, lk t p u := by
  unfold left
  rw [show lg * ∑ u ∈ Finset.Ico s n, lk t p u = ∑ u ∈ Finset.Ico s n, lg * lk t p u from coe_mul_sum _ _ lg_pos.le _]
  refine Finset.sum_congr rfl fun u _ => ?_
  unfold brk lk
  split
  · rw [sp2_lg, mul_neg]
  · rw [neg_zero, mul_zero]

/-- The log-sigmoid of a score and the suffix sum without the key's own share, as the score and the whole suffix sum. -/
theorem tail_eq (t C : EReal) : -(sp (-t)) + ((C + -(sp t)) - -(sp t)) = t + (C + -(sp t)) := by
  induction t using EReal.rec with
  | bot => rw [EReal.neg_bot, sp_top, EReal.neg_top, EReal.bot_add, EReal.bot_add]
  | top => rw [sp_top, EReal.neg_top, EReal.add_bot, sub_eq_add_neg, EReal.bot_add, EReal.add_bot, EReal.add_bot]
  | coe r =>
    rw [← EReal.coe_neg, sp_coe, sp_coe, ← EReal.coe_neg, ← EReal.coe_neg, sub_eq_add_neg, ← EReal.coe_neg, add_assoc C, ← EReal.coe_add, neg_neg,
      neg_add_cancel, EReal.coe_zero, add_zero]
    have h : -Real.log (1 + Real.exp (-r)) = r + -Real.log (1 + Real.exp r) := by have := log_one_add_exp r; linarith
    rw [h, EReal.coe_add, add_assoc, add_comm _ C]

/-- A row's result, written with natural logarithms. -/
theorem ref_sum (t v : ℕ → EReal) (p : ℕ) : acc 8192 (fun u => lg * t u) v p 0
    = ∑ s : Fin 8192, v s.val * Ideal.exp (if s.val < p then -(sp (-(t s.val))) + ((∑ u ∈ Finset.Ico s.val 8192, lk t p u) - lk t p s.val) else ⊥) := by
  unfold acc
  have h := sum_block 0 8192 (fun u => wt 8192 (fun u => lg * t u) p u * v u)
  rw [zero_add] at h
  rw [h]
  refine Finset.sum_congr rfl fun s _ => ?_
  rw [zero_add, mul_comm]
  congr 1
  unfold wt
  by_cases hs : s.val < p
  · rw [if_pos hs, if_pos hs, left_lg, sum_cut (lk t p) (show s.val ≤ s.val + 1 by omega) (by omega), Nat.Ico_succ_singleton, Finset.sum_singleton]
    rw [show lk t p s.val = -(sp (t s.val)) from if_pos hs, tail_eq]
    rw [← exp2_lg]
    exact congrArg Ideal.exp2 (EReal.left_distrib_of_nonneg_of_ne_top (EReal.coe_nonneg.2 lg_pos.le) (EReal.coe_ne_top _) _ _).symm
  · rw [if_neg hs, if_neg hs, Ideal.exp_bot]

end Cert.Stick

end
-- ==== Proof.V.Ref.lean ====
/- The reference, read at an index. -/
module

public import proofs.«01_k».proof.Proof.V.Soft
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Stick

open Cert.ReferenceIdeal Cert.ReferenceIdeal.Gen Idealize.ShloMosaic Idealize.ShloMosaic.TcCoe Idealize.SL.Sem
open Cert.Stick

/-- The scaled scores. -/
def sc (q k : FVec Ideal S4x8192x512 .f32) : FVec Ideal S4x8x8192x8192 .f32 :=
  mulf (Host.dotGeneral dot_S4x8192x8x64_S4x8192x8x64_S4x8x8192x8192_3_3_1_1_02_02 none (shapeCast S4x8192x8x64 q shapeCasts_S4x8192x512_S4x8192x8x64) (shapeCast S4x8192x8x64 k shapeCasts_S4x8192x512_S4x8192x8x64)) (broadcastInDim S4x8x8192x8192 ![] bcast_S_S4x8x8192x8192 (constant S_ .f32 0x3E000000#32))

/-- Zeros. -/
def zz : FVec Ideal S4x8x8192x8192 .f32 := broadcastInDim S4x8x8192x8192 ![] bcast_S_S4x8x8192x8192 (constant S_ .f32 0x00000000#32)

/-- The softplus of an array. -/
def softp (x : FVec Ideal S4x8x8192x8192 .f32) : FVec Ideal S4x8x8192x8192 .f32 :=
  select (cmpf .une (subf x zz) (subf x zz)) (addf x zz) (addf (maximumf x zz) (Host.log1p (Host.exp (Host.negf (Host.absf (subf x zz))))))

/-- Which keys come before the row. -/
def before : S4x8x8192x8192.Idx → BitVec 1 :=
  broadcastInDim S4x8x8192x8192 ![0, 1, 2, 3] bcast_S1x1x8192x8192_S4x8x8192x8192_0_1_2_3 (broadcastInDim S1x1x8192x8192 ![2, 3] bcast_S8192x8192_S1x1x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))

/-- What the keys take, masked. -/
def lkv (x : FVec Ideal S4x8x8192x8192 .f32) : FVec Ideal S4x8x8192x8192 .f32 :=
  select before (Host.negf (softp (Host.negf (Host.negf x)))) (broadcastInDim S4x8x8192x8192 ![] bcast_S_S4x8x8192x8192 (id (constant S_ .f32 0x00000000#32)))

/-- Sums from each key on. -/
def suf (x : FVec Ideal S4x8x8192x8192 .f32) : FVec Ideal S4x8x8192x8192 .f32 :=
  Host.reduceWindowAdd ![1, 1, 1, 8192] ![1, 1, 1, 1] ![0, 0, 0, 0] ![0, 0, 0, 8191] x (broadcastInDim S_ ![] bcast_S_S_ (constant S_ .f32 0x00000000#32)) reduceWindows_S4x8x8192x8192_S4x8x8192x8192_w1s1p0_0_w1s1p0_0_w1s1p0_0_w8192s1p0_8191 h_S_

/-- The result from the scores, what the keys take, and its suffix sums. -/
def fin (x l s : FVec Ideal S4x8x8192x8192 .f32) (v : FVec Ideal S4x8192x512 .f32) : FVec Ideal S4x8192x512 .bf16 :=
  truncf .bf16 (shapeCast S4x8192x512 (transpose S4x8192x8x64 [0, 3, 1, 2] (Host.dotGeneral dot_S4x8192x8x64_S4x8x8192x8192_S4x8x64x8192_1_3_3_2_02_01 none (shapeCast S4x8192x8x64 v shapeCasts_S4x8192x512_S4x8192x8x64) (Host.exp (select before (addf (Host.negf (softp (Host.negf x))) (subf s l)) (broadcastInDim S4x8x8192x8192 ![] bcast_S_S4x8x8192x8192 (id (constant S_ .f32 0xFF800000#32)))))) transposes_S4x8x64x8192_S4x8192x8x64_0_3_1_2) shapeCasts_S4x8192x8x64_S4x8192x512) bitsLt_bf16_f32

/-- The reference's array of its three arguments. -/
def ref (q k v : FVec Ideal S4x8192x512 .f32) : FVec Ideal S4x8192x512 .bf16 := fin (sc q k) (lkv (sc q k)) (suf (lkv (sc q k))) v

theorem res_eq (m : (ℓ : Loc nD τ sig) → Buf (Elt Ideal) ℓ) (c : Dev nD) :
    Value.res_main_v25 (F := Ideal) m c = ref (m ((c.tc : Thread nD τ).loc main_arg0)) (m ((c.tc : Thread nD τ).loc main_arg1)) (m ((c.tc : Thread nD τ).loc main_arg2)) := rfl

theorem before_at (n : Fin 4) (h : Fin 8) (p s : Fin 8192) : before (ix4 n h p s) = if s.val < p.val then 1#1 else 0#1 := by
  pointwise [before]
  rw [WordCmp.cmpi_slt_ofNat (by have := s.isLt; norm_num; omega) (by have := p.isLt; norm_num; omega)]
  by_cases hh : s.val < p.val <;> simp [hh]

theorem sel {α : Type} (p : Prop) [Decidable p] (a b : α) : Scalar.select (if p then 1#1 else 0#1) a b = if p then a else b := by
  by_cases h : p <;> simp [h, Scalar.select]

theorem softp_at (x : FVec Ideal S4x8x8192x8192 .f32) (n : Fin 4) (h : Fin 8) (p s : Fin 8192) : softp x (ix4 n h p s) = sp (x (ix4 n h p s)) := by
  pointwise [softp, zz]
  rw [if_neg (not_not.2 rfl)]; rfl

theorem z0 : Ideal.ofBits .f32 0x00000000#32 = 0 := by simp [Ideal.ofBits, Ideal.ieee]

theorem lkv_at (x : FVec Ideal S4x8x8192x8192 .f32) (n : Fin 4) (h : Fin 8) (p s : Fin 8192) :
    lkv x (ix4 n h p s) = if s.val < p.val then -(sp (x (ix4 n h p s))) else 0 := by
  pointwise [lkv]
  rw [before_at, softp_at, sel]
  by_cases hh : s.val < p.val
  · rw [if_pos hh, if_pos hh]
    show -sp (-(-(x (ix4 n h p s)))) = _
    rw [neg_neg]
  · rw [if_neg hh, if_neg hh]
    exact z0

theorem ninf : Ideal.ofBits .f32 0xFF800000#32 = ⊥ := by simp [Ideal.ofBits, Ideal.ieee]

theorem fin_at (x l u : FVec Ideal S4x8x8192x8192 .f32) (v : FVec Ideal S4x8192x512 .f32) (n : Fin 4) (p : Fin 8192) (h : Fin 8) (e : Fin 64) :
    fin x l u v (ix3 n p ⟨h * 64 + e, by omega⟩)
      = ∑ s : Fin 8192, v (ix3 n s ⟨h * 64 + e, by omega⟩) * Ideal.exp (if s.val < p.val then -(sp (-(x (ix4 n h p s)))) + (u (ix4 n h p s) - l (ix4 n h p s)) else ⊥) := by
  pointwise [fin]
  refine Finset.sum_congr rfl fun s _ => ?_
  rw [before_at, softp_at, sel]
  by_cases hh : s.val < p.val
  · rw [if_pos hh, if_pos hh]; rfl
  · rw [if_neg hh, if_neg hh]
    show _ * Ideal.exp (Ideal.ofBits .f32 0xFF800000#32) = _
    rw [ninf]

theorem sc_at (q k : FVec Ideal S4x8192x512 .f32) (n : Fin 4) (h : Fin 8) (p s : Fin 8192) :
    sc q k (ix4 n h p s) = (∑ x : Fin 64, q (ix3 n p ⟨h * 64 + x, by omega⟩) * k (ix3 n s ⟨h * 64 + x, by omega⟩)) * Ideal.ofBits .f32 0x3E000000#32 := by
  pointwise [sc]

theorem eighth : Ideal.ofBits .f32 0x3E000000#32 = (((1 : ℝ) / 8 : ℝ) : EReal) := by
  simp [Ideal.ofBits, Ideal.ieee]
  rw [← EReal.coe_mul]
  norm_num

/-- A left fold of sums is a sum. -/
theorem foldl_add {n : ℕ} (f : Fin n → EReal) : (List.finRange n).foldl (fun r i => r + f i) 0 = ∑ i, f i := by
  rw [← List.sum_ofFn, List.ofFn_eq_map, List.sum_eq_foldl, List.foldl_map]

/-- A window sum over a zero initial value is the sum over the window's positions inside the operand. -/
theorem win_sum {s t u : Shape} (window strides lo hi : Fin s.rank → ℕ) (x : FVec Ideal s .f32) (init : u.Idx → Ideal .f32) (h : s.ReduceWindows window strides lo hi t) (hu : 0 < u.numel)
    (h0 : init (Shape.Idx.first hu) = (0 : EReal)) (j : t.Idx) :
    Host.reduceWindowAdd window strides lo hi x init h hu j
      = ∑ w : (⟨s.rank, window⟩ : Shape).Idx, (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else (0 : EReal)) := by
  show Host.reduceWindow (fun a b : EReal => a + b) window strides lo hi x init h hu j = _
  unfold Host.reduceWindow
  simp only [h0]
  rw [foldl_add]
  exact Equiv.sum_comp (Shape.rowMajor (⟨s.rank, window⟩ : Shape)).symm (fun w => (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else (0 : EReal)))

/-- A sum over positions past `s`, those beyond the end left out. -/
theorem tail_sum (s : ℕ) (hs : s < 8192) (g : ℕ → EReal) : ∑ t : Fin 8192, (if s + t.val < 8192 then g (s + t.val) else 0) = ∑ u ∈ Finset.Ico s 8192, g u := by
  rw [Finset.sum_Ico_eq_sum_range, ← Finset.sum_range (fun t => if s + t < 8192 then g (s + t) else 0)]
  symm
  rw [← Finset.sum_subset (Finset.range_subset_range.2 (show 8192 - s ≤ 8192 by omega))]
  · refine Finset.sum_congr rfl fun t ht => ?_
    rw [if_pos (by have := Finset.mem_range.1 ht; omega)]
  · intro t _ ht
    rw [if_neg (by have := mt Finset.mem_range.2 ht; omega)]

theorem sum_last (f : (⟨4, ![1, 1, 1, 8192]⟩ : Shape).Idx → EReal) : ∑ w, f w = ∑ t : Fin 8192, f (ix4 (0 : Fin 1) (0 : Fin 1) (0 : Fin 1) t) := by
  symm
  refine Fintype.sum_bijective (fun t : Fin 8192 => (ix4 (0 : Fin 1) (0 : Fin 1) (0 : Fin 1) t : (⟨4, ![1, 1, 1, 8192]⟩ : Shape).Idx)) ⟨fun a b hab => congrFun hab 3, fun w => ⟨w 3, ?_⟩⟩ _ _ (fun t => rfl)
  funext a
  match a with
  | 0 => exact Subsingleton.elim (α := Fin 1) _ _
  | 1 => exact Subsingleton.elim (α := Fin 1) _ _
  | 2 => exact Subsingleton.elim (α := Fin 1) _ _
  | 3 => rfl

theorem suf_at (x : FVec Ideal S4x8x8192x8192 .f32) (n : Fin 4) (h : Fin 8) (p s : Fin 8192) (g : ℕ → EReal) (hg : ∀ u : Fin 8192, x (ix4 n h p u) = g u.val) :
    suf x (ix4 n h p s) = ∑ u ∈ Finset.Ico s.val 8192, g u := by
  unfold suf
  rw [win_sum _ _ _ _ _ _ _ _ z0, ← tail_sum s.val s.isLt g]
  refine (sum_last _).trans (Finset.sum_congr rfl fun t _ => ?_)
  by_cases ht : s.val + t.val < 8192
  · rw [if_pos ht, ← show x (ix4 n h p ⟨s.val + t.val, ht⟩) = g (s.val + t.val) from hg _]
    refine (dif_pos ?_).trans (congrArg x ?_)
    · intro a
      match a with
      | 0 => exact ⟨Nat.zero_le _, (show n.val * 1 + 0 - 0 < 4 by have := n.isLt; omega)⟩
      | 1 => exact ⟨Nat.zero_le _, (show h.val * 1 + 0 - 0 < 8 by have := h.isLt; omega)⟩
      | 2 => exact ⟨Nat.zero_le _, (show p.val * 1 + 0 - 0 < 8192 by have := p.isLt; omega)⟩
      | 3 => exact ⟨Nat.zero_le _, (show s.val * 1 + t.val - 0 < 8192 by omega)⟩
    · funext a
      match a with
      | 0 => exact Fin.ext (show n.val * 1 + 0 - 0 = n.val by omega)
      | 1 => exact Fin.ext (show h.val * 1 + 0 - 0 = h.val by omega)
      | 2 => exact Fin.ext (show p.val * 1 + 0 - 0 = p.val by omega)
      | 3 => exact Fin.ext (show s.val * 1 + t.val - 0 = s.val + t.val by omega)
  · rw [if_neg ht]
    refine dif_neg fun hin => ht ?_
    have h3 : s.val * 1 + t.val - 0 < 8192 := (hin 3).2
    omega

/-- The score of row `p` and key `u`: nothing past the last key. -/
def score (q k : FVec Ideal S4x8192x512 .f32) (n : Fin 4) (h : Fin 8) (p : Fin 8192) (u : ℕ) : EReal :=
  if hu : u < 8192 then (∑ x : Fin 64, q (ix3 n p ⟨h * 64 + x, by omega⟩) * k (ix3 n ⟨u, hu⟩ ⟨h * 64 + x, by omega⟩)) * (((1 : ℝ) / 8 : ℝ) : EReal) else 0

/-- The value of key `u` at a lane. -/
def value (v : FVec Ideal S4x8192x512 .f32) (n : Fin 4) (l : Fin 512) (u : ℕ) : EReal := if hu : u < 8192 then v (ix3 n ⟨u, hu⟩ l) else 0

/-- The reference's entry is a row's whole weighted sum, in base two. -/
theorem ref_at (q k v : FVec Ideal S4x8192x512 .f32) (n : Fin 4) (p : Fin 8192) (h : Fin 8) (e : Fin 64) :
    ref q k v (ix3 n p ⟨h * 64 + e, by omega⟩) = acc 8192 (fun u => lg * score q k n h p u) (value v n ⟨h * 64 + e, by omega⟩) p.val 0 := by
  have hs : ∀ s : Fin 8192, sc q k (ix4 n h p s) = score q k n h p s.val := fun s => by
    rw [sc_at, eighth]; unfold score; rw [dif_pos s.isLt]
  have hl : ∀ s : Fin 8192, lkv (sc q k) (ix4 n h p s) = lk (score q k n h p) p.val s.val := fun s => by
    rw [lkv_at, hs]; rfl
  unfold ref
  rw [fin_at, ref_sum]
  refine Finset.sum_congr rfl fun s _ => ?_
  rw [hs, hl, suf_at _ n h p s _ hl]
  unfold value; rw [dif_pos s.isLt]

end Cert.ReferenceIdeal.Stick

end
-- ==== Proof.V.Heads.lean ====
/- The kernel's scores and values over its blocks, as the reference's over its arrays. -/
module

public import proofs.«01_k».proof.Proof.V.Ref
public import proofs.«01_k».proof.Proof.V.BodyPre

@[expose] public section

set_option maxRecDepth 16384

noncomputable section

namespace Cert.KernelIdeal.MixerB

open Cert.KernelIdeal Cert.KernelIdeal.Gen
open Idealize.ShloMosaic Idealize.ShloMosaic.TcCoe
open Cert.Stick

/-- The query's scale. -/
def qs : EReal := ((((Real.log 2) * 8)⁻¹ : ℝ) : EReal)

theorem k_scale (b : BitVec 32) : (Named.named (F := Ideal) κ "q_scale" b : Ideal .f32) = qs := IdealRules.named_const.ideal_named_scalar _ _ _ _ rfl

/-- The scale is the change of base over the head's width's root. -/
theorem qs_eq : qs = lg * (((1 : ℝ) / 8 : ℝ) : EReal) := by
  unfold qs lg
  rw [← EReal.coe_mul, mul_inv, one_div]

/-- The first head's queries: scaled, nothing on the other lanes. -/
theorem q0_at (a : Vec Ideal S1x2048x128 .f32) (r : Fin 2048) (d : Fin 128) : k0_pay41 a (ix2 r d) = if d.val < 64 then a (ix3 0 r d) * qs else 0 := by
  have hb : ∀ d : Fin 128, Scalar.andi (Scalar.cmpi .sge (BitVec.ofNat 32 d.val) (0#32 : BitVec 32)) (Scalar.cmpi .slt (BitVec.ofNat 32 d.val) (64#32 : BitVec 32)) = if d.val < 64 then 1#1 else 0#1 := by decide +kernel
  have e : k0_pay41 a (ix2 r d) = Scalar.select (Scalar.andi (Scalar.cmpi .sge (BitVec.ofNat 32 d.val) (0#32 : BitVec 32)) (Scalar.cmpi .slt (BitVec.ofNat 32 d.val) (64#32 : BitVec 32))) (a (ix3 0 r d) * qs) (0 : EReal) := by
    pointwise [k0_pay41, k0_pay40, k_scale]
    try rfl
  rw [e, hb]
  split <;> rfl

/-- The second head's queries. -/
theorem q1_at (a : Vec Ideal S1x2048x128 .f32) (r : Fin 2048) (d : Fin 128) : k0_pay42 a (ix2 r d) = if d.val < 64 then 0 else a (ix3 0 r d) * qs := by
  have hb : ∀ d : Fin 128, Scalar.andi (Scalar.cmpi .sge (BitVec.ofNat 32 d.val) (64#32 : BitVec 32)) (Scalar.cmpi .slt (BitVec.ofNat 32 d.val) (128#32 : BitVec 32)) = if d.val < 64 then 0#1 else 1#1 := by decide +kernel
  have e : k0_pay42 a (ix2 r d) = Scalar.select (Scalar.andi (Scalar.cmpi .sge (BitVec.ofNat 32 d.val) (64#32 : BitVec 32)) (Scalar.cmpi .slt (BitVec.ofNat 32 d.val) (128#32 : BitVec 32))) (a (ix3 0 r d) * qs) (0 : EReal) := by
    pointwise [k0_pay42, k0_pay40, k_scale]
    try rfl
  rw [e, hb]
  split <;> rfl

/-- A sum over 128 lanes as the sums over its halves. -/
theorem half_split (f : Fin 128 → EReal) : ∑ k, f k = (∑ x : Fin 64, f ⟨x.val, by omega⟩) + ∑ x : Fin 64, f ⟨64 + x.val, by omega⟩ :=
  Fin.sum_univ_add (a := 64) (b := 64) f

/-- A scaled product of two rows. -/
theorem dot_scaled (a b : Fin 64 → EReal) : ∑ x, (a x * qs) * b x = lg * ((∑ x, a x * b x) * (((1 : ℝ) / 8 : ℝ) : EReal)) := by
  rw [mul_comm (∑ x, a x * b x), ← mul_assoc, ← qs_eq]
  unfold qs
  rw [coe_mul_sum _ _ (inv_nonneg.2 (mul_nonneg log2_pos.le (by norm_num)))]
  exact Finset.sum_congr rfl fun x _ => by rw [mul_comm (a x), mul_assoc]

/-- The kernel's score of a row and a key is the reference's, in base two. -/
theorem zz_score (x3 : Vec Ideal S1x2048x128 .f32) (x4 : Vec Ideal S1x8192x128 .bf16) (q k : FVec Ideal S4x8192x512 .f32)
    (n : Fin 4) (w : Fin 4) (p : Fin 8192) (r : Fin 2048) (hh : Fin 2) (h : Fin 8) (he : h.val = 2 * w.val + hh.val)
    (hq : ∀ d : Fin 128, x3 (ix3 0 r d) = q (ix3 n p ⟨w.val * 128 + d.val, by omega⟩))
    (hk : ∀ (u : Fin 8192) (d : Fin 128), x4 (ix3 0 u d) = k (ix3 n u ⟨w.val * 128 + d.val, by omega⟩)) (u : ℕ) :
    zz (k0_pay41 x3) (k0_pay42 x3) x4 hh r u = lg * Cert.ReferenceIdeal.Stick.score q k n h p u := by
  unfold zz Cert.ReferenceIdeal.Stick.score
  by_cases hu : u < 8192
  · rw [dif_pos hu, dif_pos hu, half_split]
    have h2 : hh.val = 0 ∨ hh.val = 1 := by omega
    have key : ∀ (x : Fin 64) (o : ℕ) (ho : o + x.val < 128) (hoh : w.val * 128 + o = h.val * 64),
        (x3 (ix3 0 r ⟨o + x.val, ho⟩) * qs) * x4 (ix3 0 ⟨u, hu⟩ ⟨o + x.val, ho⟩)
          = (q (ix3 n p ⟨h.val * 64 + x.val, by omega⟩) * qs) * k (ix3 n ⟨u, hu⟩ ⟨h.val * 64 + x.val, by omega⟩) := fun x o ho hoh => by
      rw [hq, hk]
      have e : (⟨w.val * 128 + (o + x.val), by omega⟩ : Fin 512) = ⟨h.val * 64 + x.val, by omega⟩ := Fin.ext (by dsimp only; omega)
      exact congrArg₂ (fun a b : Fin 512 => (q (ix3 n p a) * qs) * k (ix3 n ⟨u, hu⟩ b)) e e
    rw [← dot_scaled]
    rcases h2 with h2 | h2
    · obtain rfl : hh = 0 := Fin.ext h2
      have z : ∑ x : Fin 64, qm (k0_pay41 x3) (k0_pay42 x3) 0 (ix2 r ⟨64 + x.val, by omega⟩) * x4 (ix3 0 ⟨u, hu⟩ ⟨64 + x.val, by omega⟩) = 0 :=
        Finset.sum_eq_zero fun x _ => by
          rw [show qm (k0_pay41 x3) (k0_pay42 x3) 0 = k0_pay41 x3 from if_pos rfl, q0_at, if_neg (by dsimp only; omega), zero_mul]
      rw [z, add_zero]
      refine Finset.sum_congr rfl fun x _ => ?_
      rw [show qm (k0_pay41 x3) (k0_pay42 x3) 0 = k0_pay41 x3 from if_pos rfl, q0_at, if_pos (by dsimp only; omega)]
      have := key x 0 (by omega) (by omega)
      simp only [Nat.zero_add] at this
      exact this
    · obtain rfl : hh = 1 := Fin.ext h2
      have z : ∑ x : Fin 64, qm (k0_pay41 x3) (k0_pay42 x3) 1 (ix2 r ⟨x.val, by omega⟩) * x4 (ix3 0 ⟨u, hu⟩ ⟨x.val, by omega⟩) = 0 :=
        Finset.sum_eq_zero fun x _ => by
          rw [show qm (k0_pay41 x3) (k0_pay42 x3) 1 = k0_pay42 x3 from if_neg (by decide), q1_at, if_pos (by dsimp only; omega), zero_mul]
      rw [z, zero_add]
      refine Finset.sum_congr rfl fun x _ => ?_
      rw [show qm (k0_pay41 x3) (k0_pay42 x3) 1 = k0_pay42 x3 from if_neg (by decide), q1_at, if_neg (by dsimp only; omega)]
      exact key x 64 (by omega) (by omega)
  · rw [dif_neg hu, dif_neg hu, mul_zero]

/-- The kernel's block is the reference's array at the block's place. -/
theorem outv_ref (x3 : Vec Ideal S1x2048x128 .f32) (x4 x5 : Vec Ideal S1x8192x128 .bf16) (q k v : FVec Ideal S4x8192x512 .f32)
    (n w b : Fin 4)
    (hq : ∀ (r : Fin 2048) (d : Fin 128), x3 (ix3 0 r d) = q (ix3 n ⟨b.val * 2048 + r.val, by omega⟩ ⟨w.val * 128 + d.val, by omega⟩))
    (hk : ∀ (u : Fin 8192) (d : Fin 128), x4 (ix3 0 u d) = k (ix3 n u ⟨w.val * 128 + d.val, by omega⟩))
    (hv : ∀ (u : Fin 8192) (d : Fin 128), x5 (ix3 0 u d) = v (ix3 n u ⟨w.val * 128 + d.val, by omega⟩))
    (r : Fin 2048) (d : Fin 128) :
    outv x3 x4 x5 b.val (ix3 0 r d) = Cert.ReferenceIdeal.Stick.ref q k v (ix3 n ⟨b.val * 2048 + r.val, by omega⟩ ⟨w.val * 128 + d.val, by omega⟩) := by
  have hl : (⟨w.val * 128 + d.val, by omega⟩ : Fin 512)
      = ⟨(⟨2 * w.val + d.val / 64, by omega⟩ : Fin 8).val * 64 + (⟨d.val % 64, by omega⟩ : Fin 64).val, by dsimp only; omega⟩ := Fin.ext (by dsimp only; omega)
  have e1 : (fun u => lg * Cert.ReferenceIdeal.Stick.score q k n ⟨2 * w.val + d.val / 64, by omega⟩ ⟨b.val * 2048 + r.val, by omega⟩ u)
      = zz (k0_pay41 x3) (k0_pay42 x3) x4 (if d.val < 64 then 0 else 1) r := funext fun u =>
    (zz_score x3 x4 q k n w ⟨b.val * 2048 + r.val, by omega⟩ r _ ⟨2 * w.val + d.val / 64, by omega⟩
      (by dsimp only; split <;> simp only [Fin.val_zero, Fin.val_one] <;> omega) (hq r) hk u).symm
  have e2 : Cert.ReferenceIdeal.Stick.value v n ⟨w.val * 128 + d.val, by omega⟩ = vv x5 d := funext fun u => by
    unfold Cert.ReferenceIdeal.Stick.value vv
    split
    · exact (hv _ d).symm
    · rfl
  have e3 : Cert.ReferenceIdeal.Stick.ref q k v (ix3 n ⟨b.val * 2048 + r.val, by omega⟩ ⟨w.val * 128 + d.val, by omega⟩)
      = acc 8192 (zz (k0_pay41 x3) (k0_pay42 x3) x4 (if d.val < 64 then 0 else 1) r) (vv x5 d) (b.val * 2048 + r.val) 0 := by
    rw [← e1, ← e2]
    have := Cert.ReferenceIdeal.Stick.ref_at q k v n ⟨b.val * 2048 + r.val, by omega⟩ ⟨2 * w.val + d.val / 64, by omega⟩ ⟨d.val % 64, by omega⟩
    rw [← hl] at this
    exact this
  rw [e3]
  show acc 8192 _ _ (256 * (8 * b.val) + r.val) 0 = _
  rw [show 256 * (8 * b.val) + r.val = b.val * 2048 + r.val by omega]
  rfl

end Cert.KernelIdeal.MixerB

end
-- ==== Proof.V.Tri.lean ====
/- The triangle the host builds. -/
module

public import proofs.«01_k».proof.Proof.V.Math
public import proofs.«01_k».proof.Proof.K.KitI
public import Idealize.ShloMosaic.Lib.Pipeline.ValueKit
public import Idealize.ShloMosaic.Lib.Claim

@[expose] public section

set_option maxRecDepth 16384

noncomputable section

namespace Cert.KernelIdeal.MixerB

open Cert.KernelIdeal Cert.KernelIdeal.Gen Idealize.ShloMosaic Idealize.ShloMosaic.TcCoe Idealize.SL.Sem
open Idealize.ShloMosaic.Pipeline (Dat)
open Cert.Stick

variable (m : (ℓ : Loc nD τ sig) → Buf (Elt Ideal) ℓ)

theorem minus_one : Ideal.ofBits .f32 0xBF800000#32 = (-1 : EReal) := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- Comparing two small words is comparing their numbers. -/
theorem ge_words (i j : Fin 256) : Scalar.cmpi .sge (BitVec.ofNat 32 i.val) (BitVec.ofNat 32 j.val) = if j.val ≤ i.val then 1#1 else 0#1 := by
  have h : ∀ i j : Fin 256, Scalar.cmpi .sge (BitVec.ofNat 32 i.val) (BitVec.ofNat 32 j.val) = if j.val ≤ i.val then 1#1 else 0#1 := by decide +kernel
  exact h i j

/-- The region finds the lower triangle of minus ones. -/
theorem V_t (c : Dev nD) (i j : Fin 256) : (V m c main_v9 : FVec Ideal S256x256 .bf16) (ix2 i j) = tri i.val j.val := by
  have e : (V m c main_v9 : FVec Ideal S256x256 .bf16) (ix2 i j) = Scalar.select (Scalar.cmpi .sge (BitVec.ofNat 32 i.val) (BitVec.ofNat 32 j.val)) (-1 : EReal) 0 := by
    unfold V
    simp only [hostOps0, hostOps0_1, hostOps0_2, List.flatten_cons, List.flatten_nil, List.append_nil, List.cons_append, List.nil_append]
    entry_read
    pointwise
    change select (cmpi .sge
            (broadcastInDim S256x256 ![0, 1] bcast_S256x1_S256x256_0_1 (broadcastInDim S256x1 ![0] bcast_S256_S256x1_0 (iotaInDim S256 32 0)))
            (broadcastInDim S256x256 ![0, 1] bcast_S1x256_S256x256_0_1 (broadcastInDim S1x256 ![1] bcast_S256_S1x256_1 (iotaInDim S256 32 0))))
        (broadcastInDim S256x256 ![] bcast_S_S256x256 (constant (F := Ideal) S_ .f32 0xBF800000#32))
        (broadcastInDim S256x256 ![] bcast_S_S256x256 (constant (F := Ideal) S_ .f32 0x00000000#32)) (ix2 i j) = _
    pointwise
    rw [minus_one]
    try rfl
  rw [e, ge_words]
  unfold tri
  split <;> rfl

end Cert.KernelIdeal.MixerB

end
-- ==== Proof.V.Entry.lean ====
/- What the windows hold at each grid point. -/
module

public import proofs.«01_k».proof.Proof.V.Heads
public import proofs.«01_k».proof.Proof.V.Tri
public import proofs.«01_k».proof.Proof.K.KitI
public import Idealize.ShloMosaic.Lib.Pipeline.ValueKit
public import Idealize.ShloMosaic.Lib.Claim

@[expose] public section

set_option maxRecDepth 16384

noncomputable section

namespace Cert.KernelIdeal.MixerB

open Cert.KernelIdeal Cert.KernelIdeal.Gen Idealize.ShloMosaic Idealize.ShloMosaic.TcCoe Idealize.SL.Sem
open Idealize.ShloMosaic.Pipeline (Dat)
open Cert.Stick

variable (m : (ℓ : Loc nD τ sig) → Buf (Elt Ideal) ℓ)

/-- Every window's block index at every grid point. -/
theorem idx : ∀ t : Fin (cfg0 (F := Ideal)).N, win0_0.index t = ![t.val / 16, t.val % 4, t.val / 4 % 4] ∧ win0_1.index t = ![t.val / 16, 0, t.val / 4 % 4]
    ∧ win0_2.index t = ![t.val / 16, 0, t.val / 4 % 4] ∧ win0_3.index t = ![0, 0] ∧ win0_4.index t = ![t.val / 16, t.val % 4, t.val / 4 % 4] ∧ t.val < 64
    ∧ (grid0.coords t 2).val = t.val % 4 :=
  (by decide +kernel : ∀ t : Fin grid0.N, _)

/-- The queries' block. -/
theorem blk_q (c : Dev nD) (t : Fin (cfg0 (F := Ideal)).N) (n : Fin 4) (p : Fin 8192) (l : Fin 512) (r : Fin 2048) (d : Fin 128)
    (hn : n.val = t.val / 16) (hp : p.val = t.val % 4 * 2048 + r.val) (hl : l.val = t.val / 4 % 4 * 128 + d.val) :
    (iblk m c 0 t : FVec Ideal S1x2048x128 .f32) (ix3 0 r d) = (m ((c : Thread nD τ).loc main_arg0) : FVec Ideal S4x8192x512 .f32) (ix3 n p l) := by
  blk_simp [iblk, idx t]
  rw [V_main_arg0]
  blk_ext [idx t]

/-- The region finds the truncated keys. -/
theorem V_k (c : Dev nD) (y : S4x8192x512.Idx) : (V m c main_v0 : FVec Ideal S4x8192x512 .bf16) y = (m ((c : Thread nD τ).loc main_arg1) : FVec Ideal S4x8192x512 .f32) y := by
  unfold V
  simp only [hostOps0, hostOps0_1, hostOps0_2, List.flatten_cons, List.flatten_nil, List.append_nil, List.cons_append, List.nil_append]
  entry_read
  pointwise

/-- The region finds the truncated values. -/
theorem V_v (c : Dev nD) (y : S4x8192x512.Idx) : (V m c main_v1 : FVec Ideal S4x8192x512 .bf16) y = (m ((c : Thread nD τ).loc main_arg2) : FVec Ideal S4x8192x512 .f32) y := by
  unfold V
  simp only [hostOps0, hostOps0_1, hostOps0_2, List.flatten_cons, List.flatten_nil, List.append_nil, List.cons_append, List.nil_append]
  entry_read
  pointwise

/-- The keys' block. -/
theorem blk_k (c : Dev nD) (t : Fin (cfg0 (F := Ideal)).N) (n : Fin 4) (l : Fin 512) (r : Fin 8192) (d : Fin 128)
    (hn : n.val = t.val / 16) (hl : l.val = t.val / 4 % 4 * 128 + d.val) :
    (iblk m c 1 t : FVec Ideal S1x8192x128 .bf16) (ix3 0 r d) = (m ((c : Thread nD τ).loc main_arg1) : FVec Ideal S4x8192x512 .f32) (ix3 n r l) := by
  rw [← V_k m c]
  blk_simp [iblk, idx t]
  blk_ext [idx t]

/-- The values' block. -/
theorem blk_v (c : Dev nD) (t : Fin (cfg0 (F := Ideal)).N) (n : Fin 4) (l : Fin 512) (r : Fin 8192) (d : Fin 128)
    (hn : n.val = t.val / 16) (hl : l.val = t.val / 4 % 4 * 128 + d.val) :
    (iblk m c 2 t : FVec Ideal S1x8192x128 .bf16) (ix3 0 r d) = (m ((c : Thread nD τ).loc main_arg2) : FVec Ideal S4x8192x512 .f32) (ix3 n r l) := by
  rw [← V_v m c]
  blk_simp [iblk, idx t]
  blk_ext [idx t]

/-- The triangle's block. -/
theorem blk_t (c : Dev nD) (t : Fin (cfg0 (F := Ideal)).N) (i j : Fin 256) :
    (iblk m c 3 t : FVec Ideal S256x256 .bf16) (ix2 i j) = tri i.val j.val := by
  rw [← V_t m c]
  blk_simp [iblk, idx t]
  blk_ext [idx t]

end Cert.KernelIdeal.MixerB

end
-- ==== Proof.V.Region.lean ====
/- The attention kernel's run: the result array at the reference's. -/
module

public import proofs.«01_k».proof.Proof.V.Body
public import proofs.«01_k».proof.Proof.V.Entry
public import Idealize.ShloMosaic.Lib.Pipeline.FrameBody
public import Idealize.ShloMosaic.Lib.Tactic

@[expose] public section

set_option maxRecDepth 16384

noncomputable section

namespace Cert.KernelIdeal.MixerB.Named

open Cert.KernelIdeal Cert.KernelIdeal.Gen Cert.KernelIdeal.MixerB
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What point `t` leaves in the result's block: the attention of its query rows. -/
def oblk (c : Dev nD) (t : Fin (cfg0 (F := Ideal)).N) : Vec Ideal S1x2048x128 .bf16 :=
  outv (iblk m c 0 t) (iblk m c 1 t) (iblk m c 2 t) (grid0.coords t 2).val

/-- The proof data: inputs at their blocks, the result at its attention, the scratch at anything. -/
def dats (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ _ := Pipeline.ΦA spec0 c
  q _ := fullShare
  owed _ := 0

theorem A_eq (c : Dev nD) (w : Fin (cfg0 (F := Ideal)).W) : (dats m 0 c).A w = V m c (Pipeline.arrRef spec0 w) := by
  dsimp only [dats]

theorem after0_0 (c : Dev nD) (t : Fin (cfg0 (F := Ideal)).N) : (dats m 0 c).after 0 t = iblk m c 0 t := rfl
theorem before0_0 (c : Dev nD) (t : Fin (cfg0 (F := Ideal)).N) (d) : (dats m 0 c).before 0 t d = iblk m c 0 t :=
  before0_0_of m (dats m 0 c) (A_eq m c 0) (after0_0 m c) t d
theorem after0_1 (c : Dev nD) (t : Fin (cfg0 (F := Ideal)).N) : (dats m 0 c).after 1 t = iblk m c 1 t := rfl
theorem before0_1 (c : Dev nD) (t : Fin (cfg0 (F := Ideal)).N) (d) : (dats m 0 c).before 1 t d = iblk m c 1 t :=
  before0_1_of m (dats m 0 c) (A_eq m c 1) (after0_1 m c) t d
theorem after0_2 (c : Dev nD) (t : Fin (cfg0 (F := Ideal)).N) : (dats m 0 c).after 2 t = iblk m c 2 t := rfl
theorem before0_2 (c : Dev nD) (t : Fin (cfg0 (F := Ideal)).N) (d) : (dats m 0 c).before 2 t d = iblk m c 2 t :=
  before0_2_of m (dats m 0 c) (A_eq m c 2) (after0_2 m c) t d
theorem after0_3 (c : Dev nD) (t : Fin (cfg0 (F := Ideal)).N) : (dats m 0 c).after 3 t = iblk m c 3 t := rfl
theorem before0_3 (c : Dev nD) (t : Fin (cfg0 (F := Ideal)).N) (d) : (dats m 0 c).before 3 t d = iblk m c 3 t :=
  before0_3_of m (dats m 0 c) (A_eq m c 3) (after0_3 m c) t d
theorem after0_4 (c : Dev nD) (t : Fin (cfg0 (F := Ideal)).N) : (dats m 0 c).after 4 t = oblk m c t := rfl

/-- What the body is called with at point `t`, the windows one by one. -/
def bodyPre (c : Dev nD) (t : Fin (cfg0 (F := Ideal)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns. -/
def bodyPost (c : Dev nD) (t : Fin (cfg0 (F := Ideal)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 3200000 in
/-- The body at any point. -/
theorem sound_body (c : Dev nD) (t : Fin (cfg0 (F := Ideal)).N) :
    bodyPre m c t ⊢ wp frame (wpE (defs₀ (F := Ideal)) Variants.nat c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = Pipeline.ΦA spec0 c from rfl, show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply (body_good rfl c (grid0.coords t) _ _ _ _ _ _ _ _ _ _ _ _ _ _ (iblk m c 0 t) (iblk m c 1 t) (iblk m c 2 t) (iblk m c 3 t)
    (iblk m c 0 t) (iblk m c 1 t) (iblk m c 2 t) (iblk m c 3 t) (oblk m c t) HEq.rfl HEq.rfl HEq.rfl HEq.rfl HEq.rfl (blk_t m c t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- The body obligation at every point. -/
theorem body_obligation (c : Dev nD) : BodyObligation (dats m 0 c) (defs₀ (F := Ideal)) Variants.nat () Set.univ := fun t => by
  rw [bigSep_W0, bigSep_W0, defs₀_row]
  exact triple_restated (sound_body m c t) rfl .rfl fun _ => .rfl

set_option backward.isDefEq.respectTransparency.types false in
/-- The whole launch: the region's arrays at what the proof data names. -/
theorem run_main : θ_run defs (onTc (τ := τ) (main (F := Ideal))) (s₀ m ρ) (Pipeline.FramePost (cfgs (F := Ideal)) (dats m) 0 (V m)) :=
  Pipeline.θ_run_frame_track (Q' := _) (cfgs (F := Ideal)) (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m)
    (hin := fun c => Idealize.SL.BI.Entails.refl _) (hout := fun c => Idealize.SL.BI.Entails.refl _)

/-- The reference's array over the kernel's arguments. -/
abbrev ref (c : Dev nD) : FVec Ideal S4x8192x512 .bf16 :=
  Cert.ReferenceIdeal.Stick.ref (m ((c : Thread nD τ).loc main_arg0)) (m ((c : Thread nD τ).loc main_arg1)) (m ((c : Thread nD τ).loc main_arg2))

/-- What point `t` leaves in the result's block is the reference's array at the block's place. -/
theorem point (c : Dev nD) (t : Fin (cfg0 (F := Ideal)).N) (y : S1x2048x128.Idx) :
    oblk m c t y = ref m c (((cfg0 (F := Ideal)).win 4 |>.blk t).view.emb y) := by
  have ht := (idx t).2.2.2.2.2.1
  have hc := (idx t).2.2.2.2.2.2
  obtain ⟨r, d, rfl⟩ : ∃ (r : Fin 2048) (d : Fin 128), y = ix3 0 r d := ⟨y 1, y 2, by
    funext k
    match k with
    | 0 => exact Subsingleton.elim (α := Fin 1) _ _
    | 1 => rfl
    | 2 => rfl⟩
  have hr := r.isLt
  have hd := d.isLt
  have hy : (((cfg0 (F := Ideal)).win 4 |>.blk t).view.emb (ix3 0 r d : S1x2048x128.Idx))
      = (ix3 (⟨t.val / 16, by omega⟩ : Fin 4) (⟨t.val % 4 * 2048 + r.val, by omega⟩ : Fin 8192) (⟨t.val / 4 % 4 * 128 + d.val, by omega⟩ : Fin 512) : S4x8192x512.Idx) := by
    blk_ext [idx t]
  rw [hy]
  unfold oblk
  rw [hc]
  exact outv_ref _ _ _ _ _ _ ⟨t.val / 16, by omega⟩ ⟨t.val / 4 % 4, by omega⟩ ⟨t.val % 4, by omega⟩
    (fun r d => blk_q m c t _ _ _ r d rfl rfl rfl) (fun u d => blk_k m c t _ _ u d rfl rfl) (fun u d => blk_v m c t _ _ u d rfl rfl) r d

/-- The kernel's result array after the run. -/
theorem final (c : Dev nD) : (dats m 0 c).arrAt 4 (cfgs (F := Ideal) 0).N = ref m c := by
  refine (dats m 0 c).arrAt_eq_of_covers 4 _ (by decide +kernel) fun t _ y => ?_
  blk_simp
  rw [after0_4]
  exact point m c t y

end Cert.KernelIdeal.MixerB.Named

end
-- ==== Proof.V.Claim.lean ====
/- The stick-breaking attention's value claim. -/
module

public import proofs.«01_k».proof.Defs
public import proofs.«01_k».proof.Proof.K.FrameI
public import proofs.«01_k».proof.Proof.V.Region
public import proofs.«01_k».proof.Proof.V.Ref
public import proofs.«01_k».proof.Proof.Gen.KernelIdeal
public import proofs.«01_k».proof.Proof.Gen.ReferenceIdeal
public import proofs.«01_k».proof.Proof.Gen.ReferenceIdeal.Run

@[expose] public section

set_option maxRecDepth 16384

noncomputable section

namespace Cert.Stick

open Idealize.ShloMosaic Idealize.SL.Sem

/-- The stick-breaking attention's kernel computes its reference. -/
theorem mixer_b : Cert.algebraic_KernelIdeal_ReferenceIdeal := by
  intro m g m' g' _ hagree
  refine ⟨fun c => Cert.KernelIdeal.MixerB.Named.ref m c, ?_, ?_⟩
  · exact (θ_run Cert.KernelIdeal.defs _ _).mono (fun r h c => ⟨(show r.2.mem ((c.tc : Thread Cert.KernelIdeal.nD Cert.KernelIdeal.τ).loc Cert.KernelIdeal.main_v10) = Cert.KernelIdeal.MixerB.Named.ref m c from
        ((h.1 c).1 4).trans (Cert.KernelIdeal.MixerB.Named.final m c)), h.2.1 c⟩)
      (θ_run_and (Cert.KernelIdeal.MixerB.Named.run_main m g) (Cert.KernelIdeal.MixerB.frame_run m g))
  · run_from Cert.ReferenceIdeal.Value.run m' g'
    obtain ⟨h0, h1, h2⟩ := hagree c
    rw [Cert.ReferenceIdeal.Stick.res_eq, h0, h1, h2]

end Cert.Stick

end
-- ==== Proof.lean ====
module

public import proofs.«01_k».proof.Defs
public import proofs.«01_k».proof.Proof.K.FrameP
public import proofs.«01_k».proof.Proof.K.FrameI
public import proofs.«01_k».proof.Proof.F.Claims
public import proofs.«01_k».proof.Proof.V.Claim
public import proofs.«01_k».proof.Proof.Gen.Kernel
public import proofs.«01_k».proof.Proof.Gen.KernelIdeal
public import proofs.«01_k».proof.Proof.Gen.ReferenceIdeal.Run
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel2.Frame
public import proofs.«01_k».proof.Proof.Gen.Kernel2Ideal.Frame
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel3.Frame
public import proofs.«01_k».proof.Proof.Gen.Kernel3Ideal.Frame
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel4.Frame
public import proofs.«01_k».proof.Proof.Gen.Kernel4Ideal.Frame
public import Idealize.ShloMosaic.Adequacy
public import Idealize.ShloMosaic.Init

@[expose] public section

noncomputable section

namespace Cert.Proof

open Idealize.ShloMosaic Idealize.SL.Sem

/-- The claim: the programs' shape facts, the frames, the named constants, and the four calls' values. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  fun m g _ => Cert.Kernel.MixerB.frame_run m g,
  fun m g _ => Cert.KernelIdeal.MixerB.frame_run m g,
  fun m g _ => (θ_run Cert.ReferenceIdeal.defs _ _).mono (fun r h => ⟨fun c => (h c).2, sem_eq_zero_of_no_sems (by decide) r.2⟩)
    (Cert.ReferenceIdeal.Value.run (F := Ideal) m g),
  fun m g _ => Cert.Kernel2.Gen.frame m g,
  fun m g _ => Cert.Kernel2Ideal.Gen.frame m g,
  fun m g _ => (θ_run Cert.Reference2Ideal.defs _ _).mono (fun r h => ⟨fun c => (h c).2, sem_eq_zero_of_no_sems (by decide) r.2⟩)
    (Cert.Reference2Ideal.Value.run (F := Ideal) m g),
  fun m g _ => Cert.Kernel3.Gen.frame m g,
  fun m g _ => Cert.Kernel3Ideal.Gen.frame m g,
  fun m g _ => (θ_run Cert.Reference3Ideal.defs _ _).mono (fun r h => ⟨fun c => (h c).2, sem_eq_zero_of_no_sems (by decide) r.2⟩)
    (Cert.Reference3Ideal.Value.run (F := Ideal) m g),
  fun m g _ => Cert.Kernel4.Gen.frame m g,
  fun m g _ => Cert.Kernel4Ideal.Gen.frame m g,
  fun m g _ => (θ_run Cert.Reference4Ideal.defs _ _).mono (fun r h => ⟨fun c => (h c).2.2.2.2.2.2.2.2, sem_eq_zero_of_no_sems (by decide) r.2⟩)
    (Cert.Reference4Ideal.Value.run (F := Ideal) m g),
  ⟨IdealRules.named_const.statement Cert.KernelIdeal.κ "q_scale" .f32 0x3E38AA3B#32 ((((Real.log 2) * 8)⁻¹ : ℝ) : EReal) rfl,
    IdealRules.named_const.statement Cert.KernelIdeal.κ "clamp" .f32 0x42FC0000#32 ⊤ rfl,
    IdealRules.named_const.statement Cert.KernelIdeal.κ "log2e" .f32 0x3FB8AA3B#32 (((Real.log 2)⁻¹ : ℝ) : EReal) rfl,
    IdealRules.named_const.statement Cert.KernelIdeal.κ "exit" .f32 0xC3480000#32 ⊥ rfl⟩,
  Cert.Stick.mixer_b, trivial, Cert.Dense.ffn, trivial, Cert.Dense.merge, trivial, Cert.Dense.inproj⟩

end Cert.Proof

end
